-- ==== Defs.lean ====
def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_GateBwd (m : (ℓ : Loc Cert.GateBwd.nD Cert.GateBwd.τ Cert.GateBwd.sig) → Buf (Elt Bits) ℓ) : Prop :=
  True

def Pre_GateBwdIdeal (m : (ℓ : Loc Cert.GateBwdIdeal.nD Cert.GateBwdIdeal.τ Cert.GateBwdIdeal.sig) → Buf (Elt Ideal) ℓ) : Prop :=
  True

def Pre_GateBwdIdeal_finite_gate [hPre_finite_gate : Cert.Pre_finite_gate.Facts] (m : (ℓ : Loc Cert.GateBwdIdeal.nD Cert.GateBwdIdeal.τ Cert.GateBwdIdeal.sig) → Buf (Elt Ideal) ℓ) : Prop :=
  ∀ c : Dev Cert.GateBwdIdeal.nD,
    (Cert.Pre_finite_gate.fn (F := Ideal) (m ((c.tc : Thread Cert.GateBwdIdeal.nD Cert.GateBwdIdeal.τ).loc Cert.GateBwdIdeal.main_arg0)) (m ((c.tc : Thread Cert.GateBwdIdeal.nD Cert.GateBwdIdeal.τ).loc Cert.GateBwdIdeal.main_arg1)) (m ((c.tc : Thread Cert.GateBwdIdeal.nD Cert.GateBwdIdeal.τ).loc Cert.GateBwdIdeal.main_arg2)) (m ((c.tc : Thread Cert.GateBwdIdeal.nD Cert.GateBwdIdeal.τ).loc Cert.GateBwdIdeal.main_arg3))).1 = (fun _ => 1#1)
    ∧ (Cert.Pre_finite_gate.fn (F := Ideal) (m ((c.tc : Thread Cert.GateBwdIdeal.nD Cert.GateBwdIdeal.τ).loc Cert.GateBwdIdeal.main_arg0)) (m ((c.tc : Thread Cert.GateBwdIdeal.nD Cert.GateBwdIdeal.τ).loc Cert.GateBwdIdeal.main_arg1)) (m ((c.tc : Thread Cert.GateBwdIdeal.nD Cert.GateBwdIdeal.τ).loc Cert.GateBwdIdeal.main_arg2)) (m ((c.tc : Thread Cert.GateBwdIdeal.nD Cert.GateBwdIdeal.τ).loc Cert.GateBwdIdeal.main_arg3))).2.1 = (fun _ => 1#1)
    ∧ (Cert.Pre_finite_gate.fn (F := Ideal) (m ((c.tc : Thread Cert.GateBwdIdeal.nD Cert.GateBwdIdeal.τ).loc Cert.GateBwdIdeal.main_arg0)) (m ((c.tc : Thread Cert.GateBwdIdeal.nD Cert.GateBwdIdeal.τ).loc Cert.GateBwdIdeal.main_arg1)) (m ((c.tc : Thread Cert.GateBwdIdeal.nD Cert.GateBwdIdeal.τ).loc Cert.GateBwdIdeal.main_arg2)) (m ((c.tc : Thread Cert.GateBwdIdeal.nD Cert.GateBwdIdeal.τ).loc Cert.GateBwdIdeal.main_arg3))).2.2 = (fun _ => 1#1)

def Pre_GateBwdRefIdeal (m : (ℓ : Loc Cert.GateBwdRefIdeal.nD Cert.GateBwdRefIdeal.τ Cert.GateBwdRefIdeal.sig) → Buf (Elt Ideal) ℓ) : Prop :=
  True

def Pre_GateBwdRefIdeal_finite_gate [hPre_finite_gate : Cert.Pre_finite_gate.Facts] (m : (ℓ : Loc Cert.GateBwdRefIdeal.nD Cert.GateBwdRefIdeal.τ Cert.GateBwdRefIdeal.sig) → Buf (Elt Ideal) ℓ) : Prop :=
  ∀ c : Dev Cert.GateBwdRefIdeal.nD,
    (Cert.Pre_finite_gate.fn (F := Ideal) (m ((c.tc : Thread Cert.GateBwdRefIdeal.nD Cert.GateBwdRefIdeal.τ).loc Cert.GateBwdRefIdeal.main_arg0)) (m ((c.tc : Thread Cert.GateBwdRefIdeal.nD Cert.GateBwdRefIdeal.τ).loc Cert.GateBwdRefIdeal.main_arg1)) (m ((c.tc : Thread Cert.GateBwdRefIdeal.nD Cert.GateBwdRefIdeal.τ).loc Cert.GateBwdRefIdeal.main_arg2)) (m ((c.tc : Thread Cert.GateBwdRefIdeal.nD Cert.GateBwdRefIdeal.τ).loc Cert.GateBwdRefIdeal.main_arg3))).1 = (fun _ => 1#1)
    ∧ (Cert.Pre_finite_gate.fn (F := Ideal) (m ((c.tc : Thread Cert.GateBwdRefIdeal.nD Cert.GateBwdRefIdeal.τ).loc Cert.GateBwdRefIdeal.main_arg0)) (m ((c.tc : Thread Cert.GateBwdRefIdeal.nD Cert.GateBwdRefIdeal.τ).loc Cert.GateBwdRefIdeal.main_arg1)) (m ((c.tc : Thread Cert.GateBwdRefIdeal.nD Cert.GateBwdRefIdeal.τ).loc Cert.GateBwdRefIdeal.main_arg2)) (m ((c.tc : Thread Cert.GateBwdRefIdeal.nD Cert.GateBwdRefIdeal.τ).loc Cert.GateBwdRefIdeal.main_arg3))).2.1 = (fun _ => 1#1)
    ∧ (Cert.Pre_finite_gate.fn (F := Ideal) (m ((c.tc : Thread Cert.GateBwdRefIdeal.nD Cert.GateBwdRefIdeal.τ).loc Cert.GateBwdRefIdeal.main_arg0)) (m ((c.tc : Thread Cert.GateBwdRefIdeal.nD Cert.GateBwdRefIdeal.τ).loc Cert.GateBwdRefIdeal.main_arg1)) (m ((c.tc : Thread Cert.GateBwdRefIdeal.nD Cert.GateBwdRefIdeal.τ).loc Cert.GateBwdRefIdeal.main_arg2)) (m ((c.tc : Thread Cert.GateBwdRefIdeal.nD Cert.GateBwdRefIdeal.τ).loc Cert.GateBwdRefIdeal.main_arg3))).2.2 = (fun _ => 1#1)

def Pre_Dwd (m : (ℓ : Loc Cert.Dwd.nD Cert.Dwd.τ Cert.Dwd.sig) → Buf (Elt Bits) ℓ) : Prop :=
  True

def Pre_DwdIdeal (m : (ℓ : Loc Cert.DwdIdeal.nD Cert.DwdIdeal.τ Cert.DwdIdeal.sig) → Buf (Elt Ideal) ℓ) : Prop :=
  True

def Pre_DwdRefIdeal (m : (ℓ : Loc Cert.DwdRefIdeal.nD Cert.DwdRefIdeal.τ Cert.DwdRefIdeal.sig) → Buf (Elt Ideal) ℓ) : Prop :=
  True

def Pre_Dwgu (m : (ℓ : Loc Cert.Dwgu.nD Cert.Dwgu.τ Cert.Dwgu.sig) → Buf (Elt Bits) ℓ) : Prop :=
  True

def Pre_DwguIdeal (m : (ℓ : Loc Cert.DwguIdeal.nD Cert.DwguIdeal.τ Cert.DwguIdeal.sig) → Buf (Elt Ideal) ℓ) : Prop :=
  True

def Pre_DwguRefIdeal (m : (ℓ : Loc Cert.DwguRefIdeal.nD Cert.DwguRefIdeal.τ Cert.DwguRefIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdRefIdeal (m : (ℓ : Loc Cert.NormBwdRefIdeal.nD Cert.NormBwdRefIdeal.τ Cert.NormBwdRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_MixDwout (m : (ℓ : Loc Cert.MixDwout.nD Cert.MixDwout.τ Cert.MixDwout.sig) → Buf (Elt Bits) ℓ) : Prop :=
  True

def Pre_MixDwoutIdeal (m : (ℓ : Loc Cert.MixDwoutIdeal.nD Cert.MixDwoutIdeal.τ Cert.MixDwoutIdeal.sig) → Buf (Elt Ideal) ℓ) : Prop :=
  True

def Pre_MixDwoutRefIdeal (m : (ℓ : Loc Cert.MixDwoutRefIdeal.nD Cert.MixDwoutRefIdeal.τ Cert.MixDwoutRefIdeal.sig) → Buf (Elt Ideal) ℓ) : Prop :=
  True

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdRefIdeal (m : (ℓ : Loc Cert.MergeFwdRefIdeal.nD Cert.MergeFwdRefIdeal.τ Cert.MergeFwdRefIdeal.sig) → Buf (Elt Ideal) ℓ) : Prop :=
  True

def Pre_MergeBwd (m : (ℓ : Loc Cert.MergeBwd.nD Cert.MergeBwd.τ Cert.MergeBwd.sig) → Buf (Elt Bits) ℓ) : Prop :=
  True

def Pre_MergeBwdIdeal (m : (ℓ : Loc Cert.MergeBwdIdeal.nD Cert.MergeBwdIdeal.τ Cert.MergeBwdIdeal.sig) → Buf (Elt Ideal) ℓ) : Prop :=
  True

def Pre_MergeBwdRefIdeal (m : (ℓ : Loc Cert.MergeBwdRefIdeal.nD Cert.MergeBwdRefIdeal.τ Cert.MergeBwdRefIdeal.sig) → Buf (Elt Ideal) ℓ) : Prop :=
  True

def Pre_BranchDw (m : (ℓ : Loc Cert.BranchDw.nD Cert.BranchDw.τ Cert.BranchDw.sig) → Buf (Elt Bits) ℓ) : Prop :=
  True

def Pre_BranchDwIdeal (m : (ℓ : Loc Cert.BranchDwIdeal.nD Cert.BranchDwIdeal.τ Cert.BranchDwIdeal.sig) → Buf (Elt Ideal) ℓ) : Prop :=
  True

def Pre_BranchDwRefIdeal (m : (ℓ : Loc Cert.BranchDwRefIdeal.nD Cert.BranchDwRefIdeal.τ Cert.BranchDwRefIdeal.sig) → Buf (Elt Ideal) ℓ) : Prop :=
  True

def Pre_MixDwin (m : (ℓ : Loc Cert.MixDwin.nD Cert.MixDwin.τ Cert.MixDwin.sig) → Buf (Elt Bits) ℓ) : Prop :=
  True

def Pre_MixDwinIdeal (m : (ℓ : Loc Cert.MixDwinIdeal.nD Cert.MixDwinIdeal.τ Cert.MixDwinIdeal.sig) → Buf (Elt Ideal) ℓ) : Prop :=
  True

def Pre_MixDwinRefIdeal (m : (ℓ : Loc Cert.MixDwinRefIdeal.nD Cert.MixDwinRefIdeal.τ Cert.MixDwinRefIdeal.sig) → Buf (Elt Ideal) ℓ) : Prop :=
  True

def Pre_MixNormBwd (m : (ℓ : Loc Cert.MixNormBwd.nD Cert.MixNormBwd.τ Cert.MixNormBwd.sig) → Buf (Elt Bits) ℓ) : Prop :=
  True

def Pre_MixNormBwdIdeal (m : (ℓ : Loc Cert.MixNormBwdIdeal.nD Cert.MixNormBwdIdeal.τ Cert.MixNormBwdIdeal.sig) → Buf (Elt Ideal) ℓ) : Prop :=
  True

def Pre_MixNormBwdRefIdeal (m : (ℓ : Loc Cert.MixNormBwdRefIdeal.nD Cert.MixNormBwdRefIdeal.τ Cert.MixNormBwdRefIdeal.sig) → Buf (Elt Ideal) ℓ) : Prop :=
  True

def Pre_AdamGu (m : (ℓ : Loc Cert.AdamGu.nD Cert.AdamGu.τ Cert.AdamGu.sig) → Buf (Elt Bits) ℓ) : Prop :=
  True

def Pre_AdamGuIdeal (m : (ℓ : Loc Cert.AdamGuIdeal.nD Cert.AdamGuIdeal.τ Cert.AdamGuIdeal.sig) → Buf (Elt Ideal) ℓ) : Prop :=
  True

def Pre_AdamGuRefIdeal (m : (ℓ : Loc Cert.AdamGuRefIdeal.nD Cert.AdamGuRefIdeal.τ Cert.AdamGuRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamBranch (m : (ℓ : Loc Cert.AdamBranch.nD Cert.AdamBranch.τ Cert.AdamBranch.sig) → Buf (Elt Bits) ℓ) : Prop :=
  True

def Pre_AdamBranchIdeal (m : (ℓ : Loc Cert.AdamBranchIdeal.nD Cert.AdamBranchIdeal.τ Cert.AdamBranchIdeal.sig) → Buf (Elt Ideal) ℓ) : Prop :=
  True

def Pre_AdamBranchRefIdeal (m : (ℓ : Loc Cert.AdamBranchRefIdeal.nD Cert.AdamBranchRefIdeal.τ Cert.AdamBranchRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_GateBwd [hGateBwd : Cert.GateBwd.Facts] : Prop :=
  ∀ (m : (ℓ : Loc Cert.GateBwd.nD Cert.GateBwd.τ Cert.GateBwd.sig) → Buf (Elt Bits) ℓ) (g : Dev Cert.GateBwd.nD → PrngReg), Pre_GateBwd m →
    θ_run (Cert.GateBwd.defs (F := Bits)) (onTc (τ := Cert.GateBwd.τ) (Cert.GateBwd.main (F := Bits))) ⟨m, fun _ => 0, g⟩ (fun r => (∀ c : Dev Cert.GateBwd.nD,
      r.2.mem ((c.tc : Thread Cert.GateBwd.nD Cert.GateBwd.τ).loc Cert.GateBwd.main_arg0) = m ((c.tc : Thread Cert.GateBwd.nD Cert.GateBwd.τ).loc Cert.GateBwd.main_arg0)
      ∧ r.2.mem ((c.tc : Thread Cert.GateBwd.nD Cert.GateBwd.τ).loc Cert.GateBwd.main_arg1) = m ((c.tc : Thread Cert.GateBwd.nD Cert.GateBwd.τ).loc Cert.GateBwd.main_arg1)
      ∧ r.2.mem ((c.tc : Thread Cert.GateBwd.nD Cert.GateBwd.τ).loc Cert.GateBwd.main_arg2) = m ((c.tc : Thread Cert.GateBwd.nD Cert.GateBwd.τ).loc Cert.GateBwd.main_arg2)
      ∧ r.2.mem ((c.tc : Thread Cert.GateBwd.nD Cert.GateBwd.τ).loc Cert.GateBwd.main_arg3) = m ((c.tc : Thread Cert.GateBwd.nD Cert.GateBwd.τ).loc Cert.GateBwd.main_arg3))
      ∧ r.2.sem = fun _ => 0)

def quiescent_GateBwdIdeal [hGateBwdIdeal : Cert.GateBwdIdeal.Facts] : Prop :=
  ∀ (m : (ℓ : Loc Cert.GateBwdIdeal.nD Cert.GateBwdIdeal.τ Cert.GateBwdIdeal.sig) → Buf (Elt Ideal) ℓ) (g : Dev Cert.GateBwdIdeal.nD → PrngReg), Pre_GateBwdIdeal m →
    θ_run (Cert.GateBwdIdeal.defs (F := Ideal)) (onTc (τ := Cert.GateBwdIdeal.τ) (Cert.GateBwdIdeal.main (F := Ideal))) ⟨m, fun _ => 0, g⟩ (fun r => (∀ c : Dev Cert.GateBwdIdeal.nD,
      r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
      ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
      ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2)
      ∧ r.2.mem ((c.tc : Thread Cert.GateBwdIdeal.nD Cert.GateBwdIdeal.τ).loc Cert.GateBwdIdeal.main_arg3) = m ((c.tc : Thread Cert.GateBwdIdeal.nD Cert.GateBwdIdeal.τ).loc Cert.GateBwdIdeal.main_arg3))
      ∧ r.2.sem = fun _ => 0)

def quiescent_GateBwdIdeal_pre_finite_gate [hGateBwdIdeal : Cert.GateBwdIdeal.Facts] [hPre_finite_gate : Cert.Pre_finite_gate.Facts] : Prop :=
  ∀ (m : (ℓ : Loc Cert.GateBwdIdeal.nD Cert.GateBwdIdeal.τ Cert.GateBwdIdeal.sig) → Buf (Elt Ideal) ℓ) (g : Dev Cert.GateBwdIdeal.nD → PrngReg), Pre_GateBwdIdeal_finite_gate m →
    θ_run (Cert.GateBwdIdeal.defs (F := Ideal)) (onTc (τ := Cert.GateBwdIdeal.τ) (Cert.GateBwdIdeal.main (F := Ideal))) ⟨m, fun _ => 0, g⟩ (fun r => (∀ c : Dev Cert.GateBwdIdeal.nD,
      r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
      ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
      ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2)
      ∧ r.2.mem ((c.tc : Thread Cert.GateBwdIdeal.nD Cert.GateBwdIdeal.τ).loc Cert.GateBwdIdeal.main_arg3) = m ((c.tc : Thread Cert.GateBwdIdeal.nD Cert.GateBwdIdeal.τ).loc Cert.GateBwdIdeal.main_arg3))
      ∧ r.2.sem = fun _ => 0)

def quiescent_GateBwdRefIdeal [hGateBwdRefIdeal : Cert.GateBwdRefIdeal.Facts] : Prop :=
  ∀ (m : (ℓ : Loc Cert.GateBwdRefIdeal.nD Cert.GateBwdRefIdeal.τ Cert.GateBwdRefIdeal.sig) → Buf (Elt Ideal) ℓ) (g : Dev Cert.GateBwdRefIdeal.nD → PrngReg), Pre_GateBwdRefIdeal m →
    θ_run (Cert.GateBwdRefIdeal.defs (F := Ideal)) (onTc (τ := Cert.GateBwdRefIdeal.τ) (Cert.GateBwdRefIdeal.main (F := Ideal))) ⟨m, fun _ => 0, g⟩ (fun r => (∀ c : Dev Cert.GateBwdRefIdeal.nD,
      r.2.mem ((c.tc : Thread Cert.GateBwdRefIdeal.nD Cert.GateBwdRefIdeal.τ).loc Cert.GateBwdRefIdeal.main_arg0) = m ((c.tc : Thread Cert.GateBwdRefIdeal.nD Cert.GateBwdRefIdeal.τ).loc Cert.GateBwdRefIdeal.main_arg0)
      ∧ r.2.mem ((c.tc : Thread Cert.GateBwdRefIdeal.nD Cert.GateBwdRefIdeal.τ).loc Cert.GateBwdRefIdeal.main_arg1) = m ((c.tc : Thread Cert.GateBwdRefIdeal.nD Cert.GateBwdRefIdeal.τ).loc Cert.GateBwdRefIdeal.main_arg1)
      ∧ r.2.mem ((c.tc : Thread Cert.GateBwdRefIdeal.nD Cert.GateBwdRefIdeal.τ).loc Cert.GateBwdRefIdeal.main_arg2) = m ((c.tc : Thread Cert.GateBwdRefIdeal.nD Cert.GateBwdRefIdeal.τ).loc Cert.GateBwdRefIdeal.main_arg2)
      ∧ r.2.mem ((c.tc : Thread Cert.GateBwdRefIdeal.nD Cert.GateBwdRefIdeal.τ).loc Cert.GateBwdRefIdeal.main_arg3) = m ((c.tc : Thread Cert.GateBwdRefIdeal.nD Cert.GateBwdRefIdeal.τ).loc Cert.GateBwdRefIdeal.main_arg3))
      ∧ r.2.sem = fun _ => 0)

def quiescent_GateBwdRefIdeal_pre_finite_gate [hGateBwdRefIdeal : Cert.GateBwdRefIdeal.Facts] [hPre_finite_gate : Cert.Pre_finite_gate.Facts] : Prop :=
  ∀ (m : (ℓ : Loc Cert.GateBwdRefIdeal.nD Cert.GateBwdRefIdeal.τ Cert.GateBwdRefIdeal.sig) → Buf (Elt Ideal) ℓ) (g : Dev Cert.GateBwdRefIdeal.nD → PrngReg), Pre_GateBwdRefIdeal_finite_gate m →
    θ_run (Cert.GateBwdRefIdeal.defs (F := Ideal)) (onTc (τ := Cert.GateBwdRefIdeal.τ) (Cert.GateBwdRefIdeal.main (F := Ideal))) ⟨m, fun _ => 0, g⟩ (fun r => (∀ c : Dev Cert.GateBwdRefIdeal.nD,
      r.2.mem ((c.tc : Thread Cert.GateBwdRefIdeal.nD Cert.GateBwdRefIdeal.τ).loc Cert.GateBwdRefIdeal.main_arg0) = m ((c.tc : Thread Cert.GateBwdRefIdeal.nD Cert.GateBwdRefIdeal.τ).loc Cert.GateBwdRefIdeal.main_arg0)
      ∧ r.2.mem ((c.tc : Thread Cert.GateBwdRefIdeal.nD Cert.GateBwdRefIdeal.τ).loc Cert.GateBwdRefIdeal.main_arg1) = m ((c.tc : Thread Cert.GateBwdRefIdeal.nD Cert.GateBwdRefIdeal.τ).loc Cert.GateBwdRefIdeal.main_arg1)
      ∧ r.2.mem ((c.tc : Thread Cert.GateBwdRefIdeal.nD Cert.GateBwdRefIdeal.τ).loc Cert.GateBwdRefIdeal.main_arg2) = m ((c.tc : Thread Cert.GateBwdRefIdeal.nD Cert.GateBwdRefIdeal.τ).loc Cert.GateBwdRefIdeal.main_arg2)
      ∧ r.2.mem ((c.tc : Thread Cert.GateBwdRefIdeal.nD Cert.GateBwdRefIdeal.τ).loc Cert.GateBwdRefIdeal.main_arg3) = m ((c.tc : Thread Cert.GateBwdRefIdeal.nD Cert.GateBwdRefIdeal.τ).loc Cert.GateBwdRefIdeal.main_arg3))
      ∧ r.2.sem = fun _ => 0)

def quiescent_Dwd [hDwd : Cert.Dwd.Facts] : Prop :=
  ∀ (m : (ℓ : Loc Cert.Dwd.nD Cert.Dwd.τ Cert.Dwd.sig) → Buf (Elt Bits) ℓ) (g : Dev Cert.Dwd.nD → PrngReg), Pre_Dwd m →
    θ_run (Cert.Dwd.defs (F := Bits)) (onTc (τ := Cert.Dwd.τ) (Cert.Dwd.main (F := Bits))) ⟨m, fun _ => 0, g⟩ (fun r => (∀ c : Dev Cert.Dwd.nD,
      r.2.mem ((c.tc : Thread Cert.Dwd.nD Cert.Dwd.τ).loc Cert.Dwd.main_arg0) = m ((c.tc : Thread Cert.Dwd.nD Cert.Dwd.τ).loc Cert.Dwd.main_arg0)
      ∧ r.2.mem ((c.tc : Thread Cert.Dwd.nD Cert.Dwd.τ).loc Cert.Dwd.main_arg1) = m ((c.tc : Thread Cert.Dwd.nD Cert.Dwd.τ).loc Cert.Dwd.main_arg1))
      ∧ r.2.sem = fun _ => 0)

def quiescent_DwdIdeal [hDwdIdeal : Cert.DwdIdeal.Facts] : Prop :=
  ∀ (m : (ℓ : Loc Cert.DwdIdeal.nD Cert.DwdIdeal.τ Cert.DwdIdeal.sig) → Buf (Elt Ideal) ℓ) (g : Dev Cert.DwdIdeal.nD → PrngReg), Pre_DwdIdeal m →
    θ_run (Cert.DwdIdeal.defs (F := Ideal)) (onTc (τ := Cert.DwdIdeal.τ) (Cert.DwdIdeal.main (F := Ideal))) ⟨m, fun _ => 0, g⟩ (fun r => (∀ c : Dev Cert.DwdIdeal.nD,
      r.2.mem ((c.tc : Thread Cert.DwdIdeal.nD Cert.DwdIdeal.τ).loc Cert.DwdIdeal.main_arg0) = m ((c.tc : Thread Cert.DwdIdeal.nD Cert.DwdIdeal.τ).loc Cert.DwdIdeal.main_arg0)
      ∧ r.2.mem ((c.tc : Thread Cert.DwdIdeal.nD Cert.DwdIdeal.τ).loc Cert.DwdIdeal.main_arg1) = m ((c.tc : Thread Cert.DwdIdeal.nD Cert.DwdIdeal.τ).loc Cert.DwdIdeal.main_arg1))
      ∧ r.2.sem = fun _ => 0)

def quiescent_DwdRefIdeal [hDwdRefIdeal : Cert.DwdRefIdeal.Facts] : Prop :=
  ∀ (m : (ℓ : Loc Cert.DwdRefIdeal.nD Cert.DwdRefIdeal.τ Cert.DwdRefIdeal.sig) → Buf (Elt Ideal) ℓ) (g : Dev Cert.DwdRefIdeal.nD → PrngReg), Pre_DwdRefIdeal m →
    θ_run (Cert.DwdRefIdeal.defs (F := Ideal)) (onTc (τ := Cert.DwdRefIdeal.τ) (Cert.DwdRefIdeal.main (F := Ideal))) ⟨m, fun _ => 0, g⟩ (fun r => (∀ c : Dev Cert.DwdRefIdeal.nD,
      r.2.mem ((c.tc : Thread Cert.DwdRefIdeal.nD Cert.DwdRefIdeal.τ).loc Cert.DwdRefIdeal.main_arg0) = m ((c.tc : Thread Cert.DwdRefIdeal.nD Cert.DwdRefIdeal.τ).loc Cert.DwdRefIdeal.main_arg0)
      ∧ r.2.mem ((c.tc : Thread Cert.DwdRefIdeal.nD Cert.DwdRefIdeal.τ).loc Cert.DwdRefIdeal.main_arg1) = m ((c.tc : Thread Cert.DwdRefIdeal.nD Cert.DwdRefIdeal.τ).loc Cert.DwdRefIdeal.main_arg1))
      ∧ r.2.sem = fun _ => 0)

def quiescent_Dwgu [hDwgu : Cert.Dwgu.Facts] : Prop :=
  ∀ (m : (ℓ : Loc Cert.Dwgu.nD Cert.Dwgu.τ Cert.Dwgu.sig) → Buf (Elt Bits) ℓ) (g : Dev Cert.Dwgu.nD → PrngReg), Pre_Dwgu m →
    θ_run (Cert.Dwgu.defs (F := Bits)) (onTc (τ := Cert.Dwgu.τ) (Cert.Dwgu.main (F := Bits))) ⟨m, fun _ => 0, g⟩ (fun r => (∀ c : Dev Cert.Dwgu.nD,
      r.2.mem ((c.tc : Thread Cert.Dwgu.nD Cert.Dwgu.τ).loc Cert.Dwgu.main_arg0) = m ((c.tc : Thread Cert.Dwgu.nD Cert.Dwgu.τ).loc Cert.Dwgu.main_arg0)
      ∧ r.2.mem ((c.tc : Thread Cert.Dwgu.nD Cert.Dwgu.τ).loc Cert.Dwgu.main_arg1) = m ((c.tc : Thread Cert.Dwgu.nD Cert.Dwgu.τ).loc Cert.Dwgu.main_arg1))
      ∧ r.2.sem = fun _ => 0)

def quiescent_DwguIdeal [hDwguIdeal : Cert.DwguIdeal.Facts] : Prop :=
  ∀ (m : (ℓ : Loc Cert.DwguIdeal.nD Cert.DwguIdeal.τ Cert.DwguIdeal.sig) → Buf (Elt Ideal) ℓ) (g : Dev Cert.DwguIdeal.nD → PrngReg), Pre_DwguIdeal m →
    θ_run (Cert.DwguIdeal.defs (F := Ideal)) (onTc (τ := Cert.DwguIdeal.τ) (Cert.DwguIdeal.main (F := Ideal))) ⟨m, fun _ => 0, g⟩ (fun r => (∀ c : Dev Cert.DwguIdeal.nD,
      r.2.mem ((c.tc : Thread Cert.DwguIdeal.nD Cert.DwguIdeal.τ).loc Cert.DwguIdeal.main_arg0) = m ((c.tc : Thread Cert.DwguIdeal.nD Cert.DwguIdeal.τ).loc Cert.DwguIdeal.main_arg0)
      ∧ r.2.mem ((c.tc : Thread Cert.DwguIdeal.nD Cert.DwguIdeal.τ).loc Cert.DwguIdeal.main_arg1) = m ((c.tc : Thread Cert.DwguIdeal.nD Cert.DwguIdeal.τ).loc Cert.DwguIdeal.main_arg1))
      ∧ r.2.sem = fun _ => 0)

def quiescent_DwguRefIdeal [hDwguRefIdeal : Cert.DwguRefIdeal.Facts] : Prop :=
  ∀ (m : (ℓ : Loc Cert.DwguRefIdeal.nD Cert.DwguRefIdeal.τ Cert.DwguRefIdeal.sig) → Buf (Elt Ideal) ℓ) (g : Dev Cert.DwguRefIdeal.nD → PrngReg), Pre_DwguRefIdeal m →
    θ_run (Cert.DwguRefIdeal.defs (F := Ideal)) (onTc (τ := Cert.DwguRefIdeal.τ) (Cert.DwguRefIdeal.main (F := Ideal))) ⟨m, fun _ => 0, g⟩ (fun r => (∀ c : Dev Cert.DwguRefIdeal.nD,
      r.2.mem ((c.tc : Thread Cert.DwguRefIdeal.nD Cert.DwguRefIdeal.τ).loc Cert.DwguRefIdeal.main_arg0) = m ((c.tc : Thread Cert.DwguRefIdeal.nD Cert.DwguRefIdeal.τ).loc Cert.DwguRefIdeal.main_arg0)
      ∧ r.2.mem ((c.tc : Thread Cert.DwguRefIdeal.nD Cert.DwguRefIdeal.τ).loc Cert.DwguRefIdeal.main_arg1) = m ((c.tc : Thread Cert.DwguRefIdeal.nD Cert.DwguRefIdeal.τ).loc Cert.DwguRefIdeal.main_arg1))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3)
      ∧ r.2.mem ((c.tc : Thread Cert.NormBwd.nD Cert.NormBwd.τ).loc Cert.NormBwd.main_arg4) = m ((c.tc : Thread Cert.NormBwd.nD Cert.NormBwd.τ).loc Cert.NormBwd.main_arg4))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
      ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4))
      ∧ r.2.sem = fun _ => 0)

def quiescent_NormBwdRefIdeal [hNormBwdRefIdeal : Cert.NormBwdRefIdeal.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3)
      ∧ r.2.mem ((c.tc : Thread Cert.NormBwdRefIdeal.nD Cert.NormBwdRefIdeal.τ).loc Cert.NormBwdRefIdeal.main_arg4) = m ((c.tc : Thread Cert.NormBwdRefIdeal.nD Cert.NormBwdRefIdeal.τ).loc Cert.NormBwdRefIdeal.main_arg4))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2))
      ∧ r.2.sem = fun _ => 0)

def quiescent_MixDwout [hMixDwout : Cert.MixDwout.Facts] : Prop :=
  ∀ (m : (ℓ : Loc Cert.MixDwout.nD Cert.MixDwout.τ Cert.MixDwout.sig) → Buf (Elt Bits) ℓ) (g : Dev Cert.MixDwout.nD → PrngReg), Pre_MixDwout m →
    θ_run (Cert.MixDwout.defs (F := Bits)) (onTc (τ := Cert.MixDwout.τ) (Cert.MixDwout.main (F := Bits))) ⟨m, fun _ => 0, g⟩ (fun r => (∀ c : Dev Cert.MixDwout.nD,
      r.2.mem ((c.tc : Thread Cert.MixDwout.nD Cert.MixDwout.τ).loc Cert.MixDwout.main_arg0) = m ((c.tc : Thread Cert.MixDwout.nD Cert.MixDwout.τ).loc Cert.MixDwout.main_arg0)
      ∧ r.2.mem ((c.tc : Thread Cert.MixDwout.nD Cert.MixDwout.τ).loc Cert.MixDwout.main_arg1) = m ((c.tc : Thread Cert.MixDwout.nD Cert.MixDwout.τ).loc Cert.MixDwout.main_arg1))
      ∧ r.2.sem = fun _ => 0)

def quiescent_MixDwoutIdeal [hMixDwoutIdeal : Cert.MixDwoutIdeal.Facts] : Prop :=
  ∀ (m : (ℓ : Loc Cert.MixDwoutIdeal.nD Cert.MixDwoutIdeal.τ Cert.MixDwoutIdeal.sig) → Buf (Elt Ideal) ℓ) (g : Dev Cert.MixDwoutIdeal.nD → PrngReg), Pre_MixDwoutIdeal m →
    θ_run (Cert.MixDwoutIdeal.defs (F := Ideal)) (onTc (τ := Cert.MixDwoutIdeal.τ) (Cert.MixDwoutIdeal.main (F := Ideal))) ⟨m, fun _ => 0, g⟩ (fun r => (∀ c : Dev Cert.MixDwoutIdeal.nD,
      r.2.mem ((c.tc : Thread Cert.MixDwoutIdeal.nD Cert.MixDwoutIdeal.τ).loc Cert.MixDwoutIdeal.main_arg0) = m ((c.tc : Thread Cert.MixDwoutIdeal.nD Cert.MixDwoutIdeal.τ).loc Cert.MixDwoutIdeal.main_arg0)
      ∧ r.2.mem ((c.tc : Thread Cert.MixDwoutIdeal.nD Cert.MixDwoutIdeal.τ).loc Cert.MixDwoutIdeal.main_arg1) = m ((c.tc : Thread Cert.MixDwoutIdeal.nD Cert.MixDwoutIdeal.τ).loc Cert.MixDwoutIdeal.main_arg1))
      ∧ r.2.sem = fun _ => 0)

def quiescent_MixDwoutRefIdeal [hMixDwoutRefIdeal : Cert.MixDwoutRefIdeal.Facts] : Prop :=
  ∀ (m : (ℓ : Loc Cert.MixDwoutRefIdeal.nD Cert.MixDwoutRefIdeal.τ Cert.MixDwoutRefIdeal.sig) → Buf (Elt Ideal) ℓ) (g : Dev Cert.MixDwoutRefIdeal.nD → PrngReg), Pre_MixDwoutRefIdeal m →
    θ_run (Cert.MixDwoutRefIdeal.defs (F := Ideal)) (onTc (τ := Cert.MixDwoutRefIdeal.τ) (Cert.MixDwoutRefIdeal.main (F := Ideal))) ⟨m, fun _ => 0, g⟩ (fun r => (∀ c : Dev Cert.MixDwoutRefIdeal.nD,
      r.2.mem ((c.tc : Thread Cert.MixDwoutRefIdeal.nD Cert.MixDwoutRefIdeal.τ).loc Cert.MixDwoutRefIdeal.main_arg0) = m ((c.tc : Thread Cert.MixDwoutRefIdeal.nD Cert.MixDwoutRefIdeal.τ).loc Cert.MixDwoutRefIdeal.main_arg0)
      ∧ r.2.mem ((c.tc : Thread Cert.MixDwoutRefIdeal.nD Cert.MixDwoutRefIdeal.τ).loc Cert.MixDwoutRefIdeal.main_arg1) = m ((c.tc : Thread Cert.MixDwoutRefIdeal.nD Cert.MixDwoutRefIdeal.τ).loc Cert.MixDwoutRefIdeal.main_arg1))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2)
      ∧ r.2.mem ((c.tc : Thread Cert.MergeFwd.nD Cert.MergeFwd.τ).loc Cert.MergeFwd.main_arg3) = m ((c.tc : Thread Cert.MergeFwd.nD Cert.MergeFwd.τ).loc Cert.MergeFwd.main_arg3)
      ∧ r.2.mem ((c.tc : Thread Cert.MergeFwd.nD Cert.MergeFwd.τ).loc Cert.MergeFwd.main_arg4) = m ((c.tc : Thread Cert.MergeFwd.nD Cert.MergeFwd.τ).loc Cert.MergeFwd.main_arg4))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
      ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
      ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4))
      ∧ r.2.sem = fun _ => 0)

def quiescent_MergeFwdRefIdeal [hMergeFwdRefIdeal : Cert.MergeFwdRefIdeal.Facts] : Prop :=
  ∀ (m : (ℓ : Loc Cert.MergeFwdRefIdeal.nD Cert.MergeFwdRefIdeal.τ Cert.MergeFwdRefIdeal.sig) → Buf (Elt Ideal) ℓ) (g : Dev Cert.MergeFwdRefIdeal.nD → PrngReg), Pre_MergeFwdRefIdeal m →
    θ_run (Cert.MergeFwdRefIdeal.defs (F := Ideal)) (onTc (τ := Cert.MergeFwdRefIdeal.τ) (Cert.MergeFwdRefIdeal.main (F := Ideal))) ⟨m, fun _ => 0, g⟩ (fun r => (∀ c : Dev Cert.MergeFwdRefIdeal.nD,
      r.2.mem ((c.tc : Thread Cert.MergeFwdRefIdeal.nD Cert.MergeFwdRefIdeal.τ).loc Cert.MergeFwdRefIdeal.main_arg0) = m ((c.tc : Thread Cert.MergeFwdRefIdeal.nD Cert.MergeFwdRefIdeal.τ).loc Cert.MergeFwdRefIdeal.main_arg0)
      ∧ r.2.mem ((c.tc : Thread Cert.MergeFwdRefIdeal.nD Cert.MergeFwdRefIdeal.τ).loc Cert.MergeFwdRefIdeal.main_arg1) = m ((c.tc : Thread Cert.MergeFwdRefIdeal.nD Cert.MergeFwdRefIdeal.τ).loc Cert.MergeFwdRefIdeal.main_arg1)
      ∧ r.2.mem ((c.tc : Thread Cert.MergeFwdRefIdeal.nD Cert.MergeFwdRefIdeal.τ).loc Cert.MergeFwdRefIdeal.main_arg2) = m ((c.tc : Thread Cert.MergeFwdRefIdeal.nD Cert.MergeFwdRefIdeal.τ).loc Cert.MergeFwdRefIdeal.main_arg2)
      ∧ r.2.mem ((c.tc : Thread Cert.MergeFwdRefIdeal.nD Cert.MergeFwdRefIdeal.τ).loc Cert.MergeFwdRefIdeal.main_arg3) = m ((c.tc : Thread Cert.MergeFwdRefIdeal.nD Cert.MergeFwdRefIdeal.τ).loc Cert.MergeFwdRefIdeal.main_arg3)
      ∧ r.2.mem ((c.tc : Thread Cert.MergeFwdRefIdeal.nD Cert.MergeFwdRefIdeal.τ).loc Cert.MergeFwdRefIdeal.main_arg4) = m ((c.tc : Thread Cert.MergeFwdRefIdeal.nD Cert.MergeFwdRefIdeal.τ).loc Cert.MergeFwdRefIdeal.main_arg4))
      ∧ r.2.sem = fun _ => 0)

def quiescent_MergeBwd [hMergeBwd : Cert.MergeBwd.Facts] : Prop :=
  ∀ (m : (ℓ : Loc Cert.MergeBwd.nD Cert.MergeBwd.τ Cert.MergeBwd.sig) → Buf (Elt Bits) ℓ) (g : Dev Cert.MergeBwd.nD → PrngReg), Pre_MergeBwd m →
    θ_run (Cert.MergeBwd.defs (F := Bits)) (onTc (τ := Cert.MergeBwd.τ) (Cert.MergeBwd.main (F := Bits))) ⟨m, fun _ => 0, g⟩ (fun r => (∀ c : Dev Cert.MergeBwd.nD,
      r.2.mem ((c.tc : Thread Cert.MergeBwd.nD Cert.MergeBwd.τ).loc Cert.MergeBwd.main_arg0) = m ((c.tc : Thread Cert.MergeBwd.nD Cert.MergeBwd.τ).loc Cert.MergeBwd.main_arg0)
      ∧ r.2.mem ((c.tc : Thread Cert.MergeBwd.nD Cert.MergeBwd.τ).loc Cert.MergeBwd.main_arg1) = m ((c.tc : Thread Cert.MergeBwd.nD Cert.MergeBwd.τ).loc Cert.MergeBwd.main_arg1)
      ∧ r.2.mem ((c.tc : Thread Cert.MergeBwd.nD Cert.MergeBwd.τ).loc Cert.MergeBwd.main_arg2) = m ((c.tc : Thread Cert.MergeBwd.nD Cert.MergeBwd.τ).loc Cert.MergeBwd.main_arg2)
      ∧ r.2.mem ((c.tc : Thread Cert.MergeBwd.nD Cert.MergeBwd.τ).loc Cert.MergeBwd.main_arg3) = m ((c.tc : Thread Cert.MergeBwd.nD Cert.MergeBwd.τ).loc Cert.MergeBwd.main_arg3)
      ∧ r.2.mem ((c.tc : Thread Cert.MergeBwd.nD Cert.MergeBwd.τ).loc Cert.MergeBwd.main_arg4) = m ((c.tc : Thread Cert.MergeBwd.nD Cert.MergeBwd.τ).loc Cert.MergeBwd.main_arg4)
      ∧ r.2.mem ((c.tc : Thread Cert.MergeBwd.nD Cert.MergeBwd.τ).loc Cert.MergeBwd.main_arg5) = m ((c.tc : Thread Cert.MergeBwd.nD Cert.MergeBwd.τ).loc Cert.MergeBwd.main_arg5)
      ∧ r.2.mem ((c.tc : Thread Cert.MergeBwd.nD Cert.MergeBwd.τ).loc Cert.MergeBwd.main_arg6) = m ((c.tc : Thread Cert.MergeBwd.nD Cert.MergeBwd.τ).loc Cert.MergeBwd.main_arg6))
      ∧ r.2.sem = fun _ => 0)

def quiescent_MergeBwdIdeal [hMergeBwdIdeal : Cert.MergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
      ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
      ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4)
      ∧ r.2.mem ((c.tc : Thread Cert.MergeBwdIdeal.nD Cert.MergeBwdIdeal.τ).loc Cert.MergeBwdIdeal.main_arg5) = m ((c.tc : Thread Cert.MergeBwdIdeal.nD Cert.MergeBwdIdeal.τ).loc Cert.MergeBwdIdeal.main_arg5)
      ∧ r.2.mem ((c.tc : Thread Cert.MergeBwdIdeal.nD Cert.MergeBwdIdeal.τ).loc Cert.MergeBwdIdeal.main_arg6) = m ((c.tc : Thread Cert.MergeBwdIdeal.nD Cert.MergeBwdIdeal.τ).loc Cert.MergeBwdIdeal.main_arg6))
      ∧ r.2.sem = fun _ => 0)

def quiescent_MergeBwdRefIdeal [hMergeBwdRefIdeal : Cert.MergeBwdRefIdeal.Facts] : Prop :=
  ∀ (m : (ℓ : Loc Cert.MergeBwdRefIdeal.nD Cert.MergeBwdRefIdeal.τ Cert.MergeBwdRefIdeal.sig) → Buf (Elt Ideal) ℓ) (g : Dev Cert.MergeBwdRefIdeal.nD → PrngReg), Pre_MergeBwdRefIdeal m →
    θ_run (Cert.MergeBwdRefIdeal.defs (F := Ideal)) (onTc (τ := Cert.MergeBwdRefIdeal.τ) (Cert.MergeBwdRefIdeal.main (F := Ideal))) ⟨m, fun _ => 0, g⟩ (fun r => (∀ c : Dev Cert.MergeBwdRefIdeal.nD,
      r.2.mem ((c.tc : Thread Cert.MergeBwdRefIdeal.nD Cert.MergeBwdRefIdeal.τ).loc Cert.MergeBwdRefIdeal.main_arg0) = m ((c.tc : Thread Cert.MergeBwdRefIdeal.nD Cert.MergeBwdRefIdeal.τ).loc Cert.MergeBwdRefIdeal.main_arg0)
      ∧ r.2.mem ((c.tc : Thread Cert.MergeBwdRefIdeal.nD Cert.MergeBwdRefIdeal.τ).loc Cert.MergeBwdRefIdeal.main_arg1) = m ((c.tc : Thread Cert.MergeBwdRefIdeal.nD Cert.MergeBwdRefIdeal.τ).loc Cert.MergeBwdRefIdeal.main_arg1)
      ∧ r.2.mem ((c.tc : Thread Cert.MergeBwdRefIdeal.nD Cert.MergeBwdRefIdeal.τ).loc Cert.MergeBwdRefIdeal.main_arg2) = m ((c.tc : Thread Cert.MergeBwdRefIdeal.nD Cert.MergeBwdRefIdeal.τ).loc Cert.MergeBwdRefIdeal.main_arg2)
      ∧ r.2.mem ((c.tc : Thread Cert.MergeBwdRefIdeal.nD Cert.MergeBwdRefIdeal.τ).loc Cert.MergeBwdRefIdeal.main_arg3) = m ((c.tc : Thread Cert.MergeBwdRefIdeal.nD Cert.MergeBwdRefIdeal.τ).loc Cert.MergeBwdRefIdeal.main_arg3)
      ∧ r.2.mem ((c.tc : Thread Cert.MergeBwdRefIdeal.nD Cert.MergeBwdRefIdeal.τ).loc Cert.MergeBwdRefIdeal.main_arg4) = m ((c.tc : Thread Cert.MergeBwdRefIdeal.nD Cert.MergeBwdRefIdeal.τ).loc Cert.MergeBwdRefIdeal.main_arg4)
      ∧ r.2.mem ((c.tc : Thread Cert.MergeBwdRefIdeal.nD Cert.MergeBwdRefIdeal.τ).loc Cert.MergeBwdRefIdeal.main_arg5) = m ((c.tc : Thread Cert.MergeBwdRefIdeal.nD Cert.MergeBwdRefIdeal.τ).loc Cert.MergeBwdRefIdeal.main_arg5)
      ∧ r.2.mem ((c.tc : Thread Cert.MergeBwdRefIdeal.nD Cert.MergeBwdRefIdeal.τ).loc Cert.MergeBwdRefIdeal.main_arg6) = m ((c.tc : Thread Cert.MergeBwdRefIdeal.nD Cert.MergeBwdRefIdeal.τ).loc Cert.MergeBwdRefIdeal.main_arg6))
      ∧ r.2.sem = fun _ => 0)

def quiescent_BranchDw [hBranchDw : Cert.BranchDw.Facts] : Prop :=
  ∀ (m : (ℓ : Loc Cert.BranchDw.nD Cert.BranchDw.τ Cert.BranchDw.sig) → Buf (Elt Bits) ℓ) (g : Dev Cert.BranchDw.nD → PrngReg), Pre_BranchDw m →
    θ_run (Cert.BranchDw.defs (F := Bits)) (onTc (τ := Cert.BranchDw.τ) (Cert.BranchDw.main (F := Bits))) ⟨m, fun _ => 0, g⟩ (fun r => (∀ c : Dev Cert.BranchDw.nD,
      r.2.mem ((c.tc : Thread Cert.BranchDw.nD Cert.BranchDw.τ).loc Cert.BranchDw.main_arg0) = m ((c.tc : Thread Cert.BranchDw.nD Cert.BranchDw.τ).loc Cert.BranchDw.main_arg0)
      ∧ r.2.mem ((c.tc : Thread Cert.BranchDw.nD Cert.BranchDw.τ).loc Cert.BranchDw.main_arg1) = m ((c.tc : Thread Cert.BranchDw.nD Cert.BranchDw.τ).loc Cert.BranchDw.main_arg1))
      ∧ r.2.sem = fun _ => 0)

def quiescent_BranchDwIdeal [hBranchDwIdeal : Cert.BranchDwIdeal.Facts] : Prop :=
  ∀ (m : (ℓ : Loc Cert.BranchDwIdeal.nD Cert.BranchDwIdeal.τ Cert.BranchDwIdeal.sig) → Buf (Elt Ideal) ℓ) (g : Dev Cert.BranchDwIdeal.nD → PrngReg), Pre_BranchDwIdeal m →
    θ_run (Cert.BranchDwIdeal.defs (F := Ideal)) (onTc (τ := Cert.BranchDwIdeal.τ) (Cert.BranchDwIdeal.main (F := Ideal))) ⟨m, fun _ => 0, g⟩ (fun r => (∀ c : Dev Cert.BranchDwIdeal.nD,
      r.2.mem ((c.tc : Thread Cert.BranchDwIdeal.nD Cert.BranchDwIdeal.τ).loc Cert.BranchDwIdeal.main_arg0) = m ((c.tc : Thread Cert.BranchDwIdeal.nD Cert.BranchDwIdeal.τ).loc Cert.BranchDwIdeal.main_arg0)
      ∧ r.2.mem ((c.tc : Thread Cert.BranchDwIdeal.nD Cert.BranchDwIdeal.τ).loc Cert.BranchDwIdeal.main_arg1) = m ((c.tc : Thread Cert.BranchDwIdeal.nD Cert.BranchDwIdeal.τ).loc Cert.BranchDwIdeal.main_arg1))
      ∧ r.2.sem = fun _ => 0)

def quiescent_BranchDwRefIdeal [hBranchDwRefIdeal : Cert.BranchDwRefIdeal.Facts] : Prop :=
  ∀ (m : (ℓ : Loc Cert.BranchDwRefIdeal.nD Cert.BranchDwRefIdeal.τ Cert.BranchDwRefIdeal.sig) → Buf (Elt Ideal) ℓ) (g : Dev Cert.BranchDwRefIdeal.nD → PrngReg), Pre_BranchDwRefIdeal m →
    θ_run (Cert.BranchDwRefIdeal.defs (F := Ideal)) (onTc (τ := Cert.BranchDwRefIdeal.τ) (Cert.BranchDwRefIdeal.main (F := Ideal))) ⟨m, fun _ => 0, g⟩ (fun r => (∀ c : Dev Cert.BranchDwRefIdeal.nD,
      r.2.mem ((c.tc : Thread Cert.BranchDwRefIdeal.nD Cert.BranchDwRefIdeal.τ).loc Cert.BranchDwRefIdeal.main_arg0) = m ((c.tc : Thread Cert.BranchDwRefIdeal.nD Cert.BranchDwRefIdeal.τ).loc Cert.BranchDwRefIdeal.main_arg0)
      ∧ r.2.mem ((c.tc : Thread Cert.BranchDwRefIdeal.nD Cert.BranchDwRefIdeal.τ).loc Cert.BranchDwRefIdeal.main_arg1) = m ((c.tc : Thread Cert.BranchDwRefIdeal.nD Cert.BranchDwRefIdeal.τ).loc Cert.BranchDwRefIdeal.main_arg1))
      ∧ r.2.sem = fun _ => 0)

def quiescent_MixDwin [hMixDwin : Cert.MixDwin.Facts] : Prop :=
  ∀ (m : (ℓ : Loc Cert.MixDwin.nD Cert.MixDwin.τ Cert.MixDwin.sig) → Buf (Elt Bits) ℓ) (g : Dev Cert.MixDwin.nD → PrngReg), Pre_MixDwin m →
    θ_run (Cert.MixDwin.defs (F := Bits)) (onTc (τ := Cert.MixDwin.τ) (Cert.MixDwin.main (F := Bits))) ⟨m, fun _ => 0, g⟩ (fun r => (∀ c : Dev Cert.MixDwin.nD,
      r.2.mem ((c.tc : Thread Cert.MixDwin.nD Cert.MixDwin.τ).loc Cert.MixDwin.main_arg0) = m ((c.tc : Thread Cert.MixDwin.nD Cert.MixDwin.τ).loc Cert.MixDwin.main_arg0)
      ∧ r.2.mem ((c.tc : Thread Cert.MixDwin.nD Cert.MixDwin.τ).loc Cert.MixDwin.main_arg1) = m ((c.tc : Thread Cert.MixDwin.nD Cert.MixDwin.τ).loc Cert.MixDwin.main_arg1)
      ∧ r.2.mem ((c.tc : Thread Cert.MixDwin.nD Cert.MixDwin.τ).loc Cert.MixDwin.main_arg2) = m ((c.tc : Thread Cert.MixDwin.nD Cert.MixDwin.τ).loc Cert.MixDwin.main_arg2)
      ∧ r.2.mem ((c.tc : Thread Cert.MixDwin.nD Cert.MixDwin.τ).loc Cert.MixDwin.main_arg3) = m ((c.tc : Thread Cert.MixDwin.nD Cert.MixDwin.τ).loc Cert.MixDwin.main_arg3)
      ∧ r.2.mem ((c.tc : Thread Cert.MixDwin.nD Cert.MixDwin.τ).loc Cert.MixDwin.main_arg4) = m ((c.tc : Thread Cert.MixDwin.nD Cert.MixDwin.τ).loc Cert.MixDwin.main_arg4))
      ∧ r.2.sem = fun _ => 0)

def quiescent_MixDwinIdeal [hMixDwinIdeal : Cert.MixDwinIdeal.Facts] : Prop :=
  ∀ (m : (ℓ : Loc Cert.MixDwinIdeal.nD Cert.MixDwinIdeal.τ Cert.MixDwinIdeal.sig) → Buf (Elt Ideal) ℓ) (g : Dev Cert.MixDwinIdeal.nD → PrngReg), Pre_MixDwinIdeal m →
    θ_run (Cert.MixDwinIdeal.defs (F := Ideal)) (onTc (τ := Cert.MixDwinIdeal.τ) (Cert.MixDwinIdeal.main (F := Ideal))) ⟨m, fun _ => 0, g⟩ (fun r => (∀ c : Dev Cert.MixDwinIdeal.nD,
      r.2.mem ((c.tc : Thread Cert.MixDwinIdeal.nD Cert.MixDwinIdeal.τ).loc Cert.MixDwinIdeal.main_arg0) = m ((c.tc : Thread Cert.MixDwinIdeal.nD Cert.MixDwinIdeal.τ).loc Cert.MixDwinIdeal.main_arg0)
      ∧ r.2.mem ((c.tc : Thread Cert.MixDwinIdeal.nD Cert.MixDwinIdeal.τ).loc Cert.MixDwinIdeal.main_arg1) = m ((c.tc : Thread Cert.MixDwinIdeal.nD Cert.MixDwinIdeal.τ).loc Cert.MixDwinIdeal.main_arg1)
      ∧ r.2.mem ((c.tc : Thread Cert.MixDwinIdeal.nD Cert.MixDwinIdeal.τ).loc Cert.MixDwinIdeal.main_arg2) = m ((c.tc : Thread Cert.MixDwinIdeal.nD Cert.MixDwinIdeal.τ).loc Cert.MixDwinIdeal.main_arg2)
      ∧ r.2.mem ((c.tc : Thread Cert.MixDwinIdeal.nD Cert.MixDwinIdeal.τ).loc Cert.MixDwinIdeal.main_arg3) = m ((c.tc : Thread Cert.MixDwinIdeal.nD Cert.MixDwinIdeal.τ).loc Cert.MixDwinIdeal.main_arg3)
      ∧ r.2.mem ((c.tc : Thread Cert.MixDwinIdeal.nD Cert.MixDwinIdeal.τ).loc Cert.MixDwinIdeal.main_arg4) = m ((c.tc : Thread Cert.MixDwinIdeal.nD Cert.MixDwinIdeal.τ).loc Cert.MixDwinIdeal.main_arg4))
      ∧ r.2.sem = fun _ => 0)

def quiescent_MixDwinRefIdeal [hMixDwinRefIdeal : Cert.MixDwinRefIdeal.Facts] : Prop :=
  ∀ (m : (ℓ : Loc Cert.MixDwinRefIdeal.nD Cert.MixDwinRefIdeal.τ Cert.MixDwinRefIdeal.sig) → Buf (Elt Ideal) ℓ) (g : Dev Cert.MixDwinRefIdeal.nD → PrngReg), Pre_MixDwinRefIdeal m →
    θ_run (Cert.MixDwinRefIdeal.defs (F := Ideal)) (onTc (τ := Cert.MixDwinRefIdeal.τ) (Cert.MixDwinRefIdeal.main (F := Ideal))) ⟨m, fun _ => 0, g⟩ (fun r => (∀ c : Dev Cert.MixDwinRefIdeal.nD,
      r.2.mem ((c.tc : Thread Cert.MixDwinRefIdeal.nD Cert.MixDwinRefIdeal.τ).loc Cert.MixDwinRefIdeal.main_arg0) = m ((c.tc : Thread Cert.MixDwinRefIdeal.nD Cert.MixDwinRefIdeal.τ).loc Cert.MixDwinRefIdeal.main_arg0)
      ∧ r.2.mem ((c.tc : Thread Cert.MixDwinRefIdeal.nD Cert.MixDwinRefIdeal.τ).loc Cert.MixDwinRefIdeal.main_arg1) = m ((c.tc : Thread Cert.MixDwinRefIdeal.nD Cert.MixDwinRefIdeal.τ).loc Cert.MixDwinRefIdeal.main_arg1)
      ∧ r.2.mem ((c.tc : Thread Cert.MixDwinRefIdeal.nD Cert.MixDwinRefIdeal.τ).loc Cert.MixDwinRefIdeal.main_arg2) = m ((c.tc : Thread Cert.MixDwinRefIdeal.nD Cert.MixDwinRefIdeal.τ).loc Cert.MixDwinRefIdeal.main_arg2)
      ∧ r.2.mem ((c.tc : Thread Cert.MixDwinRefIdeal.nD Cert.MixDwinRefIdeal.τ).loc Cert.MixDwinRefIdeal.main_arg3) = m ((c.tc : Thread Cert.MixDwinRefIdeal.nD Cert.MixDwinRefIdeal.τ).loc Cert.MixDwinRefIdeal.main_arg3)
      ∧ r.2.mem ((c.tc : Thread Cert.MixDwinRefIdeal.nD Cert.MixDwinRefIdeal.τ).loc Cert.MixDwinRefIdeal.main_arg4) = m ((c.tc : Thread Cert.MixDwinRefIdeal.nD Cert.MixDwinRefIdeal.τ).loc Cert.MixDwinRefIdeal.main_arg4))
      ∧ r.2.sem = fun _ => 0)

def quiescent_MixNormBwd [hMixNormBwd : Cert.MixNormBwd.Facts] : Prop :=
  ∀ (m : (ℓ : Loc Cert.MixNormBwd.nD Cert.MixNormBwd.τ Cert.MixNormBwd.sig) → Buf (Elt Bits) ℓ) (g : Dev Cert.MixNormBwd.nD → PrngReg), Pre_MixNormBwd m →
    θ_run (Cert.MixNormBwd.defs (F := Bits)) (onTc (τ := Cert.MixNormBwd.τ) (Cert.MixNormBwd.main (F := Bits))) ⟨m, fun _ => 0, g⟩ (fun r => (∀ c : Dev Cert.MixNormBwd.nD,
      r.2.mem ((c.tc : Thread Cert.MixNormBwd.nD Cert.MixNormBwd.τ).loc Cert.MixNormBwd.main_arg0) = m ((c.tc : Thread Cert.MixNormBwd.nD Cert.MixNormBwd.τ).loc Cert.MixNormBwd.main_arg0)
      ∧ r.2.mem ((c.tc : Thread Cert.MixNormBwd.nD Cert.MixNormBwd.τ).loc Cert.MixNormBwd.main_arg1) = m ((c.tc : Thread Cert.MixNormBwd.nD Cert.MixNormBwd.τ).loc Cert.MixNormBwd.main_arg1)
      ∧ r.2.mem ((c.tc : Thread Cert.MixNormBwd.nD Cert.MixNormBwd.τ).loc Cert.MixNormBwd.main_arg2) = m ((c.tc : Thread Cert.MixNormBwd.nD Cert.MixNormBwd.τ).loc Cert.MixNormBwd.main_arg2)
      ∧ r.2.mem ((c.tc : Thread Cert.MixNormBwd.nD Cert.MixNormBwd.τ).loc Cert.MixNormBwd.main_arg3) = m ((c.tc : Thread Cert.MixNormBwd.nD Cert.MixNormBwd.τ).loc Cert.MixNormBwd.main_arg3)
      ∧ r.2.mem ((c.tc : Thread Cert.MixNormBwd.nD Cert.MixNormBwd.τ).loc Cert.MixNormBwd.main_arg4) = m ((c.tc : Thread Cert.MixNormBwd.nD Cert.MixNormBwd.τ).loc Cert.MixNormBwd.main_arg4)
      ∧ r.2.mem ((c.tc : Thread Cert.MixNormBwd.nD Cert.MixNormBwd.τ).loc Cert.MixNormBwd.main_arg5) = m ((c.tc : Thread Cert.MixNormBwd.nD Cert.MixNormBwd.τ).loc Cert.MixNormBwd.main_arg5)
      ∧ r.2.mem ((c.tc : Thread Cert.MixNormBwd.nD Cert.MixNormBwd.τ).loc Cert.MixNormBwd.main_arg6) = m ((c.tc : Thread Cert.MixNormBwd.nD Cert.MixNormBwd.τ).loc Cert.MixNormBwd.main_arg6)
      ∧ r.2.mem ((c.tc : Thread Cert.MixNormBwd.nD Cert.MixNormBwd.τ).loc Cert.MixNormBwd.main_arg7) = m ((c.tc : Thread Cert.MixNormBwd.nD Cert.MixNormBwd.τ).loc Cert.MixNormBwd.main_arg7))
      ∧ r.2.sem = fun _ => 0)

def quiescent_MixNormBwdIdeal [hMixNormBwdIdeal : Cert.MixNormBwdIdeal.Facts] : Prop :=
  ∀ (m : (ℓ : Loc Cert.MixNormBwdIdeal.nD Cert.MixNormBwdIdeal.τ Cert.MixNormBwdIdeal.sig) → Buf (Elt Ideal) ℓ) (g : Dev Cert.MixNormBwdIdeal.nD → PrngReg), Pre_MixNormBwdIdeal m →
    θ_run (Cert.MixNormBwdIdeal.defs (F := Ideal)) (onTc (τ := Cert.MixNormBwdIdeal.τ) (Cert.MixNormBwdIdeal.main (F := Ideal))) ⟨m, fun _ => 0, g⟩ (fun r => (∀ c : Dev Cert.MixNormBwdIdeal.nD,
      r.2.mem ((c.tc : Thread Cert.MixNormBwdIdeal.nD Cert.MixNormBwdIdeal.τ).loc Cert.MixNormBwdIdeal.main_arg0) = m ((c.tc : Thread Cert.MixNormBwdIdeal.nD Cert.MixNormBwdIdeal.τ).loc Cert.MixNormBwdIdeal.main_arg0)
      ∧ r.2.mem ((c.tc : Thread Cert.MixNormBwdIdeal.nD Cert.MixNormBwdIdeal.τ).loc Cert.MixNormBwdIdeal.main_arg1) = m ((c.tc : Thread Cert.MixNormBwdIdeal.nD Cert.MixNormBwdIdeal.τ).loc Cert.MixNormBwdIdeal.main_arg1)
      ∧ r.2.mem ((c.tc : Thread Cert.MixNormBwdIdeal.nD Cert.MixNormBwdIdeal.τ).loc Cert.MixNormBwdIdeal.main_arg2) = m ((c.tc : Thread Cert.MixNormBwdIdeal.nD Cert.MixNormBwdIdeal.τ).loc Cert.MixNormBwdIdeal.main_arg2)
      ∧ r.2.mem ((c.tc : Thread Cert.MixNormBwdIdeal.nD Cert.MixNormBwdIdeal.τ).loc Cert.MixNormBwdIdeal.main_arg3) = m ((c.tc : Thread Cert.MixNormBwdIdeal.nD Cert.MixNormBwdIdeal.τ).loc Cert.MixNormBwdIdeal.main_arg3)
      ∧ r.2.mem ((c.tc : Thread Cert.MixNormBwdIdeal.nD Cert.MixNormBwdIdeal.τ).loc Cert.MixNormBwdIdeal.main_arg4) = m ((c.tc : Thread Cert.MixNormBwdIdeal.nD Cert.MixNormBwdIdeal.τ).loc Cert.MixNormBwdIdeal.main_arg4)
      ∧ r.2.mem ((c.tc : Thread Cert.MixNormBwdIdeal.nD Cert.MixNormBwdIdeal.τ).loc Cert.MixNormBwdIdeal.main_arg5) = m ((c.tc : Thread Cert.MixNormBwdIdeal.nD Cert.MixNormBwdIdeal.τ).loc Cert.MixNormBwdIdeal.main_arg5)
      ∧ r.2.mem ((c.tc : Thread Cert.MixNormBwdIdeal.nD Cert.MixNormBwdIdeal.τ).loc Cert.MixNormBwdIdeal.main_arg6) = m ((c.tc : Thread Cert.MixNormBwdIdeal.nD Cert.MixNormBwdIdeal.τ).loc Cert.MixNormBwdIdeal.main_arg6)
      ∧ r.2.mem ((c.tc : Thread Cert.MixNormBwdIdeal.nD Cert.MixNormBwdIdeal.τ).loc Cert.MixNormBwdIdeal.main_arg7) = m ((c.tc : Thread Cert.MixNormBwdIdeal.nD Cert.MixNormBwdIdeal.τ).loc Cert.MixNormBwdIdeal.main_arg7))
      ∧ r.2.sem = fun _ => 0)

def quiescent_MixNormBwdRefIdeal [hMixNormBwdRefIdeal : Cert.MixNormBwdRefIdeal.Facts] : Prop :=
  ∀ (m : (ℓ : Loc Cert.MixNormBwdRefIdeal.nD Cert.MixNormBwdRefIdeal.τ Cert.MixNormBwdRefIdeal.sig) → Buf (Elt Ideal) ℓ) (g : Dev Cert.MixNormBwdRefIdeal.nD → PrngReg), Pre_MixNormBwdRefIdeal m →
    θ_run (Cert.MixNormBwdRefIdeal.defs (F := Ideal)) (onTc (τ := Cert.MixNormBwdRefIdeal.τ) (Cert.MixNormBwdRefIdeal.main (F := Ideal))) ⟨m, fun _ => 0, g⟩ (fun r => (∀ c : Dev Cert.MixNormBwdRefIdeal.nD,
      r.2.mem ((c.tc : Thread Cert.MixNormBwdRefIdeal.nD Cert.MixNormBwdRefIdeal.τ).loc Cert.MixNormBwdRefIdeal.main_arg0) = m ((c.tc : Thread Cert.MixNormBwdRefIdeal.nD Cert.MixNormBwdRefIdeal.τ).loc Cert.MixNormBwdRefIdeal.main_arg0)
      ∧ r.2.mem ((c.tc : Thread Cert.MixNormBwdRefIdeal.nD Cert.MixNormBwdRefIdeal.τ).loc Cert.MixNormBwdRefIdeal.main_arg1) = m ((c.tc : Thread Cert.MixNormBwdRefIdeal.nD Cert.MixNormBwdRefIdeal.τ).loc Cert.MixNormBwdRefIdeal.main_arg1)
      ∧ r.2.mem ((c.tc : Thread Cert.MixNormBwdRefIdeal.nD Cert.MixNormBwdRefIdeal.τ).loc Cert.MixNormBwdRefIdeal.main_arg2) = m ((c.tc : Thread Cert.MixNormBwdRefIdeal.nD Cert.MixNormBwdRefIdeal.τ).loc Cert.MixNormBwdRefIdeal.main_arg2)
      ∧ r.2.mem ((c.tc : Thread Cert.MixNormBwdRefIdeal.nD Cert.MixNormBwdRefIdeal.τ).loc Cert.MixNormBwdRefIdeal.main_arg3) = m ((c.tc : Thread Cert.MixNormBwdRefIdeal.nD Cert.MixNormBwdRefIdeal.τ).loc Cert.MixNormBwdRefIdeal.main_arg3)
      ∧ r.2.mem ((c.tc : Thread Cert.MixNormBwdRefIdeal.nD Cert.MixNormBwdRefIdeal.τ).loc Cert.MixNormBwdRefIdeal.main_arg4) = m ((c.tc : Thread Cert.MixNormBwdRefIdeal.nD Cert.MixNormBwdRefIdeal.τ).loc Cert.MixNormBwdRefIdeal.main_arg4)
      ∧ r.2.mem ((c.tc : Thread Cert.MixNormBwdRefIdeal.nD Cert.MixNormBwdRefIdeal.τ).loc Cert.MixNormBwdRefIdeal.main_arg5) = m ((c.tc : Thread Cert.MixNormBwdRefIdeal.nD Cert.MixNormBwdRefIdeal.τ).loc Cert.MixNormBwdRefIdeal.main_arg5)
      ∧ r.2.mem ((c.tc : Thread Cert.MixNormBwdRefIdeal.nD Cert.MixNormBwdRefIdeal.τ).loc Cert.MixNormBwdRefIdeal.main_arg6) = m ((c.tc : Thread Cert.MixNormBwdRefIdeal.nD Cert.MixNormBwdRefIdeal.τ).loc Cert.MixNormBwdRefIdeal.main_arg6)
      ∧ r.2.mem ((c.tc : Thread Cert.MixNormBwdRefIdeal.nD Cert.MixNormBwdRefIdeal.τ).loc Cert.MixNormBwdRefIdeal.main_arg7) = m ((c.tc : Thread Cert.MixNormBwdRefIdeal.nD Cert.MixNormBwdRefIdeal.τ).loc Cert.MixNormBwdRefIdeal.main_arg7))
      ∧ r.2.sem = fun _ => 0)

def quiescent_AdamGu [hAdamGu : Cert.AdamGu.Facts] : Prop :=
  ∀ (m : (ℓ : Loc Cert.AdamGu.nD Cert.AdamGu.τ Cert.AdamGu.sig) → Buf (Elt Bits) ℓ) (g : Dev Cert.AdamGu.nD → PrngReg), Pre_AdamGu m →
    θ_run (Cert.AdamGu.defs (F := Bits)) (onTc (τ := Cert.AdamGu.τ) (Cert.AdamGu.main (F := Bits))) ⟨m, fun _ => 0, g⟩ (fun r => (∀ c : Dev Cert.AdamGu.nD,
      r.2.mem ((c.tc : Thread Cert.AdamGu.nD Cert.AdamGu.τ).loc Cert.AdamGu.main_arg0) = m ((c.tc : Thread Cert.AdamGu.nD Cert.AdamGu.τ).loc Cert.AdamGu.main_arg0)
      ∧ r.2.mem ((c.tc : Thread Cert.AdamGu.nD Cert.AdamGu.τ).loc Cert.AdamGu.main_arg1) = m ((c.tc : Thread Cert.AdamGu.nD Cert.AdamGu.τ).loc Cert.AdamGu.main_arg1)
      ∧ r.2.mem ((c.tc : Thread Cert.AdamGu.nD Cert.AdamGu.τ).loc Cert.AdamGu.main_arg2) = m ((c.tc : Thread Cert.AdamGu.nD Cert.AdamGu.τ).loc Cert.AdamGu.main_arg2)
      ∧ r.2.mem ((c.tc : Thread Cert.AdamGu.nD Cert.AdamGu.τ).loc Cert.AdamGu.main_arg3) = m ((c.tc : Thread Cert.AdamGu.nD Cert.AdamGu.τ).loc Cert.AdamGu.main_arg3))
      ∧ r.2.sem = fun _ => 0)

def quiescent_AdamGuIdeal [hAdamGuIdeal : Cert.AdamGuIdeal.Facts] : Prop :=
  ∀ (m : (ℓ : Loc Cert.AdamGuIdeal.nD Cert.AdamGuIdeal.τ Cert.AdamGuIdeal.sig) → Buf (Elt Ideal) ℓ) (g : Dev Cert.AdamGuIdeal.nD → PrngReg), Pre_AdamGuIdeal m →
    θ_run (Cert.AdamGuIdeal.defs (F := Ideal)) (onTc (τ := Cert.AdamGuIdeal.τ) (Cert.AdamGuIdeal.main (F := Ideal))) ⟨m, fun _ => 0, g⟩ (fun r => (∀ c : Dev Cert.AdamGuIdeal.nD,
      r.2.mem ((c.tc : Thread Cert.AdamGuIdeal.nD Cert.AdamGuIdeal.τ).loc Cert.AdamGuIdeal.main_arg0) = m ((c.tc : Thread Cert.AdamGuIdeal.nD Cert.AdamGuIdeal.τ).loc Cert.AdamGuIdeal.main_arg0)
      ∧ r.2.mem ((c.tc : Thread Cert.AdamGuIdeal.nD Cert.AdamGuIdeal.τ).loc Cert.AdamGuIdeal.main_arg1) = m ((c.tc : Thread Cert.AdamGuIdeal.nD Cert.AdamGuIdeal.τ).loc Cert.AdamGuIdeal.main_arg1)
      ∧ r.2.mem ((c.tc : Thread Cert.AdamGuIdeal.nD Cert.AdamGuIdeal.τ).loc Cert.AdamGuIdeal.main_arg2) = m ((c.tc : Thread Cert.AdamGuIdeal.nD Cert.AdamGuIdeal.τ).loc Cert.AdamGuIdeal.main_arg2)
      ∧ r.2.mem ((c.tc : Thread Cert.AdamGuIdeal.nD Cert.AdamGuIdeal.τ).loc Cert.AdamGuIdeal.main_arg3) = m ((c.tc : Thread Cert.AdamGuIdeal.nD Cert.AdamGuIdeal.τ).loc Cert.AdamGuIdeal.main_arg3))
      ∧ r.2.sem = fun _ => 0)

def quiescent_AdamGuRefIdeal [hAdamGuRefIdeal : Cert.AdamGuRefIdeal.Facts] : Prop :=
  ∀ (m : (ℓ : Loc Cert.AdamGuRefIdeal.nD Cert.AdamGuRefIdeal.τ Cert.AdamGuRefIdeal.sig) → Buf (Elt Ideal) ℓ) (g : Dev Cert.AdamGuRefIdeal.nD → PrngReg), Pre_AdamGuRefIdeal m →
    θ_run (Cert.AdamGuRefIdeal.defs (F := Ideal)) (onTc (τ := Cert.AdamGuRefIdeal.τ) (Cert.AdamGuRefIdeal.main (F := Ideal))) ⟨m, fun _ => 0, g⟩ (fun r => (∀ c : Dev Cert.AdamGuRefIdeal.nD,
      r.2.mem ((c.tc : Thread Cert.AdamGuRefIdeal.nD Cert.AdamGuRefIdeal.τ).loc Cert.AdamGuRefIdeal.main_arg0) = m ((c.tc : Thread Cert.AdamGuRefIdeal.nD Cert.AdamGuRefIdeal.τ).loc Cert.AdamGuRefIdeal.main_arg0)
      ∧ r.2.mem ((c.tc : Thread Cert.AdamGuRefIdeal.nD Cert.AdamGuRefIdeal.τ).loc Cert.AdamGuRefIdeal.main_arg1) = m ((c.tc : Thread Cert.AdamGuRefIdeal.nD Cert.AdamGuRefIdeal.τ).loc Cert.AdamGuRefIdeal.main_arg1)
      ∧ r.2.mem ((c.tc : Thread Cert.AdamGuRefIdeal.nD Cert.AdamGuRefIdeal.τ).loc Cert.AdamGuRefIdeal.main_arg2) = m ((c.tc : Thread Cert.AdamGuRefIdeal.nD Cert.AdamGuRefIdeal.τ).loc Cert.AdamGuRefIdeal.main_arg2)
      ∧ r.2.mem ((c.tc : Thread Cert.AdamGuRefIdeal.nD Cert.AdamGuRefIdeal.τ).loc Cert.AdamGuRefIdeal.main_arg3) = m ((c.tc : Thread Cert.AdamGuRefIdeal.nD Cert.AdamGuRefIdeal.τ).loc Cert.AdamGuRefIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamBranch [hAdamBranch : Cert.AdamBranch.Facts] : Prop :=
  ∀ (m : (ℓ : Loc Cert.AdamBranch.nD Cert.AdamBranch.τ Cert.AdamBranch.sig) → Buf (Elt Bits) ℓ) (g : Dev Cert.AdamBranch.nD → PrngReg), Pre_AdamBranch m →
    θ_run (Cert.AdamBranch.defs (F := Bits)) (onTc (τ := Cert.AdamBranch.τ) (Cert.AdamBranch.main (F := Bits))) ⟨m, fun _ => 0, g⟩ (fun r => (∀ c : Dev Cert.AdamBranch.nD,
      r.2.mem ((c.tc : Thread Cert.AdamBranch.nD Cert.AdamBranch.τ).loc Cert.AdamBranch.main_arg0) = m ((c.tc : Thread Cert.AdamBranch.nD Cert.AdamBranch.τ).loc Cert.AdamBranch.main_arg0)
      ∧ r.2.mem ((c.tc : Thread Cert.AdamBranch.nD Cert.AdamBranch.τ).loc Cert.AdamBranch.main_arg1) = m ((c.tc : Thread Cert.AdamBranch.nD Cert.AdamBranch.τ).loc Cert.AdamBranch.main_arg1)
      ∧ r.2.mem ((c.tc : Thread Cert.AdamBranch.nD Cert.AdamBranch.τ).loc Cert.AdamBranch.main_arg2) = m ((c.tc : Thread Cert.AdamBranch.nD Cert.AdamBranch.τ).loc Cert.AdamBranch.main_arg2)
      ∧ r.2.mem ((c.tc : Thread Cert.AdamBranch.nD Cert.AdamBranch.τ).loc Cert.AdamBranch.main_arg3) = m ((c.tc : Thread Cert.AdamBranch.nD Cert.AdamBranch.τ).loc Cert.AdamBranch.main_arg3))
      ∧ r.2.sem = fun _ => 0)

def quiescent_AdamBranchIdeal [hAdamBranchIdeal : Cert.AdamBranchIdeal.Facts] : Prop :=
  ∀ (m : (ℓ : Loc Cert.AdamBranchIdeal.nD Cert.AdamBranchIdeal.τ Cert.AdamBranchIdeal.sig) → Buf (Elt Ideal) ℓ) (g : Dev Cert.AdamBranchIdeal.nD → PrngReg), Pre_AdamBranchIdeal m →
    θ_run (Cert.AdamBranchIdeal.defs (F := Ideal)) (onTc (τ := Cert.AdamBranchIdeal.τ) (Cert.AdamBranchIdeal.main (F := Ideal))) ⟨m, fun _ => 0, g⟩ (fun r => (∀ c : Dev Cert.AdamBranchIdeal.nD,
      r.2.mem ((c.tc : Thread Cert.AdamBranchIdeal.nD Cert.AdamBranchIdeal.τ).loc Cert.AdamBranchIdeal.main_arg0) = m ((c.tc : Thread Cert.AdamBranchIdeal.nD Cert.AdamBranchIdeal.τ).loc Cert.AdamBranchIdeal.main_arg0)
      ∧ r.2.mem ((c.tc : Thread Cert.AdamBranchIdeal.nD Cert.AdamBranchIdeal.τ).loc Cert.AdamBranchIdeal.main_arg1) = m ((c.tc : Thread Cert.AdamBranchIdeal.nD Cert.AdamBranchIdeal.τ).loc Cert.AdamBranchIdeal.main_arg1)
      ∧ r.2.mem ((c.tc : Thread Cert.AdamBranchIdeal.nD Cert.AdamBranchIdeal.τ).loc Cert.AdamBranchIdeal.main_arg2) = m ((c.tc : Thread Cert.AdamBranchIdeal.nD Cert.AdamBranchIdeal.τ).loc Cert.AdamBranchIdeal.main_arg2)
      ∧ r.2.mem ((c.tc : Thread Cert.AdamBranchIdeal.nD Cert.AdamBranchIdeal.τ).loc Cert.AdamBranchIdeal.main_arg3) = m ((c.tc : Thread Cert.AdamBranchIdeal.nD Cert.AdamBranchIdeal.τ).loc Cert.AdamBranchIdeal.main_arg3))
      ∧ r.2.sem = fun _ => 0)

def quiescent_AdamBranchRefIdeal [hAdamBranchRefIdeal : Cert.AdamBranchRefIdeal.Facts] : Prop :=
  ∀ (m : (ℓ : Loc Cert.AdamBranchRefIdeal.nD Cert.AdamBranchRefIdeal.τ Cert.AdamBranchRefIdeal.sig) → Buf (Elt Ideal) ℓ) (g : Dev Cert.AdamBranchRefIdeal.nD → PrngReg), Pre_AdamBranchRefIdeal m →
    θ_run (Cert.AdamBranchRefIdeal.defs (F := Ideal)) (onTc (τ := Cert.AdamBranchRefIdeal.τ) (Cert.AdamBranchRefIdeal.main (F := Ideal))) ⟨m, fun _ => 0, g⟩ (fun r => (∀ c : Dev Cert.AdamBranchRefIdeal.nD,
      r.2.mem ((c.tc : Thread Cert.AdamBranchRefIdeal.nD Cert.AdamBranchRefIdeal.τ).loc Cert.AdamBranchRefIdeal.main_arg0) = m ((c.tc : Thread Cert.AdamBranchRefIdeal.nD Cert.AdamBranchRefIdeal.τ).loc Cert.AdamBranchRefIdeal.main_arg0)
      ∧ r.2.mem ((c.tc : Thread Cert.AdamBranchRefIdeal.nD Cert.AdamBranchRefIdeal.τ).loc Cert.AdamBranchRefIdeal.main_arg1) = m ((c.tc : Thread Cert.AdamBranchRefIdeal.nD Cert.AdamBranchRefIdeal.τ).loc Cert.AdamBranchRefIdeal.main_arg1)
      ∧ r.2.mem ((c.tc : Thread Cert.AdamBranchRefIdeal.nD Cert.AdamBranchRefIdeal.τ).loc Cert.AdamBranchRefIdeal.main_arg2) = m ((c.tc : Thread Cert.AdamBranchRefIdeal.nD Cert.AdamBranchRefIdeal.τ).loc Cert.AdamBranchRefIdeal.main_arg2)
      ∧ r.2.mem ((c.tc : Thread Cert.AdamBranchRefIdeal.nD Cert.AdamBranchRefIdeal.τ).loc Cert.AdamBranchRefIdeal.main_arg3) = m ((c.tc : Thread Cert.AdamBranchRefIdeal.nD Cert.AdamBranchRefIdeal.τ).loc Cert.AdamBranchRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3)
      ∧ r.2.mem ((c.tc : Thread Cert.AdamSmall.nD Cert.AdamSmall.τ).loc Cert.AdamSmall.main_arg4) = m ((c.tc : Thread Cert.AdamSmall.nD Cert.AdamSmall.τ).loc Cert.AdamSmall.main_arg4)
      ∧ r.2.mem ((c.tc : Thread Cert.AdamSmall.nD Cert.AdamSmall.τ).loc Cert.AdamSmall.main_arg5) = m ((c.tc : Thread Cert.AdamSmall.nD Cert.AdamSmall.τ).loc Cert.AdamSmall.main_arg5)
      ∧ r.2.mem ((c.tc : Thread Cert.AdamSmall.nD Cert.AdamSmall.τ).loc Cert.AdamSmall.main_arg6) = m ((c.tc : Thread Cert.AdamSmall.nD Cert.AdamSmall.τ).loc Cert.AdamSmall.main_arg6)
      ∧ r.2.mem ((c.tc : Thread Cert.AdamSmall.nD Cert.AdamSmall.τ).loc Cert.AdamSmall.main_arg7) = m ((c.tc : Thread Cert.AdamSmall.nD Cert.AdamSmall.τ).loc Cert.AdamSmall.main_arg7)
      ∧ r.2.mem ((c.tc : Thread Cert.AdamSmall.nD Cert.AdamSmall.τ).loc Cert.AdamSmall.main_arg8) = m ((c.tc : Thread Cert.AdamSmall.nD Cert.AdamSmall.τ).loc Cert.AdamSmall.main_arg8)
      ∧ r.2.mem ((c.tc : Thread Cert.AdamSmall.nD Cert.AdamSmall.τ).loc Cert.AdamSmall.main_arg9) = m ((c.tc : Thread Cert.AdamSmall.nD Cert.AdamSmall.τ).loc Cert.AdamSmall.main_arg9)
      ∧ r.2.mem ((c.tc : Thread Cert.AdamSmall.nD Cert.AdamSmall.τ).loc Cert.AdamSmall.main_arg10) = m ((c.tc : Thread Cert.AdamSmall.nD Cert.AdamSmall.τ).loc Cert.AdamSmall.main_arg10)
      ∧ r.2.mem ((c.tc : Thread Cert.AdamSmall.nD Cert.AdamSmall.τ).loc Cert.AdamSmall.main_arg11) = m ((c.tc : Thread Cert.AdamSmall.nD Cert.AdamSmall.τ).loc Cert.AdamSmall.main_arg11)
      ∧ r.2.mem ((c.tc : Thread Cert.AdamSmall.nD Cert.AdamSmall.τ).loc Cert.AdamSmall.main_arg12) = m ((c.tc : Thread Cert.AdamSmall.nD Cert.AdamSmall.τ).loc Cert.AdamSmall.main_arg12)
      ∧ r.2.mem ((c.tc : Thread Cert.AdamSmall.nD Cert.AdamSmall.τ).loc Cert.AdamSmall.main_arg13) = m ((c.tc : Thread Cert.AdamSmall.nD Cert.AdamSmall.τ).loc Cert.AdamSmall.main_arg13)
      ∧ r.2.mem ((c.tc : Thread Cert.AdamSmall.nD Cert.AdamSmall.τ).loc Cert.AdamSmall.main_arg14) = m ((c.tc : Thread Cert.AdamSmall.nD Cert.AdamSmall.τ).loc Cert.AdamSmall.main_arg14)
      ∧ r.2.mem ((c.tc : Thread Cert.AdamSmall.nD Cert.AdamSmall.τ).loc Cert.AdamSmall.main_arg15) = m ((c.tc : Thread Cert.AdamSmall.nD Cert.AdamSmall.τ).loc Cert.AdamSmall.main_arg15)
      ∧ r.2.mem ((c.tc : Thread Cert.AdamSmall.nD Cert.AdamSmall.τ).loc Cert.AdamSmall.main_arg16) = m ((c.tc : Thread Cert.AdamSmall.nD Cert.AdamSmall.τ).loc Cert.AdamSmall.main_arg16)
      ∧ r.2.mem ((c.tc : Thread Cert.AdamSmall.nD Cert.AdamSmall.τ).loc Cert.AdamSmall.main_arg17) = m ((c.tc : Thread Cert.AdamSmall.nD Cert.AdamSmall.τ).loc Cert.AdamSmall.main_arg17)
      ∧ r.2.mem ((c.tc : Thread Cert.AdamSmall.nD Cert.AdamSmall.τ).loc Cert.AdamSmall.main_arg18) = m ((c.tc : Thread Cert.AdamSmall.nD Cert.AdamSmall.τ).loc Cert.AdamSmall.main_arg18)
      ∧ r.2.mem ((c.tc : Thread Cert.AdamSmall.nD Cert.AdamSmall.τ).loc Cert.AdamSmall.main_arg19) = m ((c.tc : Thread Cert.AdamSmall.nD Cert.AdamSmall.τ).loc Cert.AdamSmall.main_arg19)
      ∧ r.2.mem ((c.tc : Thread Cert.AdamSmall.nD Cert.AdamSmall.τ).loc Cert.AdamSmall.main_arg20) = m ((c.tc : Thread Cert.AdamSmall.nD Cert.AdamSmall.τ).loc Cert.AdamSmall.main_arg20)
      ∧ r.2.mem ((c.tc : Thread Cert.AdamSmall.nD Cert.AdamSmall.τ).loc Cert.AdamSmall.main_arg21) = m ((c.tc : Thread Cert.AdamSmall.nD Cert.AdamSmall.τ).loc Cert.AdamSmall.main_arg21)
      ∧ r.2.mem ((c.tc : Thread Cert.AdamSmall.nD Cert.AdamSmall.τ).loc Cert.AdamSmall.main_arg22) = m ((c.tc : Thread Cert.AdamSmall.nD Cert.AdamSmall.τ).loc Cert.AdamSmall.main_arg22)
      ∧ r.2.mem ((c.tc : Thread Cert.AdamSmall.nD Cert.AdamSmall.τ).loc Cert.AdamSmall.main_arg23) = m ((c.tc : Thread Cert.AdamSmall.nD Cert.AdamSmall.τ).loc Cert.AdamSmall.main_arg23)
      ∧ r.2.mem ((c.tc : Thread Cert.AdamSmall.nD Cert.AdamSmall.τ).loc Cert.AdamSmall.main_arg24) = m ((c.tc : Thread Cert.AdamSmall.nD Cert.AdamSmall.τ).loc Cert.AdamSmall.main_arg24)
      ∧ r.2.mem ((c.tc : Thread Cert.AdamSmall.nD Cert.AdamSmall.τ).loc Cert.AdamSmall.main_arg25) = m ((c.tc : Thread Cert.AdamSmall.nD Cert.AdamSmall.τ).loc Cert.AdamSmall.main_arg25)
      ∧ r.2.mem ((c.tc : Thread Cert.AdamSmall.nD Cert.AdamSmall.τ).loc Cert.AdamSmall.main_arg26) = m ((c.tc : Thread Cert.AdamSmall.nD Cert.AdamSmall.τ).loc Cert.AdamSmall.main_arg26)
      ∧ r.2.mem ((c.tc : Thread Cert.AdamSmall.nD Cert.AdamSmall.τ).loc Cert.AdamSmall.main_arg27) = m ((c.tc : Thread Cert.AdamSmall.nD Cert.AdamSmall.τ).loc Cert.AdamSmall.main_arg27)
      ∧ r.2.mem ((c.tc : Thread Cert.AdamSmall.nD Cert.AdamSmall.τ).loc Cert.AdamSmall.main_arg28) = m ((c.tc : Thread Cert.AdamSmall.nD Cert.AdamSmall.τ).loc Cert.AdamSmall.main_arg28)
      ∧ r.2.mem ((c.tc : Thread Cert.AdamSmall.nD Cert.AdamSmall.τ).loc Cert.AdamSmall.main_arg29) = m ((c.tc : Thread Cert.AdamSmall.nD Cert.AdamSmall.τ).loc Cert.AdamSmall.main_arg29)
      ∧ r.2.mem ((c.tc : Thread Cert.AdamSmall.nD Cert.AdamSmall.τ).loc Cert.AdamSmall.main_arg30) = m ((c.tc : Thread Cert.AdamSmall.nD Cert.AdamSmall.τ).loc Cert.AdamSmall.main_arg30)
      ∧ r.2.mem ((c.tc : Thread Cert.AdamSmall.nD Cert.AdamSmall.τ).loc Cert.AdamSmall.main_arg31) = m ((c.tc : Thread Cert.AdamSmall.nD Cert.AdamSmall.τ).loc Cert.AdamSmall.main_arg31))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
      ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
      ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
      ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
      ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
      ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
      ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
      ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
      ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
      ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
      ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
      ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
      ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
      ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
      ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
      ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
      ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
      ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
      ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21)
      ∧ r.2.mem ((c.tc : Thread Cert.AdamSmallIdeal.nD Cert.AdamSmallIdeal.τ).loc Cert.AdamSmallIdeal.main_arg22) = m ((c.tc : Thread Cert.AdamSmallIdeal.nD Cert.AdamSmallIdeal.τ).loc Cert.AdamSmallIdeal.main_arg22)
      ∧ r.2.mem ((c.tc : Thread Cert.AdamSmallIdeal.nD Cert.AdamSmallIdeal.τ).loc Cert.AdamSmallIdeal.main_arg23) = m ((c.tc : Thread Cert.AdamSmallIdeal.nD Cert.AdamSmallIdeal.τ).loc Cert.AdamSmallIdeal.main_arg23)
      ∧ r.2.mem ((c.tc : Thread Cert.AdamSmallIdeal.nD Cert.AdamSmallIdeal.τ).loc Cert.AdamSmallIdeal.main_arg24) = m ((c.tc : Thread Cert.AdamSmallIdeal.nD Cert.AdamSmallIdeal.τ).loc Cert.AdamSmallIdeal.main_arg24)
      ∧ r.2.mem ((c.tc : Thread Cert.AdamSmallIdeal.nD Cert.AdamSmallIdeal.τ).loc Cert.AdamSmallIdeal.main_arg25) = m ((c.tc : Thread Cert.AdamSmallIdeal.nD Cert.AdamSmallIdeal.τ).loc Cert.AdamSmallIdeal.main_arg25)
      ∧ r.2.mem ((c.tc : Thread Cert.AdamSmallIdeal.nD Cert.AdamSmallIdeal.τ).loc Cert.AdamSmallIdeal.main_arg26) = m ((c.tc : Thread Cert.AdamSmallIdeal.nD Cert.AdamSmallIdeal.τ).loc Cert.AdamSmallIdeal.main_arg26)
      ∧ r.2.mem ((c.tc : Thread Cert.AdamSmallIdeal.nD Cert.AdamSmallIdeal.τ).loc Cert.AdamSmallIdeal.main_arg27) = m ((c.tc : Thread Cert.AdamSmallIdeal.nD Cert.AdamSmallIdeal.τ).loc Cert.AdamSmallIdeal.main_arg27)
      ∧ r.2.mem ((c.tc : Thread Cert.AdamSmallIdeal.nD Cert.AdamSmallIdeal.τ).loc Cert.AdamSmallIdeal.main_arg28) = m ((c.tc : Thread Cert.AdamSmallIdeal.nD Cert.AdamSmallIdeal.τ).loc Cert.AdamSmallIdeal.main_arg28)
      ∧ r.2.mem ((c.tc : Thread Cert.AdamSmallIdeal.nD Cert.AdamSmallIdeal.τ).loc Cert.AdamSmallIdeal.main_arg29) = m ((c.tc : Thread Cert.AdamSmallIdeal.nD Cert.AdamSmallIdeal.τ).loc Cert.AdamSmallIdeal.main_arg29)
      ∧ r.2.mem ((c.tc : Thread Cert.AdamSmallIdeal.nD Cert.AdamSmallIdeal.τ).loc Cert.AdamSmallIdeal.main_arg30) = m ((c.tc : Thread Cert.AdamSmallIdeal.nD Cert.AdamSmallIdeal.τ).loc Cert.AdamSmallIdeal.main_arg30)
      ∧ r.2.mem ((c.tc : Thread Cert.AdamSmallIdeal.nD Cert.AdamSmallIdeal.τ).loc Cert.AdamSmallIdeal.main_arg31) = m ((c.tc : Thread Cert.AdamSmallIdeal.nD Cert.AdamSmallIdeal.τ).loc Cert.AdamSmallIdeal.main_arg31))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3)
      ∧ r.2.mem ((c.tc : Thread Cert.AdamSmallRefIdeal.nD Cert.AdamSmallRefIdeal.τ).loc Cert.AdamSmallRefIdeal.main_arg4) = m ((c.tc : Thread Cert.AdamSmallRefIdeal.nD Cert.AdamSmallRefIdeal.τ).loc Cert.AdamSmallRefIdeal.main_arg4)
      ∧ r.2.mem ((c.tc : Thread Cert.AdamSmallRefIdeal.nD Cert.AdamSmallRefIdeal.τ).loc Cert.AdamSmallRefIdeal.main_arg5) = m ((c.tc : Thread Cert.AdamSmallRefIdeal.nD Cert.AdamSmallRefIdeal.τ).loc Cert.AdamSmallRefIdeal.main_arg5)
      ∧ r.2.mem ((c.tc : Thread Cert.AdamSmallRefIdeal.nD Cert.AdamSmallRefIdeal.τ).loc Cert.AdamSmallRefIdeal.main_arg6) = m ((c.tc : Thread Cert.AdamSmallRefIdeal.nD Cert.AdamSmallRefIdeal.τ).loc Cert.AdamSmallRefIdeal.main_arg6)
      ∧ r.2.mem ((c.tc : Thread Cert.AdamSmallRefIdeal.nD Cert.AdamSmallRefIdeal.τ).loc Cert.AdamSmallRefIdeal.main_arg7) = m ((c.tc : Thread Cert.AdamSmallRefIdeal.nD Cert.AdamSmallRefIdeal.τ).loc Cert.AdamSmallRefIdeal.main_arg7)
      ∧ r.2.mem ((c.tc : Thread Cert.AdamSmallRefIdeal.nD Cert.AdamSmallRefIdeal.τ).loc Cert.AdamSmallRefIdeal.main_arg8) = m ((c.tc : Thread Cert.AdamSmallRefIdeal.nD Cert.AdamSmallRefIdeal.τ).loc Cert.AdamSmallRefIdeal.main_arg8)
      ∧ r.2.mem ((c.tc : Thread Cert.AdamSmallRefIdeal.nD Cert.AdamSmallRefIdeal.τ).loc Cert.AdamSmallRefIdeal.main_arg9) = m ((c.tc : Thread Cert.AdamSmallRefIdeal.nD Cert.AdamSmallRefIdeal.τ).loc Cert.AdamSmallRefIdeal.main_arg9)
      ∧ r.2.mem ((c.tc : Thread Cert.AdamSmallRefIdeal.nD Cert.AdamSmallRefIdeal.τ).loc Cert.AdamSmallRefIdeal.main_arg10) = m ((c.tc : Thread Cert.AdamSmallRefIdeal.nD Cert.AdamSmallRefIdeal.τ).loc Cert.AdamSmallRefIdeal.main_arg10)
      ∧ r.2.mem ((c.tc : Thread Cert.AdamSmallRefIdeal.nD Cert.AdamSmallRefIdeal.τ).loc Cert.AdamSmallRefIdeal.main_arg11) = m ((c.tc : Thread Cert.AdamSmallRefIdeal.nD Cert.AdamSmallRefIdeal.τ).loc Cert.AdamSmallRefIdeal.main_arg11)
      ∧ r.2.mem ((c.tc : Thread Cert.AdamSmallRefIdeal.nD Cert.AdamSmallRefIdeal.τ).loc Cert.AdamSmallRefIdeal.main_arg12) = m ((c.tc : Thread Cert.AdamSmallRefIdeal.nD Cert.AdamSmallRefIdeal.τ).loc Cert.AdamSmallRefIdeal.main_arg12)
      ∧ r.2.mem ((c.tc : Thread Cert.AdamSmallRefIdeal.nD Cert.AdamSmallRefIdeal.τ).loc Cert.AdamSmallRefIdeal.main_arg13) = m ((c.tc : Thread Cert.AdamSmallRefIdeal.nD Cert.AdamSmallRefIdeal.τ).loc Cert.AdamSmallRefIdeal.main_arg13)
      ∧ r.2.mem ((c.tc : Thread Cert.AdamSmallRefIdeal.nD Cert.AdamSmallRefIdeal.τ).loc Cert.AdamSmallRefIdeal.main_arg14) = m ((c.tc : Thread Cert.AdamSmallRefIdeal.nD Cert.AdamSmallRefIdeal.τ).loc Cert.AdamSmallRefIdeal.main_arg14)
      ∧ r.2.mem ((c.tc : Thread Cert.AdamSmallRefIdeal.nD Cert.AdamSmallRefIdeal.τ).loc Cert.AdamSmallRefIdeal.main_arg15) = m ((c.tc : Thread Cert.AdamSmallRefIdeal.nD Cert.AdamSmallRefIdeal.τ).loc Cert.AdamSmallRefIdeal.main_arg15)
      ∧ r.2.mem ((c.tc : Thread Cert.AdamSmallRefIdeal.nD Cert.AdamSmallRefIdeal.τ).loc Cert.AdamSmallRefIdeal.main_arg16) = m ((c.tc : Thread Cert.AdamSmallRefIdeal.nD Cert.AdamSmallRefIdeal.τ).loc Cert.AdamSmallRefIdeal.main_arg16)
      ∧ r.2.mem ((c.tc : Thread Cert.AdamSmallRefIdeal.nD Cert.AdamSmallRefIdeal.τ).loc Cert.AdamSmallRefIdeal.main_arg17) = m ((c.tc : Thread Cert.AdamSmallRefIdeal.nD Cert.AdamSmallRefIdeal.τ).loc Cert.AdamSmallRefIdeal.main_arg17)
      ∧ r.2.mem ((c.tc : Thread Cert.AdamSmallRefIdeal.nD Cert.AdamSmallRefIdeal.τ).loc Cert.AdamSmallRefIdeal.main_arg18) = m ((c.tc : Thread Cert.AdamSmallRefIdeal.nD Cert.AdamSmallRefIdeal.τ).loc Cert.AdamSmallRefIdeal.main_arg18)
      ∧ r.2.mem ((c.tc : Thread Cert.AdamSmallRefIdeal.nD Cert.AdamSmallRefIdeal.τ).loc Cert.AdamSmallRefIdeal.main_arg19) = m ((c.tc : Thread Cert.AdamSmallRefIdeal.nD Cert.AdamSmallRefIdeal.τ).loc Cert.AdamSmallRefIdeal.main_arg19)
      ∧ r.2.mem ((c.tc : Thread Cert.AdamSmallRefIdeal.nD Cert.AdamSmallRefIdeal.τ).loc Cert.AdamSmallRefIdeal.main_arg20) = m ((c.tc : Thread Cert.AdamSmallRefIdeal.nD Cert.AdamSmallRefIdeal.τ).loc Cert.AdamSmallRefIdeal.main_arg20)
      ∧ r.2.mem ((c.tc : Thread Cert.AdamSmallRefIdeal.nD Cert.AdamSmallRefIdeal.τ).loc Cert.AdamSmallRefIdeal.main_arg21) = m ((c.tc : Thread Cert.AdamSmallRefIdeal.nD Cert.AdamSmallRefIdeal.τ).loc Cert.AdamSmallRefIdeal.main_arg21)
      ∧ r.2.mem ((c.tc : Thread Cert.AdamSmallRefIdeal.nD Cert.AdamSmallRefIdeal.τ).loc Cert.AdamSmallRefIdeal.main_arg22) = m ((c.tc : Thread Cert.AdamSmallRefIdeal.nD Cert.AdamSmallRefIdeal.τ).loc Cert.AdamSmallRefIdeal.main_arg22)
      ∧ r.2.mem ((c.tc : Thread Cert.AdamSmallRefIdeal.nD Cert.AdamSmallRefIdeal.τ).loc Cert.AdamSmallRefIdeal.main_arg23) = m ((c.tc : Thread Cert.AdamSmallRefIdeal.nD Cert.AdamSmallRefIdeal.τ).loc Cert.AdamSmallRefIdeal.main_arg23)
      ∧ r.2.mem ((c.tc : Thread Cert.AdamSmallRefIdeal.nD Cert.AdamSmallRefIdeal.τ).loc Cert.AdamSmallRefIdeal.main_arg24) = m ((c.tc : Thread Cert.AdamSmallRefIdeal.nD Cert.AdamSmallRefIdeal.τ).loc Cert.AdamSmallRefIdeal.main_arg24)
      ∧ r.2.mem ((c.tc : Thread Cert.AdamSmallRefIdeal.nD Cert.AdamSmallRefIdeal.τ).loc Cert.AdamSmallRefIdeal.main_arg25) = m ((c.tc : Thread Cert.AdamSmallRefIdeal.nD Cert.AdamSmallRefIdeal.τ).loc Cert.AdamSmallRefIdeal.main_arg25)
      ∧ r.2.mem ((c.tc : Thread Cert.AdamSmallRefIdeal.nD Cert.AdamSmallRefIdeal.τ).loc Cert.AdamSmallRefIdeal.main_arg26) = m ((c.tc : Thread Cert.AdamSmallRefIdeal.nD Cert.AdamSmallRefIdeal.τ).loc Cert.AdamSmallRefIdeal.main_arg26)
      ∧ r.2.mem ((c.tc : Thread Cert.AdamSmallRefIdeal.nD Cert.AdamSmallRefIdeal.τ).loc Cert.AdamSmallRefIdeal.main_arg27) = m ((c.tc : Thread Cert.AdamSmallRefIdeal.nD Cert.AdamSmallRefIdeal.τ).loc Cert.AdamSmallRefIdeal.main_arg27)
      ∧ r.2.mem ((c.tc : Thread Cert.AdamSmallRefIdeal.nD Cert.AdamSmallRefIdeal.τ).loc Cert.AdamSmallRefIdeal.main_arg28) = m ((c.tc : Thread Cert.AdamSmallRefIdeal.nD Cert.AdamSmallRefIdeal.τ).loc Cert.AdamSmallRefIdeal.main_arg28)
      ∧ r.2.mem ((c.tc : Thread Cert.AdamSmallRefIdeal.nD Cert.AdamSmallRefIdeal.τ).loc Cert.AdamSmallRefIdeal.main_arg29) = m ((c.tc : Thread Cert.AdamSmallRefIdeal.nD Cert.AdamSmallRefIdeal.τ).loc Cert.AdamSmallRefIdeal.main_arg29)
      ∧ r.2.mem ((c.tc : Thread Cert.AdamSmallRefIdeal.nD Cert.AdamSmallRefIdeal.τ).loc Cert.AdamSmallRefIdeal.main_arg30) = m ((c.tc : Thread Cert.AdamSmallRefIdeal.nD Cert.AdamSmallRefIdeal.τ).loc Cert.AdamSmallRefIdeal.main_arg30)
      ∧ r.2.mem ((c.tc : Thread Cert.AdamSmallRefIdeal.nD Cert.AdamSmallRefIdeal.τ).loc Cert.AdamSmallRefIdeal.main_arg31) = m ((c.tc : Thread Cert.AdamSmallRefIdeal.nD Cert.AdamSmallRefIdeal.τ).loc Cert.AdamSmallRefIdeal.main_arg31))
      ∧ r.2.sem = fun _ => 0)

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v1_0)) (v1 : (c : Dev Cert.UpIdeal.nD) → Buf (Elt Ideal) ((c.tc : Thread Cert.UpIdeal.nD Cert.UpIdeal.τ).loc Cert.UpIdeal.main_v1_1)) (v2 : (c : Dev Cert.UpIdeal.nD) → Buf (Elt Ideal) ((c.tc : Thread Cert.UpIdeal.nD Cert.UpIdeal.τ).loc Cert.UpIdeal.main_v1_2)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v1_0) = v0 c
          ∧ r.2.mem ((c.tc : Thread Cert.UpIdeal.nD Cert.UpIdeal.τ).loc Cert.UpIdeal.main_v1_1) = v1 c
          ∧ r.2.mem ((c.tc : Thread Cert.UpIdeal.nD Cert.UpIdeal.τ).loc Cert.UpIdeal.main_v1_2) = v2 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v28) = v0 c
          ∧ r.2.mem ((c.tc : Thread Cert.UpRefIdeal.nD Cert.UpRefIdeal.τ).loc Cert.UpRefIdeal.main_v29) = v1 c
          ∧ r.2.mem ((c.tc : Thread Cert.UpRefIdeal.nD Cert.UpRefIdeal.τ).loc Cert.UpRefIdeal.main_v31) = v2 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v5) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_GateBwd_GateBwdIdeal : Prop :=
  True

def algebraic_GateBwdIdeal_GateBwdRefIdeal_pre_finite_gate [hGateBwdIdeal : Cert.GateBwdIdeal.Facts] [hGateBwdRefIdeal : Cert.GateBwdRefIdeal.Facts] [hPre_finite_gate : Cert.Pre_finite_gate.Facts] : Prop :=
  ∀ (m : (ℓ : Loc Cert.GateBwdIdeal.nD Cert.GateBwdIdeal.τ Cert.GateBwdIdeal.sig) → Buf (Elt Ideal) ℓ) (g : Dev Cert.GateBwdIdeal.nD → PrngReg)
    (m' : (ℓ : Loc Cert.GateBwdRefIdeal.nD Cert.GateBwdRefIdeal.τ Cert.GateBwdRefIdeal.sig) → Buf (Elt Ideal) ℓ) (g' : Dev Cert.GateBwdRefIdeal.nD → PrngReg), Pre_GateBwdIdeal_finite_gate m →
    (∀ c : Dev Cert.GateBwdIdeal.nD,
      m' ((c.tc : Thread Cert.GateBwdRefIdeal.nD Cert.GateBwdRefIdeal.τ).loc Cert.GateBwdRefIdeal.main_arg0) = m ((c.tc : Thread Cert.GateBwdIdeal.nD Cert.GateBwdIdeal.τ).loc Cert.GateBwdIdeal.main_arg0)
      ∧ m' ((c.tc : Thread Cert.GateBwdRefIdeal.nD Cert.GateBwdRefIdeal.τ).loc Cert.GateBwdRefIdeal.main_arg1) = m ((c.tc : Thread Cert.GateBwdIdeal.nD Cert.GateBwdIdeal.τ).loc Cert.GateBwdIdeal.main_arg1)
      ∧ m' ((c.tc : Thread Cert.GateBwdRefIdeal.nD Cert.GateBwdRefIdeal.τ).loc Cert.GateBwdRefIdeal.main_arg2) = m ((c.tc : Thread Cert.GateBwdIdeal.nD Cert.GateBwdIdeal.τ).loc Cert.GateBwdIdeal.main_arg2)
      ∧ m' ((c.tc : Thread Cert.GateBwdRefIdeal.nD Cert.GateBwdRefIdeal.τ).loc Cert.GateBwdRefIdeal.main_arg3) = m ((c.tc : Thread Cert.GateBwdIdeal.nD Cert.GateBwdIdeal.τ).loc Cert.GateBwdIdeal.main_arg3)) →
    ∃ (v0 : (c : Dev Cert.GateBwdIdeal.nD) → Buf (Elt Ideal) ((c.tc : Thread Cert.GateBwdIdeal.nD Cert.GateBwdIdeal.τ).loc Cert.GateBwdIdeal.main_v24)),
      θ_run (Cert.GateBwdIdeal.defs (F := Ideal)) (onTc (τ := Cert.GateBwdIdeal.τ) (Cert.GateBwdIdeal.main (F := Ideal))) ⟨m, fun _ => 0, g⟩ (fun r => ∀ c : Dev Cert.GateBwdIdeal.nD,
          r.2.mem ((c.tc : Thread Cert.GateBwdIdeal.nD Cert.GateBwdIdeal.τ).loc Cert.GateBwdIdeal.main_v24) = v0 c
          ∧ r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
          ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
          ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2)
          ∧ r.2.mem ((c.tc : Thread Cert.GateBwdIdeal.nD Cert.GateBwdIdeal.τ).loc Cert.GateBwdIdeal.main_arg3) = m ((c.tc : Thread Cert.GateBwdIdeal.nD Cert.GateBwdIdeal.τ).loc Cert.GateBwdIdeal.main_arg3))
      ∧ θ_run (Cert.GateBwdRefIdeal.defs (F := Ideal)) (onTc (τ := Cert.GateBwdRefIdeal.τ) (Cert.GateBwdRefIdeal.main (F := Ideal))) ⟨m', fun _ => 0, g'⟩ (fun r => ∀ c : Dev Cert.GateBwdRefIdeal.nD,
          r.2.mem ((c.tc : Thread Cert.GateBwdRefIdeal.nD Cert.GateBwdRefIdeal.τ).loc Cert.GateBwdRefIdeal.main_v15) = v0 c
          ∧ r.2.mem ((c.tc : Thread Cert.GateBwdRefIdeal.nD Cert.GateBwdRefIdeal.τ).loc Cert.GateBwdRefIdeal.main_arg0) = m' ((c.tc : Thread Cert.GateBwdRefIdeal.nD Cert.GateBwdRefIdeal.τ).loc Cert.GateBwdRefIdeal.main_arg0)
          ∧ r.2.mem ((c.tc : Thread Cert.GateBwdRefIdeal.nD Cert.GateBwdRefIdeal.τ).loc Cert.GateBwdRefIdeal.main_arg1) = m' ((c.tc : Thread Cert.GateBwdRefIdeal.nD Cert.GateBwdRefIdeal.τ).loc Cert.GateBwdRefIdeal.main_arg1)
          ∧ r.2.mem ((c.tc : Thread Cert.GateBwdRefIdeal.nD Cert.GateBwdRefIdeal.τ).loc Cert.GateBwdRefIdeal.main_arg2) = m' ((c.tc : Thread Cert.GateBwdRefIdeal.nD Cert.GateBwdRefIdeal.τ).loc Cert.GateBwdRefIdeal.main_arg2)
          ∧ r.2.mem ((c.tc : Thread Cert.GateBwdRefIdeal.nD Cert.GateBwdRefIdeal.τ).loc Cert.GateBwdRefIdeal.main_arg3) = m' ((c.tc : Thread Cert.GateBwdRefIdeal.nD Cert.GateBwdRefIdeal.τ).loc Cert.GateBwdRefIdeal.main_arg3))

def preserves_Dwd_DwdIdeal : Prop :=
  True

def algebraic_DwdIdeal_DwdRefIdeal [hDwdIdeal : Cert.DwdIdeal.Facts] [hDwdRefIdeal : Cert.DwdRefIdeal.Facts] : Prop :=
  ∀ (m : (ℓ : Loc Cert.DwdIdeal.nD Cert.DwdIdeal.τ Cert.DwdIdeal.sig) → Buf (Elt Ideal) ℓ) (g : Dev Cert.DwdIdeal.nD → PrngReg)
    (m' : (ℓ : Loc Cert.DwdRefIdeal.nD Cert.DwdRefIdeal.τ Cert.DwdRefIdeal.sig) → Buf (Elt Ideal) ℓ) (g' : Dev Cert.DwdRefIdeal.nD → PrngReg), Pre_DwdIdeal m →
    (∀ c : Dev Cert.DwdIdeal.nD,
      m' ((c.tc : Thread Cert.DwdRefIdeal.nD Cert.DwdRefIdeal.τ).loc Cert.DwdRefIdeal.main_arg0) = m ((c.tc : Thread Cert.DwdIdeal.nD Cert.DwdIdeal.τ).loc Cert.DwdIdeal.main_arg0)
      ∧ m' ((c.tc : Thread Cert.DwdRefIdeal.nD Cert.DwdRefIdeal.τ).loc Cert.DwdRefIdeal.main_arg1) = m ((c.tc : Thread Cert.DwdIdeal.nD Cert.DwdIdeal.τ).loc Cert.DwdIdeal.main_arg1)) →
    ∃ (v0 : (c : Dev Cert.DwdIdeal.nD) → Buf (Elt Ideal) ((c.tc : Thread Cert.DwdIdeal.nD Cert.DwdIdeal.τ).loc Cert.DwdIdeal.main_v0)),
      θ_run (Cert.DwdIdeal.defs (F := Ideal)) (onTc (τ := Cert.DwdIdeal.τ) (Cert.DwdIdeal.main (F := Ideal))) ⟨m, fun _ => 0, g⟩ (fun r => ∀ c : Dev Cert.DwdIdeal.nD,
          r.2.mem ((c.tc : Thread Cert.DwdIdeal.nD Cert.DwdIdeal.τ).loc Cert.DwdIdeal.main_v0) = v0 c
          ∧ r.2.mem ((c.tc : Thread Cert.DwdIdeal.nD Cert.DwdIdeal.τ).loc Cert.DwdIdeal.main_arg0) = m ((c.tc : Thread Cert.DwdIdeal.nD Cert.DwdIdeal.τ).loc Cert.DwdIdeal.main_arg0)
          ∧ r.2.mem ((c.tc : Thread Cert.DwdIdeal.nD Cert.DwdIdeal.τ).loc Cert.DwdIdeal.main_arg1) = m ((c.tc : Thread Cert.DwdIdeal.nD Cert.DwdIdeal.τ).loc Cert.DwdIdeal.main_arg1))
      ∧ θ_run (Cert.DwdRefIdeal.defs (F := Ideal)) (onTc (τ := Cert.DwdRefIdeal.τ) (Cert.DwdRefIdeal.main (F := Ideal))) ⟨m', fun _ => 0, g'⟩ (fun r => ∀ c : Dev Cert.DwdRefIdeal.nD,
          r.2.mem ((c.tc : Thread Cert.DwdRefIdeal.nD Cert.DwdRefIdeal.τ).loc Cert.DwdRefIdeal.main_v9) = v0 c
          ∧ r.2.mem ((c.tc : Thread Cert.DwdRefIdeal.nD Cert.DwdRefIdeal.τ).loc Cert.DwdRefIdeal.main_arg0) = m' ((c.tc : Thread Cert.DwdRefIdeal.nD Cert.DwdRefIdeal.τ).loc Cert.DwdRefIdeal.main_arg0)
          ∧ r.2.mem ((c.tc : Thread Cert.DwdRefIdeal.nD Cert.DwdRefIdeal.τ).loc Cert.DwdRefIdeal.main_arg1) = m' ((c.tc : Thread Cert.DwdRefIdeal.nD Cert.DwdRefIdeal.τ).loc Cert.DwdRefIdeal.main_arg1))

def preserves_Dwgu_DwguIdeal : Prop :=
  True

def algebraic_DwguIdeal_DwguRefIdeal [hDwguIdeal : Cert.DwguIdeal.Facts] [hDwguRefIdeal : Cert.DwguRefIdeal.Facts] : Prop :=
  ∀ (m : (ℓ : Loc Cert.DwguIdeal.nD Cert.DwguIdeal.τ Cert.DwguIdeal.sig) → Buf (Elt Ideal) ℓ) (g : Dev Cert.DwguIdeal.nD → PrngReg)
    (m' : (ℓ : Loc Cert.DwguRefIdeal.nD Cert.DwguRefIdeal.τ Cert.DwguRefIdeal.sig) → Buf (Elt Ideal) ℓ) (g' : Dev Cert.DwguRefIdeal.nD → PrngReg), Pre_DwguIdeal m →
    (∀ c : Dev Cert.DwguIdeal.nD,
      m' ((c.tc : Thread Cert.DwguRefIdeal.nD Cert.DwguRefIdeal.τ).loc Cert.DwguRefIdeal.main_arg0) = m ((c.tc : Thread Cert.DwguIdeal.nD Cert.DwguIdeal.τ).loc Cert.DwguIdeal.main_arg0)
      ∧ m' ((c.tc : Thread Cert.DwguRefIdeal.nD Cert.DwguRefIdeal.τ).loc Cert.DwguRefIdeal.main_arg1) = m ((c.tc : Thread Cert.DwguIdeal.nD Cert.DwguIdeal.τ).loc Cert.DwguIdeal.main_arg1)) →
    ∃ (v0 : (c : Dev Cert.DwguIdeal.nD) → Buf (Elt Ideal) ((c.tc : Thread Cert.DwguIdeal.nD Cert.DwguIdeal.τ).loc Cert.DwguIdeal.main_v0)),
      θ_run (Cert.DwguIdeal.defs (F := Ideal)) (onTc (τ := Cert.DwguIdeal.τ) (Cert.DwguIdeal.main (F := Ideal))) ⟨m, fun _ => 0, g⟩ (fun r => ∀ c : Dev Cert.DwguIdeal.nD,
          r.2.mem ((c.tc : Thread Cert.DwguIdeal.nD Cert.DwguIdeal.τ).loc Cert.DwguIdeal.main_v0) = v0 c
          ∧ r.2.mem ((c.tc : Thread Cert.DwguIdeal.nD Cert.DwguIdeal.τ).loc Cert.DwguIdeal.main_arg0) = m ((c.tc : Thread Cert.DwguIdeal.nD Cert.DwguIdeal.τ).loc Cert.DwguIdeal.main_arg0)
          ∧ r.2.mem ((c.tc : Thread Cert.DwguIdeal.nD Cert.DwguIdeal.τ).loc Cert.DwguIdeal.main_arg1) = m ((c.tc : Thread Cert.DwguIdeal.nD Cert.DwguIdeal.τ).loc Cert.DwguIdeal.main_arg1))
      ∧ θ_run (Cert.DwguRefIdeal.defs (F := Ideal)) (onTc (τ := Cert.DwguRefIdeal.τ) (Cert.DwguRefIdeal.main (F := Ideal))) ⟨m', fun _ => 0, g'⟩ (fun r => ∀ c : Dev Cert.DwguRefIdeal.nD,
          r.2.mem ((c.tc : Thread Cert.DwguRefIdeal.nD Cert.DwguRefIdeal.τ).loc Cert.DwguRefIdeal.main_v11) = v0 c
          ∧ r.2.mem ((c.tc : Thread Cert.DwguRefIdeal.nD Cert.DwguRefIdeal.τ).loc Cert.DwguRefIdeal.main_arg0) = m' ((c.tc : Thread Cert.DwguRefIdeal.nD Cert.DwguRefIdeal.τ).loc Cert.DwguRefIdeal.main_arg0)
          ∧ r.2.mem ((c.tc : Thread Cert.DwguRefIdeal.nD Cert.DwguRefIdeal.τ).loc Cert.DwguRefIdeal.main_arg1) = m' ((c.tc : Thread Cert.DwguRefIdeal.nD Cert.DwguRefIdeal.τ).loc Cert.DwguRefIdeal.main_arg1))

def preserves_NormBwd_NormBwdIdeal : Prop :=
  True

def algebraic_NormBwdIdeal_NormBwdRefIdeal [hNormBwdIdeal : Cert.NormBwdIdeal.Facts] [hNormBwdRefIdeal : Cert.NormBwdRefIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdRefIdeal.nD Cert.NormBwdRefIdeal.τ Cert.NormBwdRefIdeal.sig) → Buf (Elt Ideal) ℓ) (g' : Dev Cert.NormBwdRefIdeal.nD → PrngReg), Pre_NormBwdIdeal m →
    (∀ c : Dev Cert.NormBwdIdeal.nD,
      m' ((c.tc : Thread Cert.NormBwdRefIdeal.nD Cert.NormBwdRefIdeal.τ).loc Cert.NormBwdRefIdeal.main_arg0) = m ((c.tc : Thread Cert.NormBwdIdeal.nD Cert.NormBwdIdeal.τ).loc Cert.NormBwdIdeal.main_arg0)
      ∧ m' ((c.tc : Thread Cert.NormBwdRefIdeal.nD Cert.NormBwdRefIdeal.τ).loc Cert.NormBwdRefIdeal.main_arg1) = m ((c.tc : Thread Cert.NormBwdIdeal.nD Cert.NormBwdIdeal.τ).loc Cert.NormBwdIdeal.main_arg1)
      ∧ m' ((c.tc : Thread Cert.NormBwdRefIdeal.nD Cert.NormBwdRefIdeal.τ).loc Cert.NormBwdRefIdeal.main_arg2) = m ((c.tc : Thread Cert.NormBwdIdeal.nD Cert.NormBwdIdeal.τ).loc Cert.NormBwdIdeal.main_arg2)
      ∧ m' ((c.tc : Thread Cert.NormBwdRefIdeal.nD Cert.NormBwdRefIdeal.τ).loc Cert.NormBwdRefIdeal.main_arg3) = m ((c.tc : Thread Cert.NormBwdIdeal.nD Cert.NormBwdIdeal.τ).loc Cert.NormBwdIdeal.main_arg3)
      ∧ m' ((c.tc : Thread Cert.NormBwdRefIdeal.nD Cert.NormBwdRefIdeal.τ).loc Cert.NormBwdRefIdeal.main_arg4) = m ((c.tc : Thread Cert.NormBwdIdeal.nD Cert.NormBwdIdeal.τ).loc Cert.NormBwdIdeal.main_arg4)) →
    ∃ (v0 : (c : Dev Cert.NormBwdIdeal.nD) → Buf (Elt Ideal) ((c.tc : Thread Cert.NormBwdIdeal.nD Cert.NormBwdIdeal.τ).loc Cert.NormBwdIdeal.main_v1_0)) (v1 : (c : Dev Cert.NormBwdIdeal.nD) → Buf (Elt Ideal) ((c.tc : Thread Cert.NormBwdIdeal.nD Cert.NormBwdIdeal.τ).loc Cert.NormBwdIdeal.main_v1_1)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v1_0) = v0 c
          ∧ r.2.mem ((c.tc : Thread Cert.NormBwdIdeal.nD Cert.NormBwdIdeal.τ).loc Cert.NormBwdIdeal.main_v1_1) = v1 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
          ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4))
      ∧ θ_run (Cert.NormBwdRefIdeal.defs (F := Ideal)) (onTc (τ := Cert.NormBwdRefIdeal.τ) (Cert.NormBwdRefIdeal.main (F := Ideal))) ⟨m', fun _ => 0, g'⟩ (fun r => ∀ c : Dev Cert.NormBwdRefIdeal.nD,
          r.2.mem ((c.tc : Thread Cert.NormBwdRefIdeal.nD Cert.NormBwdRefIdeal.τ).loc Cert.NormBwdRefIdeal.main_v45) = v0 c
          ∧ r.2.mem ((c.tc : Thread Cert.NormBwdRefIdeal.nD Cert.NormBwdRefIdeal.τ).loc Cert.NormBwdRefIdeal.main_v46) = v1 c
          ∧ r.2.mem ((c.tc : Thread Cert.NormBwdRefIdeal.nD Cert.NormBwdRefIdeal.τ).loc Cert.NormBwdRefIdeal.main_arg0) = m' ((c.tc : Thread Cert.NormBwdRefIdeal.nD Cert.NormBwdRefIdeal.τ).loc Cert.NormBwdRefIdeal.main_arg0)
          ∧ r.2.mem ((c.tc : Thread Cert.NormBwdRefIdeal.nD Cert.NormBwdRefIdeal.τ).loc Cert.NormBwdRefIdeal.main_arg1) = m' ((c.tc : Thread Cert.NormBwdRefIdeal.nD Cert.NormBwdRefIdeal.τ).loc Cert.NormBwdRefIdeal.main_arg1)
          ∧ r.2.mem ((c.tc : Thread Cert.NormBwdRefIdeal.nD Cert.NormBwdRefIdeal.τ).loc Cert.NormBwdRefIdeal.main_arg2) = m' ((c.tc : Thread Cert.NormBwdRefIdeal.nD Cert.NormBwdRefIdeal.τ).loc Cert.NormBwdRefIdeal.main_arg2)
          ∧ r.2.mem ((c.tc : Thread Cert.NormBwdRefIdeal.nD Cert.NormBwdRefIdeal.τ).loc Cert.NormBwdRefIdeal.main_arg3) = m' ((c.tc : Thread Cert.NormBwdRefIdeal.nD Cert.NormBwdRefIdeal.τ).loc Cert.NormBwdRefIdeal.main_arg3)
          ∧ r.2.mem ((c.tc : Thread Cert.NormBwdRefIdeal.nD Cert.NormBwdRefIdeal.τ).loc Cert.NormBwdRefIdeal.main_arg4) = m' ((c.tc : Thread Cert.NormBwdRefIdeal.nD Cert.NormBwdRefIdeal.τ).loc Cert.NormBwdRefIdeal.main_arg4))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)) →
    ∃ (v0 : (c : Dev Cert.MixOutIdeal.nD) → Buf (Elt Ideal) ((c.tc : Thread Cert.MixOutIdeal.nD Cert.MixOutIdeal.τ).loc Cert.MixOutIdeal.main_v0)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v0) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v3) = v0 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2))

def preserves_MixDwout_MixDwoutIdeal : Prop :=
  True

def algebraic_MixDwoutIdeal_MixDwoutRefIdeal [hMixDwoutIdeal : Cert.MixDwoutIdeal.Facts] [hMixDwoutRefIdeal : Cert.MixDwoutRefIdeal.Facts] : Prop :=
  ∀ (m : (ℓ : Loc Cert.MixDwoutIdeal.nD Cert.MixDwoutIdeal.τ Cert.MixDwoutIdeal.sig) → Buf (Elt Ideal) ℓ) (g : Dev Cert.MixDwoutIdeal.nD → PrngReg)
    (m' : (ℓ : Loc Cert.MixDwoutRefIdeal.nD Cert.MixDwoutRefIdeal.τ Cert.MixDwoutRefIdeal.sig) → Buf (Elt Ideal) ℓ) (g' : Dev Cert.MixDwoutRefIdeal.nD → PrngReg), Pre_MixDwoutIdeal m →
    (∀ c : Dev Cert.MixDwoutIdeal.nD,
      m' ((c.tc : Thread Cert.MixDwoutRefIdeal.nD Cert.MixDwoutRefIdeal.τ).loc Cert.MixDwoutRefIdeal.main_arg0) = m ((c.tc : Thread Cert.MixDwoutIdeal.nD Cert.MixDwoutIdeal.τ).loc Cert.MixDwoutIdeal.main_arg0)
      ∧ m' ((c.tc : Thread Cert.MixDwoutRefIdeal.nD Cert.MixDwoutRefIdeal.τ).loc Cert.MixDwoutRefIdeal.main_arg1) = m ((c.tc : Thread Cert.MixDwoutIdeal.nD Cert.MixDwoutIdeal.τ).loc Cert.MixDwoutIdeal.main_arg1)) →
    ∃ (v0 : (c : Dev Cert.MixDwoutIdeal.nD) → Buf (Elt Ideal) ((c.tc : Thread Cert.MixDwoutIdeal.nD Cert.MixDwoutIdeal.τ).loc Cert.MixDwoutIdeal.main_v0)),
      θ_run (Cert.MixDwoutIdeal.defs (F := Ideal)) (onTc (τ := Cert.MixDwoutIdeal.τ) (Cert.MixDwoutIdeal.main (F := Ideal))) ⟨m, fun _ => 0, g⟩ (fun r => ∀ c : Dev Cert.MixDwoutIdeal.nD,
          r.2.mem ((c.tc : Thread Cert.MixDwoutIdeal.nD Cert.MixDwoutIdeal.τ).loc Cert.MixDwoutIdeal.main_v0) = v0 c
          ∧ r.2.mem ((c.tc : Thread Cert.MixDwoutIdeal.nD Cert.MixDwoutIdeal.τ).loc Cert.MixDwoutIdeal.main_arg0) = m ((c.tc : Thread Cert.MixDwoutIdeal.nD Cert.MixDwoutIdeal.τ).loc Cert.MixDwoutIdeal.main_arg0)
          ∧ r.2.mem ((c.tc : Thread Cert.MixDwoutIdeal.nD Cert.MixDwoutIdeal.τ).loc Cert.MixDwoutIdeal.main_arg1) = m ((c.tc : Thread Cert.MixDwoutIdeal.nD Cert.MixDwoutIdeal.τ).loc Cert.MixDwoutIdeal.main_arg1))
      ∧ θ_run (Cert.MixDwoutRefIdeal.defs (F := Ideal)) (onTc (τ := Cert.MixDwoutRefIdeal.τ) (Cert.MixDwoutRefIdeal.main (F := Ideal))) ⟨m', fun _ => 0, g'⟩ (fun r => ∀ c : Dev Cert.MixDwoutRefIdeal.nD,
          r.2.mem ((c.tc : Thread Cert.MixDwoutRefIdeal.nD Cert.MixDwoutRefIdeal.τ).loc Cert.MixDwoutRefIdeal.main_v5) = v0 c
          ∧ r.2.mem ((c.tc : Thread Cert.MixDwoutRefIdeal.nD Cert.MixDwoutRefIdeal.τ).loc Cert.MixDwoutRefIdeal.main_arg0) = m' ((c.tc : Thread Cert.MixDwoutRefIdeal.nD Cert.MixDwoutRefIdeal.τ).loc Cert.MixDwoutRefIdeal.main_arg0)
          ∧ r.2.mem ((c.tc : Thread Cert.MixDwoutRefIdeal.nD Cert.MixDwoutRefIdeal.τ).loc Cert.MixDwoutRefIdeal.main_arg1) = m' ((c.tc : Thread Cert.MixDwoutRefIdeal.nD Cert.MixDwoutRefIdeal.τ).loc Cert.MixDwoutRefIdeal.main_arg1))

def preserves_MergeFwd_MergeFwdIdeal : Prop :=
  True

def algebraic_MergeFwdIdeal_MergeFwdRefIdeal [hMergeFwdIdeal : Cert.MergeFwdIdeal.Facts] [hMergeFwdRefIdeal : Cert.MergeFwdRefIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdRefIdeal.nD Cert.MergeFwdRefIdeal.τ Cert.MergeFwdRefIdeal.sig) → Buf (Elt Ideal) ℓ) (g' : Dev Cert.MergeFwdRefIdeal.nD → PrngReg), Pre_MergeFwdIdeal m →
    (∀ c : Dev Cert.MergeFwdIdeal.nD,
      m' ((c.tc : Thread Cert.MergeFwdRefIdeal.nD Cert.MergeFwdRefIdeal.τ).loc Cert.MergeFwdRefIdeal.main_arg0) = m ((c.tc : Thread Cert.MergeFwdIdeal.nD Cert.MergeFwdIdeal.τ).loc Cert.MergeFwdIdeal.main_arg0)
      ∧ m' ((c.tc : Thread Cert.MergeFwdRefIdeal.nD Cert.MergeFwdRefIdeal.τ).loc Cert.MergeFwdRefIdeal.main_arg1) = m ((c.tc : Thread Cert.MergeFwdIdeal.nD Cert.MergeFwdIdeal.τ).loc Cert.MergeFwdIdeal.main_arg1)
      ∧ m' ((c.tc : Thread Cert.MergeFwdRefIdeal.nD Cert.MergeFwdRefIdeal.τ).loc Cert.MergeFwdRefIdeal.main_arg2) = m ((c.tc : Thread Cert.MergeFwdIdeal.nD Cert.MergeFwdIdeal.τ).loc Cert.MergeFwdIdeal.main_arg2)
      ∧ m' ((c.tc : Thread Cert.MergeFwdRefIdeal.nD Cert.MergeFwdRefIdeal.τ).loc Cert.MergeFwdRefIdeal.main_arg3) = m ((c.tc : Thread Cert.MergeFwdIdeal.nD Cert.MergeFwdIdeal.τ).loc Cert.MergeFwdIdeal.main_arg3)
      ∧ m' ((c.tc : Thread Cert.MergeFwdRefIdeal.nD Cert.MergeFwdRefIdeal.τ).loc Cert.MergeFwdRefIdeal.main_arg4) = m ((c.tc : Thread Cert.MergeFwdIdeal.nD Cert.MergeFwdIdeal.τ).loc Cert.MergeFwdIdeal.main_arg4)) →
    ∃ (v0 : (c : Dev Cert.MergeFwdIdeal.nD) → Buf (Elt Ideal) ((c.tc : Thread Cert.MergeFwdIdeal.nD Cert.MergeFwdIdeal.τ).loc Cert.MergeFwdIdeal.main_v4_0)) (v1 : (c : Dev Cert.MergeFwdIdeal.nD) → Buf (Elt Ideal) ((c.tc : Thread Cert.MergeFwdIdeal.nD Cert.MergeFwdIdeal.τ).loc Cert.MergeFwdIdeal.main_v4_1)) (v2 : (c : Dev Cert.MergeFwdIdeal.nD) → Buf (Elt Ideal) ((c.tc : Thread Cert.MergeFwdIdeal.nD Cert.MergeFwdIdeal.τ).loc Cert.MergeFwdIdeal.main_v4_2)) (v3 : (c : Dev Cert.MergeFwdIdeal.nD) → Buf (Elt Ideal) ((c.tc : Thread Cert.MergeFwdIdeal.nD Cert.MergeFwdIdeal.τ).loc Cert.MergeFwdIdeal.main_v4_3)) (v4 : (c : Dev Cert.MergeFwdIdeal.nD) → Buf (Elt Ideal) ((c.tc : Thread Cert.MergeFwdIdeal.nD Cert.MergeFwdIdeal.τ).loc Cert.MergeFwdIdeal.main_v4_4)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v4_0) = v0 c
          ∧ r.2.mem ((c.tc : Thread Cert.MergeFwdIdeal.nD Cert.MergeFwdIdeal.τ).loc Cert.MergeFwdIdeal.main_v4_1) = v1 c
          ∧ r.2.mem ((c.tc : Thread Cert.MergeFwdIdeal.nD Cert.MergeFwdIdeal.τ).loc Cert.MergeFwdIdeal.main_v4_2) = v2 c
          ∧ r.2.mem ((c.tc : Thread Cert.MergeFwdIdeal.nD Cert.MergeFwdIdeal.τ).loc Cert.MergeFwdIdeal.main_v4_3) = v3 c
          ∧ r.2.mem ((c.tc : Thread Cert.MergeFwdIdeal.nD Cert.MergeFwdIdeal.τ).loc Cert.MergeFwdIdeal.main_v4_4) = v4 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
          ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
          ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4))
      ∧ θ_run (Cert.MergeFwdRefIdeal.defs (F := Ideal)) (onTc (τ := Cert.MergeFwdRefIdeal.τ) (Cert.MergeFwdRefIdeal.main (F := Ideal))) ⟨m', fun _ => 0, g'⟩ (fun r => ∀ c : Dev Cert.MergeFwdRefIdeal.nD,
          r.2.mem ((c.tc : Thread Cert.MergeFwdRefIdeal.nD Cert.MergeFwdRefIdeal.τ).loc Cert.MergeFwdRefIdeal.main_v25) = v0 c
          ∧ r.2.mem ((c.tc : Thread Cert.MergeFwdRefIdeal.nD Cert.MergeFwdRefIdeal.τ).loc Cert.MergeFwdRefIdeal.main_v26) = v1 c
          ∧ r.2.mem ((c.tc : Thread Cert.MergeFwdRefIdeal.nD Cert.MergeFwdRefIdeal.τ).loc Cert.MergeFwdRefIdeal.main_v27) = v2 c
          ∧ r.2.mem ((c.tc : Thread Cert.MergeFwdRefIdeal.nD Cert.MergeFwdRefIdeal.τ).loc Cert.MergeFwdRefIdeal.main_v28) = v3 c
          ∧ r.2.mem ((c.tc : Thread Cert.MergeFwdRefIdeal.nD Cert.MergeFwdRefIdeal.τ).loc Cert.MergeFwdRefIdeal.main_v29) = v4 c
          ∧ r.2.mem ((c.tc : Thread Cert.MergeFwdRefIdeal.nD Cert.MergeFwdRefIdeal.τ).loc Cert.MergeFwdRefIdeal.main_arg0) = m' ((c.tc : Thread Cert.MergeFwdRefIdeal.nD Cert.MergeFwdRefIdeal.τ).loc Cert.MergeFwdRefIdeal.main_arg0)
          ∧ r.2.mem ((c.tc : Thread Cert.MergeFwdRefIdeal.nD Cert.MergeFwdRefIdeal.τ).loc Cert.MergeFwdRefIdeal.main_arg1) = m' ((c.tc : Thread Cert.MergeFwdRefIdeal.nD Cert.MergeFwdRefIdeal.τ).loc Cert.MergeFwdRefIdeal.main_arg1)
          ∧ r.2.mem ((c.tc : Thread Cert.MergeFwdRefIdeal.nD Cert.MergeFwdRefIdeal.τ).loc Cert.MergeFwdRefIdeal.main_arg2) = m' ((c.tc : Thread Cert.MergeFwdRefIdeal.nD Cert.MergeFwdRefIdeal.τ).loc Cert.MergeFwdRefIdeal.main_arg2)
          ∧ r.2.mem ((c.tc : Thread Cert.MergeFwdRefIdeal.nD Cert.MergeFwdRefIdeal.τ).loc Cert.MergeFwdRefIdeal.main_arg3) = m' ((c.tc : Thread Cert.MergeFwdRefIdeal.nD Cert.MergeFwdRefIdeal.τ).loc Cert.MergeFwdRefIdeal.main_arg3)
          ∧ r.2.mem ((c.tc : Thread Cert.MergeFwdRefIdeal.nD Cert.MergeFwdRefIdeal.τ).loc Cert.MergeFwdRefIdeal.main_arg4) = m' ((c.tc : Thread Cert.MergeFwdRefIdeal.nD Cert.MergeFwdRefIdeal.τ).loc Cert.MergeFwdRefIdeal.main_arg4))

def preserves_MergeBwd_MergeBwdIdeal : Prop :=
  True

def algebraic_MergeBwdIdeal_MergeBwdRefIdeal [hMergeBwdIdeal : Cert.MergeBwdIdeal.Facts] [hMergeBwdRefIdeal : Cert.MergeBwdRefIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg)
    (m' : (ℓ : Loc Cert.MergeBwdRefIdeal.nD Cert.MergeBwdRefIdeal.τ Cert.MergeBwdRefIdeal.sig) → Buf (Elt Ideal) ℓ) (g' : Dev Cert.MergeBwdRefIdeal.nD → PrngReg), Pre_MergeBwdIdeal m →
    (∀ c : Dev Cert.MergeBwdIdeal.nD,
      m' ((c.tc : Thread Cert.MergeBwdRefIdeal.nD Cert.MergeBwdRefIdeal.τ).loc Cert.MergeBwdRefIdeal.main_arg0) = m ((c.tc : Thread Cert.MergeBwdIdeal.nD Cert.MergeBwdIdeal.τ).loc Cert.MergeBwdIdeal.main_arg0)
      ∧ m' ((c.tc : Thread Cert.MergeBwdRefIdeal.nD Cert.MergeBwdRefIdeal.τ).loc Cert.MergeBwdRefIdeal.main_arg1) = m ((c.tc : Thread Cert.MergeBwdIdeal.nD Cert.MergeBwdIdeal.τ).loc Cert.MergeBwdIdeal.main_arg1)
      ∧ m' ((c.tc : Thread Cert.MergeBwdRefIdeal.nD Cert.MergeBwdRefIdeal.τ).loc Cert.MergeBwdRefIdeal.main_arg2) = m ((c.tc : Thread Cert.MergeBwdIdeal.nD Cert.MergeBwdIdeal.τ).loc Cert.MergeBwdIdeal.main_arg2)
      ∧ m' ((c.tc : Thread Cert.MergeBwdRefIdeal.nD Cert.MergeBwdRefIdeal.τ).loc Cert.MergeBwdRefIdeal.main_arg3) = m ((c.tc : Thread Cert.MergeBwdIdeal.nD Cert.MergeBwdIdeal.τ).loc Cert.MergeBwdIdeal.main_arg3)
      ∧ m' ((c.tc : Thread Cert.MergeBwdRefIdeal.nD Cert.MergeBwdRefIdeal.τ).loc Cert.MergeBwdRefIdeal.main_arg4) = m ((c.tc : Thread Cert.MergeBwdIdeal.nD Cert.MergeBwdIdeal.τ).loc Cert.MergeBwdIdeal.main_arg4)
      ∧ m' ((c.tc : Thread Cert.MergeBwdRefIdeal.nD Cert.MergeBwdRefIdeal.τ).loc Cert.MergeBwdRefIdeal.main_arg5) = m ((c.tc : Thread Cert.MergeBwdIdeal.nD Cert.MergeBwdIdeal.τ).loc Cert.MergeBwdIdeal.main_arg5)
      ∧ m' ((c.tc : Thread Cert.MergeBwdRefIdeal.nD Cert.MergeBwdRefIdeal.τ).loc Cert.MergeBwdRefIdeal.main_arg6) = m ((c.tc : Thread Cert.MergeBwdIdeal.nD Cert.MergeBwdIdeal.τ).loc Cert.MergeBwdIdeal.main_arg6)) →
    ∃ (v0 : (c : Dev Cert.MergeBwdIdeal.nD) → Buf (Elt Ideal) ((c.tc : Thread Cert.MergeBwdIdeal.nD Cert.MergeBwdIdeal.τ).loc Cert.MergeBwdIdeal.main_v34_0)) (v1 : (c : Dev Cert.MergeBwdIdeal.nD) → Buf (Elt Ideal) ((c.tc : Thread Cert.MergeBwdIdeal.nD Cert.MergeBwdIdeal.τ).loc Cert.MergeBwdIdeal.main_v34_1)) (v2 : (c : Dev Cert.MergeBwdIdeal.nD) → Buf (Elt Ideal) ((c.tc : Thread Cert.MergeBwdIdeal.nD Cert.MergeBwdIdeal.τ).loc Cert.MergeBwdIdeal.main_v34_2)) (v3 : (c : Dev Cert.MergeBwdIdeal.nD) → Buf (Elt Ideal) ((c.tc : Thread Cert.MergeBwdIdeal.nD Cert.MergeBwdIdeal.τ).loc Cert.MergeBwdIdeal.main_v34_3)) (v4 : (c : Dev Cert.MergeBwdIdeal.nD) → Buf (Elt Ideal) ((c.tc : Thread Cert.MergeBwdIdeal.nD Cert.MergeBwdIdeal.τ).loc Cert.MergeBwdIdeal.main_v34_4)),
      θ_run (Cert.MergeBwdIdeal.defs (F := Ideal)) (onTc (τ := Cert.MergeBwdIdeal.τ) (Cert.MergeBwdIdeal.main (F := Ideal))) ⟨m, fun _ => 0, g⟩ (fun r => ∀ c : Dev Cert.MergeBwdIdeal.nD,
          r.2.mem ((c.tc : Thread Cert.MergeBwdIdeal.nD Cert.MergeBwdIdeal.τ).loc Cert.MergeBwdIdeal.main_v34_0) = v0 c
          ∧ r.2.mem ((c.tc : Thread Cert.MergeBwdIdeal.nD Cert.MergeBwdIdeal.τ).loc Cert.MergeBwdIdeal.main_v34_1) = v1 c
          ∧ r.2.mem ((c.tc : Thread Cert.MergeBwdIdeal.nD Cert.MergeBwdIdeal.τ).loc Cert.MergeBwdIdeal.main_v34_2) = v2 c
          ∧ r.2.mem ((c.tc : Thread Cert.MergeBwdIdeal.nD Cert.MergeBwdIdeal.τ).loc Cert.MergeBwdIdeal.main_v34_3) = v3 c
          ∧ r.2.mem ((c.tc : Thread Cert.MergeBwdIdeal.nD Cert.MergeBwdIdeal.τ).loc Cert.MergeBwdIdeal.main_v34_4) = v4 c
          ∧ r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
          ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
          ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
          ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
          ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4)
          ∧ r.2.mem ((c.tc : Thread Cert.MergeBwdIdeal.nD Cert.MergeBwdIdeal.τ).loc Cert.MergeBwdIdeal.main_arg5) = m ((c.tc : Thread Cert.MergeBwdIdeal.nD Cert.MergeBwdIdeal.τ).loc Cert.MergeBwdIdeal.main_arg5)
          ∧ r.2.mem ((c.tc : Thread Cert.MergeBwdIdeal.nD Cert.MergeBwdIdeal.τ).loc Cert.MergeBwdIdeal.main_arg6) = m ((c.tc : Thread Cert.MergeBwdIdeal.nD Cert.MergeBwdIdeal.τ).loc Cert.MergeBwdIdeal.main_arg6))
      ∧ θ_run (Cert.MergeBwdRefIdeal.defs (F := Ideal)) (onTc (τ := Cert.MergeBwdRefIdeal.τ) (Cert.MergeBwdRefIdeal.main (F := Ideal))) ⟨m', fun _ => 0, g'⟩ (fun r => ∀ c : Dev Cert.MergeBwdRefIdeal.nD,
          r.2.mem ((c.tc : Thread Cert.MergeBwdRefIdeal.nD Cert.MergeBwdRefIdeal.τ).loc Cert.MergeBwdRefIdeal.main_v31) = v0 c
          ∧ r.2.mem ((c.tc : Thread Cert.MergeBwdRefIdeal.nD Cert.MergeBwdRefIdeal.τ).loc Cert.MergeBwdRefIdeal.main_v32) = v1 c
          ∧ r.2.mem ((c.tc : Thread Cert.MergeBwdRefIdeal.nD Cert.MergeBwdRefIdeal.τ).loc Cert.MergeBwdRefIdeal.main_v33) = v2 c
          ∧ r.2.mem ((c.tc : Thread Cert.MergeBwdRefIdeal.nD Cert.MergeBwdRefIdeal.τ).loc Cert.MergeBwdRefIdeal.main_v34) = v3 c
          ∧ r.2.mem ((c.tc : Thread Cert.MergeBwdRefIdeal.nD Cert.MergeBwdRefIdeal.τ).loc Cert.MergeBwdRefIdeal.main_v35) = v4 c
          ∧ r.2.mem ((c.tc : Thread Cert.MergeBwdRefIdeal.nD Cert.MergeBwdRefIdeal.τ).loc Cert.MergeBwdRefIdeal.main_arg0) = m' ((c.tc : Thread Cert.MergeBwdRefIdeal.nD Cert.MergeBwdRefIdeal.τ).loc Cert.MergeBwdRefIdeal.main_arg0)
          ∧ r.2.mem ((c.tc : Thread Cert.MergeBwdRefIdeal.nD Cert.MergeBwdRefIdeal.τ).loc Cert.MergeBwdRefIdeal.main_arg1) = m' ((c.tc : Thread Cert.MergeBwdRefIdeal.nD Cert.MergeBwdRefIdeal.τ).loc Cert.MergeBwdRefIdeal.main_arg1)
          ∧ r.2.mem ((c.tc : Thread Cert.MergeBwdRefIdeal.nD Cert.MergeBwdRefIdeal.τ).loc Cert.MergeBwdRefIdeal.main_arg2) = m' ((c.tc : Thread Cert.MergeBwdRefIdeal.nD Cert.MergeBwdRefIdeal.τ).loc Cert.MergeBwdRefIdeal.main_arg2)
          ∧ r.2.mem ((c.tc : Thread Cert.MergeBwdRefIdeal.nD Cert.MergeBwdRefIdeal.τ).loc Cert.MergeBwdRefIdeal.main_arg3) = m' ((c.tc : Thread Cert.MergeBwdRefIdeal.nD Cert.MergeBwdRefIdeal.τ).loc Cert.MergeBwdRefIdeal.main_arg3)
          ∧ r.2.mem ((c.tc : Thread Cert.MergeBwdRefIdeal.nD Cert.MergeBwdRefIdeal.τ).loc Cert.MergeBwdRefIdeal.main_arg4) = m' ((c.tc : Thread Cert.MergeBwdRefIdeal.nD Cert.MergeBwdRefIdeal.τ).loc Cert.MergeBwdRefIdeal.main_arg4)
          ∧ r.2.mem ((c.tc : Thread Cert.MergeBwdRefIdeal.nD Cert.MergeBwdRefIdeal.τ).loc Cert.MergeBwdRefIdeal.main_arg5) = m' ((c.tc : Thread Cert.MergeBwdRefIdeal.nD Cert.MergeBwdRefIdeal.τ).loc Cert.MergeBwdRefIdeal.main_arg5)
          ∧ r.2.mem ((c.tc : Thread Cert.MergeBwdRefIdeal.nD Cert.MergeBwdRefIdeal.τ).loc Cert.MergeBwdRefIdeal.main_arg6) = m' ((c.tc : Thread Cert.MergeBwdRefIdeal.nD Cert.MergeBwdRefIdeal.τ).loc Cert.MergeBwdRefIdeal.main_arg6))

def preserves_BranchDw_BranchDwIdeal : Prop :=
  True

def algebraic_BranchDwIdeal_BranchDwRefIdeal [hBranchDwIdeal : Cert.BranchDwIdeal.Facts] [hBranchDwRefIdeal : Cert.BranchDwRefIdeal.Facts] : Prop :=
  ∀ (m : (ℓ : Loc Cert.BranchDwIdeal.nD Cert.BranchDwIdeal.τ Cert.BranchDwIdeal.sig) → Buf (Elt Ideal) ℓ) (g : Dev Cert.BranchDwIdeal.nD → PrngReg)
    (m' : (ℓ : Loc Cert.BranchDwRefIdeal.nD Cert.BranchDwRefIdeal.τ Cert.BranchDwRefIdeal.sig) → Buf (Elt Ideal) ℓ) (g' : Dev Cert.BranchDwRefIdeal.nD → PrngReg), Pre_BranchDwIdeal m →
    (∀ c : Dev Cert.BranchDwIdeal.nD,
      m' ((c.tc : Thread Cert.BranchDwRefIdeal.nD Cert.BranchDwRefIdeal.τ).loc Cert.BranchDwRefIdeal.main_arg0) = m ((c.tc : Thread Cert.BranchDwIdeal.nD Cert.BranchDwIdeal.τ).loc Cert.BranchDwIdeal.main_arg0)
      ∧ m' ((c.tc : Thread Cert.BranchDwRefIdeal.nD Cert.BranchDwRefIdeal.τ).loc Cert.BranchDwRefIdeal.main_arg1) = m ((c.tc : Thread Cert.BranchDwIdeal.nD Cert.BranchDwIdeal.τ).loc Cert.BranchDwIdeal.main_arg1)) →
    ∃ (v0 : (c : Dev Cert.BranchDwIdeal.nD) → Buf (Elt Ideal) ((c.tc : Thread Cert.BranchDwIdeal.nD Cert.BranchDwIdeal.τ).loc Cert.BranchDwIdeal.main_v0)),
      θ_run (Cert.BranchDwIdeal.defs (F := Ideal)) (onTc (τ := Cert.BranchDwIdeal.τ) (Cert.BranchDwIdeal.main (F := Ideal))) ⟨m, fun _ => 0, g⟩ (fun r => ∀ c : Dev Cert.BranchDwIdeal.nD,
          r.2.mem ((c.tc : Thread Cert.BranchDwIdeal.nD Cert.BranchDwIdeal.τ).loc Cert.BranchDwIdeal.main_v0) = v0 c
          ∧ r.2.mem ((c.tc : Thread Cert.BranchDwIdeal.nD Cert.BranchDwIdeal.τ).loc Cert.BranchDwIdeal.main_arg0) = m ((c.tc : Thread Cert.BranchDwIdeal.nD Cert.BranchDwIdeal.τ).loc Cert.BranchDwIdeal.main_arg0)
          ∧ r.2.mem ((c.tc : Thread Cert.BranchDwIdeal.nD Cert.BranchDwIdeal.τ).loc Cert.BranchDwIdeal.main_arg1) = m ((c.tc : Thread Cert.BranchDwIdeal.nD Cert.BranchDwIdeal.τ).loc Cert.BranchDwIdeal.main_arg1))
      ∧ θ_run (Cert.BranchDwRefIdeal.defs (F := Ideal)) (onTc (τ := Cert.BranchDwRefIdeal.τ) (Cert.BranchDwRefIdeal.main (F := Ideal))) ⟨m', fun _ => 0, g'⟩ (fun r => ∀ c : Dev Cert.BranchDwRefIdeal.nD,
          r.2.mem ((c.tc : Thread Cert.BranchDwRefIdeal.nD Cert.BranchDwRefIdeal.τ).loc Cert.BranchDwRefIdeal.main_v15) = v0 c
          ∧ r.2.mem ((c.tc : Thread Cert.BranchDwRefIdeal.nD Cert.BranchDwRefIdeal.τ).loc Cert.BranchDwRefIdeal.main_arg0) = m' ((c.tc : Thread Cert.BranchDwRefIdeal.nD Cert.BranchDwRefIdeal.τ).loc Cert.BranchDwRefIdeal.main_arg0)
          ∧ r.2.mem ((c.tc : Thread Cert.BranchDwRefIdeal.nD Cert.BranchDwRefIdeal.τ).loc Cert.BranchDwRefIdeal.main_arg1) = m' ((c.tc : Thread Cert.BranchDwRefIdeal.nD Cert.BranchDwRefIdeal.τ).loc Cert.BranchDwRefIdeal.main_arg1))

def preserves_MixDwin_MixDwinIdeal : Prop :=
  True

def algebraic_MixDwinIdeal_MixDwinRefIdeal [hMixDwinIdeal : Cert.MixDwinIdeal.Facts] [hMixDwinRefIdeal : Cert.MixDwinRefIdeal.Facts] : Prop :=
  ∀ (m : (ℓ : Loc Cert.MixDwinIdeal.nD Cert.MixDwinIdeal.τ Cert.MixDwinIdeal.sig) → Buf (Elt Ideal) ℓ) (g : Dev Cert.MixDwinIdeal.nD → PrngReg)
    (m' : (ℓ : Loc Cert.MixDwinRefIdeal.nD Cert.MixDwinRefIdeal.τ Cert.MixDwinRefIdeal.sig) → Buf (Elt Ideal) ℓ) (g' : Dev Cert.MixDwinRefIdeal.nD → PrngReg), Pre_MixDwinIdeal m →
    (∀ c : Dev Cert.MixDwinIdeal.nD,
      m' ((c.tc : Thread Cert.MixDwinRefIdeal.nD Cert.MixDwinRefIdeal.τ).loc Cert.MixDwinRefIdeal.main_arg0) = m ((c.tc : Thread Cert.MixDwinIdeal.nD Cert.MixDwinIdeal.τ).loc Cert.MixDwinIdeal.main_arg0)
      ∧ m' ((c.tc : Thread Cert.MixDwinRefIdeal.nD Cert.MixDwinRefIdeal.τ).loc Cert.MixDwinRefIdeal.main_arg1) = m ((c.tc : Thread Cert.MixDwinIdeal.nD Cert.MixDwinIdeal.τ).loc Cert.MixDwinIdeal.main_arg1)
      ∧ m' ((c.tc : Thread Cert.MixDwinRefIdeal.nD Cert.MixDwinRefIdeal.τ).loc Cert.MixDwinRefIdeal.main_arg2) = m ((c.tc : Thread Cert.MixDwinIdeal.nD Cert.MixDwinIdeal.τ).loc Cert.MixDwinIdeal.main_arg2)
      ∧ m' ((c.tc : Thread Cert.MixDwinRefIdeal.nD Cert.MixDwinRefIdeal.τ).loc Cert.MixDwinRefIdeal.main_arg3) = m ((c.tc : Thread Cert.MixDwinIdeal.nD Cert.MixDwinIdeal.τ).loc Cert.MixDwinIdeal.main_arg3)
      ∧ m' ((c.tc : Thread Cert.MixDwinRefIdeal.nD Cert.MixDwinRefIdeal.τ).loc Cert.MixDwinRefIdeal.main_arg4) = m ((c.tc : Thread Cert.MixDwinIdeal.nD Cert.MixDwinIdeal.τ).loc Cert.MixDwinIdeal.main_arg4)) →
    ∃ (v0 : (c : Dev Cert.MixDwinIdeal.nD) → Buf (Elt Ideal) ((c.tc : Thread Cert.MixDwinIdeal.nD Cert.MixDwinIdeal.τ).loc Cert.MixDwinIdeal.main_v0)),
      θ_run (Cert.MixDwinIdeal.defs (F := Ideal)) (onTc (τ := Cert.MixDwinIdeal.τ) (Cert.MixDwinIdeal.main (F := Ideal))) ⟨m, fun _ => 0, g⟩ (fun r => ∀ c : Dev Cert.MixDwinIdeal.nD,
          r.2.mem ((c.tc : Thread Cert.MixDwinIdeal.nD Cert.MixDwinIdeal.τ).loc Cert.MixDwinIdeal.main_v0) = v0 c
          ∧ r.2.mem ((c.tc : Thread Cert.MixDwinIdeal.nD Cert.MixDwinIdeal.τ).loc Cert.MixDwinIdeal.main_arg0) = m ((c.tc : Thread Cert.MixDwinIdeal.nD Cert.MixDwinIdeal.τ).loc Cert.MixDwinIdeal.main_arg0)
          ∧ r.2.mem ((c.tc : Thread Cert.MixDwinIdeal.nD Cert.MixDwinIdeal.τ).loc Cert.MixDwinIdeal.main_arg1) = m ((c.tc : Thread Cert.MixDwinIdeal.nD Cert.MixDwinIdeal.τ).loc Cert.MixDwinIdeal.main_arg1)
          ∧ r.2.mem ((c.tc : Thread Cert.MixDwinIdeal.nD Cert.MixDwinIdeal.τ).loc Cert.MixDwinIdeal.main_arg2) = m ((c.tc : Thread Cert.MixDwinIdeal.nD Cert.MixDwinIdeal.τ).loc Cert.MixDwinIdeal.main_arg2)
          ∧ r.2.mem ((c.tc : Thread Cert.MixDwinIdeal.nD Cert.MixDwinIdeal.τ).loc Cert.MixDwinIdeal.main_arg3) = m ((c.tc : Thread Cert.MixDwinIdeal.nD Cert.MixDwinIdeal.τ).loc Cert.MixDwinIdeal.main_arg3)
          ∧ r.2.mem ((c.tc : Thread Cert.MixDwinIdeal.nD Cert.MixDwinIdeal.τ).loc Cert.MixDwinIdeal.main_arg4) = m ((c.tc : Thread Cert.MixDwinIdeal.nD Cert.MixDwinIdeal.τ).loc Cert.MixDwinIdeal.main_arg4))
      ∧ θ_run (Cert.MixDwinRefIdeal.defs (F := Ideal)) (onTc (τ := Cert.MixDwinRefIdeal.τ) (Cert.MixDwinRefIdeal.main (F := Ideal))) ⟨m', fun _ => 0, g'⟩ (fun r => ∀ c : Dev Cert.MixDwinRefIdeal.nD,
          r.2.mem ((c.tc : Thread Cert.MixDwinRefIdeal.nD Cert.MixDwinRefIdeal.τ).loc Cert.MixDwinRefIdeal.main_v6) = v0 c
          ∧ r.2.mem ((c.tc : Thread Cert.MixDwinRefIdeal.nD Cert.MixDwinRefIdeal.τ).loc Cert.MixDwinRefIdeal.main_arg0) = m' ((c.tc : Thread Cert.MixDwinRefIdeal.nD Cert.MixDwinRefIdeal.τ).loc Cert.MixDwinRefIdeal.main_arg0)
          ∧ r.2.mem ((c.tc : Thread Cert.MixDwinRefIdeal.nD Cert.MixDwinRefIdeal.τ).loc Cert.MixDwinRefIdeal.main_arg1) = m' ((c.tc : Thread Cert.MixDwinRefIdeal.nD Cert.MixDwinRefIdeal.τ).loc Cert.MixDwinRefIdeal.main_arg1)
          ∧ r.2.mem ((c.tc : Thread Cert.MixDwinRefIdeal.nD Cert.MixDwinRefIdeal.τ).loc Cert.MixDwinRefIdeal.main_arg2) = m' ((c.tc : Thread Cert.MixDwinRefIdeal.nD Cert.MixDwinRefIdeal.τ).loc Cert.MixDwinRefIdeal.main_arg2)
          ∧ r.2.mem ((c.tc : Thread Cert.MixDwinRefIdeal.nD Cert.MixDwinRefIdeal.τ).loc Cert.MixDwinRefIdeal.main_arg3) = m' ((c.tc : Thread Cert.MixDwinRefIdeal.nD Cert.MixDwinRefIdeal.τ).loc Cert.MixDwinRefIdeal.main_arg3)
          ∧ r.2.mem ((c.tc : Thread Cert.MixDwinRefIdeal.nD Cert.MixDwinRefIdeal.τ).loc Cert.MixDwinRefIdeal.main_arg4) = m' ((c.tc : Thread Cert.MixDwinRefIdeal.nD Cert.MixDwinRefIdeal.τ).loc Cert.MixDwinRefIdeal.main_arg4))

def preserves_MixNormBwd_MixNormBwdIdeal : Prop :=
  True

def algebraic_MixNormBwdIdeal_MixNormBwdRefIdeal [hMixNormBwdIdeal : Cert.MixNormBwdIdeal.Facts] [hMixNormBwdRefIdeal : Cert.MixNormBwdRefIdeal.Facts] : Prop :=
  ∀ (m : (ℓ : Loc Cert.MixNormBwdIdeal.nD Cert.MixNormBwdIdeal.τ Cert.MixNormBwdIdeal.sig) → Buf (Elt Ideal) ℓ) (g : Dev Cert.MixNormBwdIdeal.nD → PrngReg)
    (m' : (ℓ : Loc Cert.MixNormBwdRefIdeal.nD Cert.MixNormBwdRefIdeal.τ Cert.MixNormBwdRefIdeal.sig) → Buf (Elt Ideal) ℓ) (g' : Dev Cert.MixNormBwdRefIdeal.nD → PrngReg), Pre_MixNormBwdIdeal m →
    (∀ c : Dev Cert.MixNormBwdIdeal.nD,
      m' ((c.tc : Thread Cert.MixNormBwdRefIdeal.nD Cert.MixNormBwdRefIdeal.τ).loc Cert.MixNormBwdRefIdeal.main_arg0) = m ((c.tc : Thread Cert.MixNormBwdIdeal.nD Cert.MixNormBwdIdeal.τ).loc Cert.MixNormBwdIdeal.main_arg0)
      ∧ m' ((c.tc : Thread Cert.MixNormBwdRefIdeal.nD Cert.MixNormBwdRefIdeal.τ).loc Cert.MixNormBwdRefIdeal.main_arg1) = m ((c.tc : Thread Cert.MixNormBwdIdeal.nD Cert.MixNormBwdIdeal.τ).loc Cert.MixNormBwdIdeal.main_arg1)
      ∧ m' ((c.tc : Thread Cert.MixNormBwdRefIdeal.nD Cert.MixNormBwdRefIdeal.τ).loc Cert.MixNormBwdRefIdeal.main_arg2) = m ((c.tc : Thread Cert.MixNormBwdIdeal.nD Cert.MixNormBwdIdeal.τ).loc Cert.MixNormBwdIdeal.main_arg2)
      ∧ m' ((c.tc : Thread Cert.MixNormBwdRefIdeal.nD Cert.MixNormBwdRefIdeal.τ).loc Cert.MixNormBwdRefIdeal.main_arg3) = m ((c.tc : Thread Cert.MixNormBwdIdeal.nD Cert.MixNormBwdIdeal.τ).loc Cert.MixNormBwdIdeal.main_arg3)
      ∧ m' ((c.tc : Thread Cert.MixNormBwdRefIdeal.nD Cert.MixNormBwdRefIdeal.τ).loc Cert.MixNormBwdRefIdeal.main_arg4) = m ((c.tc : Thread Cert.MixNormBwdIdeal.nD Cert.MixNormBwdIdeal.τ).loc Cert.MixNormBwdIdeal.main_arg4)
      ∧ m' ((c.tc : Thread Cert.MixNormBwdRefIdeal.nD Cert.MixNormBwdRefIdeal.τ).loc Cert.MixNormBwdRefIdeal.main_arg5) = m ((c.tc : Thread Cert.MixNormBwdIdeal.nD Cert.MixNormBwdIdeal.τ).loc Cert.MixNormBwdIdeal.main_arg5)
      ∧ m' ((c.tc : Thread Cert.MixNormBwdRefIdeal.nD Cert.MixNormBwdRefIdeal.τ).loc Cert.MixNormBwdRefIdeal.main_arg6) = m ((c.tc : Thread Cert.MixNormBwdIdeal.nD Cert.MixNormBwdIdeal.τ).loc Cert.MixNormBwdIdeal.main_arg6)
      ∧ m' ((c.tc : Thread Cert.MixNormBwdRefIdeal.nD Cert.MixNormBwdRefIdeal.τ).loc Cert.MixNormBwdRefIdeal.main_arg7) = m ((c.tc : Thread Cert.MixNormBwdIdeal.nD Cert.MixNormBwdIdeal.τ).loc Cert.MixNormBwdIdeal.main_arg7)) →
    ∃ (v0 : (c : Dev Cert.MixNormBwdIdeal.nD) → Buf (Elt Ideal) ((c.tc : Thread Cert.MixNormBwdIdeal.nD Cert.MixNormBwdIdeal.τ).loc Cert.MixNormBwdIdeal.main_v1_0)) (v1 : (c : Dev Cert.MixNormBwdIdeal.nD) → Buf (Elt Ideal) ((c.tc : Thread Cert.MixNormBwdIdeal.nD Cert.MixNormBwdIdeal.τ).loc Cert.MixNormBwdIdeal.main_v1_1)),
      θ_run (Cert.MixNormBwdIdeal.defs (F := Ideal)) (onTc (τ := Cert.MixNormBwdIdeal.τ) (Cert.MixNormBwdIdeal.main (F := Ideal))) ⟨m, fun _ => 0, g⟩ (fun r => ∀ c : Dev Cert.MixNormBwdIdeal.nD,
          r.2.mem ((c.tc : Thread Cert.MixNormBwdIdeal.nD Cert.MixNormBwdIdeal.τ).loc Cert.MixNormBwdIdeal.main_v1_0) = v0 c
          ∧ r.2.mem ((c.tc : Thread Cert.MixNormBwdIdeal.nD Cert.MixNormBwdIdeal.τ).loc Cert.MixNormBwdIdeal.main_v1_1) = v1 c
          ∧ r.2.mem ((c.tc : Thread Cert.MixNormBwdIdeal.nD Cert.MixNormBwdIdeal.τ).loc Cert.MixNormBwdIdeal.main_arg0) = m ((c.tc : Thread Cert.MixNormBwdIdeal.nD Cert.MixNormBwdIdeal.τ).loc Cert.MixNormBwdIdeal.main_arg0)
          ∧ r.2.mem ((c.tc : Thread Cert.MixNormBwdIdeal.nD Cert.MixNormBwdIdeal.τ).loc Cert.MixNormBwdIdeal.main_arg1) = m ((c.tc : Thread Cert.MixNormBwdIdeal.nD Cert.MixNormBwdIdeal.τ).loc Cert.MixNormBwdIdeal.main_arg1)
          ∧ r.2.mem ((c.tc : Thread Cert.MixNormBwdIdeal.nD Cert.MixNormBwdIdeal.τ).loc Cert.MixNormBwdIdeal.main_arg2) = m ((c.tc : Thread Cert.MixNormBwdIdeal.nD Cert.MixNormBwdIdeal.τ).loc Cert.MixNormBwdIdeal.main_arg2)
          ∧ r.2.mem ((c.tc : Thread Cert.MixNormBwdIdeal.nD Cert.MixNormBwdIdeal.τ).loc Cert.MixNormBwdIdeal.main_arg3) = m ((c.tc : Thread Cert.MixNormBwdIdeal.nD Cert.MixNormBwdIdeal.τ).loc Cert.MixNormBwdIdeal.main_arg3)
          ∧ r.2.mem ((c.tc : Thread Cert.MixNormBwdIdeal.nD Cert.MixNormBwdIdeal.τ).loc Cert.MixNormBwdIdeal.main_arg4) = m ((c.tc : Thread Cert.MixNormBwdIdeal.nD Cert.MixNormBwdIdeal.τ).loc Cert.MixNormBwdIdeal.main_arg4)
          ∧ r.2.mem ((c.tc : Thread Cert.MixNormBwdIdeal.nD Cert.MixNormBwdIdeal.τ).loc Cert.MixNormBwdIdeal.main_arg5) = m ((c.tc : Thread Cert.MixNormBwdIdeal.nD Cert.MixNormBwdIdeal.τ).loc Cert.MixNormBwdIdeal.main_arg5)
          ∧ r.2.mem ((c.tc : Thread Cert.MixNormBwdIdeal.nD Cert.MixNormBwdIdeal.τ).loc Cert.MixNormBwdIdeal.main_arg6) = m ((c.tc : Thread Cert.MixNormBwdIdeal.nD Cert.MixNormBwdIdeal.τ).loc Cert.MixNormBwdIdeal.main_arg6)
          ∧ r.2.mem ((c.tc : Thread Cert.MixNormBwdIdeal.nD Cert.MixNormBwdIdeal.τ).loc Cert.MixNormBwdIdeal.main_arg7) = m ((c.tc : Thread Cert.MixNormBwdIdeal.nD Cert.MixNormBwdIdeal.τ).loc Cert.MixNormBwdIdeal.main_arg7))
      ∧ θ_run (Cert.MixNormBwdRefIdeal.defs (F := Ideal)) (onTc (τ := Cert.MixNormBwdRefIdeal.τ) (Cert.MixNormBwdRefIdeal.main (F := Ideal))) ⟨m', fun _ => 0, g'⟩ (fun r => ∀ c : Dev Cert.MixNormBwdRefIdeal.nD,
          r.2.mem ((c.tc : Thread Cert.MixNormBwdRefIdeal.nD Cert.MixNormBwdRefIdeal.τ).loc Cert.MixNormBwdRefIdeal.main_v41) = v0 c
          ∧ r.2.mem ((c.tc : Thread Cert.MixNormBwdRefIdeal.nD Cert.MixNormBwdRefIdeal.τ).loc Cert.MixNormBwdRefIdeal.main_v42) = v1 c
          ∧ r.2.mem ((c.tc : Thread Cert.MixNormBwdRefIdeal.nD Cert.MixNormBwdRefIdeal.τ).loc Cert.MixNormBwdRefIdeal.main_arg0) = m' ((c.tc : Thread Cert.MixNormBwdRefIdeal.nD Cert.MixNormBwdRefIdeal.τ).loc Cert.MixNormBwdRefIdeal.main_arg0)
          ∧ r.2.mem ((c.tc : Thread Cert.MixNormBwdRefIdeal.nD Cert.MixNormBwdRefIdeal.τ).loc Cert.MixNormBwdRefIdeal.main_arg1) = m' ((c.tc : Thread Cert.MixNormBwdRefIdeal.nD Cert.MixNormBwdRefIdeal.τ).loc Cert.MixNormBwdRefIdeal.main_arg1)
          ∧ r.2.mem ((c.tc : Thread Cert.MixNormBwdRefIdeal.nD Cert.MixNormBwdRefIdeal.τ).loc Cert.MixNormBwdRefIdeal.main_arg2) = m' ((c.tc : Thread Cert.MixNormBwdRefIdeal.nD Cert.MixNormBwdRefIdeal.τ).loc Cert.MixNormBwdRefIdeal.main_arg2)
          ∧ r.2.mem ((c.tc : Thread Cert.MixNormBwdRefIdeal.nD Cert.MixNormBwdRefIdeal.τ).loc Cert.MixNormBwdRefIdeal.main_arg3) = m' ((c.tc : Thread Cert.MixNormBwdRefIdeal.nD Cert.MixNormBwdRefIdeal.τ).loc Cert.MixNormBwdRefIdeal.main_arg3)
          ∧ r.2.mem ((c.tc : Thread Cert.MixNormBwdRefIdeal.nD Cert.MixNormBwdRefIdeal.τ).loc Cert.MixNormBwdRefIdeal.main_arg4) = m' ((c.tc : Thread Cert.MixNormBwdRefIdeal.nD Cert.MixNormBwdRefIdeal.τ).loc Cert.MixNormBwdRefIdeal.main_arg4)
          ∧ r.2.mem ((c.tc : Thread Cert.MixNormBwdRefIdeal.nD Cert.MixNormBwdRefIdeal.τ).loc Cert.MixNormBwdRefIdeal.main_arg5) = m' ((c.tc : Thread Cert.MixNormBwdRefIdeal.nD Cert.MixNormBwdRefIdeal.τ).loc Cert.MixNormBwdRefIdeal.main_arg5)
          ∧ r.2.mem ((c.tc : Thread Cert.MixNormBwdRefIdeal.nD Cert.MixNormBwdRefIdeal.τ).loc Cert.MixNormBwdRefIdeal.main_arg6) = m' ((c.tc : Thread Cert.MixNormBwdRefIdeal.nD Cert.MixNormBwdRefIdeal.τ).loc Cert.MixNormBwdRefIdeal.main_arg6)
          ∧ r.2.mem ((c.tc : Thread Cert.MixNormBwdRefIdeal.nD Cert.MixNormBwdRefIdeal.τ).loc Cert.MixNormBwdRefIdeal.main_arg7) = m' ((c.tc : Thread Cert.MixNormBwdRefIdeal.nD Cert.MixNormBwdRefIdeal.τ).loc Cert.MixNormBwdRefIdeal.main_arg7))

def preserves_AdamGu_AdamGuIdeal : Prop :=
  True

def algebraic_AdamGuIdeal_AdamGuRefIdeal [hAdamGuIdeal : Cert.AdamGuIdeal.Facts] [hAdamGuRefIdeal : Cert.AdamGuRefIdeal.Facts] : Prop :=
  ∀ (m : (ℓ : Loc Cert.AdamGuIdeal.nD Cert.AdamGuIdeal.τ Cert.AdamGuIdeal.sig) → Buf (Elt Ideal) ℓ) (g : Dev Cert.AdamGuIdeal.nD → PrngReg)
    (m' : (ℓ : Loc Cert.AdamGuRefIdeal.nD Cert.AdamGuRefIdeal.τ Cert.AdamGuRefIdeal.sig) → Buf (Elt Ideal) ℓ) (g' : Dev Cert.AdamGuRefIdeal.nD → PrngReg), Pre_AdamGuIdeal m →
    (∀ c : Dev Cert.AdamGuIdeal.nD,
      m' ((c.tc : Thread Cert.AdamGuRefIdeal.nD Cert.AdamGuRefIdeal.τ).loc Cert.AdamGuRefIdeal.main_arg0) = m ((c.tc : Thread Cert.AdamGuIdeal.nD Cert.AdamGuIdeal.τ).loc Cert.AdamGuIdeal.main_arg0)
      ∧ m' ((c.tc : Thread Cert.AdamGuRefIdeal.nD Cert.AdamGuRefIdeal.τ).loc Cert.AdamGuRefIdeal.main_arg1) = m ((c.tc : Thread Cert.AdamGuIdeal.nD Cert.AdamGuIdeal.τ).loc Cert.AdamGuIdeal.main_arg1)
      ∧ m' ((c.tc : Thread Cert.AdamGuRefIdeal.nD Cert.AdamGuRefIdeal.τ).loc Cert.AdamGuRefIdeal.main_arg2) = m ((c.tc : Thread Cert.AdamGuIdeal.nD Cert.AdamGuIdeal.τ).loc Cert.AdamGuIdeal.main_arg2)
      ∧ m' ((c.tc : Thread Cert.AdamGuRefIdeal.nD Cert.AdamGuRefIdeal.τ).loc Cert.AdamGuRefIdeal.main_arg3) = m ((c.tc : Thread Cert.AdamGuIdeal.nD Cert.AdamGuIdeal.τ).loc Cert.AdamGuIdeal.main_arg3)) →
    ∃ (v0 : (c : Dev Cert.AdamGuIdeal.nD) → Buf (Elt Ideal) ((c.tc : Thread Cert.AdamGuIdeal.nD Cert.AdamGuIdeal.τ).loc Cert.AdamGuIdeal.main_v4_1)) (v1 : (c : Dev Cert.AdamGuIdeal.nD) → Buf (Elt Ideal) ((c.tc : Thread Cert.AdamGuIdeal.nD Cert.AdamGuIdeal.τ).loc Cert.AdamGuIdeal.main_v4_2)) (v2 : (c : Dev Cert.AdamGuIdeal.nD) → Buf (Elt Ideal) ((c.tc : Thread Cert.AdamGuIdeal.nD Cert.AdamGuIdeal.τ).loc Cert.AdamGuIdeal.main_v4_3)),
      θ_run (Cert.AdamGuIdeal.defs (F := Ideal)) (onTc (τ := Cert.AdamGuIdeal.τ) (Cert.AdamGuIdeal.main (F := Ideal))) ⟨m, fun _ => 0, g⟩ (fun r => ∀ c : Dev Cert.AdamGuIdeal.nD,
          r.2.mem ((c.tc : Thread Cert.AdamGuIdeal.nD Cert.AdamGuIdeal.τ).loc Cert.AdamGuIdeal.main_v4_1) = v0 c
          ∧ r.2.mem ((c.tc : Thread Cert.AdamGuIdeal.nD Cert.AdamGuIdeal.τ).loc Cert.AdamGuIdeal.main_v4_2) = v1 c
          ∧ r.2.mem ((c.tc : Thread Cert.AdamGuIdeal.nD Cert.AdamGuIdeal.τ).loc Cert.AdamGuIdeal.main_v4_3) = v2 c
          ∧ r.2.mem ((c.tc : Thread Cert.AdamGuIdeal.nD Cert.AdamGuIdeal.τ).loc Cert.AdamGuIdeal.main_arg0) = m ((c.tc : Thread Cert.AdamGuIdeal.nD Cert.AdamGuIdeal.τ).loc Cert.AdamGuIdeal.main_arg0)
          ∧ r.2.mem ((c.tc : Thread Cert.AdamGuIdeal.nD Cert.AdamGuIdeal.τ).loc Cert.AdamGuIdeal.main_arg1) = m ((c.tc : Thread Cert.AdamGuIdeal.nD Cert.AdamGuIdeal.τ).loc Cert.AdamGuIdeal.main_arg1)
          ∧ r.2.mem ((c.tc : Thread Cert.AdamGuIdeal.nD Cert.AdamGuIdeal.τ).loc Cert.AdamGuIdeal.main_arg2) = m ((c.tc : Thread Cert.AdamGuIdeal.nD Cert.AdamGuIdeal.τ).loc Cert.AdamGuIdeal.main_arg2)
          ∧ r.2.mem ((c.tc : Thread Cert.AdamGuIdeal.nD Cert.AdamGuIdeal.τ).loc Cert.AdamGuIdeal.main_arg3) = m ((c.tc : Thread Cert.AdamGuIdeal.nD Cert.AdamGuIdeal.τ).loc Cert.AdamGuIdeal.main_arg3))
      ∧ θ_run (Cert.AdamGuRefIdeal.defs (F := Ideal)) (onTc (τ := Cert.AdamGuRefIdeal.τ) (Cert.AdamGuRefIdeal.main (F := Ideal))) ⟨m', fun _ => 0, g'⟩ (fun r => ∀ c : Dev Cert.AdamGuRefIdeal.nD,
          r.2.mem ((c.tc : Thread Cert.AdamGuRefIdeal.nD Cert.AdamGuRefIdeal.τ).loc Cert.AdamGuRefIdeal.main_v24) = v0 c
          ∧ r.2.mem ((c.tc : Thread Cert.AdamGuRefIdeal.nD Cert.AdamGuRefIdeal.τ).loc Cert.AdamGuRefIdeal.main_v25) = v1 c
          ∧ r.2.mem ((c.tc : Thread Cert.AdamGuRefIdeal.nD Cert.AdamGuRefIdeal.τ).loc Cert.AdamGuRefIdeal.main_v26) = v2 c
          ∧ r.2.mem ((c.tc : Thread Cert.AdamGuRefIdeal.nD Cert.AdamGuRefIdeal.τ).loc Cert.AdamGuRefIdeal.main_arg0) = m' ((c.tc : Thread Cert.AdamGuRefIdeal.nD Cert.AdamGuRefIdeal.τ).loc Cert.AdamGuRefIdeal.main_arg0)
          ∧ r.2.mem ((c.tc : Thread Cert.AdamGuRefIdeal.nD Cert.AdamGuRefIdeal.τ).loc Cert.AdamGuRefIdeal.main_arg1) = m' ((c.tc : Thread Cert.AdamGuRefIdeal.nD Cert.AdamGuRefIdeal.τ).loc Cert.AdamGuRefIdeal.main_arg1)
          ∧ r.2.mem ((c.tc : Thread Cert.AdamGuRefIdeal.nD Cert.AdamGuRefIdeal.τ).loc Cert.AdamGuRefIdeal.main_arg2) = m' ((c.tc : Thread Cert.AdamGuRefIdeal.nD Cert.AdamGuRefIdeal.τ).loc Cert.AdamGuRefIdeal.main_arg2)
          ∧ r.2.mem ((c.tc : Thread Cert.AdamGuRefIdeal.nD Cert.AdamGuRefIdeal.τ).loc Cert.AdamGuRefIdeal.main_arg3) = m' ((c.tc : Thread Cert.AdamGuRefIdeal.nD Cert.AdamGuRefIdeal.τ).loc Cert.AdamGuRefIdeal.main_arg3))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v4_1)) (v1 : (c : Dev Cert.AdamDownIdeal.nD) → Buf (Elt Ideal) ((c.tc : Thread Cert.AdamDownIdeal.nD Cert.AdamDownIdeal.τ).loc Cert.AdamDownIdeal.main_v4_2)) (v2 : (c : Dev Cert.AdamDownIdeal.nD) → Buf (Elt Ideal) ((c.tc : Thread Cert.AdamDownIdeal.nD Cert.AdamDownIdeal.τ).loc Cert.AdamDownIdeal.main_v4_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v4_1) = v0 c
          ∧ r.2.mem ((c.tc : Thread Cert.AdamDownIdeal.nD Cert.AdamDownIdeal.τ).loc Cert.AdamDownIdeal.main_v4_2) = v1 c
          ∧ r.2.mem ((c.tc : Thread Cert.AdamDownIdeal.nD Cert.AdamDownIdeal.τ).loc Cert.AdamDownIdeal.main_v4_3) = v2 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v24) = v0 c
          ∧ r.2.mem ((c.tc : Thread Cert.AdamDownRefIdeal.nD Cert.AdamDownRefIdeal.τ).loc Cert.AdamDownRefIdeal.main_v25) = v1 c
          ∧ r.2.mem ((c.tc : Thread Cert.AdamDownRefIdeal.nD Cert.AdamDownRefIdeal.τ).loc Cert.AdamDownRefIdeal.main_v26) = v2 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v4_1)) (v1 : (c : Dev Cert.AdamInIdeal.nD) → Buf (Elt Ideal) ((c.tc : Thread Cert.AdamInIdeal.nD Cert.AdamInIdeal.τ).loc Cert.AdamInIdeal.main_v4_2)) (v2 : (c : Dev Cert.AdamInIdeal.nD) → Buf (Elt Ideal) ((c.tc : Thread Cert.AdamInIdeal.nD Cert.AdamInIdeal.τ).loc Cert.AdamInIdeal.main_v4_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v4_1) = v0 c
          ∧ r.2.mem ((c.tc : Thread Cert.AdamInIdeal.nD Cert.AdamInIdeal.τ).loc Cert.AdamInIdeal.main_v4_2) = v1 c
          ∧ r.2.mem ((c.tc : Thread Cert.AdamInIdeal.nD Cert.AdamInIdeal.τ).loc Cert.AdamInIdeal.main_v4_3) = v2 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v24) = v0 c
          ∧ r.2.mem ((c.tc : Thread Cert.AdamInRefIdeal.nD Cert.AdamInRefIdeal.τ).loc Cert.AdamInRefIdeal.main_v25) = v1 c
          ∧ r.2.mem ((c.tc : Thread Cert.AdamInRefIdeal.nD Cert.AdamInRefIdeal.τ).loc Cert.AdamInRefIdeal.main_v26) = v2 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamBranch_AdamBranchIdeal : Prop :=
  True

def algebraic_AdamBranchIdeal_AdamBranchRefIdeal [hAdamBranchIdeal : Cert.AdamBranchIdeal.Facts] [hAdamBranchRefIdeal : Cert.AdamBranchRefIdeal.Facts] : Prop :=
  ∀ (m : (ℓ : Loc Cert.AdamBranchIdeal.nD Cert.AdamBranchIdeal.τ Cert.AdamBranchIdeal.sig) → Buf (Elt Ideal) ℓ) (g : Dev Cert.AdamBranchIdeal.nD → PrngReg)
    (m' : (ℓ : Loc Cert.AdamBranchRefIdeal.nD Cert.AdamBranchRefIdeal.τ Cert.AdamBranchRefIdeal.sig) → Buf (Elt Ideal) ℓ) (g' : Dev Cert.AdamBranchRefIdeal.nD → PrngReg), Pre_AdamBranchIdeal m →
    (∀ c : Dev Cert.AdamBranchIdeal.nD,
      m' ((c.tc : Thread Cert.AdamBranchRefIdeal.nD Cert.AdamBranchRefIdeal.τ).loc Cert.AdamBranchRefIdeal.main_arg0) = m ((c.tc : Thread Cert.AdamBranchIdeal.nD Cert.AdamBranchIdeal.τ).loc Cert.AdamBranchIdeal.main_arg0)
      ∧ m' ((c.tc : Thread Cert.AdamBranchRefIdeal.nD Cert.AdamBranchRefIdeal.τ).loc Cert.AdamBranchRefIdeal.main_arg1) = m ((c.tc : Thread Cert.AdamBranchIdeal.nD Cert.AdamBranchIdeal.τ).loc Cert.AdamBranchIdeal.main_arg1)
      ∧ m' ((c.tc : Thread Cert.AdamBranchRefIdeal.nD Cert.AdamBranchRefIdeal.τ).loc Cert.AdamBranchRefIdeal.main_arg2) = m ((c.tc : Thread Cert.AdamBranchIdeal.nD Cert.AdamBranchIdeal.τ).loc Cert.AdamBranchIdeal.main_arg2)
      ∧ m' ((c.tc : Thread Cert.AdamBranchRefIdeal.nD Cert.AdamBranchRefIdeal.τ).loc Cert.AdamBranchRefIdeal.main_arg3) = m ((c.tc : Thread Cert.AdamBranchIdeal.nD Cert.AdamBranchIdeal.τ).loc Cert.AdamBranchIdeal.main_arg3)) →
    ∃ (v0 : (c : Dev Cert.AdamBranchIdeal.nD) → Buf (Elt Ideal) ((c.tc : Thread Cert.AdamBranchIdeal.nD Cert.AdamBranchIdeal.τ).loc Cert.AdamBranchIdeal.main_v4_1)) (v1 : (c : Dev Cert.AdamBranchIdeal.nD) → Buf (Elt Ideal) ((c.tc : Thread Cert.AdamBranchIdeal.nD Cert.AdamBranchIdeal.τ).loc Cert.AdamBranchIdeal.main_v4_2)) (v2 : (c : Dev Cert.AdamBranchIdeal.nD) → Buf (Elt Ideal) ((c.tc : Thread Cert.AdamBranchIdeal.nD Cert.AdamBranchIdeal.τ).loc Cert.AdamBranchIdeal.main_v4_3)),
      θ_run (Cert.AdamBranchIdeal.defs (F := Ideal)) (onTc (τ := Cert.AdamBranchIdeal.τ) (Cert.AdamBranchIdeal.main (F := Ideal))) ⟨m, fun _ => 0, g⟩ (fun r => ∀ c : Dev Cert.AdamBranchIdeal.nD,
          r.2.mem ((c.tc : Thread Cert.AdamBranchIdeal.nD Cert.AdamBranchIdeal.τ).loc Cert.AdamBranchIdeal.main_v4_1) = v0 c
          ∧ r.2.mem ((c.tc : Thread Cert.AdamBranchIdeal.nD Cert.AdamBranchIdeal.τ).loc Cert.AdamBranchIdeal.main_v4_2) = v1 c
          ∧ r.2.mem ((c.tc : Thread Cert.AdamBranchIdeal.nD Cert.AdamBranchIdeal.τ).loc Cert.AdamBranchIdeal.main_v4_3) = v2 c
          ∧ r.2.mem ((c.tc : Thread Cert.AdamBranchIdeal.nD Cert.AdamBranchIdeal.τ).loc Cert.AdamBranchIdeal.main_arg0) = m ((c.tc : Thread Cert.AdamBranchIdeal.nD Cert.AdamBranchIdeal.τ).loc Cert.AdamBranchIdeal.main_arg0)
          ∧ r.2.mem ((c.tc : Thread Cert.AdamBranchIdeal.nD Cert.AdamBranchIdeal.τ).loc Cert.AdamBranchIdeal.main_arg1) = m ((c.tc : Thread Cert.AdamBranchIdeal.nD Cert.AdamBranchIdeal.τ).loc Cert.AdamBranchIdeal.main_arg1)
          ∧ r.2.mem ((c.tc : Thread Cert.AdamBranchIdeal.nD Cert.AdamBranchIdeal.τ).loc Cert.AdamBranchIdeal.main_arg2) = m ((c.tc : Thread Cert.AdamBranchIdeal.nD Cert.AdamBranchIdeal.τ).loc Cert.AdamBranchIdeal.main_arg2)
          ∧ r.2.mem ((c.tc : Thread Cert.AdamBranchIdeal.nD Cert.AdamBranchIdeal.τ).loc Cert.AdamBranchIdeal.main_arg3) = m ((c.tc : Thread Cert.AdamBranchIdeal.nD Cert.AdamBranchIdeal.τ).loc Cert.AdamBranchIdeal.main_arg3))
      ∧ θ_run (Cert.AdamBranchRefIdeal.defs (F := Ideal)) (onTc (τ := Cert.AdamBranchRefIdeal.τ) (Cert.AdamBranchRefIdeal.main (F := Ideal))) ⟨m', fun _ => 0, g'⟩ (fun r => ∀ c : Dev Cert.AdamBranchRefIdeal.nD,
          r.2.mem ((c.tc : Thread Cert.AdamBranchRefIdeal.nD Cert.AdamBranchRefIdeal.τ).loc Cert.AdamBranchRefIdeal.main_v24) = v0 c
          ∧ r.2.mem ((c.tc : Thread Cert.AdamBranchRefIdeal.nD Cert.AdamBranchRefIdeal.τ).loc Cert.AdamBranchRefIdeal.main_v25) = v1 c
          ∧ r.2.mem ((c.tc : Thread Cert.AdamBranchRefIdeal.nD Cert.AdamBranchRefIdeal.τ).loc Cert.AdamBranchRefIdeal.main_v26) = v2 c
          ∧ r.2.mem ((c.tc : Thread Cert.AdamBranchRefIdeal.nD Cert.AdamBranchRefIdeal.τ).loc Cert.AdamBranchRefIdeal.main_arg0) = m' ((c.tc : Thread Cert.AdamBranchRefIdeal.nD Cert.AdamBranchRefIdeal.τ).loc Cert.AdamBranchRefIdeal.main_arg0)
          ∧ r.2.mem ((c.tc : Thread Cert.AdamBranchRefIdeal.nD Cert.AdamBranchRefIdeal.τ).loc Cert.AdamBranchRefIdeal.main_arg1) = m' ((c.tc : Thread Cert.AdamBranchRefIdeal.nD Cert.AdamBranchRefIdeal.τ).loc Cert.AdamBranchRefIdeal.main_arg1)
          ∧ r.2.mem ((c.tc : Thread Cert.AdamBranchRefIdeal.nD Cert.AdamBranchRefIdeal.τ).loc Cert.AdamBranchRefIdeal.main_arg2) = m' ((c.tc : Thread Cert.AdamBranchRefIdeal.nD Cert.AdamBranchRefIdeal.τ).loc Cert.AdamBranchRefIdeal.main_arg2)
          ∧ r.2.mem ((c.tc : Thread Cert.AdamBranchRefIdeal.nD Cert.AdamBranchRefIdeal.τ).loc Cert.AdamBranchRefIdeal.main_arg3) = m' ((c.tc : Thread Cert.AdamBranchRefIdeal.nD Cert.AdamBranchRefIdeal.τ).loc Cert.AdamBranchRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v4_1)) (v1 : (c : Dev Cert.AdamOutIdeal.nD) → Buf (Elt Ideal) ((c.tc : Thread Cert.AdamOutIdeal.nD Cert.AdamOutIdeal.τ).loc Cert.AdamOutIdeal.main_v4_2)) (v2 : (c : Dev Cert.AdamOutIdeal.nD) → Buf (Elt Ideal) ((c.tc : Thread Cert.AdamOutIdeal.nD Cert.AdamOutIdeal.τ).loc Cert.AdamOutIdeal.main_v4_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v4_1) = v0 c
          ∧ r.2.mem ((c.tc : Thread Cert.AdamOutIdeal.nD Cert.AdamOutIdeal.τ).loc Cert.AdamOutIdeal.main_v4_2) = v1 c
          ∧ r.2.mem ((c.tc : Thread Cert.AdamOutIdeal.nD Cert.AdamOutIdeal.τ).loc Cert.AdamOutIdeal.main_v4_3) = v2 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v24) = v0 c
          ∧ r.2.mem ((c.tc : Thread Cert.AdamOutRefIdeal.nD Cert.AdamOutRefIdeal.τ).loc Cert.AdamOutRefIdeal.main_v25) = v1 c
          ∧ r.2.mem ((c.tc : Thread Cert.AdamOutRefIdeal.nD Cert.AdamOutRefIdeal.τ).loc Cert.AdamOutRefIdeal.main_v26) = v2 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)
      ∧ m' ((c.tc : Thread Cert.AdamSmallRefIdeal.nD Cert.AdamSmallRefIdeal.τ).loc Cert.AdamSmallRefIdeal.main_arg4) = m ((c.tc : Thread Cert.AdamSmallIdeal.nD Cert.AdamSmallIdeal.τ).loc Cert.AdamSmallIdeal.main_arg4)
      ∧ m' ((c.tc : Thread Cert.AdamSmallRefIdeal.nD Cert.AdamSmallRefIdeal.τ).loc Cert.AdamSmallRefIdeal.main_arg5) = m ((c.tc : Thread Cert.AdamSmallIdeal.nD Cert.AdamSmallIdeal.τ).loc Cert.AdamSmallIdeal.main_arg5)
      ∧ m' ((c.tc : Thread Cert.AdamSmallRefIdeal.nD Cert.AdamSmallRefIdeal.τ).loc Cert.AdamSmallRefIdeal.main_arg6) = m ((c.tc : Thread Cert.AdamSmallIdeal.nD Cert.AdamSmallIdeal.τ).loc Cert.AdamSmallIdeal.main_arg6)
      ∧ m' ((c.tc : Thread Cert.AdamSmallRefIdeal.nD Cert.AdamSmallRefIdeal.τ).loc Cert.AdamSmallRefIdeal.main_arg7) = m ((c.tc : Thread Cert.AdamSmallIdeal.nD Cert.AdamSmallIdeal.τ).loc Cert.AdamSmallIdeal.main_arg7)
      ∧ m' ((c.tc : Thread Cert.AdamSmallRefIdeal.nD Cert.AdamSmallRefIdeal.τ).loc Cert.AdamSmallRefIdeal.main_arg8) = m ((c.tc : Thread Cert.AdamSmallIdeal.nD Cert.AdamSmallIdeal.τ).loc Cert.AdamSmallIdeal.main_arg8)
      ∧ m' ((c.tc : Thread Cert.AdamSmallRefIdeal.nD Cert.AdamSmallRefIdeal.τ).loc Cert.AdamSmallRefIdeal.main_arg9) = m ((c.tc : Thread Cert.AdamSmallIdeal.nD Cert.AdamSmallIdeal.τ).loc Cert.AdamSmallIdeal.main_arg9)
      ∧ m' ((c.tc : Thread Cert.AdamSmallRefIdeal.nD Cert.AdamSmallRefIdeal.τ).loc Cert.AdamSmallRefIdeal.main_arg10) = m ((c.tc : Thread Cert.AdamSmallIdeal.nD Cert.AdamSmallIdeal.τ).loc Cert.AdamSmallIdeal.main_arg10)
      ∧ m' ((c.tc : Thread Cert.AdamSmallRefIdeal.nD Cert.AdamSmallRefIdeal.τ).loc Cert.AdamSmallRefIdeal.main_arg11) = m ((c.tc : Thread Cert.AdamSmallIdeal.nD Cert.AdamSmallIdeal.τ).loc Cert.AdamSmallIdeal.main_arg11)
      ∧ m' ((c.tc : Thread Cert.AdamSmallRefIdeal.nD Cert.AdamSmallRefIdeal.τ).loc Cert.AdamSmallRefIdeal.main_arg12) = m ((c.tc : Thread Cert.AdamSmallIdeal.nD Cert.AdamSmallIdeal.τ).loc Cert.AdamSmallIdeal.main_arg12)
      ∧ m' ((c.tc : Thread Cert.AdamSmallRefIdeal.nD Cert.AdamSmallRefIdeal.τ).loc Cert.AdamSmallRefIdeal.main_arg13) = m ((c.tc : Thread Cert.AdamSmallIdeal.nD Cert.AdamSmallIdeal.τ).loc Cert.AdamSmallIdeal.main_arg13)
      ∧ m' ((c.tc : Thread Cert.AdamSmallRefIdeal.nD Cert.AdamSmallRefIdeal.τ).loc Cert.AdamSmallRefIdeal.main_arg14) = m ((c.tc : Thread Cert.AdamSmallIdeal.nD Cert.AdamSmallIdeal.τ).loc Cert.AdamSmallIdeal.main_arg14)
      ∧ m' ((c.tc : Thread Cert.AdamSmallRefIdeal.nD Cert.AdamSmallRefIdeal.τ).loc Cert.AdamSmallRefIdeal.main_arg15) = m ((c.tc : Thread Cert.AdamSmallIdeal.nD Cert.AdamSmallIdeal.τ).loc Cert.AdamSmallIdeal.main_arg15)
      ∧ m' ((c.tc : Thread Cert.AdamSmallRefIdeal.nD Cert.AdamSmallRefIdeal.τ).loc Cert.AdamSmallRefIdeal.main_arg16) = m ((c.tc : Thread Cert.AdamSmallIdeal.nD Cert.AdamSmallIdeal.τ).loc Cert.AdamSmallIdeal.main_arg16)
      ∧ m' ((c.tc : Thread Cert.AdamSmallRefIdeal.nD Cert.AdamSmallRefIdeal.τ).loc Cert.AdamSmallRefIdeal.main_arg17) = m ((c.tc : Thread Cert.AdamSmallIdeal.nD Cert.AdamSmallIdeal.τ).loc Cert.AdamSmallIdeal.main_arg17)
      ∧ m' ((c.tc : Thread Cert.AdamSmallRefIdeal.nD Cert.AdamSmallRefIdeal.τ).loc Cert.AdamSmallRefIdeal.main_arg18) = m ((c.tc : Thread Cert.AdamSmallIdeal.nD Cert.AdamSmallIdeal.τ).loc Cert.AdamSmallIdeal.main_arg18)
      ∧ m' ((c.tc : Thread Cert.AdamSmallRefIdeal.nD Cert.AdamSmallRefIdeal.τ).loc Cert.AdamSmallRefIdeal.main_arg19) = m ((c.tc : Thread Cert.AdamSmallIdeal.nD Cert.AdamSmallIdeal.τ).loc Cert.AdamSmallIdeal.main_arg19)
      ∧ m' ((c.tc : Thread Cert.AdamSmallRefIdeal.nD Cert.AdamSmallRefIdeal.τ).loc Cert.AdamSmallRefIdeal.main_arg20) = m ((c.tc : Thread Cert.AdamSmallIdeal.nD Cert.AdamSmallIdeal.τ).loc Cert.AdamSmallIdeal.main_arg20)
      ∧ m' ((c.tc : Thread Cert.AdamSmallRefIdeal.nD Cert.AdamSmallRefIdeal.τ).loc Cert.AdamSmallRefIdeal.main_arg21) = m ((c.tc : Thread Cert.AdamSmallIdeal.nD Cert.AdamSmallIdeal.τ).loc Cert.AdamSmallIdeal.main_arg21)
      ∧ m' ((c.tc : Thread Cert.AdamSmallRefIdeal.nD Cert.AdamSmallRefIdeal.τ).loc Cert.AdamSmallRefIdeal.main_arg22) = m ((c.tc : Thread Cert.AdamSmallIdeal.nD Cert.AdamSmallIdeal.τ).loc Cert.AdamSmallIdeal.main_arg22)
      ∧ m' ((c.tc : Thread Cert.AdamSmallRefIdeal.nD Cert.AdamSmallRefIdeal.τ).loc Cert.AdamSmallRefIdeal.main_arg23) = m ((c.tc : Thread Cert.AdamSmallIdeal.nD Cert.AdamSmallIdeal.τ).loc Cert.AdamSmallIdeal.main_arg23)
      ∧ m' ((c.tc : Thread Cert.AdamSmallRefIdeal.nD Cert.AdamSmallRefIdeal.τ).loc Cert.AdamSmallRefIdeal.main_arg24) = m ((c.tc : Thread Cert.AdamSmallIdeal.nD Cert.AdamSmallIdeal.τ).loc Cert.AdamSmallIdeal.main_arg24)
      ∧ m' ((c.tc : Thread Cert.AdamSmallRefIdeal.nD Cert.AdamSmallRefIdeal.τ).loc Cert.AdamSmallRefIdeal.main_arg25) = m ((c.tc : Thread Cert.AdamSmallIdeal.nD Cert.AdamSmallIdeal.τ).loc Cert.AdamSmallIdeal.main_arg25)
      ∧ m' ((c.tc : Thread Cert.AdamSmallRefIdeal.nD Cert.AdamSmallRefIdeal.τ).loc Cert.AdamSmallRefIdeal.main_arg26) = m ((c.tc : Thread Cert.AdamSmallIdeal.nD Cert.AdamSmallIdeal.τ).loc Cert.AdamSmallIdeal.main_arg26)
      ∧ m' ((c.tc : Thread Cert.AdamSmallRefIdeal.nD Cert.AdamSmallRefIdeal.τ).loc Cert.AdamSmallRefIdeal.main_arg27) = m ((c.tc : Thread Cert.AdamSmallIdeal.nD Cert.AdamSmallIdeal.τ).loc Cert.AdamSmallIdeal.main_arg27)
      ∧ m' ((c.tc : Thread Cert.AdamSmallRefIdeal.nD Cert.AdamSmallRefIdeal.τ).loc Cert.AdamSmallRefIdeal.main_arg28) = m ((c.tc : Thread Cert.AdamSmallIdeal.nD Cert.AdamSmallIdeal.τ).loc Cert.AdamSmallIdeal.main_arg28)
      ∧ m' ((c.tc : Thread Cert.AdamSmallRefIdeal.nD Cert.AdamSmallRefIdeal.τ).loc Cert.AdamSmallRefIdeal.main_arg29) = m ((c.tc : Thread Cert.AdamSmallIdeal.nD Cert.AdamSmallIdeal.τ).loc Cert.AdamSmallIdeal.main_arg29)
      ∧ m' ((c.tc : Thread Cert.AdamSmallRefIdeal.nD Cert.AdamSmallRefIdeal.τ).loc Cert.AdamSmallRefIdeal.main_arg30) = m ((c.tc : Thread Cert.AdamSmallIdeal.nD Cert.AdamSmallIdeal.τ).loc Cert.AdamSmallIdeal.main_arg30)
      ∧ m' ((c.tc : Thread Cert.AdamSmallRefIdeal.nD Cert.AdamSmallRefIdeal.τ).loc Cert.AdamSmallRefIdeal.main_arg31) = m ((c.tc : Thread Cert.AdamSmallIdeal.nD Cert.AdamSmallIdeal.τ).loc Cert.AdamSmallIdeal.main_arg31)) →
    ∃ (v0 : (c : Dev Cert.AdamSmallIdeal.nD) → Buf (Elt Ideal) ((c.tc : Thread Cert.AdamSmallIdeal.nD Cert.AdamSmallIdeal.τ).loc Cert.AdamSmallIdeal.main_v104_1)) (v1 : (c : Dev Cert.AdamSmallIdeal.nD) → Buf (Elt Ideal) ((c.tc : Thread Cert.AdamSmallIdeal.nD Cert.AdamSmallIdeal.τ).loc Cert.AdamSmallIdeal.main_v104_2)) (v2 : (c : Dev Cert.AdamSmallIdeal.nD) → Buf (Elt Ideal) ((c.tc : Thread Cert.AdamSmallIdeal.nD Cert.AdamSmallIdeal.τ).loc Cert.AdamSmallIdeal.main_v104_3)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v104_1) = v0 c
          ∧ r.2.mem ((c.tc : Thread Cert.AdamSmallIdeal.nD Cert.AdamSmallIdeal.τ).loc Cert.AdamSmallIdeal.main_v104_2) = v1 c
          ∧ r.2.mem ((c.tc : Thread Cert.AdamSmallIdeal.nD Cert.AdamSmallIdeal.τ).loc Cert.AdamSmallIdeal.main_v104_3) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
          ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
          ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
          ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
          ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
          ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
          ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
          ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
          ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
          ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
          ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
          ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
          ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
          ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
          ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
          ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
          ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
          ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
          ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21)
          ∧ r.2.mem ((c.tc : Thread Cert.AdamSmallIdeal.nD Cert.AdamSmallIdeal.τ).loc Cert.AdamSmallIdeal.main_arg22) = m ((c.tc : Thread Cert.AdamSmallIdeal.nD Cert.AdamSmallIdeal.τ).loc Cert.AdamSmallIdeal.main_arg22)
          ∧ r.2.mem ((c.tc : Thread Cert.AdamSmallIdeal.nD Cert.AdamSmallIdeal.τ).loc Cert.AdamSmallIdeal.main_arg23) = m ((c.tc : Thread Cert.AdamSmallIdeal.nD Cert.AdamSmallIdeal.τ).loc Cert.AdamSmallIdeal.main_arg23)
          ∧ r.2.mem ((c.tc : Thread Cert.AdamSmallIdeal.nD Cert.AdamSmallIdeal.τ).loc Cert.AdamSmallIdeal.main_arg24) = m ((c.tc : Thread Cert.AdamSmallIdeal.nD Cert.AdamSmallIdeal.τ).loc Cert.AdamSmallIdeal.main_arg24)
          ∧ r.2.mem ((c.tc : Thread Cert.AdamSmallIdeal.nD Cert.AdamSmallIdeal.τ).loc Cert.AdamSmallIdeal.main_arg25) = m ((c.tc : Thread Cert.AdamSmallIdeal.nD Cert.AdamSmallIdeal.τ).loc Cert.AdamSmallIdeal.main_arg25)
          ∧ r.2.mem ((c.tc : Thread Cert.AdamSmallIdeal.nD Cert.AdamSmallIdeal.τ).loc Cert.AdamSmallIdeal.main_arg26) = m ((c.tc : Thread Cert.AdamSmallIdeal.nD Cert.AdamSmallIdeal.τ).loc Cert.AdamSmallIdeal.main_arg26)
          ∧ r.2.mem ((c.tc : Thread Cert.AdamSmallIdeal.nD Cert.AdamSmallIdeal.τ).loc Cert.AdamSmallIdeal.main_arg27) = m ((c.tc : Thread Cert.AdamSmallIdeal.nD Cert.AdamSmallIdeal.τ).loc Cert.AdamSmallIdeal.main_arg27)
          ∧ r.2.mem ((c.tc : Thread Cert.AdamSmallIdeal.nD Cert.AdamSmallIdeal.τ).loc Cert.AdamSmallIdeal.main_arg28) = m ((c.tc : Thread Cert.AdamSmallIdeal.nD Cert.AdamSmallIdeal.τ).loc Cert.AdamSmallIdeal.main_arg28)
          ∧ r.2.mem ((c.tc : Thread Cert.AdamSmallIdeal.nD Cert.AdamSmallIdeal.τ).loc Cert.AdamSmallIdeal.main_arg29) = m ((c.tc : Thread Cert.AdamSmallIdeal.nD Cert.AdamSmallIdeal.τ).loc Cert.AdamSmallIdeal.main_arg29)
          ∧ r.2.mem ((c.tc : Thread Cert.AdamSmallIdeal.nD Cert.AdamSmallIdeal.τ).loc Cert.AdamSmallIdeal.main_arg30) = m ((c.tc : Thread Cert.AdamSmallIdeal.nD Cert.AdamSmallIdeal.τ).loc Cert.AdamSmallIdeal.main_arg30)
          ∧ r.2.mem ((c.tc : Thread Cert.AdamSmallIdeal.nD Cert.AdamSmallIdeal.τ).loc Cert.AdamSmallIdeal.main_arg31) = m ((c.tc : Thread Cert.AdamSmallIdeal.nD Cert.AdamSmallIdeal.τ).loc Cert.AdamSmallIdeal.main_arg31))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v203) = v0 c
          ∧ r.2.mem ((c.tc : Thread Cert.AdamSmallRefIdeal.nD Cert.AdamSmallRefIdeal.τ).loc Cert.AdamSmallRefIdeal.main_v215) = v1 c
          ∧ r.2.mem ((c.tc : Thread Cert.AdamSmallRefIdeal.nD Cert.AdamSmallRefIdeal.τ).loc Cert.AdamSmallRefIdeal.main_v227) = v2 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3)
          ∧ r.2.mem ((c.tc : Thread Cert.AdamSmallRefIdeal.nD Cert.AdamSmallRefIdeal.τ).loc Cert.AdamSmallRefIdeal.main_arg4) = m' ((c.tc : Thread Cert.AdamSmallRefIdeal.nD Cert.AdamSmallRefIdeal.τ).loc Cert.AdamSmallRefIdeal.main_arg4)
          ∧ r.2.mem ((c.tc : Thread Cert.AdamSmallRefIdeal.nD Cert.AdamSmallRefIdeal.τ).loc Cert.AdamSmallRefIdeal.main_arg5) = m' ((c.tc : Thread Cert.AdamSmallRefIdeal.nD Cert.AdamSmallRefIdeal.τ).loc Cert.AdamSmallRefIdeal.main_arg5)
          ∧ r.2.mem ((c.tc : Thread Cert.AdamSmallRefIdeal.nD Cert.AdamSmallRefIdeal.τ).loc Cert.AdamSmallRefIdeal.main_arg6) = m' ((c.tc : Thread Cert.AdamSmallRefIdeal.nD Cert.AdamSmallRefIdeal.τ).loc Cert.AdamSmallRefIdeal.main_arg6)
          ∧ r.2.mem ((c.tc : Thread Cert.AdamSmallRefIdeal.nD Cert.AdamSmallRefIdeal.τ).loc Cert.AdamSmallRefIdeal.main_arg7) = m' ((c.tc : Thread Cert.AdamSmallRefIdeal.nD Cert.AdamSmallRefIdeal.τ).loc Cert.AdamSmallRefIdeal.main_arg7)
          ∧ r.2.mem ((c.tc : Thread Cert.AdamSmallRefIdeal.nD Cert.AdamSmallRefIdeal.τ).loc Cert.AdamSmallRefIdeal.main_arg8) = m' ((c.tc : Thread Cert.AdamSmallRefIdeal.nD Cert.AdamSmallRefIdeal.τ).loc Cert.AdamSmallRefIdeal.main_arg8)
          ∧ r.2.mem ((c.tc : Thread Cert.AdamSmallRefIdeal.nD Cert.AdamSmallRefIdeal.τ).loc Cert.AdamSmallRefIdeal.main_arg9) = m' ((c.tc : Thread Cert.AdamSmallRefIdeal.nD Cert.AdamSmallRefIdeal.τ).loc Cert.AdamSmallRefIdeal.main_arg9)
          ∧ r.2.mem ((c.tc : Thread Cert.AdamSmallRefIdeal.nD Cert.AdamSmallRefIdeal.τ).loc Cert.AdamSmallRefIdeal.main_arg10) = m' ((c.tc : Thread Cert.AdamSmallRefIdeal.nD Cert.AdamSmallRefIdeal.τ).loc Cert.AdamSmallRefIdeal.main_arg10)
          ∧ r.2.mem ((c.tc : Thread Cert.AdamSmallRefIdeal.nD Cert.AdamSmallRefIdeal.τ).loc Cert.AdamSmallRefIdeal.main_arg11) = m' ((c.tc : Thread Cert.AdamSmallRefIdeal.nD Cert.AdamSmallRefIdeal.τ).loc Cert.AdamSmallRefIdeal.main_arg11)
          ∧ r.2.mem ((c.tc : Thread Cert.AdamSmallRefIdeal.nD Cert.AdamSmallRefIdeal.τ).loc Cert.AdamSmallRefIdeal.main_arg12) = m' ((c.tc : Thread Cert.AdamSmallRefIdeal.nD Cert.AdamSmallRefIdeal.τ).loc Cert.AdamSmallRefIdeal.main_arg12)
          ∧ r.2.mem ((c.tc : Thread Cert.AdamSmallRefIdeal.nD Cert.AdamSmallRefIdeal.τ).loc Cert.AdamSmallRefIdeal.main_arg13) = m' ((c.tc : Thread Cert.AdamSmallRefIdeal.nD Cert.AdamSmallRefIdeal.τ).loc Cert.AdamSmallRefIdeal.main_arg13)
          ∧ r.2.mem ((c.tc : Thread Cert.AdamSmallRefIdeal.nD Cert.AdamSmallRefIdeal.τ).loc Cert.AdamSmallRefIdeal.main_arg14) = m' ((c.tc : Thread Cert.AdamSmallRefIdeal.nD Cert.AdamSmallRefIdeal.τ).loc Cert.AdamSmallRefIdeal.main_arg14)
          ∧ r.2.mem ((c.tc : Thread Cert.AdamSmallRefIdeal.nD Cert.AdamSmallRefIdeal.τ).loc Cert.AdamSmallRefIdeal.main_arg15) = m' ((c.tc : Thread Cert.AdamSmallRefIdeal.nD Cert.AdamSmallRefIdeal.τ).loc Cert.AdamSmallRefIdeal.main_arg15)
          ∧ r.2.mem ((c.tc : Thread Cert.AdamSmallRefIdeal.nD Cert.AdamSmallRefIdeal.τ).loc Cert.AdamSmallRefIdeal.main_arg16) = m' ((c.tc : Thread Cert.AdamSmallRefIdeal.nD Cert.AdamSmallRefIdeal.τ).loc Cert.AdamSmallRefIdeal.main_arg16)
          ∧ r.2.mem ((c.tc : Thread Cert.AdamSmallRefIdeal.nD Cert.AdamSmallRefIdeal.τ).loc Cert.AdamSmallRefIdeal.main_arg17) = m' ((c.tc : Thread Cert.AdamSmallRefIdeal.nD Cert.AdamSmallRefIdeal.τ).loc Cert.AdamSmallRefIdeal.main_arg17)
          ∧ r.2.mem ((c.tc : Thread Cert.AdamSmallRefIdeal.nD Cert.AdamSmallRefIdeal.τ).loc Cert.AdamSmallRefIdeal.main_arg18) = m' ((c.tc : Thread Cert.AdamSmallRefIdeal.nD Cert.AdamSmallRefIdeal.τ).loc Cert.AdamSmallRefIdeal.main_arg18)
          ∧ r.2.mem ((c.tc : Thread Cert.AdamSmallRefIdeal.nD Cert.AdamSmallRefIdeal.τ).loc Cert.AdamSmallRefIdeal.main_arg19) = m' ((c.tc : Thread Cert.AdamSmallRefIdeal.nD Cert.AdamSmallRefIdeal.τ).loc Cert.AdamSmallRefIdeal.main_arg19)
          ∧ r.2.mem ((c.tc : Thread Cert.AdamSmallRefIdeal.nD Cert.AdamSmallRefIdeal.τ).loc Cert.AdamSmallRefIdeal.main_arg20) = m' ((c.tc : Thread Cert.AdamSmallRefIdeal.nD Cert.AdamSmallRefIdeal.τ).loc Cert.AdamSmallRefIdeal.main_arg20)
          ∧ r.2.mem ((c.tc : Thread Cert.AdamSmallRefIdeal.nD Cert.AdamSmallRefIdeal.τ).loc Cert.AdamSmallRefIdeal.main_arg21) = m' ((c.tc : Thread Cert.AdamSmallRefIdeal.nD Cert.AdamSmallRefIdeal.τ).loc Cert.AdamSmallRefIdeal.main_arg21)
          ∧ r.2.mem ((c.tc : Thread Cert.AdamSmallRefIdeal.nD Cert.AdamSmallRefIdeal.τ).loc Cert.AdamSmallRefIdeal.main_arg22) = m' ((c.tc : Thread Cert.AdamSmallRefIdeal.nD Cert.AdamSmallRefIdeal.τ).loc Cert.AdamSmallRefIdeal.main_arg22)
          ∧ r.2.mem ((c.tc : Thread Cert.AdamSmallRefIdeal.nD Cert.AdamSmallRefIdeal.τ).loc Cert.AdamSmallRefIdeal.main_arg23) = m' ((c.tc : Thread Cert.AdamSmallRefIdeal.nD Cert.AdamSmallRefIdeal.τ).loc Cert.AdamSmallRefIdeal.main_arg23)
          ∧ r.2.mem ((c.tc : Thread Cert.AdamSmallRefIdeal.nD Cert.AdamSmallRefIdeal.τ).loc Cert.AdamSmallRefIdeal.main_arg24) = m' ((c.tc : Thread Cert.AdamSmallRefIdeal.nD Cert.AdamSmallRefIdeal.τ).loc Cert.AdamSmallRefIdeal.main_arg24)
          ∧ r.2.mem ((c.tc : Thread Cert.AdamSmallRefIdeal.nD Cert.AdamSmallRefIdeal.τ).loc Cert.AdamSmallRefIdeal.main_arg25) = m' ((c.tc : Thread Cert.AdamSmallRefIdeal.nD Cert.AdamSmallRefIdeal.τ).loc Cert.AdamSmallRefIdeal.main_arg25)
          ∧ r.2.mem ((c.tc : Thread Cert.AdamSmallRefIdeal.nD Cert.AdamSmallRefIdeal.τ).loc Cert.AdamSmallRefIdeal.main_arg26) = m' ((c.tc : Thread Cert.AdamSmallRefIdeal.nD Cert.AdamSmallRefIdeal.τ).loc Cert.AdamSmallRefIdeal.main_arg26)
          ∧ r.2.mem ((c.tc : Thread Cert.AdamSmallRefIdeal.nD Cert.AdamSmallRefIdeal.τ).loc Cert.AdamSmallRefIdeal.main_arg27) = m' ((c.tc : Thread Cert.AdamSmallRefIdeal.nD Cert.AdamSmallRefIdeal.τ).loc Cert.AdamSmallRefIdeal.main_arg27)
          ∧ r.2.mem ((c.tc : Thread Cert.AdamSmallRefIdeal.nD Cert.AdamSmallRefIdeal.τ).loc Cert.AdamSmallRefIdeal.main_arg28) = m' ((c.tc : Thread Cert.AdamSmallRefIdeal.nD Cert.AdamSmallRefIdeal.τ).loc Cert.AdamSmallRefIdeal.main_arg28)
          ∧ r.2.mem ((c.tc : Thread Cert.AdamSmallRefIdeal.nD Cert.AdamSmallRefIdeal.τ).loc Cert.AdamSmallRefIdeal.main_arg29) = m' ((c.tc : Thread Cert.AdamSmallRefIdeal.nD Cert.AdamSmallRefIdeal.τ).loc Cert.AdamSmallRefIdeal.main_arg29)
          ∧ r.2.mem ((c.tc : Thread Cert.AdamSmallRefIdeal.nD Cert.AdamSmallRefIdeal.τ).loc Cert.AdamSmallRefIdeal.main_arg30) = m' ((c.tc : Thread Cert.AdamSmallRefIdeal.nD Cert.AdamSmallRefIdeal.τ).loc Cert.AdamSmallRefIdeal.main_arg30)
          ∧ r.2.mem ((c.tc : Thread Cert.AdamSmallRefIdeal.nD Cert.AdamSmallRefIdeal.τ).loc Cert.AdamSmallRefIdeal.main_arg31) = m' ((c.tc : Thread Cert.AdamSmallRefIdeal.nD Cert.AdamSmallRefIdeal.τ).loc Cert.AdamSmallRefIdeal.main_arg31))

def Claim : Prop :=
  ∃ (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hGateBwd : Cert.GateBwd.Facts) (hGateBwdIdeal : Cert.GateBwdIdeal.Facts) (hGateBwdRefIdeal : Cert.GateBwdRefIdeal.Facts) (hDwd : Cert.Dwd.Facts) (hDwdIdeal : Cert.DwdIdeal.Facts) (hDwdRefIdeal : Cert.DwdRefIdeal.Facts) (hDwgu : Cert.Dwgu.Facts) (hDwguIdeal : Cert.DwguIdeal.Facts) (hDwguRefIdeal : Cert.DwguRefIdeal.Facts) (hNormBwd : Cert.NormBwd.Facts) (hNormBwdIdeal : Cert.NormBwdIdeal.Facts) (hNormBwdRefIdeal : Cert.NormBwdRefIdeal.Facts) (hMixOut : Cert.MixOut.Facts) (hMixOutIdeal : Cert.MixOutIdeal.Facts) (hMixOutRefIdeal : Cert.MixOutRefIdeal.Facts) (hMixDwout : Cert.MixDwout.Facts) (hMixDwoutIdeal : Cert.MixDwoutIdeal.Facts) (hMixDwoutRefIdeal : Cert.MixDwoutRefIdeal.Facts) (hMergeFwd : Cert.MergeFwd.Facts) (hMergeFwdIdeal : Cert.MergeFwdIdeal.Facts) (hMergeFwdRefIdeal : Cert.MergeFwdRefIdeal.Facts) (hMergeBwd : Cert.MergeBwd.Facts) (hMergeBwdIdeal : Cert.MergeBwdIdeal.Facts) (hMergeBwdRefIdeal : Cert.MergeBwdRefIdeal.Facts) (hBranchDw : Cert.BranchDw.Facts) (hBranchDwIdeal : Cert.BranchDwIdeal.Facts) (hBranchDwRefIdeal : Cert.BranchDwRefIdeal.Facts) (hMixDwin : Cert.MixDwin.Facts) (hMixDwinIdeal : Cert.MixDwinIdeal.Facts) (hMixDwinRefIdeal : Cert.MixDwinRefIdeal.Facts) (hMixNormBwd : Cert.MixNormBwd.Facts) (hMixNormBwdIdeal : Cert.MixNormBwdIdeal.Facts) (hMixNormBwdRefIdeal : Cert.MixNormBwdRefIdeal.Facts) (hAdamGu : Cert.AdamGu.Facts) (hAdamGuIdeal : Cert.AdamGuIdeal.Facts) (hAdamGuRefIdeal : Cert.AdamGuRefIdeal.Facts) (hAdamDown : Cert.AdamDown.Facts) (hAdamDownIdeal : Cert.AdamDownIdeal.Facts) (hAdamDownRefIdeal : Cert.AdamDownRefIdeal.Facts) (hAdamIn : Cert.AdamIn.Facts) (hAdamInIdeal : Cert.AdamInIdeal.Facts) (hAdamInRefIdeal : Cert.AdamInRefIdeal.Facts) (hAdamBranch : Cert.AdamBranch.Facts) (hAdamBranchIdeal : Cert.AdamBranchIdeal.Facts) (hAdamBranchRefIdeal : Cert.AdamBranchRefIdeal.Facts) (hAdamOut : Cert.AdamOut.Facts) (hAdamOutIdeal : Cert.AdamOutIdeal.Facts) (hAdamOutRefIdeal : Cert.AdamOutRefIdeal.Facts) (hAdamSmall : Cert.AdamSmall.Facts) (hAdamSmallIdeal : Cert.AdamSmallIdeal.Facts) (hAdamSmallRefIdeal : Cert.AdamSmallRefIdeal.Facts) (hPre_finite_gate : Cert.Pre_finite_gate.Facts),
    quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_GateBwd (hGateBwd := hGateBwd)
    ∧ quiescent_GateBwdIdeal (hGateBwdIdeal := hGateBwdIdeal)
    ∧ quiescent_GateBwdIdeal_pre_finite_gate (hGateBwdIdeal := hGateBwdIdeal) (hPre_finite_gate := hPre_finite_gate)
    ∧ quiescent_GateBwdRefIdeal (hGateBwdRefIdeal := hGateBwdRefIdeal)
    ∧ quiescent_GateBwdRefIdeal_pre_finite_gate (hGateBwdRefIdeal := hGateBwdRefIdeal) (hPre_finite_gate := hPre_finite_gate)
    ∧ quiescent_Dwd (hDwd := hDwd)
    ∧ quiescent_DwdIdeal (hDwdIdeal := hDwdIdeal)
    ∧ quiescent_DwdRefIdeal (hDwdRefIdeal := hDwdRefIdeal)
    ∧ quiescent_Dwgu (hDwgu := hDwgu)
    ∧ quiescent_DwguIdeal (hDwguIdeal := hDwguIdeal)
    ∧ quiescent_DwguRefIdeal (hDwguRefIdeal := hDwguRefIdeal)
    ∧ quiescent_NormBwd (hNormBwd := hNormBwd)
    ∧ quiescent_NormBwdIdeal (hNormBwdIdeal := hNormBwdIdeal)
    ∧ quiescent_NormBwdRefIdeal (hNormBwdRefIdeal := hNormBwdRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_MixDwout (hMixDwout := hMixDwout)
    ∧ quiescent_MixDwoutIdeal (hMixDwoutIdeal := hMixDwoutIdeal)
    ∧ quiescent_MixDwoutRefIdeal (hMixDwoutRefIdeal := hMixDwoutRefIdeal)
    ∧ quiescent_MergeFwd (hMergeFwd := hMergeFwd)
    ∧ quiescent_MergeFwdIdeal (hMergeFwdIdeal := hMergeFwdIdeal)
    ∧ quiescent_MergeFwdRefIdeal (hMergeFwdRefIdeal := hMergeFwdRefIdeal)
    ∧ quiescent_MergeBwd (hMergeBwd := hMergeBwd)
    ∧ quiescent_MergeBwdIdeal (hMergeBwdIdeal := hMergeBwdIdeal)
    ∧ quiescent_MergeBwdRefIdeal (hMergeBwdRefIdeal := hMergeBwdRefIdeal)
    ∧ quiescent_BranchDw (hBranchDw := hBranchDw)
    ∧ quiescent_BranchDwIdeal (hBranchDwIdeal := hBranchDwIdeal)
    ∧ quiescent_BranchDwRefIdeal (hBranchDwRefIdeal := hBranchDwRefIdeal)
    ∧ quiescent_MixDwin (hMixDwin := hMixDwin)
    ∧ quiescent_MixDwinIdeal (hMixDwinIdeal := hMixDwinIdeal)
    ∧ quiescent_MixDwinRefIdeal (hMixDwinRefIdeal := hMixDwinRefIdeal)
    ∧ quiescent_MixNormBwd (hMixNormBwd := hMixNormBwd)
    ∧ quiescent_MixNormBwdIdeal (hMixNormBwdIdeal := hMixNormBwdIdeal)
    ∧ quiescent_MixNormBwdRefIdeal (hMixNormBwdRefIdeal := hMixNormBwdRefIdeal)
    ∧ quiescent_AdamGu (hAdamGu := hAdamGu)
    ∧ quiescent_AdamGuIdeal (hAdamGuIdeal := hAdamGuIdeal)
    ∧ quiescent_AdamGuRefIdeal (hAdamGuRefIdeal := hAdamGuRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamBranch (hAdamBranch := hAdamBranch)
    ∧ quiescent_AdamBranchIdeal (hAdamBranchIdeal := hAdamBranchIdeal)
    ∧ quiescent_AdamBranchRefIdeal (hAdamBranchRefIdeal := hAdamBranchRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_GateBwd_GateBwdIdeal
    ∧ algebraic_GateBwdIdeal_GateBwdRefIdeal_pre_finite_gate (hGateBwdIdeal := hGateBwdIdeal) (hGateBwdRefIdeal := hGateBwdRefIdeal) (hPre_finite_gate := hPre_finite_gate)
    ∧ preserves_Dwd_DwdIdeal
    ∧ algebraic_DwdIdeal_DwdRefIdeal (hDwdIdeal := hDwdIdeal) (hDwdRefIdeal := hDwdRefIdeal)
    ∧ preserves_Dwgu_DwguIdeal
    ∧ algebraic_DwguIdeal_DwguRefIdeal (hDwguIdeal := hDwguIdeal) (hDwguRefIdeal := hDwguRefIdeal)
    ∧ preserves_NormBwd_NormBwdIdeal
    ∧ algebraic_NormBwdIdeal_NormBwdRefIdeal (hNormBwdIdeal := hNormBwdIdeal) (hNormBwdRefIdeal := hNormBwdRefIdeal)
    ∧ preserves_MixOut_MixOutIdeal
    ∧ algebraic_MixOutIdeal_MixOutRefIdeal (hMixOutIdeal := hMixOutIdeal) (hMixOutRefIdeal := hMixOutRefIdeal)
    ∧ preserves_MixDwout_MixDwoutIdeal
    ∧ algebraic_MixDwoutIdeal_MixDwoutRefIdeal (hMixDwoutIdeal := hMixDwoutIdeal) (hMixDwoutRefIdeal := hMixDwoutRefIdeal)
    ∧ preserves_MergeFwd_MergeFwdIdeal
    ∧ algebraic_MergeFwdIdeal_MergeFwdRefIdeal (hMergeFwdIdeal := hMergeFwdIdeal) (hMergeFwdRefIdeal := hMergeFwdRefIdeal)
    ∧ preserves_MergeBwd_MergeBwdIdeal
    ∧ algebraic_MergeBwdIdeal_MergeBwdRefIdeal (hMergeBwdIdeal := hMergeBwdIdeal) (hMergeBwdRefIdeal := hMergeBwdRefIdeal)
    ∧ preserves_BranchDw_BranchDwIdeal
    ∧ algebraic_BranchDwIdeal_BranchDwRefIdeal (hBranchDwIdeal := hBranchDwIdeal) (hBranchDwRefIdeal := hBranchDwRefIdeal)
    ∧ preserves_MixDwin_MixDwinIdeal
    ∧ algebraic_MixDwinIdeal_MixDwinRefIdeal (hMixDwinIdeal := hMixDwinIdeal) (hMixDwinRefIdeal := hMixDwinRefIdeal)
    ∧ preserves_MixNormBwd_MixNormBwdIdeal
    ∧ algebraic_MixNormBwdIdeal_MixNormBwdRefIdeal (hMixNormBwdIdeal := hMixNormBwdIdeal) (hMixNormBwdRefIdeal := hMixNormBwdRefIdeal)
    ∧ preserves_AdamGu_AdamGuIdeal
    ∧ algebraic_AdamGuIdeal_AdamGuRefIdeal (hAdamGuIdeal := hAdamGuIdeal) (hAdamGuRefIdeal := hAdamGuRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamIn_AdamInIdeal
    ∧ algebraic_AdamInIdeal_AdamInRefIdeal (hAdamInIdeal := hAdamInIdeal) (hAdamInRefIdeal := hAdamInRefIdeal)
    ∧ preserves_AdamBranch_AdamBranchIdeal
    ∧ algebraic_AdamBranchIdeal_AdamBranchRefIdeal (hAdamBranchIdeal := hAdamBranchIdeal) (hAdamBranchRefIdeal := hAdamBranchRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamSmall_AdamSmallIdeal
    ∧ algebraic_AdamSmallIdeal_AdamSmallRefIdeal (hAdamSmallIdeal := hAdamSmallIdeal) (hAdamSmallRefIdeal := hAdamSmallRefIdeal)
-- ==== Pre_finite_gate.lean ====
abbrev S8192x2816 : Shape := ⟨2, ![8192, 2816]⟩
abbrev S8192x1024 : Shape := ⟨2, ![8192, 1024]⟩
abbrev S2816x1024 : Shape := ⟨2, ![2816, 1024]⟩
abbrev S_ : Shape := ⟨0, ![]⟩

class Facts : Prop where
  bcast_S_S8192x2816 : S_.BroadcastsInDim S8192x2816 (![] : Fin 0 → Fin S8192x2816.rank)
  bcast_S_S8192x1024 : S_.BroadcastsInDim S8192x1024 (![] : Fin 0 → Fin S8192x1024.rank)
  bcast_S_S2816x1024 : S_.BroadcastsInDim S2816x1024 (![] : Fin 0 → Fin S2816x1024.rank)

variable [Facts]

def fn {F : FTy → Type} [FloatOps F] (main_arg0 : FVec F S8192x2816 .f32) (main_arg1 : FVec F S8192x2816 .f32) (main_arg2 : FVec F S8192x1024 .f32) (main_arg3 : FVec F S2816x1024 .bf16) : IVec S8192x2816 1 × IVec S8192x1024 1 × IVec S2816x1024 1 :=
  let main_v0 : FVec F S8192x2816 .f32 := Host.absf main_arg1
  let main_cst : FVec F S_ .f32 := constant S_ .f32 0x7F800000#32
  let main_v1 : FVec F S8192x2816 .f32 := broadcastInDim S8192x2816 ![] bcast_S_S8192x2816 main_cst
  let main_v2 : IVec S8192x2816 1 := cmpf .olt main_v0 main_v1
  let main_v3 : FVec F S8192x1024 .f32 := Host.absf main_arg2
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S2816x1024 .bf16 := Host.absf main_arg3
  let main_cst_1 : FVec F S_ .bf16 := constant S_ .bf16 0x7F80#16
  let main_v7 : FVec F S2816x1024 .bf16 := broadcastInDim S2816x1024 ![] bcast_S_S2816x1024 main_cst_1
  let main_v8 : IVec S2816x1024 1 := cmpf .olt main_v6 main_v7
  (main_v2, main_v5, main_v8)
-- ==== Up.lean ====
abbrev S8192x1024 : Shape := ⟨2, ![8192, 1024]⟩
abbrev S1024 : Shape := ⟨1, ![1024]⟩
abbrev S1024x5632 : Shape := ⟨2, ![1024, 5632]⟩
abbrev S1x1024 : Shape := ⟨2, ![1, 1024]⟩
abbrev S2x8192x2816 : Shape := ⟨3, ![2, 8192, 2816]⟩
abbrev S8192x2816 : Shape := ⟨2, ![8192, 2816]⟩
abbrev S256x1024 : Shape := ⟨2, ![256, 1024]⟩
abbrev S1024x2816 : Shape := ⟨2, ![1024, 2816]⟩
abbrev S2x256x2816 : Shape := ⟨3, ![2, 256, 2816]⟩
abbrev S256x2816 : Shape := ⟨2, ![256, 2816]⟩
abbrev S256 : Shape := ⟨1, ![256]⟩
abbrev S256x1 : Shape := ⟨2, ![256, 1]⟩
abbrev S1x256x2816 : Shape := ⟨3, ![1, 256, 2816]⟩

abbrev nBuf : Space → Nat
  | .hbm => 7
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .bf16⟩
  | .hbm, ⟨3, _⟩ => ⟨S1x1024, .f32⟩
  | .hbm, ⟨4, _⟩ => ⟨S8192x1024, .bf16⟩
  | .hbm, ⟨5, _⟩ => ⟨S2x8192x2816, .bf16⟩
  | .hbm, ⟨6, _⟩ => ⟨S8192x2816, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S256x1024, .bf16⟩
  | .local _ .vmem, ⟨6, _⟩ => ⟨S256x1024, .bf16⟩
  | .local _ .vmem, ⟨7, _⟩ => ⟨S2x256x2816, .bf16⟩
  | .local _ .vmem, ⟨8, _⟩ => ⟨S2x256x2816, .bf16⟩
  | .local _ .vmem, ⟨9, _⟩ => ⟨S256x2816, .bf16⟩
  | .local _ .vmem, ⟨10, _⟩ => ⟨S256x2816, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== UpRefIdeal.lean ====
abbrev S8192x1024 : Shape := ⟨2, ![8192, 1024]⟩
abbrev S1024 : Shape := ⟨1, ![1024]⟩
abbrev S1024x5632 : Shape := ⟨2, ![1024, 5632]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S8192x2816 : Shape := ⟨2, ![8192, 2816]⟩
abbrev S1x8192x2816 : Shape := ⟨3, ![1, 8192, 2816]⟩
abbrev S2x8192x2816 : Shape := ⟨3, ![2, 8192, 2816]⟩

abbrev nBuf : Space → Nat
  | .hbm => 56
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .bf16⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S1024x5632, .f32⟩
  | .hbm, ⟨20, _⟩ => ⟨S8192x5632, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S_, .f32⟩
  | .hbm, ⟨26, _⟩ => ⟨S8192x2816, .f32⟩
  | .hbm, ⟨27, _⟩ => ⟨S8192x2816, .f32⟩
  | .hbm, ⟨28, _⟩ => ⟨S_, .f32⟩
  | .hbm, ⟨29, _⟩ => ⟨S8192x2816, .f32⟩
  | .hbm, ⟨30, _⟩ => ⟨S8192x2816, .f32⟩
  | .hbm, ⟨31, _⟩ => ⟨S_, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S_, .f32⟩
  | .hbm, ⟨37, _⟩ => ⟨S8192x2816, .f32⟩
  | .hbm, ⟨38, _⟩ => ⟨S8192x2816, .f32⟩
  | .hbm, ⟨39, _⟩ => ⟨S_, .f32⟩
  | .hbm, ⟨40, _⟩ => ⟨S8192x2816, .f32⟩
  | .hbm, ⟨41, _⟩ => ⟨S8192x2816, .f32⟩
  | .hbm, ⟨42, _⟩ => ⟨S8192x2816, .f32⟩
  | .hbm, ⟨43, _⟩ => ⟨S8192x2816, .f32⟩
  | .hbm, ⟨44, _⟩ => ⟨S8192x2816, .f32⟩
  | .hbm, ⟨45, _⟩ => ⟨S8192x2816, .f32⟩
  | .hbm, ⟨46, _⟩ => ⟨S_, .f32⟩
  | .hbm, ⟨47, _⟩ => ⟨S8192x2816, .f32⟩
  | .hbm, ⟨48, _⟩ => ⟨S8192x2816, .f32⟩
  | .hbm, ⟨49, _⟩ => ⟨S1x8192x2816, .f32⟩
  | .hbm, ⟨50, _⟩ => ⟨S1x8192x2816, .f32⟩
  | .hbm, ⟨51, _⟩ => ⟨S2x8192x2816, .f32⟩
  | .hbm, ⟨52, _⟩ => ⟨S8192x1024, .bf16⟩
  | .hbm, ⟨53, _⟩ => ⟨S2x8192x2816, .bf16⟩
  | .hbm, ⟨54, _⟩ => ⟨S8192x2816, .f32⟩
  | .hbm, ⟨55, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_v17_2 : Ref sig .tc := ⟨.hbm, 30, rfl⟩
abbrev main_call0_cst_1 : Ref sig .tc := ⟨.hbm, 31, rfl⟩
abbrev main_call0_v6 : Ref sig .tc := ⟨.hbm, 32, rfl⟩
abbrev main_call0_v7 : Ref sig .tc := ⟨.hbm, 33, rfl⟩
abbrev main_v17_1 : Ref sig .tc := ⟨.hbm, 34, rfl⟩
abbrev main_v17_0 : Ref sig .tc := ⟨.hbm, 35, rfl⟩
abbrev main_cst_2 : Ref sig .tc := ⟨.hbm, 36, rfl⟩
abbrev main_v18 : Ref sig .tc := ⟨.hbm, 37, rfl⟩
abbrev main_v19 : Ref sig .tc := ⟨.hbm, 38, rfl⟩
abbrev main_cst_3 : Ref sig .tc := ⟨.hbm, 39, rfl⟩
abbrev main_v20 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v21 : Ref sig .tc := ⟨.hbm, 44, rfl⟩
abbrev main_v22 : Ref sig .tc := ⟨.hbm, 45, rfl⟩
abbrev main_cst_4 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩

abbrev nD : Nat := 1
abbrev τ : Topo := Topo.v7x

variable {F : FTy → Type} [FloatOps F]
-- ==== Down.lean ====
abbrev S8192x1024 : Shape := ⟨2, ![8192, 1024]⟩
abbrev S8192x2816 : Shape := ⟨2, ![8192, 2816]⟩
abbrev S2816x1024 : Shape := ⟨2, ![2816, 1024]⟩
abbrev S512x2816 : Shape := ⟨2, ![512, 2816]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x2816, .bf16⟩
  | .hbm, ⟨2, _⟩ => ⟨S2816x1024, .bf16⟩
  | .hbm, ⟨3, _⟩ => ⟨S8192x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== DownRefIdeal.lean ====
abbrev S8192x1024 : Shape := ⟨2, ![8192, 1024]⟩
abbrev S8192x2816 : Shape := ⟨2, ![8192, 2816]⟩
abbrev S2816x1024 : Shape := ⟨2, ![2816, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2816, .bf16⟩
  | .hbm, ⟨2, _⟩ => ⟨S2816x1024, .bf16⟩
  | .hbm, ⟨3, _⟩ => ⟨S8192x2816, .f32⟩
  | .hbm, ⟨4, _⟩ => ⟨S2816x1024, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== GateBwd.lean ====
abbrev S8192x2816 : Shape := ⟨2, ![8192, 2816]⟩
abbrev S8192x1024 : Shape := ⟨2, ![8192, 1024]⟩
abbrev S2816x1024 : Shape := ⟨2, ![2816, 1024]⟩
abbrev S_ : Shape := ⟨0, ![]⟩
abbrev S1x8192x2816 : Shape := ⟨3, ![1, 8192, 2816]⟩
abbrev S2x8192x2816 : Shape := ⟨3, ![2, 8192, 2816]⟩
abbrev S256x1024 : Shape := ⟨2, ![256, 1024]⟩
abbrev S2x256x2816 : Shape := ⟨3, ![2, 256, 2816]⟩
abbrev S256x2816 : Shape := ⟨2, ![256, 2816]⟩
abbrev S1x256x2816 : Shape := ⟨3, ![1, 256, 2816]⟩

abbrev nBuf : Space → Nat
  | .hbm => 36
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S8192x1024, .f32⟩
  | .hbm, ⟨3, _⟩ => ⟨S2816x1024, .bf16⟩
  | .hbm, ⟨4, _⟩ => ⟨S_, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S_, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S8192x2816, .f32⟩
  | .hbm, ⟨15, _⟩ => ⟨S_, .f32⟩
  | .hbm, ⟨16, _⟩ => ⟨S8192x2816, .f32⟩
  | .hbm, ⟨17, _⟩ => ⟨S8192x2816, .f32⟩
  | .hbm, ⟨18, _⟩ => ⟨S_, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S_, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .bf16⟩
  | .hbm, ⟨28, _⟩ => ⟨S_, .f32⟩
  | .hbm, ⟨29, _⟩ => ⟨S8192x2816, .f32⟩
  | .hbm, ⟨30, _⟩ => ⟨S8192x2816, .f32⟩
  | .hbm, ⟨31, _⟩ => ⟨S8192x2816, .bf16⟩
  | .hbm, ⟨32, _⟩ => ⟨S1x8192x2816, .bf16⟩
  | .hbm, ⟨33, _⟩ => ⟨S1x8192x2816, .bf16⟩
  | .hbm, ⟨34, _⟩ => ⟨S2x8192x2816, .bf16⟩
  | .hbm, ⟨35, _⟩ => ⟨S2x8192x2816, .bf16⟩
  | .local _ .vmem, ⟨0, _⟩ => ⟨S256x1024, .f32⟩
  | .local _ .vmem, ⟨1, _⟩ => ⟨S256x1024, .f32⟩
  | .local _ .vmem, ⟨2, _⟩ => ⟨S2816x1024, .bf16⟩
  | .local _ .vmem, ⟨3, _⟩ => ⟨S2x256x2816, .bf16⟩
  | .local _ .vmem, ⟨4, _⟩ => ⟨S2x256x2816, .bf16⟩
  | .local _ .vmem, ⟨5, _⟩ => ⟨S2x256x2816, .bf16⟩
  | .local _ .vmem, ⟨6, _⟩ => ⟨S2x256x2816, .bf16⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GateBwdRefIdeal.lean ====
abbrev S8192x2816 : Shape := ⟨2, ![8192, 2816]⟩
abbrev S8192x1024 : Shape := ⟨2, ![8192, 1024]⟩
abbrev S2816x1024 : Shape := ⟨2, ![2816, 1024]⟩
abbrev S_ : Shape := ⟨0, ![]⟩
abbrev S1x8192x2816 : Shape := ⟨3, ![1, 8192, 2816]⟩
abbrev S2x8192x2816 : Shape := ⟨3, ![2, 8192, 2816]⟩

abbrev nBuf : Space → Nat
  | .hbm => 37
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S8192x1024, .f32⟩
  | .hbm, ⟨3, _⟩ => ⟨S2816x1024, .bf16⟩
  | .hbm, ⟨4, _⟩ => ⟨S8192x2816, .f32⟩
  | .hbm, ⟨5, _⟩ => ⟨S8192x2816, .f32⟩
  | .hbm, ⟨6, _⟩ => ⟨S_, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S2816x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S1x8192x2816, .f32⟩
  | .hbm, ⟨34, _⟩ => ⟨S1x8192x2816, .f32⟩
  | .hbm, ⟨35, _⟩ => ⟨S2x8192x2816, .f32⟩
  | .hbm, ⟨36, _⟩ => ⟨S2x8192x2816, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_v5 : Ref sig .tc := ⟨.hbm, 22, rfl⟩
abbrev main_cst_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩

abbrev nD : Nat := 1
abbrev τ : Topo := Topo.v7x

variable {F : FTy → Type} [FloatOps F]
-- ==== Dwd.lean ====
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwdRefIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 15
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S1024x2816, .f32⟩
  | .hbm, ⟨13, _⟩ => ⟨S2816x1024, .f32⟩
  | .hbm, ⟨14, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Dwgu.lean ====
abbrev S8192x1024 : Shape := ⟨2, ![8192, 1024]⟩
abbrev S2x8192x2816 : Shape := ⟨3, ![2, 8192, 2816]⟩
abbrev S1024x5632 : Shape := ⟨2, ![1024, 5632]⟩
abbrev S1024x1024 : Shape := ⟨2, ![1024, 1024]⟩
abbrev S1x1024x2816 : Shape := ⟨3, ![1, 1024, 2816]⟩
abbrev S1024x2816 : Shape := ⟨2, ![1024, 2816]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S2x8192x2816, .bf16⟩
  | .hbm, ⟨2, _⟩ => ⟨S1024x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x2816, .bf16⟩
  | .local _ .vmem, ⟨3, _⟩ => ⟨S1x1024x2816, .bf16⟩
  | .local _ .vmem, ⟨4, _⟩ => ⟨S1024x2816, .bf16⟩
  | .local _ .vmem, ⟨5, _⟩ => ⟨S1024x2816, .bf16⟩
  | .local _ .vmem, ⟨6, _⟩ => ⟨S1024x2816, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwguRefIdeal.lean ====
abbrev S8192x1024 : Shape := ⟨2, ![8192, 1024]⟩
abbrev S2x8192x2816 : Shape := ⟨3, ![2, 8192, 2816]⟩
abbrev S1x8192x2816 : Shape := ⟨3, ![1, 8192, 2816]⟩
abbrev S8192x2816 : Shape := ⟨2, ![8192, 2816]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 15
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2x8192x2816, .bf16⟩
  | .hbm, ⟨2, _⟩ => ⟨S1x8192x2816, .bf16⟩
  | .hbm, ⟨3, _⟩ => ⟨S8192x2816, .bf16⟩
  | .hbm, ⟨4, _⟩ => ⟨S1x8192x2816, .bf16⟩
  | .hbm, ⟨5, _⟩ => ⟨S8192x2816, .bf16⟩
  | .hbm, ⟨6, _⟩ => ⟨S8192x5632, .bf16⟩
  | .hbm, ⟨7, _⟩ => ⟨S8192x5632, .f32⟩
  | .hbm, ⟨8, _⟩ => ⟨S_, .f32⟩
  | .hbm, ⟨9, _⟩ => ⟨S1024x5632, .f32⟩
  | .hbm, ⟨10, _⟩ => ⟨S8192x1024, .f32⟩
  | .hbm, ⟨11, _⟩ => ⟨S8192x5632, .f32⟩
  | .hbm, ⟨12, _⟩ => ⟨S5632x1024, .f32⟩
  | .hbm, ⟨13, _⟩ => ⟨S1024x5632, .f32⟩
  | .hbm, ⟨14, _⟩ => ⟨S1024x5632, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== NormBwd.lean ====
abbrev S2x8192x2816 : Shape := ⟨3, ![2, 8192, 2816]⟩
abbrev S1024x5632 : Shape := ⟨2, ![1024, 5632]⟩
abbrev S8192x1024 : Shape := ⟨2, ![8192, 1024]⟩
abbrev S1024 : Shape := ⟨1, ![1024]⟩
abbrev S1x1024 : Shape := ⟨2, ![1, 1024]⟩
abbrev S2x512x2816 : Shape := ⟨3, ![2, 512, 2816]⟩
abbrev S512x1024 : Shape := ⟨2, ![512, 1024]⟩
abbrev S1024x2816 : Shape := ⟨2, ![1024, 2816]⟩
abbrev S1x512x2816 : Shape := ⟨3, ![1, 512, 2816]⟩
abbrev S512x2816 : Shape := ⟨2, ![512, 2816]⟩
abbrev S512 : Shape := ⟨1, ![512]⟩
abbrev S512x1 : Shape := ⟨2, ![512, 1]⟩

abbrev nBuf : Space → Nat
  | .hbm => 8
  | .vmem => 11
  | .smem => 0
  | _ => 0

abbrev bufTy : (tb : Table) → Fin (tcTables nBuf tb) → BufTy
  | .hbm, ⟨0, _⟩ => ⟨S2x8192x2816, .bf16⟩
  | .hbm, ⟨1, _⟩ => ⟨S1024x5632, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S1x1024, .f32⟩
  | .local _ .vmem, ⟨0, _⟩ => ⟨S2x512x2816, .bf16⟩
  | .local _ .vmem, ⟨1, _⟩ => ⟨S2x512x2816, .bf16⟩
  | .local _ .vmem, ⟨2, _⟩ => ⟨S1024x5632, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S2x8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormBwdRefIdeal.lean ====
abbrev S2x8192x2816 : Shape := ⟨3, ![2, 8192, 2816]⟩
abbrev S1024x5632 : Shape := ⟨2, ![1024, 5632]⟩
abbrev S8192x1024 : Shape := ⟨2, ![8192, 1024]⟩
abbrev S1024 : Shape := ⟨1, ![1024]⟩
abbrev S1x8192x2816 : Shape := ⟨3, ![1, 8192, 2816]⟩
abbrev S8192x2816 : Shape := ⟨2, ![8192, 2816]⟩
abbrev S8192x5632 : Shape := ⟨2, ![8192, 5632]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 61
  | .vmem => 0
  | .smem => 0
  | _ => 0

abbrev bufTy : (tb : Table) → Fin (tcTables nBuf tb) → BufTy
  | .hbm, ⟨0, _⟩ => ⟨S2x8192x2816, .bf16⟩
  | .hbm, ⟨1, _⟩ => ⟨S1024x5632, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1x8192x2816, .bf16⟩
  | .hbm, ⟨6, _⟩ => ⟨S8192x2816, .bf16⟩
  | .hbm, ⟨7, _⟩ => ⟨S1x8192x2816, .bf16⟩
  | .hbm, ⟨8, _⟩ => ⟨S8192x2816, .bf16⟩
  | .hbm, ⟨9, _⟩ => ⟨S8192x5632, .bf16⟩
  | .hbm, ⟨10, _⟩ => ⟨S8192x5632, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1024, .f32⟩
  | .hbm, ⟨27, _⟩ => ⟨S8192x1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S1024x5632, .f32⟩
  | .hbm, ⟨32, _⟩ => ⟨S8192x5632, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S1024, .f32⟩
  | .hbm, ⟨42, _⟩ => ⟨S8192x1024, .f32⟩
  | .hbm, ⟨43, _⟩ => ⟨S_, .f32⟩
  | .hbm, ⟨44, _⟩ => ⟨S8192, .f32⟩
  | .hbm, ⟨45, _⟩ => ⟨S8192x1, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1, .f32⟩
  | .hbm, ⟨50, _⟩ => ⟨S_, .f32⟩
  | .hbm, ⟨51, _⟩ => ⟨S8192x1, .f32⟩
  | .hbm, ⟨52, _⟩ => ⟨S8192x1, .f32⟩
  | .hbm, ⟨53, _⟩ => ⟨S_, .f32⟩
  | .hbm, ⟨54, _⟩ => ⟨S8192, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S1x1024, .f32⟩
  | _, _ => ⟨S2x8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩

abbrev nD : Nat := 1
abbrev τ : Topo := Topo.v7x

variable {F : FTy → Type} [FloatOps F]
-- ==== MixOut.lean ====
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1024x1024, .bf16⟩
  | .hbm, ⟨3, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== MixOutRefIdeal.lean ====
abbrev S8192x1024 : Shape := ⟨2, ![8192, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1024x1024, .bf16⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== MixDwout.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MixDwoutRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== MergeFwd.lean ====
abbrev S8192x512 : Shape := ⟨2, ![8192, 512]⟩
abbrev S512x1024 : Shape := ⟨2, ![512, 1024]⟩
abbrev S8192x2048 : Shape := ⟨2, ![8192, 2048]⟩
abbrev S512x4x256 : Shape := ⟨3, ![512, 4, 256]⟩
abbrev S4x512x256 : Shape := ⟨3, ![4, 512, 256]⟩
abbrev S8192x1024 : Shape := ⟨2, ![8192, 1024]⟩
abbrev S512x512 : Shape := ⟨2, ![512, 512]⟩
abbrev S512x2048 : Shape := ⟨2, ![512, 2048]⟩
abbrev S1x512x256 : Shape := ⟨3, ![1, 512, 256]⟩
abbrev S512x256 : Shape := ⟨2, ![512, 256]⟩

abbrev nBuf : Space → Nat
  | .hbm => 14
  | .vmem => 18
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S512x1024, .bf16⟩
  | .hbm, ⟨3, _⟩ => ⟨S512x1024, .bf16⟩
  | .hbm, ⟨4, _⟩ => ⟨S8192x2048, .bf16⟩
  | .hbm, ⟨5, _⟩ => ⟨S512x4x256, .bf16⟩
  | .hbm, ⟨6, _⟩ => ⟨S4x512x256, .bf16⟩
  | .hbm, ⟨7, _⟩ => ⟨S512x4x256, .bf16⟩
  | .hbm, ⟨8, _⟩ => ⟨S4x512x256, .bf16⟩
  | .hbm, ⟨9, _⟩ => ⟨S8192x1024, .bf16⟩
  | .hbm, ⟨10, _⟩ => ⟨S8192x1024, .bf16⟩
  | .hbm, ⟨11, _⟩ => ⟨S8192x1024, .bf16⟩
  | .hbm, ⟨12, _⟩ => ⟨S8192x1024, .bf16⟩
  | .hbm, ⟨13, _⟩ => ⟨S8192x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S4x512x256, .bf16⟩
  | .local _ .vmem, ⟨5, _⟩ => ⟨S4x512x256, .bf16⟩
  | .local _ .vmem, ⟨6, _⟩ => ⟨S512x2048, .bf16⟩
  | .local _ .vmem, ⟨7, _⟩ => ⟨S512x2048, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev main_v4_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MergeFwdRefIdeal.lean ====
abbrev S8192x512 : Shape := ⟨2, ![8192, 512]⟩
abbrev S512x1024 : Shape := ⟨2, ![512, 1024]⟩
abbrev S8192x2048 : Shape := ⟨2, ![8192, 2048]⟩
abbrev S8192x1024 : Shape := ⟨2, ![8192, 1024]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S512x1024, .bf16⟩
  | .hbm, ⟨3, _⟩ => ⟨S512x1024, .bf16⟩
  | .hbm, ⟨4, _⟩ => ⟨S8192x2048, .bf16⟩
  | .hbm, ⟨5, _⟩ => ⟨S8192x512, .f32⟩
  | .hbm, ⟨6, _⟩ => ⟨S512x1024, .f32⟩
  | .hbm, ⟨7, _⟩ => ⟨S8192x1024, .f32⟩
  | .hbm, ⟨8, _⟩ => ⟨S8192x512, .f32⟩
  | .hbm, ⟨9, _⟩ => ⟨S512x1024, .f32⟩
  | .hbm, ⟨10, _⟩ => ⟨S8192x1024, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S_, .f32⟩
  | .hbm, ⟨15, _⟩ => ⟨S8192x2048, .f32⟩
  | .hbm, ⟨16, _⟩ => ⟨S8192x2048, .f32⟩
  | .hbm, ⟨17, _⟩ => ⟨S_, .f32⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x1024, .f32⟩
  | .hbm, ⟨25, _⟩ => ⟨S8192x1024, .f32⟩
  | .hbm, ⟨26, _⟩ => ⟨S8192x2048, .f32⟩
  | .hbm, ⟨27, _⟩ => ⟨S8192x2048, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .bf16⟩
  | .hbm, ⟨34, _⟩ => ⟨S8192x1024, .bf16⟩
  | .hbm, ⟨35, _⟩ => ⟨S8192x1024, .bf16⟩
  | .hbm, ⟨36, _⟩ => ⟨S8192x1024, .bf16⟩
  | .hbm, ⟨37, _⟩ => ⟨S8192x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]
-- ==== MergeBwd.lean ====
abbrev S8192x1024 : Shape := ⟨2, ![8192, 1024]⟩
abbrev S1024x1024 : Shape := ⟨2, ![1024, 1024]⟩
abbrev S8192x2048 : Shape := ⟨2, ![8192, 2048]⟩
abbrev S512x1024 : Shape := ⟨2, ![512, 1024]⟩
abbrev S_ : Shape := ⟨0, ![]⟩
abbrev S512x4x256 : Shape := ⟨3, ![512, 4, 256]⟩
abbrev S4x512x256 : Shape := ⟨3, ![4, 512, 256]⟩
abbrev S8192x512 : Shape := ⟨2, ![8192, 512]⟩
abbrev S512x2048 : Shape := ⟨2, ![512, 2048]⟩
abbrev S512x512 : Shape := ⟨2, ![512, 512]⟩
abbrev S512x256 : Shape := ⟨2, ![512, 256]⟩
abbrev S1x512x256 : Shape := ⟨3, ![1, 512, 256]⟩

abbrev nBuf : Space → Nat
  | .hbm => 54
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .f32⟩
  | .hbm, ⟨3, _⟩ => ⟨S8192x1024, .f32⟩
  | .hbm, ⟨4, _⟩ => ⟨S8192x2048, .bf16⟩
  | .hbm, ⟨5, _⟩ => ⟨S512x1024, .bf16⟩
  | .hbm, ⟨6, _⟩ => ⟨S512x1024, .bf16⟩
  | .hbm, ⟨7, _⟩ => ⟨S8192x1024, .bf16⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S8192x1024, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .bf16⟩
  | .hbm, ⟨42, _⟩ => ⟨S8192x1024, .bf16⟩
  | .hbm, ⟨43, _⟩ => ⟨S8192x1024, .bf16⟩
  | .hbm, ⟨44, _⟩ => ⟨S8192x1024, .bf16⟩
  | .hbm, ⟨45, _⟩ => ⟨S512x4x256, .bf16⟩
  | .hbm, ⟨46, _⟩ => ⟨S4x512x256, .bf16⟩
  | .hbm, ⟨47, _⟩ => ⟨S512x4x256, .bf16⟩
  | .hbm, ⟨48, _⟩ => ⟨S4x512x256, .bf16⟩
  | .hbm, ⟨49, _⟩ => ⟨S8192x1024, .bf16⟩
  | .hbm, ⟨50, _⟩ => ⟨S8192x1024, .bf16⟩
  | .hbm, ⟨51, _⟩ => ⟨S8192x2048, .bf16⟩
  | .hbm, ⟨52, _⟩ => ⟨S8192x512, .bf16⟩
  | .hbm, ⟨53, _⟩ => ⟨S8192x512, .bf16⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S4x512x256, .bf16⟩
  | .local _ .vmem, ⟨12, _⟩ => ⟨S4x512x256, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x2048, .bf16⟩
  | .local _ .vmem, ⟨18, _⟩ => ⟨S512x2048, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34_0 : Ref sig .tc := ⟨.hbm, 49, rfl⟩
abbrev main_v34_1 : Ref sig .tc := ⟨.hbm, 50, rfl⟩
abbrev main_v34_2 : Ref sig .tc := ⟨.hbm, 51, rfl⟩
abbrev main_v34_3 : Ref sig .tc := ⟨.hbm, 52, rfl⟩
abbrev main_v34_4 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x512x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x512x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MergeBwdRefIdeal.lean ====
abbrev S8192x1024 : Shape := ⟨2, ![8192, 1024]⟩
abbrev S1024x1024 : Shape := ⟨2, ![1024, 1024]⟩
abbrev S8192x2048 : Shape := ⟨2, ![8192, 2048]⟩
abbrev S512x1024 : Shape := ⟨2, ![512, 1024]⟩
abbrev S_ : Shape := ⟨0, ![]⟩
abbrev S8192x512 : Shape := ⟨2, ![8192, 512]⟩

abbrev nBuf : Space → Nat
  | .hbm => 47
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .f32⟩
  | .hbm, ⟨3, _⟩ => ⟨S8192x1024, .f32⟩
  | .hbm, ⟨4, _⟩ => ⟨S8192x2048, .bf16⟩
  | .hbm, ⟨5, _⟩ => ⟨S512x1024, .bf16⟩
  | .hbm, ⟨6, _⟩ => ⟨S512x1024, .bf16⟩
  | .hbm, ⟨7, _⟩ => ⟨S8192x2048, .f32⟩
  | .hbm, ⟨8, _⟩ => ⟨S1024x1024, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S_, .f32⟩
  | .hbm, ⟨15, _⟩ => ⟨S8192x2048, .f32⟩
  | .hbm, ⟨16, _⟩ => ⟨S8192x2048, .f32⟩
  | .hbm, ⟨17, _⟩ => ⟨S_, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x2048, .f32⟩
  | .hbm, ⟨33, _⟩ => ⟨S8192x2048, .f32⟩
  | .hbm, ⟨34, _⟩ => ⟨S_, .f32⟩
  | .hbm, ⟨35, _⟩ => ⟨S8192x512, .f32⟩
  | .hbm, ⟨36, _⟩ => ⟨S512x1024, .f32⟩
  | .hbm, ⟨37, _⟩ => ⟨S8192x1024, .f32⟩
  | .hbm, ⟨38, _⟩ => ⟨S8192x512, .f32⟩
  | .hbm, ⟨39, _⟩ => ⟨S512x1024, .f32⟩
  | .hbm, ⟨40, _⟩ => ⟨S8192x1024, .f32⟩
  | .hbm, ⟨41, _⟩ => ⟨S8192x512, .f32⟩
  | .hbm, ⟨42, _⟩ => ⟨S8192x1024, .bf16⟩
  | .hbm, ⟨43, _⟩ => ⟨S8192x1024, .bf16⟩
  | .hbm, ⟨44, _⟩ => ⟨S8192x2048, .bf16⟩
  | .hbm, ⟨45, _⟩ => ⟨S8192x512, .bf16⟩
  | .hbm, ⟨46, _⟩ => ⟨S8192x512, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== BranchDw.lean ====
abbrev S8192x512 : Shape := ⟨2, ![8192, 512]⟩
abbrev S8192x1024 : Shape := ⟨2, ![8192, 1024]⟩
abbrev S4x512x256 : Shape := ⟨3, ![4, 512, 256]⟩
abbrev S1024x512 : Shape := ⟨2, ![1024, 512]⟩
abbrev S1024x1024 : Shape := ⟨2, ![1024, 1024]⟩
abbrev S512x1024 : Shape := ⟨2, ![512, 1024]⟩
abbrev S512x256 : Shape := ⟨2, ![512, 256]⟩
abbrev S1x512x256 : Shape := ⟨3, ![1, 512, 256]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S4x512x256, .bf16⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S4x512x256, .bf16⟩
  | .local _ .vmem, ⟨5, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S4x512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false, false]
-- ==== BranchDwRefIdeal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩
abbrev S512x256 : Shape := ⟨2, ![512, 256]⟩
abbrev S1x512x256 : Shape := ⟨3, ![1, 512, 256]⟩
abbrev S4x512x256 : Shape := ⟨3, ![4, 512, 256]⟩

abbrev nBuf : Space → Nat
  | .hbm => 19
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S_, .f32⟩
  | .hbm, ⟨3, _⟩ => ⟨S512x1024, .f32⟩
  | .hbm, ⟨4, _⟩ => ⟨S8192x512, .f32⟩
  | .hbm, ⟨5, _⟩ => ⟨S8192x1024, .f32⟩
  | .hbm, ⟨6, _⟩ => ⟨S8192x1024, .f32⟩
  | .hbm, ⟨7, _⟩ => ⟨S1024x512, .f32⟩
  | .hbm, ⟨8, _⟩ => ⟨S512x1024, .f32⟩
  | .hbm, ⟨9, _⟩ => ⟨S512x256, .f32⟩
  | .hbm, ⟨10, _⟩ => ⟨S512x256, .f32⟩
  | .hbm, ⟨11, _⟩ => ⟨S512x256, .f32⟩
  | .hbm, ⟨12, _⟩ => ⟨S512x256, .f32⟩
  | .hbm, ⟨13, _⟩ => ⟨S1x512x256, .f32⟩
  | .hbm, ⟨14, _⟩ => ⟨S1x512x256, .f32⟩
  | .hbm, ⟨15, _⟩ => ⟨S1x512x256, .f32⟩
  | .hbm, ⟨16, _⟩ => ⟨S1x512x256, .f32⟩
  | .hbm, ⟨17, _⟩ => ⟨S4x512x256, .f32⟩
  | .hbm, ⟨18, _⟩ => ⟨S4x512x256, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩

abbrev nD : Nat := 1
abbrev τ : Topo := Topo.v7x

variable {F : FTy → Type} [FloatOps F]
-- ==== MixDwin.lean ====
abbrev S8192x1024 : Shape := ⟨2, ![8192, 1024]⟩
abbrev S8192x512 : Shape := ⟨2, ![8192, 512]⟩
abbrev S8192x640 : Shape := ⟨2, ![8192, 640]⟩
abbrev S8192x128 : Shape := ⟨2, ![8192, 128]⟩
abbrev S8192x2048 : Shape := ⟨2, ![8192, 2048]⟩
abbrev S1024x3328 : Shape := ⟨2, ![1024, 3328]⟩
abbrev S512x1024 : Shape := ⟨2, ![512, 1024]⟩
abbrev S512x512 : Shape := ⟨2, ![512, 512]⟩
abbrev S512x640 : Shape := ⟨2, ![512, 640]⟩
abbrev S512x128 : Shape := ⟨2, ![512, 128]⟩
abbrev S512x2048 : Shape := ⟨2, ![512, 2048]⟩
abbrev S512x3328 : Shape := ⟨2, ![512, 3328]⟩

abbrev nBuf : Space → Nat
  | .hbm => 6
  | .vmem => 11
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S8192x640, .bf16⟩
  | .hbm, ⟨3, _⟩ => ⟨S8192x128, .bf16⟩
  | .hbm, ⟨4, _⟩ => ⟨S8192x2048, .bf16⟩
  | .hbm, ⟨5, _⟩ => ⟨S1024x3328, .f32⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S512x640, .bf16⟩
  | .local _ .vmem, ⟨5, _⟩ => ⟨S512x640, .bf16⟩
  | .local _ .vmem, ⟨6, _⟩ => ⟨S512x128, .bf16⟩
  | .local _ .vmem, ⟨7, _⟩ => ⟨S512x128, .bf16⟩
  | .local _ .vmem, ⟨8, _⟩ => ⟨S512x2048, .bf16⟩
  | .local _ .vmem, ⟨9, _⟩ => ⟨S512x2048, .bf16⟩
  | .local _ .vmem, ⟨10, _⟩ => ⟨S1024x3328, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x3328 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== MixDwinRefIdeal.lean ====
abbrev S8192x1024 : Shape := ⟨2, ![8192, 1024]⟩
abbrev S8192x512 : Shape := ⟨2, ![8192, 512]⟩
abbrev S8192x640 : Shape := ⟨2, ![8192, 640]⟩
abbrev S8192x128 : Shape := ⟨2, ![8192, 128]⟩
abbrev S8192x2048 : Shape := ⟨2, ![8192, 2048]⟩
abbrev S_ : Shape := ⟨0, ![]⟩
abbrev S1024x3328 : Shape := ⟨2, ![1024, 3328]⟩
abbrev S8192x3328 : Shape := ⟨2, ![8192, 3328]⟩
abbrev S3328x1024 : Shape := ⟨2, ![3328, 1024]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S8192x640, .bf16⟩
  | .hbm, ⟨3, _⟩ => ⟨S8192x128, .bf16⟩
  | .hbm, ⟨4, _⟩ => ⟨S8192x2048, .bf16⟩
  | .hbm, ⟨5, _⟩ => ⟨S_, .f32⟩
  | .hbm, ⟨6, _⟩ => ⟨S1024x3328, .f32⟩
  | .hbm, ⟨7, _⟩ => ⟨S8192x1024, .f32⟩
  | .hbm, ⟨8, _⟩ => ⟨S8192x3328, .f32⟩
  | .hbm, ⟨9, _⟩ => ⟨S8192x3328, .bf16⟩
  | .hbm, ⟨10, _⟩ => ⟨S8192x3328, .f32⟩
  | .hbm, ⟨11, _⟩ => ⟨S3328x1024, .f32⟩
  | .hbm, ⟨12, _⟩ => ⟨S1024x3328, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== MixNormBwd.lean ====
abbrev S8192x512 : Shape := ⟨2, ![8192, 512]⟩
abbrev S8192x640 : Shape := ⟨2, ![8192, 640]⟩
abbrev S8192x128 : Shape := ⟨2, ![8192, 128]⟩
abbrev S8192x2048 : Shape := ⟨2, ![8192, 2048]⟩
abbrev S1024x3328 : Shape := ⟨2, ![1024, 3328]⟩
abbrev S8192x1024 : Shape := ⟨2, ![8192, 1024]⟩
abbrev S1024 : Shape := ⟨1, ![1024]⟩
abbrev S1x1024 : Shape := ⟨2, ![1, 1024]⟩
abbrev S512x512 : Shape := ⟨2, ![512, 512]⟩
abbrev S512x640 : Shape := ⟨2, ![512, 640]⟩
abbrev S512x128 : Shape := ⟨2, ![512, 128]⟩
abbrev S512x2048 : Shape := ⟨2, ![512, 2048]⟩
abbrev S512x1024 : Shape := ⟨2, ![512, 1024]⟩
abbrev S512x3328 : Shape := ⟨2, ![512, 3328]⟩
abbrev S512 : Shape := ⟨1, ![512]⟩
abbrev S512x1 : Shape := ⟨2, ![512, 1]⟩

abbrev nBuf : Space → Nat
  | .hbm => 11
  | .vmem => 17
  | .smem => 0
  | _ => 0

abbrev bufTy : (tb : Table) → Fin (tcTables nBuf tb) → BufTy
  | .hbm, ⟨0, _⟩ => ⟨S8192x512, .bf16⟩
  | .hbm, ⟨1, _⟩ => ⟨S8192x640, .bf16⟩
  | .hbm, ⟨2, _⟩ => ⟨S8192x128, .bf16⟩
  | .hbm, ⟨3, _⟩ => ⟨S8192x2048, .bf16⟩
  | .hbm, ⟨4, _⟩ => ⟨S1024x3328, .bf16⟩
  | .hbm, ⟨5, _⟩ => ⟨S8192x1024, .f32⟩
  | .hbm, ⟨6, _⟩ => ⟨S1024, .f32⟩
  | .hbm, ⟨7, _⟩ => ⟨S8192x1024, .f32⟩
  | .hbm, ⟨8, _⟩ => ⟨S1x1024, .f32⟩
  | .hbm, ⟨9, _⟩ => ⟨S8192x1024, .f32⟩
  | .hbm, ⟨10, _⟩ => ⟨S1x1024, .f32⟩
  | .local _ .vmem, ⟨0, _⟩ => ⟨S512x512, .bf16⟩
  | .local _ .vmem, ⟨1, _⟩ => ⟨S512x512, .bf16⟩
  | .local _ .vmem, ⟨2, _⟩ => ⟨S512x640, .bf16⟩
  | .local _ .vmem, ⟨3, _⟩ => ⟨S512x640, .bf16⟩
  | .local _ .vmem, ⟨4, _⟩ => ⟨S512x128, .bf16⟩
  | .local _ .vmem, ⟨5, _⟩ => ⟨S512x128, .bf16⟩
  | .local _ .vmem, ⟨6, _⟩ => ⟨S512x2048, .bf16⟩
  | .local _ .vmem, ⟨7, _⟩ => ⟨S512x2048, .bf16⟩
  | .local _ .vmem, ⟨8, _⟩ => ⟨S1024x3328, .bf16⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x3328 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== MixNormBwdRefIdeal.lean ====
abbrev S8192x512 : Shape := ⟨2, ![8192, 512]⟩
abbrev S8192x640 : Shape := ⟨2, ![8192, 640]⟩
abbrev S8192x128 : Shape := ⟨2, ![8192, 128]⟩
abbrev S8192x2048 : Shape := ⟨2, ![8192, 2048]⟩
abbrev S1024x3328 : Shape := ⟨2, ![1024, 3328]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x3328 : Shape := ⟨2, ![8192, 3328]⟩

abbrev nBuf : Space → Nat
  | .hbm => 60
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x640, .bf16⟩
  | .hbm, ⟨2, _⟩ => ⟨S8192x128, .bf16⟩
  | .hbm, ⟨3, _⟩ => ⟨S8192x2048, .bf16⟩
  | .hbm, ⟨4, _⟩ => ⟨S1024x3328, .bf16⟩
  | .hbm, ⟨5, _⟩ => ⟨S8192x1024, .f32⟩
  | .hbm, ⟨6, _⟩ => ⟨S1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S1024x3328, .f32⟩
  | .hbm, ⟨29, _⟩ => ⟨S8192x3328, .f32⟩
  | .hbm, ⟨30, _⟩ => ⟨S8192x3328, .bf16⟩
  | .hbm, ⟨31, _⟩ => ⟨S8192x3328, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S1024, .f32⟩
  | .hbm, ⟨41, _⟩ => ⟨S8192x1024, .f32⟩
  | .hbm, ⟨42, _⟩ => ⟨S_, .f32⟩
  | .hbm, ⟨43, _⟩ => ⟨S8192, .f32⟩
  | .hbm, ⟨44, _⟩ => ⟨S8192x1, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S_, .f32⟩
  | .hbm, ⟨53, _⟩ => ⟨S8192, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S1x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_cst_7 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩

abbrev nD : Nat := 1
abbrev τ : Topo := Topo.v7x

variable {F : FTy → Type} [FloatOps F]
-- ==== AdamGu.lean ====
abbrev S4x1024x1408 : Shape := ⟨3, ![4, 1024, 1408]⟩
abbrev S4096x1408 : Shape := ⟨2, ![4096, 1408]⟩
abbrev S256x1408 : Shape := ⟨2, ![256, 1408]⟩

abbrev nBuf : Space → Nat
  | .hbm => 12
  | .vmem => 16
  | .smem => 0
  | _ => 0

abbrev bufTy : (tb : Table) → Fin (tcTables nBuf tb) → BufTy
  | .hbm, ⟨0, _⟩ => ⟨S4x1024x1408, .f32⟩
  | .hbm, ⟨1, _⟩ => ⟨S4x1024x1408, .f32⟩
  | .hbm, ⟨2, _⟩ => ⟨S4x1024x1408, .f32⟩
  | .hbm, ⟨3, _⟩ => ⟨S4x1024x1408, .f32⟩
  | .hbm, ⟨4, _⟩ => ⟨S4096x1408, .f32⟩
  | .hbm, ⟨5, _⟩ => ⟨S4096x1408, .f32⟩
  | .hbm, ⟨6, _⟩ => ⟨S4096x1408, .f32⟩
  | .hbm, ⟨7, _⟩ => ⟨S4096x1408, .f32⟩
  | .hbm, ⟨8, _⟩ => ⟨S4096x1408, .f32⟩
  | .hbm, ⟨9, _⟩ => ⟨S4096x1408, .f32⟩
  | .hbm, ⟨10, _⟩ => ⟨S4096x1408, .f32⟩
  | .hbm, ⟨11, _⟩ => ⟨S4096x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | _, _ => ⟨S4x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamGuIdeal.lean ====
abbrev S4x1024x1408 : Shape := ⟨3, ![4, 1024, 1408]⟩
abbrev S4096x1408 : Shape := ⟨2, ![4096, 1408]⟩
abbrev S256x1408 : Shape := ⟨2, ![256, 1408]⟩

abbrev nBuf : Space → Nat
  | .hbm => 12
  | .vmem => 16
  | .smem => 0
  | _ => 0

abbrev bufTy : (tb : Table) → Fin (tcTables nBuf tb) → BufTy
  | .hbm, ⟨0, _⟩ => ⟨S4x1024x1408, .f32⟩
  | .hbm, ⟨1, _⟩ => ⟨S4x1024x1408, .f32⟩
  | .hbm, ⟨2, _⟩ => ⟨S4x1024x1408, .f32⟩
  | .hbm, ⟨3, _⟩ => ⟨S4x1024x1408, .f32⟩
  | .hbm, ⟨4, _⟩ => ⟨S4096x1408, .f32⟩
  | .hbm, ⟨5, _⟩ => ⟨S4096x1408, .f32⟩
  | .hbm, ⟨6, _⟩ => ⟨S4096x1408, .f32⟩
  | .hbm, ⟨7, _⟩ => ⟨S4096x1408, .f32⟩
  | .hbm, ⟨8, _⟩ => ⟨S4096x1408, .f32⟩
  | .hbm, ⟨9, _⟩ => ⟨S4096x1408, .f32⟩
  | .hbm, ⟨10, _⟩ => ⟨S4096x1408, .f32⟩
  | .hbm, ⟨11, _⟩ => ⟨S4096x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | _, _ => ⟨S4x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamGuRefIdeal.lean ====
abbrev S4x1024x1408 : Shape := ⟨3, ![4, 1024, 1408]⟩
abbrev S_ : Shape := ⟨0, ![]⟩
abbrev S4096x1408 : Shape := ⟨2, ![4096, 1408]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x1408, .f32⟩
  | .hbm, ⟨1, _⟩ => ⟨S4x1024x1408, .f32⟩
  | .hbm, ⟨2, _⟩ => ⟨S4x1024x1408, .f32⟩
  | .hbm, ⟨3, _⟩ => ⟨S4x1024x1408, .f32⟩
  | .hbm, ⟨4, _⟩ => ⟨S_, .f32⟩
  | .hbm, ⟨5, _⟩ => ⟨S4x1024x1408, .f32⟩
  | .hbm, ⟨6, _⟩ => ⟨S4x1024x1408, .f32⟩
  | .hbm, ⟨7, _⟩ => ⟨S_, .f32⟩
  | .hbm, ⟨8, _⟩ => ⟨S4x1024x1408, .f32⟩
  | .hbm, ⟨9, _⟩ => ⟨S4x1024x1408, .f32⟩
  | .hbm, ⟨10, _⟩ => ⟨S4x1024x1408, .f32⟩
  | .hbm, ⟨11, _⟩ => ⟨S_, .f32⟩
  | .hbm, ⟨12, _⟩ => ⟨S4x1024x1408, .f32⟩
  | .hbm, ⟨13, _⟩ => ⟨S4x1024x1408, .f32⟩
  | .hbm, ⟨14, _⟩ => ⟨S4x1024x1408, .f32⟩
  | .hbm, ⟨15, _⟩ => ⟨S_, .f32⟩
  | .hbm, ⟨16, _⟩ => ⟨S4x1024x1408, .f32⟩
  | .hbm, ⟨17, _⟩ => ⟨S4x1024x1408, .f32⟩
  | .hbm, ⟨18, _⟩ => ⟨S4x1024x1408, .f32⟩
  | .hbm, ⟨19, _⟩ => ⟨S_, .f32⟩
  | .hbm, ⟨20, _⟩ => ⟨S4x1024x1408, .f32⟩
  | .hbm, ⟨21, _⟩ => ⟨S4x1024x1408, .f32⟩
  | .hbm, ⟨22, _⟩ => ⟨S_, .f32⟩
  | .hbm, ⟨23, _⟩ => ⟨S4x1024x1408, .f32⟩
  | .hbm, ⟨24, _⟩ => ⟨S4x1024x1408, .f32⟩
  | .hbm, ⟨25, _⟩ => ⟨S4x1024x1408, .f32⟩
  | .hbm, ⟨26, _⟩ => ⟨S_, .f32⟩
  | .hbm, ⟨27, _⟩ => ⟨S4x1024x1408, .f32⟩
  | .hbm, ⟨28, _⟩ => ⟨S4x1024x1408, .f32⟩
  | .hbm, ⟨29, _⟩ => ⟨S4x1024x1408, .f32⟩
  | .hbm, ⟨30, _⟩ => ⟨S_, .f32⟩
  | .hbm, ⟨31, _⟩ => ⟨S4x1024x1408, .f32⟩
  | .hbm, ⟨32, _⟩ => ⟨S4x1024x1408, .f32⟩
  | .hbm, ⟨33, _⟩ => ⟨S4x1024x1408, .f32⟩
  | .hbm, ⟨34, _⟩ => ⟨S_, .f32⟩
  | .hbm, ⟨35, _⟩ => ⟨S4x1024x1408, .f32⟩
  | .hbm, ⟨36, _⟩ => ⟨S4x1024x1408, .f32⟩
  | .hbm, ⟨37, _⟩ => ⟨S4096x1408, .f32⟩
  | .hbm, ⟨38, _⟩ => ⟨S4096x1408, .f32⟩
  | .hbm, ⟨39, _⟩ => ⟨S4096x1408, .f32⟩
  | _, _ => ⟨S4x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamDown.lean ====
abbrev S4x704x1024 : Shape := ⟨3, ![4, 704, 1024]⟩
abbrev S2816x1024 : Shape := ⟨2, ![2816, 1024]⟩
abbrev S352x1024 : Shape := ⟨2, ![352, 1024]⟩

abbrev nBuf : Space → Nat
  | .hbm => 12
  | .vmem => 16
  | .smem => 0
  | _ => 0

abbrev bufTy : (tb : Table) → Fin (tcTables nBuf tb) → BufTy
  | .hbm, ⟨0, _⟩ => ⟨S4x704x1024, .f32⟩
  | .hbm, ⟨1, _⟩ => ⟨S4x704x1024, .f32⟩
  | .hbm, ⟨2, _⟩ => ⟨S4x704x1024, .f32⟩
  | .hbm, ⟨3, _⟩ => ⟨S4x704x1024, .f32⟩
  | .hbm, ⟨4, _⟩ => ⟨S2816x1024, .f32⟩
  | .hbm, ⟨5, _⟩ => ⟨S2816x1024, .f32⟩
  | .hbm, ⟨6, _⟩ => ⟨S2816x1024, .f32⟩
  | .hbm, ⟨7, _⟩ => ⟨S2816x1024, .f32⟩
  | .hbm, ⟨8, _⟩ => ⟨S2816x1024, .f32⟩
  | .hbm, ⟨9, _⟩ => ⟨S2816x1024, .f32⟩
  | .hbm, ⟨10, _⟩ => ⟨S2816x1024, .f32⟩
  | .hbm, ⟨11, _⟩ => ⟨S2816x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | .local _ .vmem, ⟨14, _⟩ => ⟨S352x1024, .f32⟩
  | .local _ .vmem, ⟨15, _⟩ => ⟨S352x1024, .f32⟩
  | _, _ => ⟨S4x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamDownIdeal.lean ====
abbrev S4x704x1024 : Shape := ⟨3, ![4, 704, 1024]⟩
abbrev S2816x1024 : Shape := ⟨2, ![2816, 1024]⟩
abbrev S352x1024 : Shape := ⟨2, ![352, 1024]⟩

abbrev nBuf : Space → Nat
  | .hbm => 12
  | .vmem => 16
  | .smem => 0
  | _ => 0

abbrev bufTy : (tb : Table) → Fin (tcTables nBuf tb) → BufTy
  | .hbm, ⟨0, _⟩ => ⟨S4x704x1024, .f32⟩
  | .hbm, ⟨1, _⟩ => ⟨S4x704x1024, .f32⟩
  | .hbm, ⟨2, _⟩ => ⟨S4x704x1024, .f32⟩
  | .hbm, ⟨3, _⟩ => ⟨S4x704x1024, .f32⟩
  | .hbm, ⟨4, _⟩ => ⟨S2816x1024, .f32⟩
  | .hbm, ⟨5, _⟩ => ⟨S2816x1024, .f32⟩
  | .hbm, ⟨6, _⟩ => ⟨S2816x1024, .f32⟩
  | .hbm, ⟨7, _⟩ => ⟨S2816x1024, .f32⟩
  | .hbm, ⟨8, _⟩ => ⟨S2816x1024, .f32⟩
  | .hbm, ⟨9, _⟩ => ⟨S2816x1024, .f32⟩
  | .hbm, ⟨10, _⟩ => ⟨S2816x1024, .f32⟩
  | .hbm, ⟨11, _⟩ => ⟨S2816x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | .local _ .vmem, ⟨14, _⟩ => ⟨S352x1024, .f32⟩
  | .local _ .vmem, ⟨15, _⟩ => ⟨S352x1024, .f32⟩
  | _, _ => ⟨S4x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamDownRefIdeal.lean ====
abbrev S4x704x1024 : Shape := ⟨3, ![4, 704, 1024]⟩
abbrev S_ : Shape := ⟨0, ![]⟩
abbrev S2816x1024 : Shape := ⟨2, ![2816, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x704x1024, .f32⟩
  | .hbm, ⟨1, _⟩ => ⟨S4x704x1024, .f32⟩
  | .hbm, ⟨2, _⟩ => ⟨S4x704x1024, .f32⟩
  | .hbm, ⟨3, _⟩ => ⟨S4x704x1024, .f32⟩
  | .hbm, ⟨4, _⟩ => ⟨S_, .f32⟩
  | .hbm, ⟨5, _⟩ => ⟨S4x704x1024, .f32⟩
  | .hbm, ⟨6, _⟩ => ⟨S4x704x1024, .f32⟩
  | .hbm, ⟨7, _⟩ => ⟨S_, .f32⟩
  | .hbm, ⟨8, _⟩ => ⟨S4x704x1024, .f32⟩
  | .hbm, ⟨9, _⟩ => ⟨S4x704x1024, .f32⟩
  | .hbm, ⟨10, _⟩ => ⟨S4x704x1024, .f32⟩
  | .hbm, ⟨11, _⟩ => ⟨S_, .f32⟩
  | .hbm, ⟨12, _⟩ => ⟨S4x704x1024, .f32⟩
  | .hbm, ⟨13, _⟩ => ⟨S4x704x1024, .f32⟩
  | .hbm, ⟨14, _⟩ => ⟨S4x704x1024, .f32⟩
  | .hbm, ⟨15, _⟩ => ⟨S_, .f32⟩
  | .hbm, ⟨16, _⟩ => ⟨S4x704x1024, .f32⟩
  | .hbm, ⟨17, _⟩ => ⟨S4x704x1024, .f32⟩
  | .hbm, ⟨18, _⟩ => ⟨S4x704x1024, .f32⟩
  | .hbm, ⟨19, _⟩ => ⟨S_, .f32⟩
  | .hbm, ⟨20, _⟩ => ⟨S4x704x1024, .f32⟩
  | .hbm, ⟨21, _⟩ => ⟨S4x704x1024, .f32⟩
  | .hbm, ⟨22, _⟩ => ⟨S_, .f32⟩
  | .hbm, ⟨23, _⟩ => ⟨S4x704x1024, .f32⟩
  | .hbm, ⟨24, _⟩ => ⟨S4x704x1024, .f32⟩
  | .hbm, ⟨25, _⟩ => ⟨S4x704x1024, .f32⟩
  | .hbm, ⟨26, _⟩ => ⟨S_, .f32⟩
  | .hbm, ⟨27, _⟩ => ⟨S4x704x1024, .f32⟩
  | .hbm, ⟨28, _⟩ => ⟨S4x704x1024, .f32⟩
  | .hbm, ⟨29, _⟩ => ⟨S4x704x1024, .f32⟩
  | .hbm, ⟨30, _⟩ => ⟨S_, .f32⟩
  | .hbm, ⟨31, _⟩ => ⟨S4x704x1024, .f32⟩
  | .hbm, ⟨32, _⟩ => ⟨S4x704x1024, .f32⟩
  | .hbm, ⟨33, _⟩ => ⟨S4x704x1024, .f32⟩
  | .hbm, ⟨34, _⟩ => ⟨S_, .f32⟩
  | .hbm, ⟨35, _⟩ => ⟨S4x704x1024, .f32⟩
  | .hbm, ⟨36, _⟩ => ⟨S4x704x1024, .f32⟩
  | .hbm, ⟨37, _⟩ => ⟨S2816x1024, .f32⟩
  | .hbm, ⟨38, _⟩ => ⟨S2816x1024, .f32⟩
  | .hbm, ⟨39, _⟩ => ⟨S2816x1024, .f32⟩
  | _, _ => ⟨S4x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamIn.lean ====
abbrev S4x1024x832 : Shape := ⟨3, ![4, 1024, 832]⟩
abbrev S4096x832 : Shape := ⟨2, ![4096, 832]⟩
abbrev S512x832 : Shape := ⟨2, ![512, 832]⟩

abbrev nBuf : Space → Nat
  | .hbm => 12
  | .vmem => 16
  | .smem => 0
  | _ => 0

abbrev bufTy : (tb : Table) → Fin (tcTables nBuf tb) → BufTy
  | .hbm, ⟨0, _⟩ => ⟨S4x1024x832, .f32⟩
  | .hbm, ⟨1, _⟩ => ⟨S4x1024x832, .f32⟩
  | .hbm, ⟨2, _⟩ => ⟨S4x1024x832, .f32⟩
  | .hbm, ⟨3, _⟩ => ⟨S4x1024x832, .f32⟩
  | .hbm, ⟨4, _⟩ => ⟨S4096x832, .f32⟩
  | .hbm, ⟨5, _⟩ => ⟨S4096x832, .f32⟩
  | .hbm, ⟨6, _⟩ => ⟨S4096x832, .f32⟩
  | .hbm, ⟨7, _⟩ => ⟨S4096x832, .f32⟩
  | .hbm, ⟨8, _⟩ => ⟨S4096x832, .f32⟩
  | .hbm, ⟨9, _⟩ => ⟨S4096x832, .f32⟩
  | .hbm, ⟨10, _⟩ => ⟨S4096x832, .f32⟩
  | .hbm, ⟨11, _⟩ => ⟨S4096x832, .f32⟩
  | .local _ .vmem, ⟨0, _⟩ => ⟨S512x832, .f32⟩
  | .local _ .vmem, ⟨1, _⟩ => ⟨S512x832, .f32⟩
  | .local _ .vmem, ⟨2, _⟩ => ⟨S512x832, .f32⟩
  | .local _ .vmem, ⟨3, _⟩ => ⟨S512x832, .f32⟩
  | .local _ .vmem, ⟨4, _⟩ => ⟨S512x832, .f32⟩
  | .local _ .vmem, ⟨5, _⟩ => ⟨S512x832, .f32⟩
  | .local _ .vmem, ⟨6, _⟩ => ⟨S512x832, .f32⟩
  | .local _ .vmem, ⟨7, _⟩ => ⟨S512x832, .f32⟩
  | .local _ .vmem, ⟨8, _⟩ => ⟨S512x832, .f32⟩
  | .local _ .vmem, ⟨9, _⟩ => ⟨S512x832, .f32⟩
  | .local _ .vmem, ⟨10, _⟩ => ⟨S512x832, .f32⟩
  | .local _ .vmem, ⟨11, _⟩ => ⟨S512x832, .f32⟩
  | .local _ .vmem, ⟨12, _⟩ => ⟨S512x832, .f32⟩
  | .local _ .vmem, ⟨13, _⟩ => ⟨S512x832, .f32⟩
  | .local _ .vmem, ⟨14, _⟩ => ⟨S512x832, .f32⟩
  | .local _ .vmem, ⟨15, _⟩ => ⟨S512x832, .f32⟩
  | _, _ => ⟨S4x1024x832, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x832 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x832 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x832 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x832 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x832 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x832 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x832 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x832 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInIdeal.lean ====
abbrev S4x1024x832 : Shape := ⟨3, ![4, 1024, 832]⟩
abbrev S4096x832 : Shape := ⟨2, ![4096, 832]⟩
abbrev S512x832 : Shape := ⟨2, ![512, 832]⟩

abbrev nBuf : Space → Nat
  | .hbm => 12
  | .vmem => 16
  | .smem => 0
  | _ => 0

abbrev bufTy : (tb : Table) → Fin (tcTables nBuf tb) → BufTy
  | .hbm, ⟨0, _⟩ => ⟨S4x1024x832, .f32⟩
  | .hbm, ⟨1, _⟩ => ⟨S4x1024x832, .f32⟩
  | .hbm, ⟨2, _⟩ => ⟨S4x1024x832, .f32⟩
  | .hbm, ⟨3, _⟩ => ⟨S4x1024x832, .f32⟩
  | .hbm, ⟨4, _⟩ => ⟨S4096x832, .f32⟩
  | .hbm, ⟨5, _⟩ => ⟨S4096x832, .f32⟩
  | .hbm, ⟨6, _⟩ => ⟨S4096x832, .f32⟩
  | .hbm, ⟨7, _⟩ => ⟨S4096x832, .f32⟩
  | .hbm, ⟨8, _⟩ => ⟨S4096x832, .f32⟩
  | .hbm, ⟨9, _⟩ => ⟨S4096x832, .f32⟩
  | .hbm, ⟨10, _⟩ => ⟨S4096x832, .f32⟩
  | .hbm, ⟨11, _⟩ => ⟨S4096x832, .f32⟩
  | .local _ .vmem, ⟨0, _⟩ => ⟨S512x832, .f32⟩
  | .local _ .vmem, ⟨1, _⟩ => ⟨S512x832, .f32⟩
  | .local _ .vmem, ⟨2, _⟩ => ⟨S512x832, .f32⟩
  | .local _ .vmem, ⟨3, _⟩ => ⟨S512x832, .f32⟩
  | .local _ .vmem, ⟨4, _⟩ => ⟨S512x832, .f32⟩
  | .local _ .vmem, ⟨5, _⟩ => ⟨S512x832, .f32⟩
  | .local _ .vmem, ⟨6, _⟩ => ⟨S512x832, .f32⟩
  | .local _ .vmem, ⟨7, _⟩ => ⟨S512x832, .f32⟩
  | .local _ .vmem, ⟨8, _⟩ => ⟨S512x832, .f32⟩
  | .local _ .vmem, ⟨9, _⟩ => ⟨S512x832, .f32⟩
  | .local _ .vmem, ⟨10, _⟩ => ⟨S512x832, .f32⟩
  | .local _ .vmem, ⟨11, _⟩ => ⟨S512x832, .f32⟩
  | .local _ .vmem, ⟨12, _⟩ => ⟨S512x832, .f32⟩
  | .local _ .vmem, ⟨13, _⟩ => ⟨S512x832, .f32⟩
  | .local _ .vmem, ⟨14, _⟩ => ⟨S512x832, .f32⟩
  | .local _ .vmem, ⟨15, _⟩ => ⟨S512x832, .f32⟩
  | _, _ => ⟨S4x1024x832, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x832 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x832 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x832 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x832 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x832 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x832 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x832 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x832 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInRefIdeal.lean ====
abbrev S4x1024x832 : Shape := ⟨3, ![4, 1024, 832]⟩
abbrev S_ : Shape := ⟨0, ![]⟩
abbrev S4096x832 : Shape := ⟨2, ![4096, 832]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x832, .f32⟩
  | .hbm, ⟨1, _⟩ => ⟨S4x1024x832, .f32⟩
  | .hbm, ⟨2, _⟩ => ⟨S4x1024x832, .f32⟩
  | .hbm, ⟨3, _⟩ => ⟨S4x1024x832, .f32⟩
  | .hbm, ⟨4, _⟩ => ⟨S_, .f32⟩
  | .hbm, ⟨5, _⟩ => ⟨S4x1024x832, .f32⟩
  | .hbm, ⟨6, _⟩ => ⟨S4x1024x832, .f32⟩
  | .hbm, ⟨7, _⟩ => ⟨S_, .f32⟩
  | .hbm, ⟨8, _⟩ => ⟨S4x1024x832, .f32⟩
  | .hbm, ⟨9, _⟩ => ⟨S4x1024x832, .f32⟩
  | .hbm, ⟨10, _⟩ => ⟨S4x1024x832, .f32⟩
  | .hbm, ⟨11, _⟩ => ⟨S_, .f32⟩
  | .hbm, ⟨12, _⟩ => ⟨S4x1024x832, .f32⟩
  | .hbm, ⟨13, _⟩ => ⟨S4x1024x832, .f32⟩
  | .hbm, ⟨14, _⟩ => ⟨S4x1024x832, .f32⟩
  | .hbm, ⟨15, _⟩ => ⟨S_, .f32⟩
  | .hbm, ⟨16, _⟩ => ⟨S4x1024x832, .f32⟩
  | .hbm, ⟨17, _⟩ => ⟨S4x1024x832, .f32⟩
  | .hbm, ⟨18, _⟩ => ⟨S4x1024x832, .f32⟩
  | .hbm, ⟨19, _⟩ => ⟨S_, .f32⟩
  | .hbm, ⟨20, _⟩ => ⟨S4x1024x832, .f32⟩
  | .hbm, ⟨21, _⟩ => ⟨S4x1024x832, .f32⟩
  | .hbm, ⟨22, _⟩ => ⟨S_, .f32⟩
  | .hbm, ⟨23, _⟩ => ⟨S4x1024x832, .f32⟩
  | .hbm, ⟨24, _⟩ => ⟨S4x1024x832, .f32⟩
  | .hbm, ⟨25, _⟩ => ⟨S4x1024x832, .f32⟩
  | .hbm, ⟨26, _⟩ => ⟨S_, .f32⟩
  | .hbm, ⟨27, _⟩ => ⟨S4x1024x832, .f32⟩
  | .hbm, ⟨28, _⟩ => ⟨S4x1024x832, .f32⟩
  | .hbm, ⟨29, _⟩ => ⟨S4x1024x832, .f32⟩
  | .hbm, ⟨30, _⟩ => ⟨S_, .f32⟩
  | .hbm, ⟨31, _⟩ => ⟨S4x1024x832, .f32⟩
  | .hbm, ⟨32, _⟩ => ⟨S4x1024x832, .f32⟩
  | .hbm, ⟨33, _⟩ => ⟨S4x1024x832, .f32⟩
  | .hbm, ⟨34, _⟩ => ⟨S_, .f32⟩
  | .hbm, ⟨35, _⟩ => ⟨S4x1024x832, .f32⟩
  | .hbm, ⟨36, _⟩ => ⟨S4x1024x832, .f32⟩
  | .hbm, ⟨37, _⟩ => ⟨S4096x832, .f32⟩
  | .hbm, ⟨38, _⟩ => ⟨S4096x832, .f32⟩
  | .hbm, ⟨39, _⟩ => ⟨S4096x832, .f32⟩
  | _, _ => ⟨S4x1024x832, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamBranch.lean ====
abbrev S4x512x256 : Shape := ⟨3, ![4, 512, 256]⟩
abbrev S2048x256 : Shape := ⟨2, ![2048, 256]⟩

abbrev nBuf : Space → Nat
  | .hbm => 12
  | .vmem => 8
  | .smem => 0
  | _ => 0

abbrev bufTy : (tb : Table) → Fin (tcTables nBuf tb) → BufTy
  | .hbm, ⟨0, _⟩ => ⟨S4x512x256, .f32⟩
  | .hbm, ⟨1, _⟩ => ⟨S4x512x256, .f32⟩
  | .hbm, ⟨2, _⟩ => ⟨S4x512x256, .f32⟩
  | .hbm, ⟨3, _⟩ => ⟨S4x512x256, .f32⟩
  | .hbm, ⟨4, _⟩ => ⟨S2048x256, .f32⟩
  | .hbm, ⟨5, _⟩ => ⟨S2048x256, .f32⟩
  | .hbm, ⟨6, _⟩ => ⟨S2048x256, .f32⟩
  | .hbm, ⟨7, _⟩ => ⟨S2048x256, .f32⟩
  | .hbm, ⟨8, _⟩ => ⟨S2048x256, .f32⟩
  | .hbm, ⟨9, _⟩ => ⟨S2048x256, .f32⟩
  | .hbm, ⟨10, _⟩ => ⟨S2048x256, .f32⟩
  | .hbm, ⟨11, _⟩ => ⟨S2048x256, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | _, _ => ⟨S4x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2048x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2048x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2048x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2048x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2048x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2048x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2048x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S2048x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamBranchIdeal.lean ====
abbrev S4x512x256 : Shape := ⟨3, ![4, 512, 256]⟩
abbrev S2048x256 : Shape := ⟨2, ![2048, 256]⟩

abbrev nBuf : Space → Nat
  | .hbm => 12
  | .vmem => 8
  | .smem => 0
  | _ => 0

abbrev bufTy : (tb : Table) → Fin (tcTables nBuf tb) → BufTy
  | .hbm, ⟨0, _⟩ => ⟨S4x512x256, .f32⟩
  | .hbm, ⟨1, _⟩ => ⟨S4x512x256, .f32⟩
  | .hbm, ⟨2, _⟩ => ⟨S4x512x256, .f32⟩
  | .hbm, ⟨3, _⟩ => ⟨S4x512x256, .f32⟩
  | .hbm, ⟨4, _⟩ => ⟨S2048x256, .f32⟩
  | .hbm, ⟨5, _⟩ => ⟨S2048x256, .f32⟩
  | .hbm, ⟨6, _⟩ => ⟨S2048x256, .f32⟩
  | .hbm, ⟨7, _⟩ => ⟨S2048x256, .f32⟩
  | .hbm, ⟨8, _⟩ => ⟨S2048x256, .f32⟩
  | .hbm, ⟨9, _⟩ => ⟨S2048x256, .f32⟩
  | .hbm, ⟨10, _⟩ => ⟨S2048x256, .f32⟩
  | .hbm, ⟨11, _⟩ => ⟨S2048x256, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | _, _ => ⟨S4x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2048x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2048x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2048x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2048x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2048x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2048x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2048x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S2048x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamBranchRefIdeal.lean ====
abbrev S4x512x256 : Shape := ⟨3, ![4, 512, 256]⟩
abbrev S_ : Shape := ⟨0, ![]⟩
abbrev S2048x256 : Shape := ⟨2, ![2048, 256]⟩

abbrev nBuf : Space → Nat
  | .hbm => 40
  | .vmem => 0
  | .smem => 0
  | _ => 0

abbrev bufTy : (tb : Table) → Fin (tcTables nBuf tb) → BufTy
  | .hbm, ⟨0, _⟩ => ⟨S4x512x256, .f32⟩
  | .hbm, ⟨1, _⟩ => ⟨S4x512x256, .f32⟩
  | .hbm, ⟨2, _⟩ => ⟨S4x512x256, .f32⟩
  | .hbm, ⟨3, _⟩ => ⟨S4x512x256, .f32⟩
  | .hbm, ⟨4, _⟩ => ⟨S_, .f32⟩
  | .hbm, ⟨5, _⟩ => ⟨S4x512x256, .f32⟩
  | .hbm, ⟨6, _⟩ => ⟨S4x512x256, .f32⟩
  | .hbm, ⟨7, _⟩ => ⟨S_, .f32⟩
  | .hbm, ⟨8, _⟩ => ⟨S4x512x256, .f32⟩
  | .hbm, ⟨9, _⟩ => ⟨S4x512x256, .f32⟩
  | .hbm, ⟨10, _⟩ => ⟨S4x512x256, .f32⟩
  | .hbm, ⟨11, _⟩ => ⟨S_, .f32⟩
  | .hbm, ⟨12, _⟩ => ⟨S4x512x256, .f32⟩
  | .hbm, ⟨13, _⟩ => ⟨S4x512x256, .f32⟩
  | .hbm, ⟨14, _⟩ => ⟨S4x512x256, .f32⟩
  | .hbm, ⟨15, _⟩ => ⟨S_, .f32⟩
  | .hbm, ⟨16, _⟩ => ⟨S4x512x256, .f32⟩
  | .hbm, ⟨17, _⟩ => ⟨S4x512x256, .f32⟩
  | .hbm, ⟨18, _⟩ => ⟨S4x512x256, .f32⟩
  | .hbm, ⟨19, _⟩ => ⟨S_, .f32⟩
  | .hbm, ⟨20, _⟩ => ⟨S4x512x256, .f32⟩
  | .hbm, ⟨21, _⟩ => ⟨S4x512x256, .f32⟩
  | .hbm, ⟨22, _⟩ => ⟨S_, .f32⟩
  | .hbm, ⟨23, _⟩ => ⟨S4x512x256, .f32⟩
  | .hbm, ⟨24, _⟩ => ⟨S4x512x256, .f32⟩
  | .hbm, ⟨25, _⟩ => ⟨S4x512x256, .f32⟩
  | .hbm, ⟨26, _⟩ => ⟨S_, .f32⟩
  | .hbm, ⟨27, _⟩ => ⟨S4x512x256, .f32⟩
  | .hbm, ⟨28, _⟩ => ⟨S4x512x256, .f32⟩
  | .hbm, ⟨29, _⟩ => ⟨S4x512x256, .f32⟩
  | .hbm, ⟨30, _⟩ => ⟨S_, .f32⟩
  | .hbm, ⟨31, _⟩ => ⟨S4x512x256, .f32⟩
  | .hbm, ⟨32, _⟩ => ⟨S4x512x256, .f32⟩
  | .hbm, ⟨33, _⟩ => ⟨S4x512x256, .f32⟩
  | .hbm, ⟨34, _⟩ => ⟨S_, .f32⟩
  | .hbm, ⟨35, _⟩ => ⟨S4x512x256, .f32⟩
  | .hbm, ⟨36, _⟩ => ⟨S4x512x256, .f32⟩
  | .hbm, ⟨37, _⟩ => ⟨S2048x256, .f32⟩
  | .hbm, ⟨38, _⟩ => ⟨S2048x256, .f32⟩
  | .hbm, ⟨39, _⟩ => ⟨S2048x256, .f32⟩
  | _, _ => ⟨S4x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamOut.lean ====
abbrev S4x256x1024 : Shape := ⟨3, ![4, 256, 1024]⟩
abbrev S1024x1024 : Shape := ⟨2, ![1024, 1024]⟩
abbrev S512x1024 : Shape := ⟨2, ![512, 1024]⟩

abbrev nBuf : Space → Nat
  | .hbm => 12
  | .vmem => 16
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x256x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamOutRefIdeal.lean ====
abbrev S4x256x1024 : Shape := ⟨3, ![4, 256, 1024]⟩
abbrev S_ : Shape := ⟨0, ![]⟩
abbrev S1024x1024 : Shape := ⟨2, ![1024, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x256x1024, .f32⟩
  | .hbm, ⟨4, _⟩ => ⟨S_, .f32⟩
  | .hbm, ⟨5, _⟩ => ⟨S4x256x1024, .f32⟩
  | .hbm, ⟨6, _⟩ => ⟨S4x256x1024, .f32⟩
  | .hbm, ⟨7, _⟩ => ⟨S_, .f32⟩
  | .hbm, ⟨8, _⟩ => ⟨S4x256x1024, .f32⟩
  | .hbm, ⟨9, _⟩ => ⟨S4x256x1024, .f32⟩
  | .hbm, ⟨10, _⟩ => ⟨S4x256x1024, .f32⟩
  | .hbm, ⟨11, _⟩ => ⟨S_, .f32⟩
  | .hbm, ⟨12, _⟩ => ⟨S4x256x1024, .f32⟩
  | .hbm, ⟨13, _⟩ => ⟨S4x256x1024, .f32⟩
  | .hbm, ⟨14, _⟩ => ⟨S4x256x1024, .f32⟩
  | .hbm, ⟨15, _⟩ => ⟨S_, .f32⟩
  | .hbm, ⟨16, _⟩ => ⟨S4x256x1024, .f32⟩
  | .hbm, ⟨17, _⟩ => ⟨S4x256x1024, .f32⟩
  | .hbm, ⟨18, _⟩ => ⟨S4x256x1024, .f32⟩
  | .hbm, ⟨19, _⟩ => ⟨S_, .f32⟩
  | .hbm, ⟨20, _⟩ => ⟨S4x256x1024, .f32⟩
  | .hbm, ⟨21, _⟩ => ⟨S4x256x1024, .f32⟩
  | .hbm, ⟨22, _⟩ => ⟨S_, .f32⟩
  | .hbm, ⟨23, _⟩ => ⟨S4x256x1024, .f32⟩
  | .hbm, ⟨24, _⟩ => ⟨S4x256x1024, .f32⟩
  | .hbm, ⟨25, _⟩ => ⟨S4x256x1024, .f32⟩
  | .hbm, ⟨26, _⟩ => ⟨S_, .f32⟩
  | .hbm, ⟨27, _⟩ => ⟨S4x256x1024, .f32⟩
  | .hbm, ⟨28, _⟩ => ⟨S4x256x1024, .f32⟩
  | .hbm, ⟨29, _⟩ => ⟨S4x256x1024, .f32⟩
  | .hbm, ⟨30, _⟩ => ⟨S_, .f32⟩
  | .hbm, ⟨31, _⟩ => ⟨S4x256x1024, .f32⟩
  | .hbm, ⟨32, _⟩ => ⟨S4x256x1024, .f32⟩
  | .hbm, ⟨33, _⟩ => ⟨S4x256x1024, .f32⟩
  | .hbm, ⟨34, _⟩ => ⟨S_, .f32⟩
  | .hbm, ⟨35, _⟩ => ⟨S4x256x1024, .f32⟩
  | .hbm, ⟨36, _⟩ => ⟨S4x256x1024, .f32⟩
  | .hbm, ⟨37, _⟩ => ⟨S1024x1024, .f32⟩
  | .hbm, ⟨38, _⟩ => ⟨S1024x1024, .f32⟩
  | .hbm, ⟨39, _⟩ => ⟨S1024x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamSmall.lean ====
abbrev S4x1024 : Shape := ⟨2, ![4, 1024]⟩
abbrev S4x4x128x128 : Shape := ⟨4, ![4, 4, 128, 128]⟩
abbrev S4x512 : Shape := ⟨2, ![4, 512]⟩
abbrev S4x64 : Shape := ⟨2, ![4, 64]⟩
abbrev S4x8 : Shape := ⟨2, ![4, 8]⟩
abbrev S4096 : Shape := ⟨1, ![4096]⟩
abbrev S_ : Shape := ⟨0, ![]⟩
abbrev S32x128 : Shape := ⟨2, ![32, 128]⟩
abbrev S262144 : Shape := ⟨1, ![262144]⟩
abbrev S2048x128 : Shape := ⟨2, ![2048, 128]⟩
abbrev S2048 : Shape := ⟨1, ![2048]⟩
abbrev S16x128 : Shape := ⟨2, ![16, 128]⟩
abbrev S256 : Shape := ⟨1, ![256]⟩
abbrev S2x128 : Shape := ⟨2, ![2, 128]⟩
abbrev S32 : Shape := ⟨1, ![32]⟩
abbrev S128 : Shape := ⟨1, ![128]⟩
abbrev S1x128 : Shape := ⟨2, ![1, 128]⟩
abbrev S3x128 : Shape := ⟨2, ![3, 128]⟩
abbrev S2168x128 : Shape := ⟨2, ![2168, 128]⟩

abbrev nBuf : Space → Nat
  | .hbm => 208
  | .vmem => 8
  | .smem => 0
  | _ => 0

abbrev hbmTy0_0 (i : Nat) : BufTy := match i % 128 with
  | 0 => ⟨S4x1024, .f32⟩
  | 1 => ⟨S4x1024, .f32⟩
  | 2 => ⟨S4x1024, .f32⟩
  | 3 => ⟨S4x1024, .f32⟩
  | 4 => ⟨S4x1024, .f32⟩
  | 5 => ⟨S4x1024, .f32⟩
  | 6 => ⟨S4x1024, .f32⟩
  | 7 => ⟨S4x1024, .f32⟩
  | 8 => ⟨S4x4x128x128, .f32⟩
  | 9 => ⟨S4x4x128x128, .f32⟩
  | 10 => ⟨S4x4x128x128, .f32⟩
  | 11 => ⟨S4x4x128x128, .f32⟩
  | 12 => ⟨S4x512, .f32⟩
  | 13 => ⟨S4x512, .f32⟩
  | 14 => ⟨S4x512, .f32⟩
  | 15 => ⟨S4x512, .f32⟩
  | 16 => ⟨S4x64, .f32⟩
  | 17 => ⟨S4x64, .f32⟩
  | 18 => ⟨S4x64, .f32⟩
  | 19 => ⟨S4x64, .f32⟩
  | 20 => ⟨S4x64, .f32⟩
  | 21 => ⟨S4x64, .f32⟩
  | 22 => ⟨S4x64, .f32⟩
  | 23 => ⟨S4x64, .f32⟩
  | 24 => ⟨S4x8, .f32⟩
  | 25 => ⟨S4x8, .f32⟩
  | 26 => ⟨S4x8, .f32⟩
  | 27 => ⟨S4x8, .f32⟩
  | 28 => ⟨S4x1024, .f32⟩
  | 29 => ⟨S4x1024, .f32⟩
  | 30 => ⟨S4x1024, .f32⟩
  | 31 => ⟨S4x1024, .f32⟩
  | 32 => ⟨S4096, .f32⟩
  | 33 => ⟨S_, .i32⟩
  | 34 => ⟨S_, .f32⟩
  | 35 => ⟨S4096, .f32⟩
  | 36 => ⟨S32x128, .f32⟩
  | 37 => ⟨S4096, .f32⟩
  | 38 => ⟨S_, .i32⟩
  | 39 => ⟨S_, .f32⟩
  | 40 => ⟨S4096, .f32⟩
  | 41 => ⟨S32x128, .f32⟩
  | 42 => ⟨S262144, .f32⟩
  | 43 => ⟨S_, .i32⟩
  | 44 => ⟨S_, .f32⟩
  | 45 => ⟨S262144, .f32⟩
  | 46 => ⟨S2048x128, .f32⟩
  | 47 => ⟨S2048, .f32⟩
  | 48 => ⟨S_, .i32⟩
  | 49 => ⟨S_, .f32⟩
  | 50 => ⟨S2048, .f32⟩
  | 51 => ⟨S16x128, .f32⟩
  | 52 => ⟨S256, .f32⟩
  | 53 => ⟨S_, .i32⟩
  | 54 => ⟨S_, .f32⟩
  | 55 => ⟨S256, .f32⟩
  | 56 => ⟨S2x128, .f32⟩
  | 57 => ⟨S256, .f32⟩
  | 58 => ⟨S_, .i32⟩
  | 59 => ⟨S_, .f32⟩
  | 60 => ⟨S256, .f32⟩
  | 61 => ⟨S2x128, .f32⟩
  | 62 => ⟨S32, .f32⟩
  | 63 => ⟨S_, .i32⟩
  | 64 => ⟨S_, .f32⟩
  | 65 => ⟨S128, .f32⟩
  | 66 => ⟨S1x128, .f32⟩
  | 67 => ⟨S4096, .f32⟩
  | 68 => ⟨S_, .i32⟩
  | 69 => ⟨S_, .f32⟩
  | 70 => ⟨S4096, .f32⟩
  | 71 => ⟨S32x128, .f32⟩
  | 72 => ⟨S_, .f32⟩
  | 73 => ⟨S3x128, .f32⟩
  | 74 => ⟨S2168x128, .f32⟩
  | 75 => ⟨S4096, .f32⟩
  | 76 => ⟨S_, .i32⟩
  | 77 => ⟨S_, .f32⟩
  | 78 => ⟨S4096, .f32⟩
  | 79 => ⟨S32x128, .f32⟩
  | 80 => ⟨S4096, .f32⟩
  | 81 => ⟨S_, .i32⟩
  | 82 => ⟨S_, .f32⟩
  | 83 => ⟨S4096, .f32⟩
  | 84 => ⟨S32x128, .f32⟩
  | 85 => ⟨S262144, .f32⟩
  | 86 => ⟨S_, .i32⟩
  | 87 => ⟨S_, .f32⟩
  | 88 => ⟨S262144, .f32⟩
  | 89 => ⟨S2048x128, .f32⟩
  | 90 => ⟨S2048, .f32⟩
  | 91 => ⟨S_, .i32⟩
  | 92 => ⟨S_, .f32⟩
  | 93 => ⟨S2048, .f32⟩
  | 94 => ⟨S16x128, .f32⟩
  | 95 => ⟨S256, .f32⟩
  | 96 => ⟨S_, .i32⟩
  | 97 => ⟨S_, .f32⟩
  | 98 => ⟨S256, .f32⟩
  | 99 => ⟨S2x128, .f32⟩
  | 100 => ⟨S256, .f32⟩
  | 101 => ⟨S_, .i32⟩
  | 102 => ⟨S_, .f32⟩
  | 103 => ⟨S256, .f32⟩
  | 104 => ⟨S2x128, .f32⟩
  | 105 => ⟨S32, .f32⟩
  | 106 => ⟨S_, .i32⟩
  | 107 => ⟨S_, .f32⟩
  | 108 => ⟨S128, .f32⟩
  | 109 => ⟨S1x128, .f32⟩
  | 110 => ⟨S4096, .f32⟩
  | 111 => ⟨S_, .i32⟩
  | 112 => ⟨S_, .f32⟩
  | 113 => ⟨S4096, .f32⟩
  | 114 => ⟨S32x128, .f32⟩
  | 115 => ⟨S_, .f32⟩
  | 116 => ⟨S3x128, .f32⟩
  | 117 => ⟨S2168x128, .f32⟩
  | 118 => ⟨S4096, .f32⟩
  | 119 => ⟨S_, .i32⟩
  | 120 => ⟨S_, .f32⟩
  | 121 => ⟨S4096, .f32⟩
  | 122 => ⟨S32x128, .f32⟩
  | 123 => ⟨S4096, .f32⟩
  | 124 => ⟨S_, .i32⟩
  | 125 => ⟨S_, .f32⟩
  | 126 => ⟨S4096, .f32⟩
  | 127 => ⟨S32x128, .f32⟩
  | _ => ⟨S4x1024, .f32⟩

abbrev hbmTy0_1 (i : Nat) : BufTy := match i % 128 with
  | 0 => ⟨S262144, .f32⟩
  | 1 => ⟨S_, .i32⟩
  | 2 => ⟨S_, .f32⟩
  | 3 => ⟨S262144, .f32⟩
  | 4 => ⟨S2048x128, .f32⟩
  | 5 => ⟨S2048, .f32⟩
  | 6 => ⟨S_, .i32⟩
  | 7 => ⟨S_, .f32⟩
  | 8 => ⟨S2048, .f32⟩
  | 9 => ⟨S16x128, .f32⟩
  | 10 => ⟨S256, .f32⟩
  | 11 => ⟨S_, .i32⟩
  | 12 => ⟨S_, .f32⟩
  | 13 => ⟨S256, .f32⟩
  | 14 => ⟨S2x128, .f32⟩
  | 15 => ⟨S256, .f32⟩
  | 16 => ⟨S_, .i32⟩
  | 17 => ⟨S_, .f32⟩
  | 18 => ⟨S256, .f32⟩
  | 19 => ⟨S2x128, .f32⟩
  | 20 => ⟨S32, .f32⟩
  | 21 => ⟨S_, .i32⟩
  | 22 => ⟨S_, .f32⟩
  | 23 => ⟨S128, .f32⟩
  | 24 => ⟨S1x128, .f32⟩
  | 25 => ⟨S4096, .f32⟩
  | 26 => ⟨S_, .i32⟩
  | 27 => ⟨S_, .f32⟩
  | 28 => ⟨S4096, .f32⟩
  | 29 => ⟨S32x128, .f32⟩
  | 30 => ⟨S_, .f32⟩
  | 31 => ⟨S3x128, .f32⟩
  | 32 => ⟨S2168x128, .f32⟩
  | 33 => ⟨S4096, .f32⟩
  | 34 => ⟨S_, .i32⟩
  | 35 => ⟨S_, .f32⟩
  | 36 => ⟨S4096, .f32⟩
  | 37 => ⟨S32x128, .f32⟩
  | 38 => ⟨S4096, .f32⟩
  | 39 => ⟨S_, .i32⟩
  | 40 => ⟨S_, .f32⟩
  | 41 => ⟨S4096, .f32⟩
  | 42 => ⟨S32x128, .f32⟩
  | 43 => ⟨S262144, .f32⟩
  | 44 => ⟨S_, .i32⟩
  | 45 => ⟨S_, .f32⟩
  | 46 => ⟨S262144, .f32⟩
  | 47 => ⟨S2048x128, .f32⟩
  | 48 => ⟨S2048, .f32⟩
  | 49 => ⟨S_, .i32⟩
  | 50 => ⟨S_, .f32⟩
  | 51 => ⟨S2048, .f32⟩
  | 52 => ⟨S16x128, .f32⟩
  | 53 => ⟨S256, .f32⟩
  | 54 => ⟨S_, .i32⟩
  | 55 => ⟨S_, .f32⟩
  | 56 => ⟨S256, .f32⟩
  | 57 => ⟨S2x128, .f32⟩
  | 58 => ⟨S256, .f32⟩
  | 59 => ⟨S_, .i32⟩
  | 60 => ⟨S_, .f32⟩
  | 61 => ⟨S256, .f32⟩
  | 62 => ⟨S2x128, .f32⟩
  | 63 => ⟨S32, .f32⟩
  | 64 => ⟨S_, .i32⟩
  | 65 => ⟨S_, .f32⟩
  | 66 => ⟨S128, .f32⟩
  | 67 => ⟨S1x128, .f32⟩
  | 68 => ⟨S4096, .f32⟩
  | 69 => ⟨S_, .i32⟩
  | 70 => ⟨S_, .f32⟩
  | 71 => ⟨S4096, .f32⟩
  | 72 => ⟨S32x128, .f32⟩
  | 73 => ⟨S_, .f32⟩
  | 74 => ⟨S3x128, .f32⟩
  | 75 => ⟨S2168x128, .f32⟩
  | 76 => ⟨S2168x128, .f32⟩
  | 77 => ⟨S2168x128, .f32⟩
  | 78 => ⟨S2168x128, .f32⟩
  | 79 => ⟨S2168x128, .f32⟩
  | _ => ⟨S4x1024, .f32⟩

abbrev hbmTy (i : Nat) : BufTy := match i / 128 with
  | 0 => hbmTy0_0 i
  | 1 => hbmTy0_1 i
  | _ => ⟨S4x1024, .f32⟩

abbrev bufTy : (tb : Table) → Fin (tcTables nBuf tb) → BufTy
  | .hbm, ⟨i, _⟩ => hbmTy i
  | .local _ .vmem, ⟨0, _⟩ => ⟨S2168x128, .f32⟩
  | .local _ .vmem, ⟨1, _⟩ => ⟨S2168x128, .f32⟩
  | .local _ .vmem, ⟨2, _⟩ => ⟨S2168x128, .f32⟩
  | .local _ .vmem, ⟨3, _⟩ => ⟨S2168x128, .f32⟩
  | .local _ .vmem, ⟨4, _⟩ => ⟨S2168x128, .f32⟩
  | .local _ .vmem, ⟨5, _⟩ => ⟨S2168x128, .f32⟩
  | .local _ .vmem, ⟨6, _⟩ => ⟨S2168x128, .f32⟩
  | .local _ .vmem, ⟨7, _⟩ => ⟨S2168x128, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_v0 : Ref sig .tc := ⟨.hbm, 32, rfl⟩
abbrev main_c : Ref sig .tc := ⟨.hbm, 33, rfl⟩
abbrev main_call0_v0 : Ref sig .tc := ⟨.hbm, 34, rfl⟩
abbrev main_v1 : Ref sig .tc := ⟨.hbm, 35, rfl⟩
abbrev main_v2 : Ref sig .tc := ⟨.hbm, 36, rfl⟩
abbrev main_v3 : Ref sig .tc := ⟨.hbm, 37, rfl⟩
abbrev main_c_0 : Ref sig .tc := ⟨.hbm, 38, rfl⟩
abbrev main_call1_v0 : Ref sig .tc := ⟨.hbm, 39, rfl⟩
abbrev main_v4 : Ref sig .tc := ⟨.hbm, 40, rfl⟩
abbrev main_v5 : Ref sig .tc := ⟨.hbm, 41, rfl⟩
abbrev main_v6 : Ref sig .tc := ⟨.hbm, 42, rfl⟩
abbrev main_c_1 : Ref sig .tc := ⟨.hbm, 43, rfl⟩
abbrev main_call2_v0 : Ref sig .tc := ⟨.hbm, 44, rfl⟩
abbrev main_v7 : Ref sig .tc := ⟨.hbm, 45, rfl⟩
abbrev main_v8 : Ref sig .tc := ⟨.hbm, 46, rfl⟩
abbrev main_v9 : Ref sig .tc := ⟨.hbm, 47, rfl⟩
abbrev main_c_2 : Ref sig .tc := ⟨.hbm, 48, rfl⟩
abbrev main_call3_v0 : Ref sig .tc := ⟨.hbm, 49, rfl⟩
abbrev main_v10 : Ref sig .tc := ⟨.hbm, 50, rfl⟩
abbrev main_v11 : Ref sig .tc := ⟨.hbm, 51, rfl⟩
abbrev main_v12 : Ref sig .tc := ⟨.hbm, 52, rfl⟩
abbrev main_c_3 : Ref sig .tc := ⟨.hbm, 53, rfl⟩
abbrev main_call4_v0 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_c_4 : Ref sig .tc := ⟨.hbm, 58, rfl⟩
abbrev main_call5_v0 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_c_5 : Ref sig .tc := ⟨.hbm, 63, rfl⟩
abbrev main_call6_v0 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_c_6 : Ref sig .tc := ⟨.hbm, 68, rfl⟩
abbrev main_call7_v0 : Ref sig .tc := ⟨.hbm, 69, rfl⟩
abbrev main_v22 : Ref sig .tc := ⟨.hbm, 70, rfl⟩
abbrev main_v23 : Ref sig .tc := ⟨.hbm, 71, rfl⟩
abbrev main_cst : Ref sig .tc := ⟨.hbm, 72, rfl⟩
abbrev main_v24 : Ref sig .tc := ⟨.hbm, 73, rfl⟩
abbrev main_v25 : Ref sig .tc := ⟨.hbm, 74, rfl⟩
abbrev main_v26 : Ref sig .tc := ⟨.hbm, 75, rfl⟩
abbrev main_c_7 : Ref sig .tc := ⟨.hbm, 76, rfl⟩
abbrev main_call8_v0 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_c_8 : Ref sig .tc := ⟨.hbm, 81, rfl⟩
abbrev main_call9_v0 : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩
abbrev main_c_9 : Ref sig .tc := ⟨.hbm, 86, rfl⟩
abbrev main_call10_v0 : Ref sig .tc := ⟨.hbm, 87, rfl⟩
abbrev main_v33 : Ref sig .tc := ⟨.hbm, 88, rfl⟩
abbrev main_v34 : Ref sig .tc := ⟨.hbm, 89, rfl⟩
abbrev main_v35 : Ref sig .tc := ⟨.hbm, 90, rfl⟩
abbrev main_c_10 : Ref sig .tc := ⟨.hbm, 91, rfl⟩
abbrev main_call11_v0 : Ref sig .tc := ⟨.hbm, 92, rfl⟩
abbrev main_v36 : Ref sig .tc := ⟨.hbm, 93, rfl⟩
abbrev main_v37 : Ref sig .tc := ⟨.hbm, 94, rfl⟩
abbrev main_v38 : Ref sig .tc := ⟨.hbm, 95, rfl⟩
abbrev main_c_11 : Ref sig .tc := ⟨.hbm, 96, rfl⟩
abbrev main_call12_v0 : Ref sig .tc := ⟨.hbm, 97, rfl⟩
abbrev main_v39 : Ref sig .tc := ⟨.hbm, 98, rfl⟩
abbrev main_v40 : Ref sig .tc := ⟨.hbm, 99, rfl⟩
abbrev main_v41 : Ref sig .tc := ⟨.hbm, 100, rfl⟩
abbrev main_c_12 : Ref sig .tc := ⟨.hbm, 101, rfl⟩
abbrev main_call13_v0 : Ref sig .tc := ⟨.hbm, 102, rfl⟩
abbrev main_v42 : Ref sig .tc := ⟨.hbm, 103, rfl⟩
abbrev main_v43 : Ref sig .tc := ⟨.hbm, 104, rfl⟩
abbrev main_v44 : Ref sig .tc := ⟨.hbm, 105, rfl⟩
abbrev main_c_13 : Ref sig .tc := ⟨.hbm, 106, rfl⟩
abbrev main_call14_v0 : Ref sig .tc := ⟨.hbm, 107, rfl⟩
abbrev main_v45 : Ref sig .tc := ⟨.hbm, 108, rfl⟩
abbrev main_v46 : Ref sig .tc := ⟨.hbm, 109, rfl⟩
abbrev main_v47 : Ref sig .tc := ⟨.hbm, 110, rfl⟩
abbrev main_c_14 : Ref sig .tc := ⟨.hbm, 111, rfl⟩
abbrev main_call15_v0 : Ref sig .tc := ⟨.hbm, 112, rfl⟩
abbrev main_v48 : Ref sig .tc := ⟨.hbm, 113, rfl⟩
abbrev main_v49 : Ref sig .tc := ⟨.hbm, 114, rfl⟩
abbrev main_cst_15 : Ref sig .tc := ⟨.hbm, 115, rfl⟩
abbrev main_v50 : Ref sig .tc := ⟨.hbm, 116, rfl⟩
abbrev main_v51 : Ref sig .tc := ⟨.hbm, 117, rfl⟩
abbrev main_v52 : Ref sig .tc := ⟨.hbm, 118, rfl⟩
abbrev main_c_16 : Ref sig .tc := ⟨.hbm, 119, rfl⟩
abbrev main_call16_v0 : Ref sig .tc := ⟨.hbm, 120, rfl⟩
abbrev main_v53 : Ref sig .tc := ⟨.hbm, 121, rfl⟩
abbrev main_v54 : Ref sig .tc := ⟨.hbm, 122, rfl⟩
abbrev main_v55 : Ref sig .tc := ⟨.hbm, 123, rfl⟩
abbrev main_c_17 : Ref sig .tc := ⟨.hbm, 124, rfl⟩
abbrev main_call17_v0 : Ref sig .tc := ⟨.hbm, 125, rfl⟩
abbrev main_v56 : Ref sig .tc := ⟨.hbm, 126, rfl⟩
abbrev main_v57 : Ref sig .tc := ⟨.hbm, 127, rfl⟩
abbrev main_v58 : Ref sig .tc := ⟨.hbm, 128, rfl⟩
abbrev main_c_18 : Ref sig .tc := ⟨.hbm, 129, rfl⟩
abbrev main_call18_v0 : Ref sig .tc := ⟨.hbm, 130, rfl⟩
abbrev main_v59 : Ref sig .tc := ⟨.hbm, 131, rfl⟩
abbrev main_v60 : Ref sig .tc := ⟨.hbm, 132, rfl⟩
abbrev main_v61 : Ref sig .tc := ⟨.hbm, 133, rfl⟩
abbrev main_c_19 : Ref sig .tc := ⟨.hbm, 134, rfl⟩
abbrev main_call19_v0 : Ref sig .tc := ⟨.hbm, 135, rfl⟩
abbrev main_v62 : Ref sig .tc := ⟨.hbm, 136, rfl⟩
abbrev main_v63 : Ref sig .tc := ⟨.hbm, 137, rfl⟩
abbrev main_v64 : Ref sig .tc := ⟨.hbm, 138, rfl⟩
abbrev main_c_20 : Ref sig .tc := ⟨.hbm, 139, rfl⟩
abbrev main_call20_v0 : Ref sig .tc := ⟨.hbm, 140, rfl⟩
abbrev main_v65 : Ref sig .tc := ⟨.hbm, 141, rfl⟩
abbrev main_v66 : Ref sig .tc := ⟨.hbm, 142, rfl⟩
abbrev main_v67 : Ref sig .tc := ⟨.hbm, 143, rfl⟩
abbrev main_c_21 : Ref sig .tc := ⟨.hbm, 144, rfl⟩
abbrev main_call21_v0 : Ref sig .tc := ⟨.hbm, 145, rfl⟩
abbrev main_v68 : Ref sig .tc := ⟨.hbm, 146, rfl⟩
abbrev main_v69 : Ref sig .tc := ⟨.hbm, 147, rfl⟩
abbrev main_v70 : Ref sig .tc := ⟨.hbm, 148, rfl⟩
abbrev main_c_22 : Ref sig .tc := ⟨.hbm, 149, rfl⟩
abbrev main_call22_v0 : Ref sig .tc := ⟨.hbm, 150, rfl⟩
abbrev main_v71 : Ref sig .tc := ⟨.hbm, 151, rfl⟩
abbrev main_v72 : Ref sig .tc := ⟨.hbm, 152, rfl⟩
abbrev main_v73 : Ref sig .tc := ⟨.hbm, 153, rfl⟩
abbrev main_c_23 : Ref sig .tc := ⟨.hbm, 154, rfl⟩
abbrev main_call23_v0 : Ref sig .tc := ⟨.hbm, 155, rfl⟩
abbrev main_v74 : Ref sig .tc := ⟨.hbm, 156, rfl⟩
abbrev main_v75 : Ref sig .tc := ⟨.hbm, 157, rfl⟩
abbrev main_cst_24 : Ref sig .tc := ⟨.hbm, 158, rfl⟩
abbrev main_v76 : Ref sig .tc := ⟨.hbm, 159, rfl⟩
abbrev main_v77 : Ref sig .tc := ⟨.hbm, 160, rfl⟩
abbrev main_v78 : Ref sig .tc := ⟨.hbm, 161, rfl⟩
abbrev main_c_25 : Ref sig .tc := ⟨.hbm, 162, rfl⟩
abbrev main_call24_v0 : Ref sig .tc := ⟨.hbm, 163, rfl⟩
abbrev main_v79 : Ref sig .tc := ⟨.hbm, 164, rfl⟩
abbrev main_v80 : Ref sig .tc := ⟨.hbm, 165, rfl⟩
abbrev main_v81 : Ref sig .tc := ⟨.hbm, 166, rfl⟩
abbrev main_c_26 : Ref sig .tc := ⟨.hbm, 167, rfl⟩
abbrev main_call25_v0 : Ref sig .tc := ⟨.hbm, 168, rfl⟩
abbrev main_v82 : Ref sig .tc := ⟨.hbm, 169, rfl⟩
abbrev main_v83 : Ref sig .tc := ⟨.hbm, 170, rfl⟩
abbrev main_v84 : Ref sig .tc := ⟨.hbm, 171, rfl⟩
abbrev main_c_27 : Ref sig .tc := ⟨.hbm, 172, rfl⟩
abbrev main_call26_v0 : Ref sig .tc := ⟨.hbm, 173, rfl⟩
abbrev main_v85 : Ref sig .tc := ⟨.hbm, 174, rfl⟩
abbrev main_v86 : Ref sig .tc := ⟨.hbm, 175, rfl⟩
abbrev main_v87 : Ref sig .tc := ⟨.hbm, 176, rfl⟩
abbrev main_c_28 : Ref sig .tc := ⟨.hbm, 177, rfl⟩
abbrev main_call27_v0 : Ref sig .tc := ⟨.hbm, 178, rfl⟩
abbrev main_v88 : Ref sig .tc := ⟨.hbm, 179, rfl⟩
abbrev main_v89 : Ref sig .tc := ⟨.hbm, 180, rfl⟩
abbrev main_v90 : Ref sig .tc := ⟨.hbm, 181, rfl⟩
abbrev main_c_29 : Ref sig .tc := ⟨.hbm, 182, rfl⟩
abbrev main_call28_v0 : Ref sig .tc := ⟨.hbm, 183, rfl⟩
abbrev main_v91 : Ref sig .tc := ⟨.hbm, 184, rfl⟩
abbrev main_v92 : Ref sig .tc := ⟨.hbm, 185, rfl⟩
abbrev main_v93 : Ref sig .tc := ⟨.hbm, 186, rfl⟩
abbrev main_c_30 : Ref sig .tc := ⟨.hbm, 187, rfl⟩
abbrev main_call29_v0 : Ref sig .tc := ⟨.hbm, 188, rfl⟩
abbrev main_v94 : Ref sig .tc := ⟨.hbm, 189, rfl⟩
abbrev main_v95 : Ref sig .tc := ⟨.hbm, 190, rfl⟩
abbrev main_v96 : Ref sig .tc := ⟨.hbm, 191, rfl⟩
abbrev main_c_31 : Ref sig .tc := ⟨.hbm, 192, rfl⟩
abbrev main_call30_v0 : Ref sig .tc := ⟨.hbm, 193, rfl⟩
abbrev main_v97 : Ref sig .tc := ⟨.hbm, 194, rfl⟩
abbrev main_v98 : Ref sig .tc := ⟨.hbm, 195, rfl⟩
abbrev main_v99 : Ref sig .tc := ⟨.hbm, 196, rfl⟩
abbrev main_c_32 : Ref sig .tc := ⟨.hbm, 197, rfl⟩
abbrev main_call31_v0 : Ref sig .tc := ⟨.hbm, 198, rfl⟩
abbrev main_v100 : Ref sig .tc := ⟨.hbm, 199, rfl⟩
abbrev main_v101 : Ref sig .tc := ⟨.hbm, 200, rfl⟩
abbrev main_cst_33 : Ref sig .tc := ⟨.hbm, 201, rfl⟩
abbrev main_v102 : Ref sig .tc := ⟨.hbm, 202, rfl⟩
abbrev main_v103 : Ref sig .tc := ⟨.hbm, 203, rfl⟩
abbrev main_v104_0 : Ref sig .tc := ⟨.hbm, 204, rfl⟩
abbrev main_v104_1 : Ref sig .tc := ⟨.hbm, 205, rfl⟩
abbrev main_v104_2 : Ref sig .tc := ⟨.hbm, 206, rfl⟩
abbrev main_v104_3 : Ref sig .tc := ⟨.hbm, 207, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2168x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2168x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2168x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2168x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2168x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2168x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2168x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S2168x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamSmallRefIdeal.lean ====
abbrev S4x1024 : Shape := ⟨2, ![4, 1024]⟩
abbrev S4x4x128x128 : Shape := ⟨4, ![4, 4, 128, 128]⟩
abbrev S4x512 : Shape := ⟨2, ![4, 512]⟩
abbrev S4x64 : Shape := ⟨2, ![4, 64]⟩
abbrev S4x8 : Shape := ⟨2, ![4, 8]⟩
abbrev S_ : Shape := ⟨0, ![]⟩
abbrev S1x32 : Shape := ⟨2, ![1, 32]⟩
abbrev S1x96 : Shape := ⟨2, ![1, 96]⟩
abbrev S1x128 : Shape := ⟨2, ![1, 128]⟩
abbrev S32x128 : Shape := ⟨2, ![32, 128]⟩
abbrev S2048x128 : Shape := ⟨2, ![2048, 128]⟩
abbrev S16x128 : Shape := ⟨2, ![16, 128]⟩
abbrev S2x128 : Shape := ⟨2, ![2, 128]⟩
abbrev S3x128 : Shape := ⟨2, ![3, 128]⟩
abbrev S2168x128 : Shape := ⟨2, ![2168, 128]⟩

abbrev nBuf : Space → Nat
  | .hbm => 338
  | .vmem => 0
  | .smem => 0
  | _ => 0

abbrev hbmTy0_0 (i : Nat) : BufTy := match i % 128 with
  | 0 => ⟨S4x1024, .f32⟩
  | 1 => ⟨S4x1024, .f32⟩
  | 2 => ⟨S4x1024, .f32⟩
  | 3 => ⟨S4x1024, .f32⟩
  | 4 => ⟨S4x1024, .f32⟩
  | 5 => ⟨S4x1024, .f32⟩
  | 6 => ⟨S4x1024, .f32⟩
  | 7 => ⟨S4x1024, .f32⟩
  | 8 => ⟨S4x4x128x128, .f32⟩
  | 9 => ⟨S4x4x128x128, .f32⟩
  | 10 => ⟨S4x4x128x128, .f32⟩
  | 11 => ⟨S4x4x128x128, .f32⟩
  | 12 => ⟨S4x512, .f32⟩
  | 13 => ⟨S4x512, .f32⟩
  | 14 => ⟨S4x512, .f32⟩
  | 15 => ⟨S4x512, .f32⟩
  | 16 => ⟨S4x64, .f32⟩
  | 17 => ⟨S4x64, .f32⟩
  | 18 => ⟨S4x64, .f32⟩
  | 19 => ⟨S4x64, .f32⟩
  | 20 => ⟨S4x64, .f32⟩
  | 21 => ⟨S4x64, .f32⟩
  | 22 => ⟨S4x64, .f32⟩
  | 23 => ⟨S4x64, .f32⟩
  | 24 => ⟨S4x8, .f32⟩
  | 25 => ⟨S4x8, .f32⟩
  | 26 => ⟨S4x8, .f32⟩
  | 27 => ⟨S4x8, .f32⟩
  | 28 => ⟨S4x1024, .f32⟩
  | 29 => ⟨S4x1024, .f32⟩
  | 30 => ⟨S4x1024, .f32⟩
  | 31 => ⟨S4x1024, .f32⟩
  | 32 => ⟨S_, .f32⟩
  | 33 => ⟨S4x1024, .f32⟩
  | 34 => ⟨S4x1024, .f32⟩
  | 35 => ⟨S_, .f32⟩
  | 36 => ⟨S4x1024, .f32⟩
  | 37 => ⟨S4x1024, .f32⟩
  | 38 => ⟨S4x1024, .f32⟩
  | 39 => ⟨S_, .f32⟩
  | 40 => ⟨S4x1024, .f32⟩
  | 41 => ⟨S4x1024, .f32⟩
  | 42 => ⟨S4x1024, .f32⟩
  | 43 => ⟨S_, .f32⟩
  | 44 => ⟨S4x1024, .f32⟩
  | 45 => ⟨S4x1024, .f32⟩
  | 46 => ⟨S4x1024, .f32⟩
  | 47 => ⟨S_, .f32⟩
  | 48 => ⟨S4x1024, .f32⟩
  | 49 => ⟨S4x1024, .f32⟩
  | 50 => ⟨S_, .f32⟩
  | 51 => ⟨S4x1024, .f32⟩
  | 52 => ⟨S4x1024, .f32⟩
  | 53 => ⟨S4x1024, .f32⟩
  | 54 => ⟨S_, .f32⟩
  | 55 => ⟨S4x1024, .f32⟩
  | 56 => ⟨S4x1024, .f32⟩
  | 57 => ⟨S4x1024, .f32⟩
  | 58 => ⟨S_, .f32⟩
  | 59 => ⟨S4x1024, .f32⟩
  | 60 => ⟨S4x1024, .f32⟩
  | 61 => ⟨S4x1024, .f32⟩
  | 62 => ⟨S_, .f32⟩
  | 63 => ⟨S4x1024, .f32⟩
  | 64 => ⟨S4x1024, .f32⟩
  | 65 => ⟨S_, .f32⟩
  | 66 => ⟨S4x1024, .f32⟩
  | 67 => ⟨S4x1024, .f32⟩
  | 68 => ⟨S_, .f32⟩
  | 69 => ⟨S4x1024, .f32⟩
  | 70 => ⟨S4x1024, .f32⟩
  | 71 => ⟨S4x1024, .f32⟩
  | 72 => ⟨S_, .f32⟩
  | 73 => ⟨S4x1024, .f32⟩
  | 74 => ⟨S4x1024, .f32⟩
  | 75 => ⟨S4x1024, .f32⟩
  | 76 => ⟨S_, .f32⟩
  | 77 => ⟨S4x1024, .f32⟩
  | 78 => ⟨S4x1024, .f32⟩
  | 79 => ⟨S4x1024, .f32⟩
  | 80 => ⟨S_, .f32⟩
  | 81 => ⟨S4x1024, .f32⟩
  | 82 => ⟨S4x1024, .f32⟩
  | 83 => ⟨S_, .f32⟩
  | 84 => ⟨S4x1024, .f32⟩
  | 85 => ⟨S4x1024, .f32⟩
  | 86 => ⟨S4x1024, .f32⟩
  | 87 => ⟨S_, .f32⟩
  | 88 => ⟨S4x1024, .f32⟩
  | 89 => ⟨S4x1024, .f32⟩
  | 90 => ⟨S4x1024, .f32⟩
  | 91 => ⟨S_, .f32⟩
  | 92 => ⟨S4x1024, .f32⟩
  | 93 => ⟨S4x1024, .f32⟩
  | 94 => ⟨S4x1024, .f32⟩
  | 95 => ⟨S_, .f32⟩
  | 96 => ⟨S4x1024, .f32⟩
  | 97 => ⟨S4x1024, .f32⟩
  | 98 => ⟨S_, .f32⟩
  | 99 => ⟨S4x4x128x128, .f32⟩
  | 100 => ⟨S4x4x128x128, .f32⟩
  | 101 => ⟨S_, .f32⟩
  | 102 => ⟨S4x4x128x128, .f32⟩
  | 103 => ⟨S4x4x128x128, .f32⟩
  | 104 => ⟨S4x4x128x128, .f32⟩
  | 105 => ⟨S_, .f32⟩
  | 106 => ⟨S4x4x128x128, .f32⟩
  | 107 => ⟨S4x4x128x128, .f32⟩
  | 108 => ⟨S4x4x128x128, .f32⟩
  | 109 => ⟨S_, .f32⟩
  | 110 => ⟨S4x4x128x128, .f32⟩
  | 111 => ⟨S4x4x128x128, .f32⟩
  | 112 => ⟨S4x4x128x128, .f32⟩
  | 113 => ⟨S_, .f32⟩
  | 114 => ⟨S4x4x128x128, .f32⟩
  | 115 => ⟨S4x4x128x128, .f32⟩
  | 116 => ⟨S_, .f32⟩
  | 117 => ⟨S4x4x128x128, .f32⟩
  | 118 => ⟨S4x4x128x128, .f32⟩
  | 119 => ⟨S4x4x128x128, .f32⟩
  | 120 => ⟨S_, .f32⟩
  | 121 => ⟨S4x4x128x128, .f32⟩
  | 122 => ⟨S4x4x128x128, .f32⟩
  | 123 => ⟨S4x4x128x128, .f32⟩
  | 124 => ⟨S_, .f32⟩
  | 125 => ⟨S4x4x128x128, .f32⟩
  | 126 => ⟨S4x4x128x128, .f32⟩
  | 127 => ⟨S4x4x128x128, .f32⟩
  | _ => ⟨S4x1024, .f32⟩

abbrev hbmTy0_1 (i : Nat) : BufTy := match i % 128 with
  | 0 => ⟨S_, .f32⟩
  | 1 => ⟨S4x4x128x128, .f32⟩
  | 2 => ⟨S4x4x128x128, .f32⟩
  | 3 => ⟨S_, .f32⟩
  | 4 => ⟨S4x512, .f32⟩
  | 5 => ⟨S4x512, .f32⟩
  | 6 => ⟨S_, .f32⟩
  | 7 => ⟨S4x512, .f32⟩
  | 8 => ⟨S4x512, .f32⟩
  | 9 => ⟨S4x512, .f32⟩
  | 10 => ⟨S_, .f32⟩
  | 11 => ⟨S4x512, .f32⟩
  | 12 => ⟨S4x512, .f32⟩
  | 13 => ⟨S4x512, .f32⟩
  | 14 => ⟨S_, .f32⟩
  | 15 => ⟨S4x512, .f32⟩
  | 16 => ⟨S4x512, .f32⟩
  | 17 => ⟨S4x512, .f32⟩
  | 18 => ⟨S_, .f32⟩
  | 19 => ⟨S4x512, .f32⟩
  | 20 => ⟨S4x512, .f32⟩
  | 21 => ⟨S_, .f32⟩
  | 22 => ⟨S4x512, .f32⟩
  | 23 => ⟨S4x512, .f32⟩
  | 24 => ⟨S4x512, .f32⟩
  | 25 => ⟨S_, .f32⟩
  | 26 => ⟨S4x512, .f32⟩
  | 27 => ⟨S4x512, .f32⟩
  | 28 => ⟨S4x512, .f32⟩
  | 29 => ⟨S_, .f32⟩
  | 30 => ⟨S4x512, .f32⟩
  | 31 => ⟨S4x512, .f32⟩
  | 32 => ⟨S4x512, .f32⟩
  | 33 => ⟨S_, .f32⟩
  | 34 => ⟨S4x512, .f32⟩
  | 35 => ⟨S4x512, .f32⟩
  | 36 => ⟨S_, .f32⟩
  | 37 => ⟨S4x64, .f32⟩
  | 38 => ⟨S4x64, .f32⟩
  | 39 => ⟨S_, .f32⟩
  | 40 => ⟨S4x64, .f32⟩
  | 41 => ⟨S4x64, .f32⟩
  | 42 => ⟨S4x64, .f32⟩
  | 43 => ⟨S_, .f32⟩
  | 44 => ⟨S4x64, .f32⟩
  | 45 => ⟨S4x64, .f32⟩
  | 46 => ⟨S4x64, .f32⟩
  | 47 => ⟨S_, .f32⟩
  | 48 => ⟨S4x64, .f32⟩
  | 49 => ⟨S4x64, .f32⟩
  | 50 => ⟨S4x64, .f32⟩
  | 51 => ⟨S_, .f32⟩
  | 52 => ⟨S4x64, .f32⟩
  | 53 => ⟨S4x64, .f32⟩
  | 54 => ⟨S_, .f32⟩
  | 55 => ⟨S4x64, .f32⟩
  | 56 => ⟨S4x64, .f32⟩
  | 57 => ⟨S4x64, .f32⟩
  | 58 => ⟨S_, .f32⟩
  | 59 => ⟨S4x64, .f32⟩
  | 60 => ⟨S4x64, .f32⟩
  | 61 => ⟨S4x64, .f32⟩
  | 62 => ⟨S_, .f32⟩
  | 63 => ⟨S4x64, .f32⟩
  | 64 => ⟨S4x64, .f32⟩
  | 65 => ⟨S4x64, .f32⟩
  | 66 => ⟨S_, .f32⟩
  | 67 => ⟨S4x64, .f32⟩
  | 68 => ⟨S4x64, .f32⟩
  | 69 => ⟨S_, .f32⟩
  | 70 => ⟨S4x64, .f32⟩
  | 71 => ⟨S4x64, .f32⟩
  | 72 => ⟨S_, .f32⟩
  | 73 => ⟨S4x64, .f32⟩
  | 74 => ⟨S4x64, .f32⟩
  | 75 => ⟨S4x64, .f32⟩
  | 76 => ⟨S_, .f32⟩
  | 77 => ⟨S4x64, .f32⟩
  | 78 => ⟨S4x64, .f32⟩
  | 79 => ⟨S4x64, .f32⟩
  | 80 => ⟨S_, .f32⟩
  | 81 => ⟨S4x64, .f32⟩
  | 82 => ⟨S4x64, .f32⟩
  | 83 => ⟨S4x64, .f32⟩
  | 84 => ⟨S_, .f32⟩
  | 85 => ⟨S4x64, .f32⟩
  | 86 => ⟨S4x64, .f32⟩
  | 87 => ⟨S_, .f32⟩
  | 88 => ⟨S4x64, .f32⟩
  | 89 => ⟨S4x64, .f32⟩
  | 90 => ⟨S4x64, .f32⟩
  | 91 => ⟨S_, .f32⟩
  | 92 => ⟨S4x64, .f32⟩
  | 93 => ⟨S4x64, .f32⟩
  | 94 => ⟨S4x64, .f32⟩
  | 95 => ⟨S_, .f32⟩
  | 96 => ⟨S4x64, .f32⟩
  | 97 => ⟨S4x64, .f32⟩
  | 98 => ⟨S4x64, .f32⟩
  | 99 => ⟨S_, .f32⟩
  | 100 => ⟨S4x64, .f32⟩
  | 101 => ⟨S4x64, .f32⟩
  | 102 => ⟨S_, .f32⟩
  | 103 => ⟨S4x8, .f32⟩
  | 104 => ⟨S4x8, .f32⟩
  | 105 => ⟨S_, .f32⟩
  | 106 => ⟨S4x8, .f32⟩
  | 107 => ⟨S4x8, .f32⟩
  | 108 => ⟨S4x8, .f32⟩
  | 109 => ⟨S_, .f32⟩
  | 110 => ⟨S4x8, .f32⟩
  | 111 => ⟨S4x8, .f32⟩
  | 112 => ⟨S4x8, .f32⟩
  | 113 => ⟨S_, .f32⟩
  | 114 => ⟨S4x8, .f32⟩
  | 115 => ⟨S4x8, .f32⟩
  | 116 => ⟨S4x8, .f32⟩
  | 117 => ⟨S_, .f32⟩
  | 118 => ⟨S4x8, .f32⟩
  | 119 => ⟨S4x8, .f32⟩
  | 120 => ⟨S_, .f32⟩
  | 121 => ⟨S4x8, .f32⟩
  | 122 => ⟨S4x8, .f32⟩
  | 123 => ⟨S4x8, .f32⟩
  | 124 => ⟨S_, .f32⟩
  | 125 => ⟨S4x8, .f32⟩
  | 126 => ⟨S4x8, .f32⟩
  | 127 => ⟨S4x8, .f32⟩
  | _ => ⟨S4x1024, .f32⟩

abbrev hbmTy0_2 (i : Nat) : BufTy := match i % 128 with
  | 0 => ⟨S_, .f32⟩
  | 1 => ⟨S4x8, .f32⟩
  | 2 => ⟨S4x8, .f32⟩
  | 3 => ⟨S4x8, .f32⟩
  | 4 => ⟨S_, .f32⟩
  | 5 => ⟨S4x8, .f32⟩
  | 6 => ⟨S4x8, .f32⟩
  | 7 => ⟨S_, .f32⟩
  | 8 => ⟨S4x1024, .f32⟩
  | 9 => ⟨S4x1024, .f32⟩
  | 10 => ⟨S_, .f32⟩
  | 11 => ⟨S4x1024, .f32⟩
  | 12 => ⟨S4x1024, .f32⟩
  | 13 => ⟨S4x1024, .f32⟩
  | 14 => ⟨S_, .f32⟩
  | 15 => ⟨S4x1024, .f32⟩
  | 16 => ⟨S4x1024, .f32⟩
  | 17 => ⟨S4x1024, .f32⟩
  | 18 => ⟨S_, .f32⟩
  | 19 => ⟨S4x1024, .f32⟩
  | 20 => ⟨S4x1024, .f32⟩
  | 21 => ⟨S4x1024, .f32⟩
  | 22 => ⟨S_, .f32⟩
  | 23 => ⟨S4x1024, .f32⟩
  | 24 => ⟨S4x1024, .f32⟩
  | 25 => ⟨S_, .f32⟩
  | 26 => ⟨S4x1024, .f32⟩
  | 27 => ⟨S4x1024, .f32⟩
  | 28 => ⟨S4x1024, .f32⟩
  | 29 => ⟨S_, .f32⟩
  | 30 => ⟨S4x1024, .f32⟩
  | 31 => ⟨S4x1024, .f32⟩
  | 32 => ⟨S4x1024, .f32⟩
  | 33 => ⟨S_, .f32⟩
  | 34 => ⟨S4x1024, .f32⟩
  | 35 => ⟨S4x1024, .f32⟩
  | 36 => ⟨S4x1024, .f32⟩
  | 37 => ⟨S_, .f32⟩
  | 38 => ⟨S4x1024, .f32⟩
  | 39 => ⟨S4x1024, .f32⟩
  | 40 => ⟨S1x32, .f32⟩
  | 41 => ⟨S_, .f32⟩
  | 42 => ⟨S1x96, .f32⟩
  | 43 => ⟨S1x128, .f32⟩
  | 44 => ⟨S32x128, .f32⟩
  | 45 => ⟨S32x128, .f32⟩
  | 46 => ⟨S2048x128, .f32⟩
  | 47 => ⟨S16x128, .f32⟩
  | 48 => ⟨S2x128, .f32⟩
  | 49 => ⟨S2x128, .f32⟩
  | 50 => ⟨S32x128, .f32⟩
  | 51 => ⟨S_, .f32⟩
  | 52 => ⟨S3x128, .f32⟩
  | 53 => ⟨S2168x128, .f32⟩
  | 54 => ⟨S1x32, .f32⟩
  | 55 => ⟨S_, .f32⟩
  | 56 => ⟨S1x96, .f32⟩
  | 57 => ⟨S1x128, .f32⟩
  | 58 => ⟨S32x128, .f32⟩
  | 59 => ⟨S32x128, .f32⟩
  | 60 => ⟨S2048x128, .f32⟩
  | 61 => ⟨S16x128, .f32⟩
  | 62 => ⟨S2x128, .f32⟩
  | 63 => ⟨S2x128, .f32⟩
  | 64 => ⟨S32x128, .f32⟩
  | 65 => ⟨S_, .f32⟩
  | 66 => ⟨S3x128, .f32⟩
  | 67 => ⟨S2168x128, .f32⟩
  | 68 => ⟨S1x32, .f32⟩
  | 69 => ⟨S_, .f32⟩
  | 70 => ⟨S1x96, .f32⟩
  | 71 => ⟨S1x128, .f32⟩
  | 72 => ⟨S32x128, .f32⟩
  | 73 => ⟨S32x128, .f32⟩
  | 74 => ⟨S2048x128, .f32⟩
  | 75 => ⟨S16x128, .f32⟩
  | 76 => ⟨S2x128, .f32⟩
  | 77 => ⟨S2x128, .f32⟩
  | 78 => ⟨S32x128, .f32⟩
  | 79 => ⟨S_, .f32⟩
  | 80 => ⟨S3x128, .f32⟩
  | 81 => ⟨S2168x128, .f32⟩
  | _ => ⟨S4x1024, .f32⟩

abbrev hbmTy (i : Nat) : BufTy := match i / 128 with
  | 0 => hbmTy0_0 i
  | 1 => hbmTy0_1 i
  | 2 => hbmTy0_2 i
  | _ => ⟨S4x1024, .f32⟩

abbrev bufTy : (tb : Table) → Fin (tcTables nBuf tb) → BufTy
  | .hbm, ⟨i, _⟩ => hbmTy i
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_cst : Ref sig .tc := ⟨.hbm, 32, rfl⟩
abbrev main_v0 : Ref sig .tc := ⟨.hbm, 33, rfl⟩
abbrev main_v1 : Ref sig .tc := ⟨.hbm, 34, rfl⟩
abbrev main_cst_0 : Ref sig .tc := ⟨.hbm, 35, rfl⟩
abbrev main_v2 : Ref sig .tc := ⟨.hbm, 36, rfl⟩
abbrev main_v3 : Ref sig .tc := ⟨.hbm, 37, rfl⟩
abbrev main_v4 : Ref sig .tc := ⟨.hbm, 38, rfl⟩
abbrev main_cst_1 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_cst_2 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_cst_3 : Ref sig .tc := ⟨.hbm, 47, rfl⟩
abbrev main_v11 : Ref sig .tc := ⟨.hbm, 48, rfl⟩
abbrev main_v12 : Ref sig .tc := ⟨.hbm, 49, rfl⟩
abbrev main_cst_4 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_cst_5 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_cst_6 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_cst_7 : Ref sig .tc := ⟨.hbm, 62, rfl⟩
abbrev main_v22 : Ref sig .tc := ⟨.hbm, 63, rfl⟩
abbrev main_v23 : Ref sig .tc := ⟨.hbm, 64, rfl⟩
abbrev main_cst_8 : Ref sig .tc := ⟨.hbm, 65, rfl⟩
abbrev main_v24 : Ref sig .tc := ⟨.hbm, 66, rfl⟩
abbrev main_v25 : Ref sig .tc := ⟨.hbm, 67, rfl⟩
abbrev main_cst_9 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_cst_10 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_cst_11 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_cst_12 : Ref sig .tc := ⟨.hbm, 80, rfl⟩
abbrev main_v35 : Ref sig .tc := ⟨.hbm, 81, rfl⟩
abbrev main_v36 : Ref sig .tc := ⟨.hbm, 82, rfl⟩
abbrev main_cst_13 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_cst_14 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_cst_15 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_cst_16 : Ref sig .tc := ⟨.hbm, 95, rfl⟩
abbrev main_v46 : Ref sig .tc := ⟨.hbm, 96, rfl⟩
abbrev main_v47 : Ref sig .tc := ⟨.hbm, 97, rfl⟩
abbrev main_cst_17 : Ref sig .tc := ⟨.hbm, 98, rfl⟩
abbrev main_v48 : Ref sig .tc := ⟨.hbm, 99, rfl⟩
abbrev main_v49 : Ref sig .tc := ⟨.hbm, 100, rfl⟩
abbrev main_cst_18 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_cst_19 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_cst_20 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_cst_21 : Ref sig .tc := ⟨.hbm, 113, rfl⟩
abbrev main_v59 : Ref sig .tc := ⟨.hbm, 114, rfl⟩
abbrev main_v60 : Ref sig .tc := ⟨.hbm, 115, rfl⟩
abbrev main_cst_22 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_cst_23 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_cst_24 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩
abbrev main_cst_25 : Ref sig .tc := ⟨.hbm, 128, rfl⟩
abbrev main_v70 : Ref sig .tc := ⟨.hbm, 129, rfl⟩
abbrev main_v71 : Ref sig .tc := ⟨.hbm, 130, rfl⟩
abbrev main_cst_26 : Ref sig .tc := ⟨.hbm, 131, rfl⟩
abbrev main_v72 : Ref sig .tc := ⟨.hbm, 132, rfl⟩
abbrev main_v73 : Ref sig .tc := ⟨.hbm, 133, rfl⟩
abbrev main_cst_27 : Ref sig .tc := ⟨.hbm, 134, rfl⟩
abbrev main_v74 : Ref sig .tc := ⟨.hbm, 135, rfl⟩
abbrev main_v75 : Ref sig .tc := ⟨.hbm, 136, rfl⟩
abbrev main_v76 : Ref sig .tc := ⟨.hbm, 137, rfl⟩
abbrev main_cst_28 : Ref sig .tc := ⟨.hbm, 138, rfl⟩
abbrev main_v77 : Ref sig .tc := ⟨.hbm, 139, rfl⟩
abbrev main_v78 : Ref sig .tc := ⟨.hbm, 140, rfl⟩
abbrev main_v79 : Ref sig .tc := ⟨.hbm, 141, rfl⟩
abbrev main_cst_29 : Ref sig .tc := ⟨.hbm, 142, rfl⟩
abbrev main_v80 : Ref sig .tc := ⟨.hbm, 143, rfl⟩
abbrev main_v81 : Ref sig .tc := ⟨.hbm, 144, rfl⟩
abbrev main_v82 : Ref sig .tc := ⟨.hbm, 145, rfl⟩
abbrev main_cst_30 : Ref sig .tc := ⟨.hbm, 146, rfl⟩
abbrev main_v83 : Ref sig .tc := ⟨.hbm, 147, rfl⟩
abbrev main_v84 : Ref sig .tc := ⟨.hbm, 148, rfl⟩
abbrev main_cst_31 : Ref sig .tc := ⟨.hbm, 149, rfl⟩
abbrev main_v85 : Ref sig .tc := ⟨.hbm, 150, rfl⟩
abbrev main_v86 : Ref sig .tc := ⟨.hbm, 151, rfl⟩
abbrev main_v87 : Ref sig .tc := ⟨.hbm, 152, rfl⟩
abbrev main_cst_32 : Ref sig .tc := ⟨.hbm, 153, rfl⟩
abbrev main_v88 : Ref sig .tc := ⟨.hbm, 154, rfl⟩
abbrev main_v89 : Ref sig .tc := ⟨.hbm, 155, rfl⟩
abbrev main_v90 : Ref sig .tc := ⟨.hbm, 156, rfl⟩
abbrev main_cst_33 : Ref sig .tc := ⟨.hbm, 157, rfl⟩
abbrev main_v91 : Ref sig .tc := ⟨.hbm, 158, rfl⟩
abbrev main_v92 : Ref sig .tc := ⟨.hbm, 159, rfl⟩
abbrev main_v93 : Ref sig .tc := ⟨.hbm, 160, rfl⟩
abbrev main_cst_34 : Ref sig .tc := ⟨.hbm, 161, rfl⟩
abbrev main_v94 : Ref sig .tc := ⟨.hbm, 162, rfl⟩
abbrev main_v95 : Ref sig .tc := ⟨.hbm, 163, rfl⟩
abbrev main_cst_35 : Ref sig .tc := ⟨.hbm, 164, rfl⟩
abbrev main_v96 : Ref sig .tc := ⟨.hbm, 165, rfl⟩
abbrev main_v97 : Ref sig .tc := ⟨.hbm, 166, rfl⟩
abbrev main_cst_36 : Ref sig .tc := ⟨.hbm, 167, rfl⟩
abbrev main_v98 : Ref sig .tc := ⟨.hbm, 168, rfl⟩
abbrev main_v99 : Ref sig .tc := ⟨.hbm, 169, rfl⟩
abbrev main_v100 : Ref sig .tc := ⟨.hbm, 170, rfl⟩
abbrev main_cst_37 : Ref sig .tc := ⟨.hbm, 171, rfl⟩
abbrev main_v101 : Ref sig .tc := ⟨.hbm, 172, rfl⟩
abbrev main_v102 : Ref sig .tc := ⟨.hbm, 173, rfl⟩
abbrev main_v103 : Ref sig .tc := ⟨.hbm, 174, rfl⟩
abbrev main_cst_38 : Ref sig .tc := ⟨.hbm, 175, rfl⟩
abbrev main_v104 : Ref sig .tc := ⟨.hbm, 176, rfl⟩
abbrev main_v105 : Ref sig .tc := ⟨.hbm, 177, rfl⟩
abbrev main_v106 : Ref sig .tc := ⟨.hbm, 178, rfl⟩
abbrev main_cst_39 : Ref sig .tc := ⟨.hbm, 179, rfl⟩
abbrev main_v107 : Ref sig .tc := ⟨.hbm, 180, rfl⟩
abbrev main_v108 : Ref sig .tc := ⟨.hbm, 181, rfl⟩
abbrev main_cst_40 : Ref sig .tc := ⟨.hbm, 182, rfl⟩
abbrev main_v109 : Ref sig .tc := ⟨.hbm, 183, rfl⟩
abbrev main_v110 : Ref sig .tc := ⟨.hbm, 184, rfl⟩
abbrev main_v111 : Ref sig .tc := ⟨.hbm, 185, rfl⟩
abbrev main_cst_41 : Ref sig .tc := ⟨.hbm, 186, rfl⟩
abbrev main_v112 : Ref sig .tc := ⟨.hbm, 187, rfl⟩
abbrev main_v113 : Ref sig .tc := ⟨.hbm, 188, rfl⟩
abbrev main_v114 : Ref sig .tc := ⟨.hbm, 189, rfl⟩
abbrev main_cst_42 : Ref sig .tc := ⟨.hbm, 190, rfl⟩
abbrev main_v115 : Ref sig .tc := ⟨.hbm, 191, rfl⟩
abbrev main_v116 : Ref sig .tc := ⟨.hbm, 192, rfl⟩
abbrev main_v117 : Ref sig .tc := ⟨.hbm, 193, rfl⟩
abbrev main_cst_43 : Ref sig .tc := ⟨.hbm, 194, rfl⟩
abbrev main_v118 : Ref sig .tc := ⟨.hbm, 195, rfl⟩
abbrev main_v119 : Ref sig .tc := ⟨.hbm, 196, rfl⟩
abbrev main_cst_44 : Ref sig .tc := ⟨.hbm, 197, rfl⟩
abbrev main_v120 : Ref sig .tc := ⟨.hbm, 198, rfl⟩
abbrev main_v121 : Ref sig .tc := ⟨.hbm, 199, rfl⟩
abbrev main_cst_45 : Ref sig .tc := ⟨.hbm, 200, rfl⟩
abbrev main_v122 : Ref sig .tc := ⟨.hbm, 201, rfl⟩
abbrev main_v123 : Ref sig .tc := ⟨.hbm, 202, rfl⟩
abbrev main_v124 : Ref sig .tc := ⟨.hbm, 203, rfl⟩
abbrev main_cst_46 : Ref sig .tc := ⟨.hbm, 204, rfl⟩
abbrev main_v125 : Ref sig .tc := ⟨.hbm, 205, rfl⟩
abbrev main_v126 : Ref sig .tc := ⟨.hbm, 206, rfl⟩
abbrev main_v127 : Ref sig .tc := ⟨.hbm, 207, rfl⟩
abbrev main_cst_47 : Ref sig .tc := ⟨.hbm, 208, rfl⟩
abbrev main_v128 : Ref sig .tc := ⟨.hbm, 209, rfl⟩
abbrev main_v129 : Ref sig .tc := ⟨.hbm, 210, rfl⟩
abbrev main_v130 : Ref sig .tc := ⟨.hbm, 211, rfl⟩
abbrev main_cst_48 : Ref sig .tc := ⟨.hbm, 212, rfl⟩
abbrev main_v131 : Ref sig .tc := ⟨.hbm, 213, rfl⟩
abbrev main_v132 : Ref sig .tc := ⟨.hbm, 214, rfl⟩
abbrev main_cst_49 : Ref sig .tc := ⟨.hbm, 215, rfl⟩
abbrev main_v133 : Ref sig .tc := ⟨.hbm, 216, rfl⟩
abbrev main_v134 : Ref sig .tc := ⟨.hbm, 217, rfl⟩
abbrev main_v135 : Ref sig .tc := ⟨.hbm, 218, rfl⟩
abbrev main_cst_50 : Ref sig .tc := ⟨.hbm, 219, rfl⟩
abbrev main_v136 : Ref sig .tc := ⟨.hbm, 220, rfl⟩
abbrev main_v137 : Ref sig .tc := ⟨.hbm, 221, rfl⟩
abbrev main_v138 : Ref sig .tc := ⟨.hbm, 222, rfl⟩
abbrev main_cst_51 : Ref sig .tc := ⟨.hbm, 223, rfl⟩
abbrev main_v139 : Ref sig .tc := ⟨.hbm, 224, rfl⟩
abbrev main_v140 : Ref sig .tc := ⟨.hbm, 225, rfl⟩
abbrev main_v141 : Ref sig .tc := ⟨.hbm, 226, rfl⟩
abbrev main_cst_52 : Ref sig .tc := ⟨.hbm, 227, rfl⟩
abbrev main_v142 : Ref sig .tc := ⟨.hbm, 228, rfl⟩
abbrev main_v143 : Ref sig .tc := ⟨.hbm, 229, rfl⟩
abbrev main_cst_53 : Ref sig .tc := ⟨.hbm, 230, rfl⟩
abbrev main_v144 : Ref sig .tc := ⟨.hbm, 231, rfl⟩
abbrev main_v145 : Ref sig .tc := ⟨.hbm, 232, rfl⟩
abbrev main_cst_54 : Ref sig .tc := ⟨.hbm, 233, rfl⟩
abbrev main_v146 : Ref sig .tc := ⟨.hbm, 234, rfl⟩
abbrev main_v147 : Ref sig .tc := ⟨.hbm, 235, rfl⟩
abbrev main_v148 : Ref sig .tc := ⟨.hbm, 236, rfl⟩
abbrev main_cst_55 : Ref sig .tc := ⟨.hbm, 237, rfl⟩
abbrev main_v149 : Ref sig .tc := ⟨.hbm, 238, rfl⟩
abbrev main_v150 : Ref sig .tc := ⟨.hbm, 239, rfl⟩
abbrev main_v151 : Ref sig .tc := ⟨.hbm, 240, rfl⟩
abbrev main_cst_56 : Ref sig .tc := ⟨.hbm, 241, rfl⟩
abbrev main_v152 : Ref sig .tc := ⟨.hbm, 242, rfl⟩
abbrev main_v153 : Ref sig .tc := ⟨.hbm, 243, rfl⟩
abbrev main_v154 : Ref sig .tc := ⟨.hbm, 244, rfl⟩
abbrev main_cst_57 : Ref sig .tc := ⟨.hbm, 245, rfl⟩
abbrev main_v155 : Ref sig .tc := ⟨.hbm, 246, rfl⟩
abbrev main_v156 : Ref sig .tc := ⟨.hbm, 247, rfl⟩
abbrev main_cst_58 : Ref sig .tc := ⟨.hbm, 248, rfl⟩
abbrev main_v157 : Ref sig .tc := ⟨.hbm, 249, rfl⟩
abbrev main_v158 : Ref sig .tc := ⟨.hbm, 250, rfl⟩
abbrev main_v159 : Ref sig .tc := ⟨.hbm, 251, rfl⟩
abbrev main_cst_59 : Ref sig .tc := ⟨.hbm, 252, rfl⟩
abbrev main_v160 : Ref sig .tc := ⟨.hbm, 253, rfl⟩
abbrev main_v161 : Ref sig .tc := ⟨.hbm, 254, rfl⟩
abbrev main_v162 : Ref sig .tc := ⟨.hbm, 255, rfl⟩
abbrev main_cst_60 : Ref sig .tc := ⟨.hbm, 256, rfl⟩
abbrev main_v163 : Ref sig .tc := ⟨.hbm, 257, rfl⟩
abbrev main_v164 : Ref sig .tc := ⟨.hbm, 258, rfl⟩
abbrev main_v165 : Ref sig .tc := ⟨.hbm, 259, rfl⟩
abbrev main_cst_61 : Ref sig .tc := ⟨.hbm, 260, rfl⟩
abbrev main_v166 : Ref sig .tc := ⟨.hbm, 261, rfl⟩
abbrev main_v167 : Ref sig .tc := ⟨.hbm, 262, rfl⟩
abbrev main_cst_62 : Ref sig .tc := ⟨.hbm, 263, rfl⟩
abbrev main_v168 : Ref sig .tc := ⟨.hbm, 264, rfl⟩
abbrev main_v169 : Ref sig .tc := ⟨.hbm, 265, rfl⟩
abbrev main_cst_63 : Ref sig .tc := ⟨.hbm, 266, rfl⟩
abbrev main_v170 : Ref sig .tc := ⟨.hbm, 267, rfl⟩
abbrev main_v171 : Ref sig .tc := ⟨.hbm, 268, rfl⟩
abbrev main_v172 : Ref sig .tc := ⟨.hbm, 269, rfl⟩
abbrev main_cst_64 : Ref sig .tc := ⟨.hbm, 270, rfl⟩
abbrev main_v173 : Ref sig .tc := ⟨.hbm, 271, rfl⟩
abbrev main_v174 : Ref sig .tc := ⟨.hbm, 272, rfl⟩
abbrev main_v175 : Ref sig .tc := ⟨.hbm, 273, rfl⟩
abbrev main_cst_65 : Ref sig .tc := ⟨.hbm, 274, rfl⟩
abbrev main_v176 : Ref sig .tc := ⟨.hbm, 275, rfl⟩
abbrev main_v177 : Ref sig .tc := ⟨.hbm, 276, rfl⟩
abbrev main_v178 : Ref sig .tc := ⟨.hbm, 277, rfl⟩
abbrev main_cst_66 : Ref sig .tc := ⟨.hbm, 278, rfl⟩
abbrev main_v179 : Ref sig .tc := ⟨.hbm, 279, rfl⟩
abbrev main_v180 : Ref sig .tc := ⟨.hbm, 280, rfl⟩
abbrev main_cst_67 : Ref sig .tc := ⟨.hbm, 281, rfl⟩
abbrev main_v181 : Ref sig .tc := ⟨.hbm, 282, rfl⟩
abbrev main_v182 : Ref sig .tc := ⟨.hbm, 283, rfl⟩
abbrev main_v183 : Ref sig .tc := ⟨.hbm, 284, rfl⟩
abbrev main_cst_68 : Ref sig .tc := ⟨.hbm, 285, rfl⟩
abbrev main_v184 : Ref sig .tc := ⟨.hbm, 286, rfl⟩
abbrev main_v185 : Ref sig .tc := ⟨.hbm, 287, rfl⟩
abbrev main_v186 : Ref sig .tc := ⟨.hbm, 288, rfl⟩
abbrev main_cst_69 : Ref sig .tc := ⟨.hbm, 289, rfl⟩
abbrev main_v187 : Ref sig .tc := ⟨.hbm, 290, rfl⟩
abbrev main_v188 : Ref sig .tc := ⟨.hbm, 291, rfl⟩
abbrev main_v189 : Ref sig .tc := ⟨.hbm, 292, rfl⟩
abbrev main_cst_70 : Ref sig .tc := ⟨.hbm, 293, rfl⟩
abbrev main_v190 : Ref sig .tc := ⟨.hbm, 294, rfl⟩
abbrev main_v191 : Ref sig .tc := ⟨.hbm, 295, rfl⟩
abbrev main_v192 : Ref sig .tc := ⟨.hbm, 296, rfl⟩
abbrev main_cst_71 : Ref sig .tc := ⟨.hbm, 297, rfl⟩
abbrev main_v193 : Ref sig .tc := ⟨.hbm, 298, rfl⟩
abbrev main_v194 : Ref sig .tc := ⟨.hbm, 299, rfl⟩
abbrev main_v195 : Ref sig .tc := ⟨.hbm, 300, rfl⟩
abbrev main_v196 : Ref sig .tc := ⟨.hbm, 301, rfl⟩
abbrev main_v197 : Ref sig .tc := ⟨.hbm, 302, rfl⟩
abbrev main_v198 : Ref sig .tc := ⟨.hbm, 303, rfl⟩
abbrev main_v199 : Ref sig .tc := ⟨.hbm, 304, rfl⟩
abbrev main_v200 : Ref sig .tc := ⟨.hbm, 305, rfl⟩
abbrev main_v201 : Ref sig .tc := ⟨.hbm, 306, rfl⟩
abbrev main_cst_72 : Ref sig .tc := ⟨.hbm, 307, rfl⟩
abbrev main_v202 : Ref sig .tc := ⟨.hbm, 308, rfl⟩
abbrev main_v203 : Ref sig .tc := ⟨.hbm, 309, rfl⟩
abbrev main_v204 : Ref sig .tc := ⟨.hbm, 310, rfl⟩
abbrev main_cst_73 : Ref sig .tc := ⟨.hbm, 311, rfl⟩
abbrev main_v205 : Ref sig .tc := ⟨.hbm, 312, rfl⟩
abbrev main_v206 : Ref sig .tc := ⟨.hbm, 313, rfl⟩
abbrev main_v207 : Ref sig .tc := ⟨.hbm, 314, rfl⟩
abbrev main_v208 : Ref sig .tc := ⟨.hbm, 315, rfl⟩
abbrev main_v209 : Ref sig .tc := ⟨.hbm, 316, rfl⟩
abbrev main_v210 : Ref sig .tc := ⟨.hbm, 317, rfl⟩
abbrev main_v211 : Ref sig .tc := ⟨.hbm, 318, rfl⟩
abbrev main_v212 : Ref sig .tc := ⟨.hbm, 319, rfl⟩
abbrev main_v213 : Ref sig .tc := ⟨.hbm, 320, rfl⟩
abbrev main_cst_74 : Ref sig .tc := ⟨.hbm, 321, rfl⟩
abbrev main_v214 : Ref sig .tc := ⟨.hbm, 322, rfl⟩
abbrev main_v215 : Ref sig .tc := ⟨.hbm, 323, rfl⟩
abbrev main_v216 : Ref sig .tc := ⟨.hbm, 324, rfl⟩
abbrev main_cst_75 : Ref sig .tc := ⟨.hbm, 325, rfl⟩
abbrev main_v217 : Ref sig .tc := ⟨.hbm, 326, rfl⟩
abbrev main_v218 : Ref sig .tc := ⟨.hbm, 327, rfl⟩
abbrev main_v219 : Ref sig .tc := ⟨.hbm, 328, rfl⟩
abbrev main_v220 : Ref sig .tc := ⟨.hbm, 329, rfl⟩
abbrev main_v221 : Ref sig .tc := ⟨.hbm, 330, rfl⟩
abbrev main_v222 : Ref sig .tc := ⟨.hbm, 331, rfl⟩
abbrev main_v223 : Ref sig .tc := ⟨.hbm, 332, rfl⟩
abbrev main_v224 : Ref sig .tc := ⟨.hbm, 333, rfl⟩
abbrev main_v225 : Ref sig .tc := ⟨.hbm, 334, rfl⟩
abbrev main_cst_76 : Ref sig .tc := ⟨.hbm, 335, rfl⟩
abbrev main_v226 : Ref sig .tc := ⟨.hbm, 336, rfl⟩
abbrev main_v227 : Ref sig .tc := ⟨.hbm, 337, rfl⟩

abbrev nD : Nat := 1
abbrev τ : Topo := Topo.v7x

variable {F : FTy → Type} [FloatOps F]
-- ==== Proof.Common.lean ====
/- Arithmetic of the extended reals that several of the value proofs share: the constants, a finite factor over a sum, and the logistic function. -/
module

public import Idealize.ShloMosaic.Lib.Pipeline.ValueKit
public import Idealize.ShloMosaic.Lib.Pointwise
public import Idealize.ShloMosaic.Lib.Claim

@[expose] public section

noncomputable section

namespace Cert.Common

open Idealize.ShloMosaic
open scoped BigOperators

/-- The constant one half. -/
theorem half : Ideal.ofBits .f32 0x3F000000#32 = ((1 / 2 : ℝ) : EReal) := by
  simp [Ideal.ofBits, Ideal.ieee, -EReal.coe_mul]; norm_num

/-- The constant one, as a real. -/
theorem one : Ideal.ofBits .f32 0x3F800000#32 = ((1 : ℝ) : EReal) := by
  rw [Ideal.ofBits_one_f32, EReal.coe_one]

/-- The constant minus one half. -/
theorem neg_half : Ideal.ofBits .f32 0xBF000000#32 = ((-(1 / 2) : ℝ) : EReal) := by
  simp [Ideal.ofBits, Ideal.ieee, -EReal.coe_mul]; norm_num

/-- The constant 1024. -/
theorem c1024 : Ideal.ofBits .f32 0x44800000#32 = ((1024 : ℝ) : EReal) := by
  simp [Ideal.ofBits, Ideal.ieee, -EReal.coe_mul]; norm_num

/-- The norm's constant is a positive real. -/
theorem eps : ∃ e : ℝ, 0 < e ∧ Ideal.ofBits .f32 0x358637BD#32 = (e : EReal) := by
  refine ⟨8796093 / 8796093022208, by norm_num, ?_⟩
  simp [Ideal.ofBits, Ideal.ieee, -EReal.coe_mul]; norm_num

/-- The infinite constant of single precision. -/
theorem inf32 : Ideal.ofBits .f32 0x7F800000#32 = ⊤ := by
  simp [Ideal.ofBits, Ideal.ieee]

/-- The infinite constant of the half-width format. -/
theorem inf16 : Ideal.ofBits .bf16 0x7F80#16 = ⊤ := by
  simp [Ideal.ofBits, Ideal.ieee]

/-- A nonnegative real factor moves into a sum, whatever its terms. -/
theorem mul_sum {ι : Type} {c : ℝ} (hc : 0 ≤ c) (s : Finset ι) (f : ι → EReal) : (c : EReal) * ∑ i ∈ s, f i = ∑ i ∈ s, (c : EReal) * f i := by
  classical
  induction s using Finset.induction_on with
  | empty => simp
  | insert a s ha ih =>
    rw [Finset.sum_insert ha, Finset.sum_insert ha, ← ih,
      EReal.left_distrib_of_nonneg_of_ne_top (by exact_mod_cast hc) (EReal.coe_ne_top c)]

/-- A sum of reals, as an extended real. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- Half of one plus the hyperbolic tangent of half the argument is the logistic function. -/
theorem real_sigmoid (g : ℝ) : 1 / 2 * Real.tanh (1 / 2 * g) + 1 / 2 = (1 + Real.exp (-g))⁻¹ := by
  have hp := Real.exp_pos (1 / 2 * g)
  have hn : Real.exp (-g) = (Real.exp (1 / 2 * g))⁻¹ ^ 2 := by
    rw [← Real.exp_neg, ← Real.exp_nat_mul]; congr 1; push_cast; ring
  rw [Real.tanh_eq_sinh_div_cosh, Real.sinh_eq, Real.cosh_eq, hn, Real.exp_neg]
  field_simp
  ring

/-- The same on the extended reals. -/
theorem sigmoid (g : EReal) : ((1 / 2 : ℝ) : EReal) * Ideal.tanh (((1 / 2 : ℝ) : EReal) * g) + ((1 / 2 : ℝ) : EReal) = Ideal.logistic g := by
  induction g using EReal.rec with
  | bot =>
    rw [EReal.coe_mul_bot_of_pos (by norm_num), Ideal.tanh_bot, Ideal.logistic_bot]
    rw [show (-1 : EReal) = ((-1 : ℝ) : EReal) by rw [EReal.coe_neg, EReal.coe_one], ← EReal.coe_mul, ← EReal.coe_add]; norm_num
  | top =>
    rw [EReal.coe_mul_top_of_pos (by norm_num), Ideal.tanh_top, Ideal.logistic_top]
    rw [mul_one, ← EReal.coe_add]; norm_num
  | coe r => rw [← EReal.coe_mul, Ideal.tanh_coe, Ideal.logistic_coe, ← EReal.coe_mul, ← EReal.coe_add, real_sigmoid]

/-- The quotient that spells the logistic function. -/
theorem div_sigmoid (g : EReal) : Ideal.div 1 (1 + Ideal.exp (-g)) = Ideal.logistic g := by
  induction g using EReal.rec with
  | bot => rw [Ideal.logistic_bot, EReal.neg_bot, Ideal.exp_top, ← EReal.coe_one, EReal.coe_add_top]; simp [Ideal.div]
  | top => rw [Ideal.logistic_top, EReal.neg_top, Ideal.exp_bot]; simp [Ideal.div]
  | coe r =>
    have h : (1 + Real.exp (-r)) ≠ 0 := (add_pos one_pos (Real.exp_pos _)).ne'
    rw [← EReal.coe_neg, Ideal.exp_coe, ← EReal.coe_one, ← EReal.coe_add, Ideal.div_coe h, Ideal.logistic_coe, ← EReal.coe_mul, one_mul, one_div]

/-- The derivative of `g * logistic g`, in its two forms. -/
theorem silu_deriv (g : EReal) :
    Ideal.logistic g * (1 + g * (1 - Ideal.logistic g)) = Ideal.logistic g + g * (Ideal.logistic g * (1 - Ideal.logistic g)) := by
  induction g using EReal.rec with
  | bot => rw [Ideal.logistic_bot]; simp
  | top => rw [Ideal.logistic_top, ← EReal.coe_one, ← EReal.coe_sub]; simp
  | coe r =>
    rw [Ideal.logistic_coe, ← EReal.coe_one]
    simp only [← EReal.coe_sub, ← EReal.coe_mul, ← EReal.coe_add]
    congr 1; ring

/-- The gate's gradient: the product rule's two terms under a real cotangent. -/
theorem gate_back (t : ℝ) (g : EReal) :
    (t : EReal) * (Ideal.logistic g * (1 + g * (1 - Ideal.logistic g))) =
      (t : EReal) * Ideal.logistic g + g * t * (Ideal.logistic g * (1 - Ideal.logistic g)) := by
  induction g using EReal.rec with
  | bot => rw [Ideal.logistic_bot]; simp
  | top => rw [Ideal.logistic_top, ← EReal.coe_one, ← EReal.coe_sub]; simp
  | coe r =>
    rw [Ideal.logistic_coe, ← EReal.coe_one]
    simp only [← EReal.coe_sub, ← EReal.coe_mul, ← EReal.coe_add]
    congr 1; ring

/-- What the test `|x| < ∞` says. -/
theorem real_of_lt {x : EReal} (h : max x (-x) < ⊤) : ∃ r : ℝ, x = r := by
  induction x using EReal.rec with
  | bot => simp at h
  | top => simp at h
  | coe r => exact ⟨r, rfl⟩

theorem real_of_test {x y : EReal} (hy : y = ⊤) (h : BitVec.ofBool (decide (max x (-x) < y)) = 1#1) : ∃ r : ℝ, x = r := by
  subst hy
  refine real_of_lt ?_
  by_contra hn
  rw [decide_eq_false hn] at h
  exact absurd h (by decide)

/-- A constant of an idle axis of length one. -/
theorem sum_one (y : EReal) : ∑ _k : Fin 1, y = y := by simp

/-- A sum of squares with an infinite term is infinite. -/
theorem squares_top {ι : Type} (s : Finset ι) (X : ι → EReal) {k : ι} (hk : k ∈ s) (h : ¬ ∃ r : ℝ, X k = r) : ∑ k ∈ s, X k * X k = ⊤ := by
  have hn : ∀ i ∈ s, 0 ≤ X i * X i := fun i _ => by
    generalize X i = y
    induction y using EReal.rec with
    | bot => rw [EReal.bot_mul_bot]; exact le_top
    | top => rw [EReal.top_mul_top]; exact le_top
    | coe r => rw [← EReal.coe_mul]; exact_mod_cast mul_self_nonneg r
  have ht : X k * X k = ⊤ := by
    generalize X k = y at h
    induction y using EReal.rec with
    | bot => exact EReal.bot_mul_bot
    | top => exact EReal.top_mul_top
    | coe r => exact absurd ⟨r, rfl⟩ h
  exact top_le_iff.1 (ht ▸ Finset.single_le_sum (f := fun i => X i * X i) hn hk)

/-- The root-mean-square factor of a row. -/
abbrev rms {n : ℕ} (X : Fin n → EReal) : EReal := Ideal.div (∑ k, X k * X k) (Ideal.ofBits .f32 0x44800000#32) + Ideal.ofBits .f32 0x358637BD#32

/-- The mean square plus the norm's constant is a positive real or infinite, with a root factor that is real. -/
theorem rms_cases {n : ℕ} (X : Fin n → EReal) :
    (∃ q : ℝ, 0 < q ∧ rms X = q ∧ Ideal.rsqrt (rms X) = (((√q)⁻¹ : ℝ) : EReal) ∧ ∀ k, ∃ r : ℝ, X k = r) ∨
      (rms X = ⊤ ∧ Ideal.rsqrt (rms X) = 0) := by
  obtain ⟨e, he, h⟩ := eps
  unfold rms
  rw [h, c1024, Ideal.div_coe (by norm_num)]
  by_cases hX : ∀ k, ∃ r : ℝ, X k = r
  · left
    choose Y hY using hX
    have hq : 0 < (∑ k, Y k * Y k) * (1 / 1024) + e :=
      add_pos_of_nonneg_of_pos (mul_nonneg (Finset.sum_nonneg fun k _ => mul_self_nonneg _) (by norm_num)) he
    have hs : (∑ k, X k * X k) * ((1 / 1024 : ℝ) : EReal) + (e : EReal) = (((∑ k, Y k * Y k) * (1 / 1024) + e : ℝ) : EReal) := by
      rw [EReal.coe_add, EReal.coe_mul, ← coe_sum]
      simp only [hY, EReal.coe_mul]
    refine ⟨_, hq, hs, ?_, fun k => ⟨Y k, hY k⟩⟩
    rw [hs, Ideal.rsqrt_coe, if_neg (not_lt.2 hq.le), if_neg hq.ne']
  · right
    obtain ⟨k, hk⟩ := not_forall.1 hX
    have ht : (∑ k, X k * X k) * ((1 / 1024 : ℝ) : EReal) + (e : EReal) = ⊤ := by
      rw [squares_top _ X (Finset.mem_univ k) hk, EReal.top_mul_coe_of_pos (by norm_num), EReal.top_add_coe]
    exact ⟨ht, by rw [ht, Ideal.rsqrt_top]⟩

/-- Twice a product with a real. -/
theorem add_self (u : EReal) (a : ℝ) : u * (a : EReal) + u * (a : EReal) = u * ((2 * a : ℝ) : EReal) := by
  rw [EReal.coe_mul, mul_left_comm, show ((2 : ℝ) : EReal) = 1 + 1 by rw [← EReal.coe_one, ← EReal.coe_add]; norm_num,
    EReal.right_distrib_of_nonneg zero_le_one zero_le_one, one_mul]

/-- The gradient of a row through its root-mean-square norm: the closed form is what the chain rule's terms add up to. -/
theorem norm_row {n : ℕ} (X E : Fin n → EReal) (d : EReal) (j : Fin n) :
    d + Ideal.rsqrt (rms X) * (E j - X j * Ideal.rsqrt (rms X) * Ideal.div (∑ k, E k * (X k * Ideal.rsqrt (rms X))) (Ideal.ofBits .f32 0x44800000#32)) =
      d + E j * Ideal.rsqrt (rms X) +
        X j * Ideal.div ((∑ k, X k * E k) * (Ideal.ofBits .f32 0xBF000000#32 * Ideal.div (Ideal.rsqrt (rms X)) (rms X))) (Ideal.ofBits .f32 0x44800000#32) +
        Ideal.div ((∑ k, X k * E k) * (Ideal.ofBits .f32 0xBF000000#32 * Ideal.div (Ideal.rsqrt (rms X)) (rms X))) (Ideal.ofBits .f32 0x44800000#32) * X j := by
  rw [c1024, neg_half, Ideal.div_coe (by norm_num), Ideal.div_coe (by norm_num)]
  rcases rms_cases X with ⟨q, hq, hr, hs, hX⟩ | ⟨hr, hs⟩
  · rw [hs, hr, Ideal.div_coe hq.ne']
    obtain ⟨x, hx⟩ := hX j
    have hT : ∑ k, E k * (X k * (((√q)⁻¹ : ℝ) : EReal)) = (∑ k, X k * E k) * (((√q)⁻¹ : ℝ) : EReal) := by
      rw [mul_comm, mul_sum (inv_nonneg.2 (Real.sqrt_nonneg q))]
      exact Finset.sum_congr rfl fun k _ => by rw [← mul_assoc, mul_comm, mul_comm (E k)]
    rw [hT, hx]
    generalize ∑ k, X k * E k = U
    rw [sub_eq_add_neg, EReal.left_distrib_of_nonneg_of_ne_top (by exact_mod_cast inv_nonneg.2 (Real.sqrt_nonneg q)) (EReal.coe_ne_top _),
      mul_comm (E j), ← add_assoc, add_assoc (d + _)]
    congr 1
    have hc : (√q)⁻¹ * (√q)⁻¹ = q⁻¹ := by rw [← mul_inv, Real.mul_self_sqrt hq.le]
    have e1 : (x : EReal) * (U * (((-(1 / 2) : ℝ) : EReal) * ((((√q)⁻¹ : ℝ) : EReal) * ((1 / q : ℝ) : EReal))) * ((1 / 1024 : ℝ) : EReal)) =
        U * ((x * (-(1 / 2) * ((√q)⁻¹ * (1 / q)) * (1 / 1024)) : ℝ) : EReal) := by
      simp only [EReal.coe_mul]; ac_rfl
    have e2 : (((√q)⁻¹ : ℝ) : EReal) * -((x : EReal) * (((√q)⁻¹ : ℝ) : EReal) * (U * (((√q)⁻¹ : ℝ) : EReal) * ((1 / 1024 : ℝ) : EReal))) =
        U * ((-((√q)⁻¹ * (x * (√q)⁻¹ * ((√q)⁻¹ * (1 / 1024)))) : ℝ) : EReal) := by
      rw [EReal.coe_neg, mul_neg, mul_neg]; simp only [EReal.coe_mul]; congr 1; ac_rfl
    rw [mul_comm _ (x : EReal), e1, e2, add_self]
    congr 2
    rw [one_div q, ← hc]; ring
  · rw [hs, hr]; simp [Ideal.div]

end Cert.Common

end
-- ==== Proof.UpValue.lean ====
/- The feed-forward layer's norm, up projection and gate, with the gate's derivatives: the kernel's result arrays are the reference's. -/
module

public import proofs.«01_k».proof.Proof.Gen.UpIdeal.Value
public import proofs.«01_k».proof.Proof.Gen.UpRefIdeal.Read
public import proofs.«01_k».proof.Proof.Common
public import Idealize.ShloMosaic.Lib.Pipeline.ReadBack
public import Idealize.ShloMosaic.Lib.Pipeline.ValueKit
public import Idealize.ShloMosaic.Lib.Pointwise
public import Idealize.ShloMosaic.Lib.ValueLayout
public import Idealize.ShloMosaic.Lib.Claim

@[expose] public section

set_option maxRecDepth 16384

noncomputable section

namespace Cert.UpIdeal.Result

open Cert.UpIdeal Cert.UpIdeal.Gen Idealize.ShloMosaic Idealize.ShloMosaic.TcCoe Idealize.SL.Sem
open Idealize.ShloMosaic.Pipeline (Dat)
open scoped BigOperators

variable (m : (ℓ : Loc nD τ sig) → Buf (Elt Ideal) ℓ)

/-- The reference's results over the residual stream, the norm's weight and the projection's weight. -/
abbrev refH (x : FVec Ideal S8192x1024 .f32) (l : FVec Ideal S1024 .f32) : FVec Ideal S8192x1024 .bf16 :=
  Cert.UpRefIdeal.Read.val_main_v28 (F := Ideal) x l
abbrev refG (x : FVec Ideal S8192x1024 .f32) (l : FVec Ideal S1024 .f32) (w : FVec Ideal S1024x5632 .bf16) : FVec Ideal S2x8192x2816 .bf16 :=
  Cert.UpRefIdeal.Read.val_main_v29 (F := Ideal) x l w
abbrev refA (x : FVec Ideal S8192x1024 .f32) (l : FVec Ideal S1024 .f32) (w : FVec Ideal S1024x5632 .bf16) : FVec Ideal S8192x2816 .bf16 :=
  Cert.UpRefIdeal.Read.val_main_v31 (F := Ideal) x l w

theorem idx : ∀ t : Fin cfg0.N, win0_0.index t = ![t.val, 0] ∧ win0_1.index t = ![0, 0] ∧ win0_2.index t = ![0, 0]
    ∧ win0_3.index t = ![0, 1] ∧ win0_4.index t = ![t.val, 0] ∧ win0_5.index t = ![0, t.val, 0] ∧ win0_6.index t = ![t.val, 0] :=
  (by decide +kernel : ∀ t : Fin grid0.N, _)

/-- A row of the norm's output. -/
abbrev hh (X L : Fin 1024 → EReal) (k : Fin 1024) : EReal := X k * Ideal.rsqrt (Cert.Common.rms X) * L k

/-- An entry of the projection. -/
abbrev zz (X L W : Fin 1024 → EReal) : EReal := ∑ k, hh X L k * W k

theorem pay3_at (x : FVec Ideal S256x1024 .f32) (l : FVec Ideal S1x1024 .f32) (i k) :
    k0_pay3 (F := Ideal) x l (ix2 i k) = hh (fun k => x (ix2 i k)) (fun k => l (ix2 0 k)) k := by
  pointwise [k0_pay3]

theorem pay4_at (x : FVec Ideal S256x1024 .f32) (l : FVec Ideal S1x1024 .f32) (w : FVec Ideal S1024x2816 .bf16) (i j) :
    k0_pay4 (F := Ideal) x l w (ix2 i j) = zz (fun k => x (ix2 i k)) (fun k => l (ix2 0 k)) (fun k => w (ix2 k j)) := by
  pointwise [k0_pay4]
  simp only [pay3_at]

theorem pay5_at (x : FVec Ideal S256x1024 .f32) (l : FVec Ideal S1x1024 .f32) (w : FVec Ideal S1024x2816 .bf16) (i j) :
    k0_pay5 (F := Ideal) x l w (ix2 i j) = zz (fun k => x (ix2 i k)) (fun k => l (ix2 0 k)) (fun k => w (ix2 k j)) := by
  pointwise [k0_pay5]
  simp only [pay3_at]

theorem pay6_at (x : FVec Ideal S256x1024 .f32) (l : FVec Ideal S1x1024 .f32) (w : FVec Ideal S1024x2816 .bf16) (i j) :
    k0_pay6 (F := Ideal) x l w (ix2 i j) = Ideal.logistic (zz (fun k => x (ix2 i k)) (fun k => l (ix2 0 k)) (fun k => w (ix2 k j))) := by
  pointwise [k0_pay6]
  rw [Cert.Common.half, Cert.Common.sigmoid, pay4_at]

theorem pay8_at (x : FVec Ideal S256x1024 .f32) (l : FVec Ideal S1x1024 .f32) (w v : FVec Ideal S1024x2816 .bf16) (i j) :
    k0_pay8 (F := Ideal) x l w v (ix2 i j) =
      zz (fun k => x (ix2 i k)) (fun k => l (ix2 0 k)) (fun k => w (ix2 k j)) *
        Ideal.logistic (zz (fun k => x (ix2 i k)) (fun k => l (ix2 0 k)) (fun k => w (ix2 k j))) *
        zz (fun k => x (ix2 i k)) (fun k => l (ix2 0 k)) (fun k => v (ix2 k j)) := by
  pointwise [k0_pay8, k0_pay7]
  rw [pay4_at, pay5_at, pay6_at]

/-- Half the derivative of the gated product by the gate, and by the other factor. -/
abbrev half : EReal := Ideal.ofBits .f32 0x3F000000#32
abbrev dgate (g u : EReal) : EReal := half * u * (Ideal.logistic g + g * (Ideal.logistic g * (1 - Ideal.logistic g)))
abbrev dup (g : EReal) : EReal := half * (g * Ideal.logistic g)

/-- What a point stores in the derivatives' block. -/
abbrev blk0 (x : FVec Ideal S256x1024 .f32) (l : FVec Ideal S1x1024 .f32) (w v : FVec Ideal S1024x2816 .bf16) (i : Fin 256) (j : Fin 2816) : EReal :=
  dgate (zz (fun k => x (ix2 i k)) (fun k => l (ix2 0 k)) (fun k => w (ix2 k j))) (zz (fun k => x (ix2 i k)) (fun k => l (ix2 0 k)) (fun k => v (ix2 k j)))
abbrev blk1 (x : FVec Ideal S256x1024 .f32) (l : FVec Ideal S1x1024 .f32) (w : FVec Ideal S1024x2816 .bf16) (i : Fin 256) (j : Fin 2816) : EReal :=
  dup (zz (fun k => x (ix2 i k)) (fun k => l (ix2 0 k)) (fun k => w (ix2 k j)))

theorem slab1 (x : FVec Ideal S256x1024 .f32) (l : FVec Ideal S1x1024 .f32) (w : FVec Ideal S1024x2816 .bf16) (z : S1x256x2816.Idx) :
    k0_pay2 (F := Ideal) (k0_pay7 x l w) z = blk1 x l w (z 1) (z 2) := by
  have key : ∀ (i : Fin 256) (j : Fin 2816),
      half * (k0_pay4 (F := Ideal) x l w (ix2 i j) * k0_pay6 (F := Ideal) x l w (ix2 i j)) = blk1 x l w i j := fun i j => by
    rw [pay4_at, pay6_at]
  pointwise [k0_pay2, k0_pay7]
  exact key _ _

theorem slab0 (x : FVec Ideal S256x1024 .f32) (l : FVec Ideal S1x1024 .f32) (w v : FVec Ideal S1024x2816 .bf16) (z : S1x256x2816.Idx) :
    k0_pay1 (F := Ideal) (k0_pay4 x l w) (k0_pay6 x l w) (k0_pay9 x l v) k0_pay10 z = blk0 x l w v (z 1) (z 2) := by
  have key : ∀ (i : Fin 256) (j : Fin 2816),
      half * k0_pay5 (F := Ideal) x l v (ix2 i j) * (k0_pay6 (F := Ideal) x l w (ix2 i j) *
        (1 + k0_pay4 (F := Ideal) x l w (ix2 i j) * (1 - k0_pay6 (F := Ideal) x l w (ix2 i j)))) = blk0 x l w v i j := fun i j => by
    rw [pay4_at, pay6_at, pay5_at, Cert.Common.silu_deriv]
  pointwise [k0_pay1, k0_pay9, k0_pay10]
  exact key _ _

theorem zeros : ![0, 0] = fun _ : Fin 2 => 0 := by funext i; fin_cases i <;> rfl

theorem out5 (x : FVec Ideal S256x1024 .f32) (l : FVec Ideal S1x1024 .f32) (w v : FVec Ideal S1024x2816 .bf16) (y : S2x256x2816.Idx) :
    out0_5 (F := Ideal) x l w v y = if (y 0).val = 0 then blk0 x l w v (y 1) (y 2) else blk1 x l w (y 1) (y 2) := by
  have l0 : View.ld (Val := Elt Ideal) (e' := .f32) x r0_0 = x := View.ld_unit_zero zeros _ _
  have l1 : View.ld (Val := Elt Ideal) (e' := .f32) l r0_1 = l := View.ld_unit_zero zeros _ _
  have l2 : View.ld (Val := Elt Ideal) (e' := .bf16) w r0_2 = w := View.ld_unit_zero zeros _ _
  have l3 : View.ld (Val := Elt Ideal) (e' := .bf16) v r0_2 = v := View.ld_unit_zero zeros _ _
  canon_tiles z h
  · rw [if_neg (by omega), l0, l1, l2]
    exact (slab1 x l w z).trans (congrArg₂ (blk1 x l w) (Fin.ext h1.symm) (Fin.ext h2.symm))
  · rw [if_pos (by omega), l0, l1, l2, l3]
    exact (slab0 x l w v z).trans (congrArg₂ (blk0 x l w v) (Fin.ext h1.symm) (Fin.ext h2.symm))

theorem ref15 (x : FVec Ideal S8192x1024 .f32) (l : FVec Ideal S1024 .f32) (w : FVec Ideal S1024x5632 .bf16) (i j) :
    Cert.UpRefIdeal.Read.val_main_v15 (F := Ideal) x l w (ix2 i j) =
      zz (fun k => x (ix2 i k)) (fun k => l (ix1 k)) (fun k => w (ix2 k ⟨j.val, by omega⟩)) := by
  pointwise [Cert.UpRefIdeal.Read.val_main_v15, Cert.UpRefIdeal.Read.val_main_v14, Cert.UpRefIdeal.Read.val_main_v13, Cert.UpRefIdeal.Read.val_main_v12, Cert.UpRefIdeal.Read.val_main_v11, Cert.UpRefIdeal.Read.val_main_v10, Cert.UpRefIdeal.Read.val_main_v9, Cert.UpRefIdeal.Read.val_main_v8, Cert.UpRefIdeal.Read.val_main_v7, Cert.UpRefIdeal.Read.val_main_v6, Cert.UpRefIdeal.Read.val_main_v5, Cert.UpRefIdeal.Read.val_main_v4, Cert.UpRefIdeal.Read.val_main_v3, Cert.UpRefIdeal.Read.val_main_v2, Cert.UpRefIdeal.Read.val_main_v1, Cert.UpRefIdeal.Read.val_main_v0, Cert.UpRefIdeal.Read.val_main_cst, Cert.UpRefIdeal.Read.val_main_cst_0, Cert.UpRefIdeal.Read.val_main_cst_1]

theorem ref16 (x : FVec Ideal S8192x1024 .f32) (l : FVec Ideal S1024 .f32) (w : FVec Ideal S1024x5632 .bf16) (i j) :
    Cert.UpRefIdeal.Read.val_main_v16 (F := Ideal) x l w (ix2 i j) =
      zz (fun k => x (ix2 i k)) (fun k => l (ix1 k)) (fun k => w (ix2 k ⟨2816 + j.val, by omega⟩)) := by
  pointwise [Cert.UpRefIdeal.Read.val_main_v16, Cert.UpRefIdeal.Read.val_main_v14, Cert.UpRefIdeal.Read.val_main_v13, Cert.UpRefIdeal.Read.val_main_v12, Cert.UpRefIdeal.Read.val_main_v11, Cert.UpRefIdeal.Read.val_main_v10, Cert.UpRefIdeal.Read.val_main_v9, Cert.UpRefIdeal.Read.val_main_v8, Cert.UpRefIdeal.Read.val_main_v7, Cert.UpRefIdeal.Read.val_main_v6, Cert.UpRefIdeal.Read.val_main_v5, Cert.UpRefIdeal.Read.val_main_v4, Cert.UpRefIdeal.Read.val_main_v3, Cert.UpRefIdeal.Read.val_main_v2, Cert.UpRefIdeal.Read.val_main_v1, Cert.UpRefIdeal.Read.val_main_v0, Cert.UpRefIdeal.Read.val_main_cst, Cert.UpRefIdeal.Read.val_main_cst_0, Cert.UpRefIdeal.Read.val_main_cst_1]

theorem ref17 (x : FVec Ideal S8192x1024 .f32) (l : FVec Ideal S1024 .f32) (w : FVec Ideal S1024x5632 .bf16) (i j) :
    Cert.UpRefIdeal.Read.val_main_v17_2 (F := Ideal) x l w (ix2 i j) =
      Ideal.logistic (zz (fun k => x (ix2 i k)) (fun k => l (ix1 k)) (fun k => w (ix2 k ⟨j.val, by omega⟩))) := by
  pointwise [Cert.UpRefIdeal.Read.val_main_v17_2, Cert.UpRefIdeal.Read.val_main_call0_v4, Cert.UpRefIdeal.Read.val_main_call0_cst_0, Cert.UpRefIdeal.Read.val_main_call0_v3, Cert.UpRefIdeal.Read.val_main_call0_v2, Cert.UpRefIdeal.Read.val_main_call0_cst, Cert.UpRefIdeal.Read.val_main_call0_v1, Cert.UpRefIdeal.Read.val_main_call0_v0]
  rw [Cert.Common.div_sigmoid, ref15]

theorem refH_at (x : FVec Ideal S8192x1024 .f32) (l : FVec Ideal S1024 .f32) (i k) :
    refH x l (ix2 i k) = hh (fun k => x (ix2 i k)) (fun k => l (ix1 k)) k := by
  pointwise [refH, Cert.UpRefIdeal.Read.val_main_v28, Cert.UpRefIdeal.Read.val_main_v12, Cert.UpRefIdeal.Read.val_main_v11, Cert.UpRefIdeal.Read.val_main_v10, Cert.UpRefIdeal.Read.val_main_v9, Cert.UpRefIdeal.Read.val_main_v8, Cert.UpRefIdeal.Read.val_main_v7, Cert.UpRefIdeal.Read.val_main_v6, Cert.UpRefIdeal.Read.val_main_v5, Cert.UpRefIdeal.Read.val_main_v4, Cert.UpRefIdeal.Read.val_main_v3, Cert.UpRefIdeal.Read.val_main_v2, Cert.UpRefIdeal.Read.val_main_v1, Cert.UpRefIdeal.Read.val_main_v0, Cert.UpRefIdeal.Read.val_main_cst, Cert.UpRefIdeal.Read.val_main_cst_0, Cert.UpRefIdeal.Read.val_main_cst_1]

theorem refA_at (x : FVec Ideal S8192x1024 .f32) (l : FVec Ideal S1024 .f32) (w : FVec Ideal S1024x5632 .bf16) (i j) :
    refA x l w (ix2 i j) =
      zz (fun k => x (ix2 i k)) (fun k => l (ix1 k)) (fun k => w (ix2 k ⟨j.val, by omega⟩)) *
        Ideal.logistic (zz (fun k => x (ix2 i k)) (fun k => l (ix1 k)) (fun k => w (ix2 k ⟨j.val, by omega⟩))) *
        zz (fun k => x (ix2 i k)) (fun k => l (ix1 k)) (fun k => w (ix2 k ⟨2816 + j.val, by omega⟩)) := by
  pointwise [refA, Cert.UpRefIdeal.Read.val_main_v31, Cert.UpRefIdeal.Read.val_main_v30, Cert.UpRefIdeal.Read.val_main_v17_0]
  rw [ref15, ref16, ref17]

theorem refG_at (x : FVec Ideal S8192x1024 .f32) (l : FVec Ideal S1024 .f32) (w : FVec Ideal S1024x5632 .bf16) (s i j) :
    refG x l w (ix3 s i j) = if s.val = 0 then
        dgate (zz (fun k => x (ix2 i k)) (fun k => l (ix1 k)) (fun k => w (ix2 k ⟨j.val, by omega⟩)))
          (zz (fun k => x (ix2 i k)) (fun k => l (ix1 k)) (fun k => w (ix2 k ⟨2816 + j.val, by omega⟩)))
      else dup (zz (fun k => x (ix2 i k)) (fun k => l (ix1 k)) (fun k => w (ix2 k ⟨j.val, by omega⟩))) := by
  pointwise [refG, Cert.UpRefIdeal.Read.val_main_v29, Cert.UpRefIdeal.Read.val_main_v27, Cert.UpRefIdeal.Read.val_main_v26, Cert.UpRefIdeal.Read.val_main_v25, Cert.UpRefIdeal.Read.val_main_v24, Cert.UpRefIdeal.Read.val_main_v23, Cert.UpRefIdeal.Read.val_main_cst_4, Cert.UpRefIdeal.Read.val_main_v22, Cert.UpRefIdeal.Read.val_main_v21, Cert.UpRefIdeal.Read.val_main_call1_v2, Cert.UpRefIdeal.Read.val_main_call1_v1, Cert.UpRefIdeal.Read.val_main_call1_v0, Cert.UpRefIdeal.Read.val_main_v20, Cert.UpRefIdeal.Read.val_main_cst_3, Cert.UpRefIdeal.Read.val_main_v19, Cert.UpRefIdeal.Read.val_main_v18, Cert.UpRefIdeal.Read.val_main_cst_2, Cert.UpRefIdeal.Read.val_main_v17_0, Cert.UpRefIdeal.Read.val_main_v17_1, Cert.UpRefIdeal.Read.val_main_call0_v7, Cert.UpRefIdeal.Read.val_main_call0_v6, Cert.UpRefIdeal.Read.val_main_call0_cst_1]
  rw [ref15, ref16, ref17]
  by_cases h : s.val = 0
  · rw [dif_pos (by omega), if_pos h]
  · rw [dif_neg (by omega), if_neg h]

/-! ## The blocks of a grid point -/

theorem lt : ∀ t : Fin cfg0.N, t.val < 32 := (by decide +kernel : ∀ t : Fin grid0.N, _)

theorem b0_at (c : Dev nD) (t : Fin cfg0.N) (i : Fin 256) (k : Fin 1024) :
    (show FVec Ideal S256x1024 .f32 from iblk m c 0 t) (ix2 i k) =
      (show FVec Ideal S8192x1024 .f32 from m ((c : Thread nD τ).loc main_arg0)) (ix2 ⟨256 * t.val + i.val, by have := lt t; omega⟩ k) := by
  blk_point [iblk, V, idx t]
theorem b1_at (c : Dev nD) (t : Fin cfg0.N) (k : Fin 1024) :
    (show FVec Ideal S1x1024 .f32 from iblk m c 1 t) (ix2 0 k) = (show FVec Ideal S1024 .f32 from m ((c : Thread nD τ).loc main_arg1)) (ix1 k) := by
  blk_point [iblk, V, idx t]
theorem b2_at (c : Dev nD) (t : Fin cfg0.N) (k : Fin 1024) (j : Fin 2816) :
    (show FVec Ideal S1024x2816 .bf16 from iblk m c 2 t) (ix2 k j) =
      (show FVec Ideal S1024x5632 .bf16 from m ((c : Thread nD τ).loc main_arg2)) (ix2 k ⟨j.val, by omega⟩) := by
  blk_point [iblk, V, idx t]
theorem b3_at (c : Dev nD) (t : Fin cfg0.N) (k : Fin 1024) (j : Fin 2816) :
    (show FVec Ideal S1024x2816 .bf16 from iblk m c 3 t) (ix2 k j) =
      (show FVec Ideal S1024x5632 .bf16 from m ((c : Thread nD τ).loc main_arg2)) (ix2 k ⟨2816 + j.val, by omega⟩) := by
  blk_point [iblk, V, idx t]

theorem emb4 (t : Fin cfg0.N) (i : Fin 256) (k : Fin 1024) :
    (win0_4.blk t).view.emb (ix2 i k) = (ix2 ⟨256 * t.val + i.val, by have := lt t; omega⟩ k : S8192x1024.Idx) := by
  blk_ext [idx t]
theorem emb5 (t : Fin cfg0.N) (s : Fin 2) (i : Fin 256) (j : Fin 2816) :
    (win0_5.blk t).view.emb (ix3 s i j) = (ix3 s ⟨256 * t.val + i.val, by have := lt t; omega⟩ j : S2x8192x2816.Idx) := by
  blk_ext [idx t]
theorem emb6 (t : Fin cfg0.N) (i : Fin 256) (j : Fin 2816) :
    (win0_6.blk t).view.emb (ix2 i j) = (ix2 ⟨256 * t.val + i.val, by have := lt t; omega⟩ j : S8192x2816.Idx) := by
  blk_ext [idx t]

theorem final4 (c : Dev nD) : (dats m 0 c).arrAt 4 (cfgs 0).N = refH (m ((c : Thread nD τ).loc main_arg0)) (m ((c : Thread nD τ).loc main_arg1)) := by
  refine (dats m 0 c).arrAt_eq_of_covers 4 _ (by decide +kernel) fun t hf y => ?_
  idx_vars y
  blk_simp
  rw [after0_4]
  frame_out
  refine (pay3_at _ _ _ _).trans ?_
  refine Eq.trans ?_ (congrArg _ (emb4 t y0 y1)).symm
  rw [refH_at]
  simp only [b0_at, b1_at]

theorem final5 (c : Dev nD) : (dats m 0 c).arrAt 5 (cfgs 0).N = refG (m ((c : Thread nD τ).loc main_arg0)) (m ((c : Thread nD τ).loc main_arg1)) (m ((c : Thread nD τ).loc main_arg2)) := by
  refine (dats m 0 c).arrAt_eq_of_covers 5 _ (by decide +kernel) fun t hf y => ?_
  idx_vars y
  blk_simp
  rw [after0_5]
  refine (out5 _ _ _ _ _).trans ?_
  refine Eq.trans ?_ (congrArg _ (emb5 t y0 y1 y2)).symm
  rw [refG_at]
  show (if y0.val = 0 then blk0 (iblk m c 0 t) (iblk m c 1 t) (iblk m c 2 t) (iblk m c 3 t) y1 y2 else
    blk1 (iblk m c 0 t) (iblk m c 1 t) (iblk m c 2 t) y1 y2) = _
  simp only [blk0, blk1, b0_at, b1_at, b2_at, b3_at]

theorem final6 (c : Dev nD) : (dats m 0 c).arrAt 6 (cfgs 0).N = refA (m ((c : Thread nD τ).loc main_arg0)) (m ((c : Thread nD τ).loc main_arg1)) (m ((c : Thread nD τ).loc main_arg2)) := by
  refine (dats m 0 c).arrAt_eq_of_covers 6 _ (by decide +kernel) fun t hf y => ?_
  idx_vars y
  blk_simp
  rw [after0_6]
  frame_out
  refine (pay8_at _ _ _ _ _ _).trans ?_
  refine Eq.trans ?_ (congrArg _ (emb6 t y0 y1)).symm
  rw [refA_at]
  simp only [b0_at, b1_at, b2_at, b3_at]

end Cert.UpIdeal.Result

end
-- ==== Proof.UpPair.lean ====
/- The claims of one call and its reference: both run, and their results are equal. -/
module

public import proofs.«01_k».proof.Defs
public import proofs.«01_k».proof.Proof.Gen.Up
public import proofs.«01_k».proof.Proof.Gen.Up.Frame
public import proofs.«01_k».proof.Proof.Gen.UpIdeal
public import proofs.«01_k».proof.Proof.Gen.UpIdeal.Frame
public import proofs.«01_k».proof.Proof.Gen.UpIdeal.Value
public import proofs.«01_k».proof.Proof.Gen.UpRefIdeal
public import proofs.«01_k».proof.Proof.Gen.UpRefIdeal.Run
public import proofs.«01_k».proof.Proof.Gen.UpRefIdeal.Read
public import proofs.«01_k».proof.Proof.UpValue
public import Idealize.ShloMosaic.Lib.Claim

@[expose] public section

set_option maxRecDepth 16384

noncomputable section

namespace Cert.UpPair

open Idealize.ShloMosaic Idealize.SL.Sem

/-- The reference runs and leaves its arguments as they were. -/
theorem reference_frame : Cert.quiescent_UpRefIdeal (hUpRefIdeal := Cert.UpRefIdeal.Gen.facts) := by
  intro m g _
  exact (θ_run Cert.UpRefIdeal.defs _ _).mono (fun r h => ⟨fun c => (h c).2.2.2, sem_eq_zero_of_no_sems (by decide) r.2⟩)
    (Cert.UpRefIdeal.Value.run (F := Ideal) m g)

/-- The kernel's results are the reference's. -/
theorem value : Cert.algebraic_UpIdeal_UpRefIdeal (hUpIdeal := Cert.UpIdeal.Gen.facts) (hUpRefIdeal := Cert.UpRefIdeal.Gen.facts) := by
  pair_intro
  · run_from Cert.UpIdeal.Gen.run_main m g
  · run_from Cert.UpRefIdeal.Value.run m' g'
    · exact (Cert.UpRefIdeal.Read.val_main_v28_eq _ _).trans (Cert.UpIdeal.Result.final4 m c).symm
    · obtain ⟨h0, h1, h2⟩ := hagree c
      rw [Cert.UpRefIdeal.Read.val_main_v29_eq, h0, h1, h2]
      exact (Cert.UpIdeal.Result.final5 m c).symm
    · exact (Cert.UpRefIdeal.Read.val_main_v31_eq _ _ _).trans (Cert.UpIdeal.Result.final6 m c).symm

end Cert.UpPair

end
-- ==== Proof.DownValue.lean ====
/- The down projection of the feed-forward layer: the kernel's result array is the reference's. -/
module

public import proofs.«01_k».proof.Proof.Gen.DownIdeal.Value
public import proofs.«01_k».proof.Proof.Gen.DownRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.DownIdeal.Result

open Cert.DownIdeal Cert.DownIdeal.Gen Idealize.ShloMosaic Idealize.ShloMosaic.TcCoe Idealize.SL.Sem
open Idealize.ShloMosaic.Pipeline (Dat)
open scoped BigOperators

variable (m : (ℓ : Loc nD τ sig) → Buf (Elt Ideal) ℓ)

/-- The reference's result over the residual stream, the activations and the weight. -/
abbrev ref (x : FVec Ideal S8192x1024 .f32) (a : FVec Ideal S8192x2816 .bf16) (w : FVec Ideal S2816x1024 .bf16) :
    FVec Ideal S8192x1024 .f32 := Cert.DownRefIdeal.Read.val_main_v5 (F := Ideal) x a w

/-- Every window's block index: the rows move with the grid point, the weight stays. -/
theorem idx : ∀ t : Fin cfg0.N, win0_0.index t = ![t.val, 0] ∧ win0_1.index t = ![0, 0]
    ∧ win0_2.index t = ![t.val, 0] ∧ win0_3.index t = ![t.val, 0] :=
  (by decide +kernel : ∀ t : Fin grid0.N, _)

/-- What point `t` stores at block index `y` is the reference at the array index `y` sits at. -/
theorem point (c : Dev nD) (t : Fin cfg0.N) (y) :
    k0_pay1 (iblk m c 0 t) (iblk m c 1 t) (iblk m c 2 t) y
      = ref (m ((c : Thread nD τ).loc main_arg0)) (m ((c : Thread nD τ).loc main_arg1)) (m ((c : Thread nD τ).loc main_arg2))
          (((cfg0.win 3).blk t).view.emb y) := by
  pointwise [k0_pay1, ref, Cert.DownRefIdeal.Read.val_main_v5, Cert.DownRefIdeal.Read.val_main_v4,
    Cert.DownRefIdeal.Read.val_main_v3, Cert.DownRefIdeal.Read.val_main_v2, Cert.DownRefIdeal.Read.val_main_v1,
    Cert.DownRefIdeal.Read.val_main_v0, Cert.DownRefIdeal.Read.val_main_cst]
  blk_point [iblk, V, idx t]

/-- The result array after the run: the row blocks tile it. -/
theorem final (c : Dev nD) : (dats m 0 c).arrAt 3 (cfgs 0).N
    = ref (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  exact point m c t y

end Cert.DownIdeal.Result

end
-- ==== Proof.DownPair.lean ====
/- The claims of one call and its reference: both run, and their results are equal. -/
module

public import proofs.«01_k».proof.Defs
public import proofs.«01_k».proof.Proof.Gen.Down
public import proofs.«01_k».proof.Proof.Gen.Down.Frame
public import proofs.«01_k».proof.Proof.Gen.DownIdeal
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import proofs.«01_k».proof.Proof.Gen.DownRefIdeal.Read
public import proofs.«01_k».proof.Proof.DownValue
public import Idealize.ShloMosaic.Lib.Claim

@[expose] public section

set_option maxRecDepth 16384

noncomputable section

namespace Cert.DownPair

open Idealize.ShloMosaic Idealize.SL.Sem

/-- The reference runs and leaves its arguments as they were. -/
theorem reference_frame : Cert.quiescent_DownRefIdeal (hDownRefIdeal := Cert.DownRefIdeal.Gen.facts) := by
  intro m g _
  exact (θ_run Cert.DownRefIdeal.defs _ _).mono (fun r h => ⟨fun c => (h c).2, sem_eq_zero_of_no_sems (by decide) r.2⟩)
    (Cert.DownRefIdeal.Value.run (F := Ideal) m g)

/-- The kernel's results are the reference's. -/
theorem value : Cert.algebraic_DownIdeal_DownRefIdeal (hDownIdeal := Cert.DownIdeal.Gen.facts) (hDownRefIdeal := Cert.DownRefIdeal.Gen.facts) := by
  pair_intro
  · run_from Cert.DownIdeal.Gen.run_main m g
  · run_from Cert.DownRefIdeal.Value.run m' g'
    exact (Cert.DownRefIdeal.Read.val_main_v5_eq _ _ _).trans (Cert.DownIdeal.Result.final m c).symm

end Cert.DownPair

end
-- ==== Proof.GateBwdValue.lean ====
/- The gradient through the gate: the kernel's result array is the reference's. -/
module

public import proofs.«01_k».proof.Proof.Gen.GateBwdIdeal.Value
public import proofs.«01_k».proof.Proof.Gen.GateBwdRefIdeal.Read
public import proofs.«01_k».proof.Proof.Common
public import Idealize.ShloMosaic.Lib.Pipeline.ReadBack
public import Idealize.ShloMosaic.Lib.Pipeline.ValueKit
public import Idealize.ShloMosaic.Lib.Pointwise
public import Idealize.ShloMosaic.Lib.ValueLayout
public import Idealize.ShloMosaic.Lib.Claim
public import proofs.«01_k».proof.Defs
public import proofs.«01_k».proof.Proof.Gen.Pre_finite_gate

@[expose] public section

set_option maxRecDepth 16384

noncomputable section

namespace Cert.GateBwdIdeal.Result

open Cert.GateBwdIdeal Cert.GateBwdIdeal.Gen Idealize.ShloMosaic Idealize.ShloMosaic.TcCoe Idealize.SL.Sem
open Idealize.ShloMosaic.Pipeline (Dat)
open scoped BigOperators

variable (m : (ℓ : Loc nD τ sig) → Buf (Elt Ideal) ℓ)

/-- The reference's result over the gate, the other factor, the cotangent and the down projection's weight. -/
abbrev ref (g u : FVec Ideal S8192x2816 .f32) (x : FVec Ideal S8192x1024 .f32) (w : FVec Ideal S2816x1024 .bf16) : FVec Ideal S2x8192x2816 .bf16 :=
  Cert.GateBwdRefIdeal.Read.val_main_v15 (F := Ideal) g u x w

theorem idx : ∀ t : Fin cfg0.N, win0_0.index t = ![t.val, 0] ∧ win0_1.index t = ![0, 0] ∧ win0_2.index t = ![0, t.val, 0]
    ∧ win0_3.index t = ![0, t.val, 0] :=
  (by decide +kernel : ∀ t : Fin grid0.N, _)

theorem lt : ∀ t : Fin cfg0.N, t.val < 32 := (by decide +kernel : ∀ t : Fin grid0.N, _)

abbrev half : EReal := ((1 / 2 : ℝ) : EReal)

/-- An entry of the cotangent taken back through the down projection. -/
abbrev da (X W : Fin 1024 → EReal) : EReal := ∑ k, X k * W k

/-- The saved factors of the gate's gradient. -/
abbrev fac0 (g u : EReal) : EReal := half * u * (Ideal.logistic g * (1 + g * (1 - Ideal.logistic g)))
abbrev fac1 (g : EReal) : EReal := half * (g * Ideal.logistic g)

theorem pay1_at (x : FVec Ideal S256x1024 .f32) (w : FVec Ideal S2816x1024 .bf16) (i j) :
    k0_pay1 (F := Ideal) x w (ix2 i j) = da (fun k => x (ix2 i k)) (fun k => w (ix2 j k)) := by
  pointwise [k0_pay1]

/-- What a point stores, from the factor beside it. -/
abbrev cell (x : FVec Ideal S256x1024 .f32) (w : FVec Ideal S2816x1024 .bf16) (i : Fin 256) (j : Fin 2816) : EReal :=
  da (fun k => x (ix2 i k)) (fun k => w (ix2 j k))

theorem pay2_at (x : FVec Ideal S256x1024 .f32) (w : FVec Ideal S2816x1024 .bf16) (v : FVec Ideal S1x256x2816 .bf16) (z : S1x256x2816.Idx) :
    k0_pay2 (F := Ideal) x w v z = cell x w (z 1) (z 2) * v z := by
  idx_vars z
  obtain rfl : z0 = 0 := Subsingleton.elim _ _
  pointwise [k0_pay2]
  rw [pay1_at]

theorem pay3_at (x : FVec Ideal S256x1024 .f32) (w : FVec Ideal S2816x1024 .bf16) (v : FVec Ideal S1x256x2816 .bf16) (z : S1x256x2816.Idx) :
    k0_pay3 (F := Ideal) x w v z = cell x w (z 1) (z 2) * v z := by
  idx_vars z
  obtain rfl : z0 = 0 := Subsingleton.elim _ _
  pointwise [k0_pay3]
  rw [pay1_at]

theorem zeros : ![0, 0] = fun _ : Fin 2 => 0 := by funext i; fin_cases i <;> rfl

theorem out3 (x : FVec Ideal S256x1024 .f32) (w : FVec Ideal S2816x1024 .bf16) (v : FVec Ideal S2x256x2816 .bf16) (y : S2x256x2816.Idx) :
    out0_3 (F := Ideal) x w v y = cell x w (y 1) (y 2) * v y := by
  have l0 : View.ld (Val := Elt Ideal) (e' := .f32) x r0_0 = x := View.ld_unit_zero zeros _ _
  have l1 : View.ld (Val := Elt Ideal) (e' := .bf16) w r0_1 = w := View.ld_unit_zero zeros _ _
  canon_tiles z h
  · rw [l0, l1]
    refine (pay3_at x w _ z).trans (congrArg₂ (· * ·) (congrArg₂ (cell x w) (Fin.ext h1.symm) (Fin.ext h2.symm)) (congrArg v ?_))
    blk_ext []
    all_goals rw [Rect.idx_unit_val]
    · exact h0.symm
    · exact (Nat.zero_add _).trans h1.symm
    · exact (Nat.zero_add _).trans h2.symm
  · rw [l0, l1]
    refine (pay2_at x w _ z).trans (congrArg₂ (· * ·) (congrArg₂ (cell x w) (Fin.ext h1.symm) (Fin.ext h2.symm)) (congrArg v ?_))
    blk_ext []
    all_goals rw [Rect.idx_unit_val]
    · exact (Nat.zero_add _).trans h0.symm
    · exact (Nat.zero_add _).trans h1.symm
    · exact (Nat.zero_add _).trans h2.symm

theorem b0_at (c : Dev nD) (t : Fin cfg0.N) (i : Fin 256) (k : Fin 1024) :
    (show FVec Ideal S256x1024 .f32 from iblk m c 0 t) (ix2 i k) =
      (show FVec Ideal S8192x1024 .f32 from m ((c : Thread nD τ).loc main_arg2)) (ix2 ⟨256 * t.val + i.val, by have := lt t; omega⟩ k) := by
  blk_point [iblk, V, idx t]
theorem b1_at (c : Dev nD) (t : Fin cfg0.N) (j : Fin 2816) (k : Fin 1024) :
    (show FVec Ideal S2816x1024 .bf16 from iblk m c 1 t) (ix2 j k) = (show FVec Ideal S2816x1024 .bf16 from m ((c : Thread nD τ).loc main_arg3)) (ix2 j k) := by
  blk_point [iblk, V, idx t]

theorem v23_at (c : Dev nD) (s : Fin 2) (i : Fin 8192) (j : Fin 2816) :
    (show FVec Ideal S2x8192x2816 .bf16 from V m c main_v23) (ix3 s i j) =
      if s.val < 1 then fac0 ((show FVec Ideal S8192x2816 .f32 from m ((c : Thread nD τ).loc main_arg0)) (ix2 i j)) ((show FVec Ideal S8192x2816 .f32 from m ((c : Thread nD τ).loc main_arg1)) (ix2 i j))
      else fac1 ((show FVec Ideal S8192x2816 .f32 from m ((c : Thread nD τ).loc main_arg0)) (ix2 i j)) := by
  entry_read
  pointwise []
  simp only [Cert.Common.half, Cert.Common.sigmoid]
  by_cases h : s.val < 1
  · rw [dif_pos h, if_pos h]
  · rw [dif_neg h, if_neg h]

theorem b2_at (c : Dev nD) (t : Fin cfg0.N) (s : Fin 2) (i : Fin 256) (j : Fin 2816) :
    (show FVec Ideal S2x256x2816 .bf16 from iblk m c 2 t) (ix3 s i j) =
      (show FVec Ideal S2x8192x2816 .bf16 from V m c main_v23) (ix3 s ⟨256 * t.val + i.val, by have := lt t; omega⟩ j) := by
  blk_simp [iblk]
  exact congrArg (V m c main_v23) (by blk_ext [idx t])

theorem emb3 (t : Fin cfg0.N) (s : Fin 2) (i : Fin 256) (j : Fin 2816) :
    (win0_3.blk t).view.emb (ix3 s i j) = (ix3 s ⟨256 * t.val + i.val, by have := lt t; omega⟩ j : S2x8192x2816.Idx) := by
  blk_ext [idx t]

/-- What the precondition says of the three arrays it tests. -/
theorem real_of_pre (hp : Cert.Pre_GateBwdIdeal_finite_gate (hPre_finite_gate := Cert.Pre_finite_gate.Gen.facts) m) (c : Dev nD) :
    (∀ i j, ∃ r : ℝ, (show FVec Ideal S8192x2816 .f32 from m ((c : Thread nD τ).loc main_arg1)) (ix2 i j) = r) ∧
    (∀ i k, ∃ r : ℝ, (show FVec Ideal S8192x1024 .f32 from m ((c : Thread nD τ).loc main_arg2)) (ix2 i k) = r) ∧
    (∀ j k, ∃ r : ℝ, (show FVec Ideal S2816x1024 .bf16 from m ((c : Thread nD τ).loc main_arg3)) (ix2 j k) = r) := by
  obtain ⟨h1, h2, h3⟩ := hp c
  refine ⟨fun i j => ?_, fun i k => ?_, fun j k => ?_⟩
  · have h := congrFun h1 (ix2 i j)
    revert h
    unfold Cert.Pre_finite_gate.fn
    pointwise []
    exact fun h => Cert.Common.real_of_test Cert.Common.inf32 h
  · have h := congrFun h2 (ix2 i k)
    revert h
    unfold Cert.Pre_finite_gate.fn
    pointwise []
    exact fun h => Cert.Common.real_of_test Cert.Common.inf32 h
  · have h := congrFun h3 (ix2 j k)
    revert h
    unfold Cert.Pre_finite_gate.fn
    pointwise []
    exact fun h => Cert.Common.real_of_test Cert.Common.inf16 h

/-- The reference's entries. -/
theorem ref_at (g u : FVec Ideal S8192x2816 .f32) (x : FVec Ideal S8192x1024 .f32) (w : FVec Ideal S2816x1024 .bf16) (s i j) :
    ref g u x w (ix3 s i j) =
      if s.val < 1 then half * da (fun k => x (ix2 i k)) (fun k => w (ix2 j k)) * u (ix2 i j) * Ideal.logistic (g (ix2 i j)) +
        g (ix2 i j) * (half * da (fun k => x (ix2 i k)) (fun k => w (ix2 j k)) * u (ix2 i j)) *
          (Ideal.logistic (g (ix2 i j)) * (1 - Ideal.logistic (g (ix2 i j))))
      else g (ix2 i j) * Ideal.logistic (g (ix2 i j)) * (half * da (fun k => x (ix2 i k)) (fun k => w (ix2 j k))) := by
  pointwise [ref, Cert.GateBwdRefIdeal.Read.val_main_v15, Cert.GateBwdRefIdeal.Read.val_main_v14, Cert.GateBwdRefIdeal.Read.val_main_v13, Cert.GateBwdRefIdeal.Read.val_main_v12, Cert.GateBwdRefIdeal.Read.val_main_v11, Cert.GateBwdRefIdeal.Read.val_main_v10, Cert.GateBwdRefIdeal.Read.val_main_v9, Cert.GateBwdRefIdeal.Read.val_main_v8, Cert.GateBwdRefIdeal.Read.val_main_v7, Cert.GateBwdRefIdeal.Read.val_main_v6, Cert.GateBwdRefIdeal.Read.val_main_v2, Cert.GateBwdRefIdeal.Read.val_main_cst_0, Cert.GateBwdRefIdeal.Read.val_main_call1_v2, Cert.GateBwdRefIdeal.Read.val_main_call1_v1, Cert.GateBwdRefIdeal.Read.val_main_call1_v0, Cert.GateBwdRefIdeal.Read.val_main_v0_0, Cert.GateBwdRefIdeal.Read.val_main_v0_1, Cert.GateBwdRefIdeal.Read.val_main_call0_v7, Cert.GateBwdRefIdeal.Read.val_main_call0_v6, Cert.GateBwdRefIdeal.Read.val_main_call0_cst_1, Cert.GateBwdRefIdeal.Read.val_main_v0_2, Cert.GateBwdRefIdeal.Read.val_main_call0_v4, Cert.GateBwdRefIdeal.Read.val_main_call0_cst_0, Cert.GateBwdRefIdeal.Read.val_main_call0_v3, Cert.GateBwdRefIdeal.Read.val_main_call0_v2, Cert.GateBwdRefIdeal.Read.val_main_call0_cst, Cert.GateBwdRefIdeal.Read.val_main_call0_v1, Cert.GateBwdRefIdeal.Read.val_main_call0_v0]
  have e : (∑ k, Ideal.ofBits .f32 0x3F000000#32 * x (ix2 i k) * w (ix2 j k)) = half * da (fun k => x (ix2 i k)) (fun k => w (ix2 j k)) := by
    rw [Cert.Common.half, Cert.Common.mul_sum (by norm_num)]
    simp only [mul_assoc]
  simp only [Cert.Common.div_sigmoid]
  by_cases h : s.val < 1
  · rw [dif_pos h, if_pos h, e]
  · rw [dif_neg h, if_neg h, e]

/-- The two gradients agree where the other factor, the cotangent and the weight are real. -/
theorem final (hp : Cert.Pre_GateBwdIdeal_finite_gate (hPre_finite_gate := Cert.Pre_finite_gate.Gen.facts) m) (c : Dev nD) :
    (dats m 0 c).arrAt 3 (cfgs 0).N = ref (m ((c : Thread nD τ).loc main_arg0)) (m ((c : Thread nD τ).loc main_arg1))
      (m ((c : Thread nD τ).loc main_arg2)) (m ((c : Thread nD τ).loc main_arg3)) := by
  obtain ⟨hu, hx, hw⟩ := real_of_pre m hp c
  refine (dats m 0 c).arrAt_eq_of_covers 3 _ (by decide +kernel) fun t hf y => ?_
  idx_vars y
  blk_simp
  rw [after0_3]
  refine (out3 _ _ _ _).trans ?_
  refine Eq.trans ?_ (congrArg _ (emb3 t y0 y1 y2)).symm
  rw [ref_at]
  show cell (iblk m c 0 t) (iblk m c 1 t) y1 y2 * (show FVec Ideal S2x256x2816 .bf16 from iblk m c 2 t) (ix3 y0 y1 y2) = _
  rw [b2_at, v23_at]
  simp only [cell, b0_at, b1_at]
  by_cases h : y0.val < 1
  · rw [if_pos h, if_pos h]
    obtain ⟨r, hr⟩ := hu ⟨256 * t.val + y1.val, by have := lt t; omega⟩ y2
    choose X hX using hx ⟨256 * t.val + y1.val, by have := lt t; omega⟩
    choose W hW using hw y2
    rw [hr]
    simp only [da, hX, hW, fac0, half, ← EReal.coe_mul, Cert.Common.coe_sum]
    rw [← Cert.Common.gate_back, ← mul_assoc, ← EReal.coe_mul]
    congr 2
    ring
  · rw [if_neg h, if_neg h]
    simp only [fac1]
    ac_rfl

end Cert.GateBwdIdeal.Result

end
-- ==== Proof.GateBwdPair.lean ====
/- The claims of one call and its reference: both run, and their results are equal. -/
module

public import proofs.«01_k».proof.Defs
public import proofs.«01_k».proof.Proof.Gen.GateBwd
public import proofs.«01_k».proof.Proof.Gen.GateBwd.Frame
public import proofs.«01_k».proof.Proof.Gen.GateBwdIdeal
public import proofs.«01_k».proof.Proof.Gen.GateBwdIdeal.Frame
public import proofs.«01_k».proof.Proof.Gen.GateBwdIdeal.Value
public import proofs.«01_k».proof.Proof.Gen.GateBwdRefIdeal
public import proofs.«01_k».proof.Proof.Gen.GateBwdRefIdeal.Run
public import proofs.«01_k».proof.Proof.Gen.GateBwdRefIdeal.Read
public import proofs.«01_k».proof.Proof.GateBwdValue
public import proofs.«01_k».proof.Proof.Gen.Pre_finite_gate
public import Idealize.ShloMosaic.Lib.Claim

@[expose] public section

set_option maxRecDepth 16384

noncomputable section

namespace Cert.GateBwdPair

open Idealize.ShloMosaic Idealize.SL.Sem

/-- The reference runs and leaves its arguments as they were. -/
theorem reference_frame : Cert.quiescent_GateBwdRefIdeal (hGateBwdRefIdeal := Cert.GateBwdRefIdeal.Gen.facts) := by
  intro m g _
  exact (θ_run Cert.GateBwdRefIdeal.defs _ _).mono (fun r h => ⟨fun c => (h c).2, sem_eq_zero_of_no_sems (by decide) r.2⟩)
    (Cert.GateBwdRefIdeal.Value.run (F := Ideal) m g)

/-- The kernel's results are the reference's. -/
theorem value : Cert.algebraic_GateBwdIdeal_GateBwdRefIdeal_pre_finite_gate (hGateBwdIdeal := Cert.GateBwdIdeal.Gen.facts) (hGateBwdRefIdeal := Cert.GateBwdRefIdeal.Gen.facts) (hPre_finite_gate := Cert.Pre_finite_gate.Gen.facts) := by
  pair_intro
  · run_from Cert.GateBwdIdeal.Gen.run_main m g
  · run_from Cert.GateBwdRefIdeal.Value.run m' g'
    refine (Cert.GateBwdRefIdeal.Read.val_main_v15_eq _ _ _ _).trans ?_
    rw [(hagree c).2.2.2]
    exact (Cert.GateBwdIdeal.Result.final m (by assumption) c).symm

end Cert.GateBwdPair

end
-- ==== Proof.DwdValue.lean ====
/- The gradient of the down projection's weight: the kernel's result array is the reference's. -/
module

public import proofs.«01_k».proof.Proof.Gen.DwdIdeal.Value
public import proofs.«01_k».proof.Proof.Gen.DwdRefIdeal.Read
public import proofs.«01_k».proof.Proof.Common
public import Idealize.ShloMosaic.Lib.Pipeline.ReadBack
public import Idealize.ShloMosaic.Lib.Pipeline.ValueKit
public import Idealize.ShloMosaic.Lib.Pointwise
public import Idealize.ShloMosaic.Lib.Claim

@[expose] public section

set_option maxRecDepth 16384

noncomputable section

namespace Cert.DwdIdeal.Result

open Cert.DwdIdeal Cert.DwdIdeal.Gen Idealize.ShloMosaic Idealize.ShloMosaic.TcCoe Idealize.SL.Sem
open Idealize.ShloMosaic.Pipeline (Dat)
open scoped BigOperators

variable (m : (ℓ : Loc nD τ sig) → Buf (Elt Ideal) ℓ)

/-- The reference's result over the activations and the cotangent. -/
abbrev ref (a : FVec Ideal S8192x2816 .bf16) (d : FVec Ideal S8192x1024 .f32) : FVec Ideal S2816x1024 .bf16 :=
  Cert.DwdRefIdeal.Read.val_main_v9 (F := Ideal) a d

/-- Every window's block index: eight row blocks to each of the two column blocks of the activations. -/
theorem idx : ∀ t : Fin cfg0.N, win0_0.index t = ![t.val % 8, t.val / 8] ∧ win0_1.index t = ![t.val % 8, 0]
    ∧ win0_2.index t = ![t.val / 8, 0] ∧ t.val / 8 < 2 :=
  (by decide +kernel : ∀ t : Fin grid0.N, _)

theorem pay1_at (j) : k0_pay1 (F := Ideal) j = 0 := by pointwise [k0_pay1]

theorem pay2_at (acc : FVec Ideal S1408x1024 .f32) (a : FVec Ideal S1024x1408 .bf16) (d : FVec Ideal S1024x1024 .f32) (j) :
    k0_pay2 (F := Ideal) acc a d j = acc j + ∑ k : Fin 1024, a (ix2 k (j 0)) * d (ix2 k (j 1)) := by
  pointwise [k0_pay2]

theorem pay3_at (acc : FVec Ideal S1408x1024 .f32) (j) :
    k0_pay3 (F := Ideal) acc j = Ideal.ofBits .f32 0x3F000000#32 * acc j := by
  pointwise [k0_pay3]

theorem ref_at (a : FVec Ideal S8192x2816 .bf16) (d : FVec Ideal S8192x1024 .f32) (j) :
    ref a d j = Ideal.ofBits .f32 0x3F000000#32 * ∑ k : Fin 8192, a (ix2 k (j 0)) * d (ix2 k (j 1)) := by
  pointwise [ref, Cert.DwdRefIdeal.Read.val_main_v9, Cert.DwdRefIdeal.Read.val_main_v8, Cert.DwdRefIdeal.Read.val_main_v7,
    Cert.DwdRefIdeal.Read.val_main_v6, Cert.DwdRefIdeal.Read.val_main_v5, Cert.DwdRefIdeal.Read.val_main_cst_1, Cert.DwdRefIdeal.Read.val_main_v1]
  rw [Cert.Common.half, Cert.Common.mul_sum (by norm_num)]
  exact Finset.sum_congr rfl fun k _ => by rw [mul_assoc, mul_comm (d _) (a _)]

/-- The sum that a grid point adds to the accumulator. -/
abbrev term (c : Dev nD) (t : Fin cfg0.N) (j : S1408x1024.Idx) : EReal :=
  ∑ k : Fin 1024, (show FVec Ideal S1024x1408 .bf16 from iblk m c 0 t) (ix2 k (j 0)) * (show FVec Ideal S1024x1024 .f32 from iblk m c 1 t) (ix2 k (j 1))

theorem reset (c : Dev nD) (t : Fin cfg0.N) (h : t.val % 8 = 0) (j) :
    (outsAt0 m c t.val t.isLt).2 j = 0 + term m c t j := by
  rw [outsAt0_A m c t h (by omega)]
  frame_out
  rw [pay2_at, pay1_at]

theorem step (c : Dev nD) (t : Fin cfg0.N) (h : ¬ t.val % 8 = 0) (j) :
    (outsAt0 m c t.val t.isLt).2 j = (outsAt0 m c (t.val - 1) (Nat.lt_of_le_of_lt (Nat.sub_le _ _) t.isLt)).2 j + term m c t j := by
  by_cases h1 : t.val % 8 = 7
  · rw [outsAt0_C m c t h h1]
    frame_out
    rw [read_unread_whole, pay2_at]
  · rw [outsAt0_B m c t h h1]
    frame_out
    rw [read_unread_whole, pay2_at]

theorem out (c : Dev nD) (t : Fin cfg0.N) (h : t.val % 8 = 7) :
    (outsAt0 m c t.val t.isLt).1 = k0_pay3 (F := Ideal) (outsAt0 m c t.val t.isLt).2 := by
  rw [outsAt0_C m c t (by omega) h]
  frame_out

/-- The result array after the last grid point. -/
theorem final (c : Dev nD) : (dats m 0 c).arrAt 2 (cfgs 0).N = ref (m ((c : Thread nD τ).loc main_arg0)) (m ((c : Thread nD τ).loc main_arg1)) := by
  refine (dats m 0 c).arrAt_eq_of_covers 2 _ (by decide +kernel) fun t hf y => ?_
  have hr := (flush0_2 t).mp hf
  blk_simp
  rw [after0_2, out m c t hr, pay3_at, ref_at,
    Pipeline.eq_sum_fin_of_reset_step_apply_of_flush (f := fun n h => (outsAt0 m c n h).2) 8 (fun _ => 0) (term m c)
      (reset m c) (step m c) t hr y, zero_add]
  congr 1
  refine Fin.sum_mul_add_congr fun s k hl => ?_
  blk_point [iblk, V, idx t, idx ⟨_, Pipeline.run_point_lt_of_flush t hr s⟩]

end Cert.DwdIdeal.Result

end
-- ==== Proof.DwdPair.lean ====
/- The claims of one call and its reference: both run, and their results are equal. -/
module

public import proofs.«01_k».proof.Defs
public import proofs.«01_k».proof.Proof.Gen.Dwd
public import proofs.«01_k».proof.Proof.Gen.Dwd.Frame
public import proofs.«01_k».proof.Proof.Gen.DwdIdeal
public import proofs.«01_k».proof.Proof.Gen.DwdIdeal.Frame
public import proofs.«01_k».proof.Proof.Gen.DwdIdeal.Value
public import proofs.«01_k».proof.Proof.Gen.DwdRefIdeal
public import proofs.«01_k».proof.Proof.Gen.DwdRefIdeal.Run
public import proofs.«01_k».proof.Proof.Gen.DwdRefIdeal.Read
public import proofs.«01_k».proof.Proof.DwdValue
public import Idealize.ShloMosaic.Lib.Claim

@[expose] public section

set_option maxRecDepth 16384

noncomputable section

namespace Cert.DwdPair

open Idealize.ShloMosaic Idealize.SL.Sem

/-- The reference runs and leaves its arguments as they were. -/
theorem reference_frame : Cert.quiescent_DwdRefIdeal (hDwdRefIdeal := Cert.DwdRefIdeal.Gen.facts) := by
  intro m g _
  exact (θ_run Cert.DwdRefIdeal.defs _ _).mono (fun r h => ⟨fun c => (h c).2, sem_eq_zero_of_no_sems (by decide) r.2⟩)
    (Cert.DwdRefIdeal.Value.run (F := Ideal) m g)

/-- The kernel's results are the reference's. -/
theorem value : Cert.algebraic_DwdIdeal_DwdRefIdeal (hDwdIdeal := Cert.DwdIdeal.Gen.facts) (hDwdRefIdeal := Cert.DwdRefIdeal.Gen.facts) := by
  pair_intro
  · run_from Cert.DwdIdeal.Gen.run_main m g
  · run_from Cert.DwdRefIdeal.Value.run m' g'
    exact (Cert.DwdRefIdeal.Read.val_main_v9_eq _ _).trans (Cert.DwdIdeal.Result.final m c).symm

end Cert.DwdPair

end
-- ==== Proof.DwguValue.lean ====
/- The gradient of the up projection's weight: the kernel's result array is the reference's. -/
module

public import proofs.«01_k».proof.Proof.Gen.DwguIdeal.Value
public import proofs.«01_k».proof.Proof.Gen.DwguRefIdeal.Read
public import proofs.«01_k».proof.Proof.Common
public import Idealize.ShloMosaic.Lib.Pipeline.ReadBack
public import Idealize.ShloMosaic.Lib.Pipeline.ValueKit
public import Idealize.ShloMosaic.Lib.Pointwise
public import Idealize.ShloMosaic.Lib.Claim

@[expose] public section

set_option maxRecDepth 16384

noncomputable section

namespace Cert.DwguIdeal.Result

open Cert.DwguIdeal Cert.DwguIdeal.Gen Idealize.ShloMosaic Idealize.ShloMosaic.TcCoe Idealize.SL.Sem
open Idealize.ShloMosaic.Pipeline (Dat)
open scoped BigOperators

variable (m : (ℓ : Loc nD τ sig) → Buf (Elt Ideal) ℓ)

/-- The reference's result over the operands. -/
abbrev ref (a : FVec Ideal S8192x1024 .bf16) (d : FVec Ideal S2x8192x2816 .bf16) : FVec Ideal S1024x5632 .bf16 :=
  Cert.DwguRefIdeal.Read.val_main_v11 (F := Ideal) a d

/-- Every window's block index. -/
theorem idx : ∀ t : Fin cfg0.N, win0_0.index t = ![t.val % 8, 0] ∧ win0_1.index t = ![t.val / 8, t.val % 8, 0]
    ∧ win0_2.index t = ![0, t.val / 8] ∧ t.val / 8 < 2 :=
  (by decide +kernel : ∀ t : Fin grid0.N, _)

theorem pay1_at (j) : k0_pay1 (F := Ideal) j = 0 := by pointwise [k0_pay1]

theorem pay2_at (acc : FVec Ideal S1024x2816 .f32) (a : FVec Ideal S1024x1024 .bf16) (d : FVec Ideal S1x1024x2816 .bf16) (j) :
    k0_pay2 (F := Ideal) acc a d j = acc j + ∑ k : Fin 1024, a (ix2 k (j 0)) * d (ix3 0 k (j 1)) := by
  pointwise [k0_pay2]

theorem pay3_at (acc : FVec Ideal S1024x2816 .f32) (j) : k0_pay3 (F := Ideal) acc j = acc j := by
  pointwise [k0_pay3]

/-- Which half a column of the weight belongs to. -/
abbrev half (j : S1024x5632.Idx) : Fin 2 := ⟨(j 1).val / 2816, by have h : (j 1).val < 5632 := (j 1).isLt; omega⟩

/-- The column within its half. -/
abbrev lane (j : S1024x5632.Idx) : Fin 2816 := ⟨(j 1).val % 2816, by omega⟩

theorem ref_at (a : FVec Ideal S8192x1024 .bf16) (d : FVec Ideal S2x8192x2816 .bf16) (j) :
    ref a d j = ∑ k : Fin 8192, a (ix2 k (j 0)) * d (ix3 (half j) k (lane j)) := by
  pointwise [ref, Cert.DwguRefIdeal.Read.val_main_v11, Cert.DwguRefIdeal.Read.val_main_v10, Cert.DwguRefIdeal.Read.val_main_v9, Cert.DwguRefIdeal.Read.val_main_v7, Cert.DwguRefIdeal.Read.val_main_v5, Cert.DwguRefIdeal.Read.val_main_v4, Cert.DwguRefIdeal.Read.val_main_v3, Cert.DwguRefIdeal.Read.val_main_v2, Cert.DwguRefIdeal.Read.val_main_v1, Cert.DwguRefIdeal.Read.val_main_v0]
  refine Finset.sum_congr rfl fun k _ => ?_
  rw [mul_comm]
  have h5 : (j 1).val < 5632 := (j 1).isLt
  refine congrArg (a _ * ·) ?_
  by_cases h : (j 1).val < 2816
  · rw [dif_pos h]
    have e : (half j) = 0 := Fin.ext (by show (j 1).val / 2816 = 0; omega)
    have e' : (lane j) = ⟨(j 1).val, h⟩ := Fin.ext (by show (j 1).val % 2816 = (j 1).val; omega)
    rw [e, e']
  · rw [dif_neg h]
    have e : (half j) = 1 := Fin.ext (by show (j 1).val / 2816 = 1; omega)
    have e' : (lane j) = ⟨(j 1).val - 2816, by omega⟩ := Fin.ext (by show (j 1).val % 2816 = (j 1).val - 2816; omega)
    rw [e, e']

/-- The sum that a grid point adds to the accumulator. -/
abbrev term (c : Dev nD) (t : Fin cfg0.N) (j : S1024x2816.Idx) : EReal :=
  ∑ k : Fin 1024, (show FVec Ideal S1024x1024 .bf16 from iblk m c 0 t) (ix2 k (j 0)) * (show FVec Ideal S1x1024x2816 .bf16 from iblk m c 1 t) (ix3 0 k (j 1))

theorem reset (c : Dev nD) (t : Fin cfg0.N) (h : t.val % 8 = 0) (j) :
    (outsAt0 m c t.val t.isLt).2 j = 0 + term m c t j := by
  rw [outsAt0_A m c t h (by omega)]
  frame_out
  rw [pay2_at, pay1_at]

theorem step (c : Dev nD) (t : Fin cfg0.N) (h : ¬ t.val % 8 = 0) (j) :
    (outsAt0 m c t.val t.isLt).2 j = (outsAt0 m c (t.val - 1) (Nat.lt_of_le_of_lt (Nat.sub_le _ _) t.isLt)).2 j + term m c t j := by
  by_cases h1 : t.val % 8 = 7
  · rw [outsAt0_C m c t h h1]
    frame_out
    rw [read_unread_whole, pay2_at]
  · rw [outsAt0_B m c t h h1]
    frame_out
    rw [read_unread_whole, pay2_at]

theorem out (c : Dev nD) (t : Fin cfg0.N) (h : t.val % 8 = 7) :
    (outsAt0 m c t.val t.isLt).1 = k0_pay3 (F := Ideal) (outsAt0 m c t.val t.isLt).2 := by
  rw [outsAt0_C m c t (by omega) h]
  frame_out

/-- The result array after the last grid point. -/
theorem final (c : Dev nD) : (dats m 0 c).arrAt 2 (cfgs 0).N = ref (m ((c : Thread nD τ).loc main_arg0)) (m ((c : Thread nD τ).loc main_arg1)) := by
  refine (dats m 0 c).arrAt_eq_of_covers 2 _ (by decide +kernel) fun t hf y => ?_
  have hr := (flush0_2 t).mp hf
  blk_simp
  rw [after0_2, out m c t hr, pay3_at, ref_at,
    Pipeline.eq_sum_fin_of_reset_step_apply_of_flush (f := fun n h => (outsAt0 m c n h).2) 8 (fun _ => 0) (term m c)
      (reset m c) (step m c) t hr y, zero_add]
  refine Fin.sum_mul_add_congr fun s k hl => ?_
  blk_point [iblk, V, half, lane, idx t, idx ⟨_, Pipeline.run_point_lt_of_flush t hr s⟩]

end Cert.DwguIdeal.Result

end
-- ==== Proof.DwguPair.lean ====
/- The claims of one call and its reference: both run, and their results are equal. -/
module

public import proofs.«01_k».proof.Defs
public import proofs.«01_k».proof.Proof.Gen.Dwgu
public import proofs.«01_k».proof.Proof.Gen.Dwgu.Frame
public import proofs.«01_k».proof.Proof.Gen.DwguIdeal
public import proofs.«01_k».proof.Proof.Gen.DwguIdeal.Frame
public import proofs.«01_k».proof.Proof.Gen.DwguIdeal.Value
public import proofs.«01_k».proof.Proof.Gen.DwguRefIdeal
public import proofs.«01_k».proof.Proof.Gen.DwguRefIdeal.Run
public import proofs.«01_k».proof.Proof.Gen.DwguRefIdeal.Read
public import proofs.«01_k».proof.Proof.DwguValue
public import Idealize.ShloMosaic.Lib.Claim

@[expose] public section

set_option maxRecDepth 16384

noncomputable section

namespace Cert.DwguPair

open Idealize.ShloMosaic Idealize.SL.Sem

/-- The reference runs and leaves its arguments as they were. -/
theorem reference_frame : Cert.quiescent_DwguRefIdeal (hDwguRefIdeal := Cert.DwguRefIdeal.Gen.facts) := by
  intro m g _
  exact (θ_run Cert.DwguRefIdeal.defs _ _).mono (fun r h => ⟨fun c => (h c).2, sem_eq_zero_of_no_sems (by decide) r.2⟩)
    (Cert.DwguRefIdeal.Value.run (F := Ideal) m g)

/-- The kernel's results are the reference's. -/
theorem value : Cert.algebraic_DwguIdeal_DwguRefIdeal (hDwguIdeal := Cert.DwguIdeal.Gen.facts) (hDwguRefIdeal := Cert.DwguRefIdeal.Gen.facts) := by
  pair_intro
  · run_from Cert.DwguIdeal.Gen.run_main m g
  · run_from Cert.DwguRefIdeal.Value.run m' g'
    exact (Cert.DwguRefIdeal.Read.val_main_v11_eq _ _).trans (Cert.DwguIdeal.Result.final m c).symm

end Cert.DwguPair

end
-- ==== Proof.NormBwdValue.lean ====
/- The gradient through the feed-forward layer's product and norm: the kernel's result arrays are the reference's. -/
module

public import proofs.«01_k».proof.Proof.Gen.NormBwdIdeal.Value
public import proofs.«01_k».proof.Proof.Gen.NormBwdRefIdeal.Read
public import proofs.«01_k».proof.Proof.Common
public import Idealize.ShloMosaic.Lib.Pipeline.ReadBack
public import Idealize.ShloMosaic.Lib.Pipeline.ValueKit
public import Idealize.ShloMosaic.Lib.Pointwise
public import Idealize.ShloMosaic.Lib.ValueLayout
public import Idealize.ShloMosaic.Lib.Claim

@[expose] public section

set_option maxRecDepth 16384

noncomputable section

namespace Cert.NormBwdIdeal.Result

open Cert.NormBwdIdeal Cert.NormBwdIdeal.Gen Idealize.ShloMosaic Idealize.ShloMosaic.TcCoe Idealize.SL.Sem
open Idealize.ShloMosaic.Pipeline (Dat)
open scoped BigOperators

variable (m : (ℓ : Loc nD τ sig) → Buf (Elt Ideal) ℓ)

/-- Every window's block index: the rows move with the grid point, the rest stays. -/
theorem idx : ∀ t : Fin cfg0.N, win0_0.index t = ![0, t.val, 0] ∧ win0_1.index t = ![0, 0] ∧ win0_2.index t = ![t.val, 0]
    ∧ win0_3.index t = ![0, 0] ∧ win0_4.index t = ![t.val, 0] ∧ win0_5.index t = ![t.val, 0] ∧ win0_6.index t = ![0, 0] :=
  (by decide +kernel : ∀ t : Fin grid0.N, _)

/-- The reference's results over the operands. -/
abbrev refDx (a : FVec Ideal S2x8192x2816 .bf16) (b : FVec Ideal S1024x5632 .bf16) (x : FVec Ideal S8192x1024 .f32) (g : FVec Ideal S1024 .f32)
    (d : FVec Ideal S8192x1024 .f32) : FVec Ideal S8192x1024 .f32 := Cert.NormBwdRefIdeal.Read.val_main_v45 (F := Ideal) a b x g d
abbrev refDg (a : FVec Ideal S2x8192x2816 .bf16) (b : FVec Ideal S1024x5632 .bf16) (x : FVec Ideal S8192x1024 .f32) :
    FVec Ideal S1x1024 .f32 := Cert.NormBwdRefIdeal.Read.val_main_v46 (F := Ideal) a b x

/-- The root-mean-square factor of a row. -/
abbrev rr (X : Fin 1024 → EReal) : EReal := Ideal.rsqrt (Cert.Common.rms X)

/-- An entry of the product's gradient, over the two halves of the cotangent's row and of the weight's row. -/
abbrev dd (a0 a1 : Fin 2816 → EReal) (b0 b1 : Fin 2816 → EReal) : EReal := ∑ k, a0 k * b0 k + ∑ k, a1 k * b1 k

/-- The gradient of a row through the norm, in the closed form. -/
abbrev row (X E : Fin 1024 → EReal) (d : EReal) (j : Fin 1024) : EReal :=
  d + rr X * (E j - X j * rr X * Ideal.div (∑ k, E k * (X k * rr X)) (Ideal.ofBits .f32 0x44800000#32))

theorem lt : ∀ t : Fin cfg0.N, t.val < 16 := (by decide +kernel : ∀ t : Fin grid0.N, _)

theorem dh_at (b0 : FVec Ideal S1024x2816 .bf16) (a0 : FVec Ideal S512x2816 .bf16) (b1 : FVec Ideal S1024x2816 .bf16)
    (a1 : FVec Ideal S512x2816 .bf16) (i j) : k0_pay3 (F := Ideal) b0 a0 b1 a1 (ix2 i j) =
      dd (fun k => a0 (ix2 i k)) (fun k => a1 (ix2 i k)) (fun k => b0 (ix2 j k)) (fun k => b1 (ix2 j k)) := by
  pointwise [k0_pay3]

theorem r_at (x : FVec Ideal S512x1024 .f32) (i) : k0_pay4 (F := Ideal) x (ix2 i 0) = rr fun k => x (ix2 i k) := by
  pointwise [k0_pay4]

theorem xh_at (x : FVec Ideal S512x1024 .f32) (i j) : k0_pay5 (F := Ideal) x (ix2 i j) = x (ix2 i j) * rr fun k => x (ix2 i k) := by
  pointwise [k0_pay5]
  rw [r_at]

theorem slab_at (M : Memref sig .tc .vmem S2x512x2816 .bf16) (h : M.IsWhole) (X : FVec Ideal S2x512x2816 .bf16) (s : ℕ) (hs : s < 2) (inb) (hq) (i k) :
    View.read (Elt Ideal) ((M.view.slice (Rect.unit ![s, 0, 0] ![1, 512, 2816] inb)).reshape S512x2816 hq) (h.unread X) (ix2 i k) = X (ix3 ⟨s, hs⟩ i k) := by
  have e : (Rect.unit (s := S2x512x2816) ![s, 0, 0] ![1, 512, 2816] inb).emb (Shape.reshapeEquiv hq (ix2 i k)) = ix3 ⟨s, hs⟩ i k := by
    refine (congrArg _ (ValueIdx.reshapeEquiv_ix2_1ab hq i k)).trans ?_
    funext a
    refine Fin.ext ?_
    fin_cases a
    · show s + 0 = s; omega
    · show 0 + 1 * i.val = i.val; omega
    · show 0 + 1 * k.val = k.val; omega
  have w : M.view.read (Elt Ideal) (h.unread X) = X := Memref.IsWhole.read_unread (Val := Elt Ideal) h X
  exact (congrFun w _).trans (congrArg X e)

theorem pay1_at (dh : FVec Ideal S512x1024 .f32) (x : FVec Ideal S512x1024 .f32) (g : FVec Ideal S1x1024 .f32)
    (d : FVec Ideal S512x1024 .f32) (i j) : k0_pay1 (F := Ideal) dh (k0_pay4 x) (k0_pay5 x) g d (ix2 i j) =
      row (fun k => x (ix2 i k)) (fun k => dh (ix2 i k) * g (ix2 0 k)) (d (ix2 i j)) j := by
  pointwise [k0_pay1]
  simp only [xh_at, r_at]

theorem pay2_at (j) : k0_pay2 (F := Ideal) j = 0 := by pointwise [k0_pay2]

theorem pay6_at (b0 : FVec Ideal S1024x2816 .bf16) (a0 : FVec Ideal S512x2816 .bf16) (b1 : FVec Ideal S1024x2816 .bf16)
    (a1 : FVec Ideal S512x2816 .bf16) (x : FVec Ideal S512x1024 .f32) (acc : FVec Ideal S1x1024 .f32) (j) :
    k0_pay6 (F := Ideal) b0 a0 b1 a1 x acc (ix2 0 j) =
      acc (ix2 0 j) + ∑ i, k0_pay3 (F := Ideal) b0 a0 b1 a1 (ix2 i j) * (x (ix2 i j) * rr fun k => x (ix2 i k)) := by
  pointwise [k0_pay6]
  simp only [xh_at]

theorem dh_ref (a : FVec Ideal S2x8192x2816 .bf16) (b : FVec Ideal S1024x5632 .bf16) (i j) :
   Cert.NormBwdRefIdeal.Read.val_main_v24 (F := Ideal) a b (ix2 i j) =
     dd (fun k => a (ix3 0 i k)) (fun k => a (ix3 1 i k)) (fun k => b (ix2 j ⟨k.val, by omega⟩)) (fun k => b (ix2 j ⟨2816 + k.val, by omega⟩)) := by
  pointwise [Cert.NormBwdRefIdeal.Read.val_main_v24, Cert.NormBwdRefIdeal.Read.val_main_v22, Cert.NormBwdRefIdeal.Read.val_main_v5, Cert.NormBwdRefIdeal.Read.val_main_v4, Cert.NormBwdRefIdeal.Read.val_main_v3, Cert.NormBwdRefIdeal.Read.val_main_v2, Cert.NormBwdRefIdeal.Read.val_main_v1, Cert.NormBwdRefIdeal.Read.val_main_v0]

theorem refDx_at (a : FVec Ideal S2x8192x2816 .bf16) (b : FVec Ideal S1024x5632 .bf16) (x : FVec Ideal S8192x1024 .f32) (g : FVec Ideal S1024 .f32)
    (d : FVec Ideal S8192x1024 .f32) (i j) : refDx a b x g d (ix2 i j) =
      row (fun k => x (ix2 i k)) (fun k => dd (fun l => a (ix3 0 i l)) (fun l => a (ix3 1 i l)) (fun l => b (ix2 k ⟨l.val, by omega⟩))
        (fun l => b (ix2 k ⟨2816 + l.val, by omega⟩)) * g (ix1 k)) (d (ix2 i j)) j := by
  refine Eq.trans ?_ (Cert.Common.norm_row (n := 1024) (fun k => x (ix2 i k)) (fun k => dd (fun l => a (ix3 0 i l)) (fun l => a (ix3 1 i l))
    (fun l => b (ix2 k ⟨l.val, by omega⟩)) (fun l => b (ix2 k ⟨2816 + l.val, by omega⟩)) * g (ix1 k)) (d (ix2 i j)) j).symm
  pointwise [refDx, Cert.NormBwdRefIdeal.Read.val_main_v45, Cert.NormBwdRefIdeal.Read.val_main_v44, Cert.NormBwdRefIdeal.Read.val_main_v43, Cert.NormBwdRefIdeal.Read.val_main_v42, Cert.NormBwdRefIdeal.Read.val_main_v41, Cert.NormBwdRefIdeal.Read.val_main_v40, Cert.NormBwdRefIdeal.Read.val_main_v39, Cert.NormBwdRefIdeal.Read.val_main_v38, Cert.NormBwdRefIdeal.Read.val_main_cst_6, Cert.NormBwdRefIdeal.Read.val_main_cst_7, Cert.NormBwdRefIdeal.Read.val_main_v37, Cert.NormBwdRefIdeal.Read.val_main_v36, Cert.NormBwdRefIdeal.Read.val_main_v35, Cert.NormBwdRefIdeal.Read.val_main_v34, Cert.NormBwdRefIdeal.Read.val_main_v33, Cert.NormBwdRefIdeal.Read.val_main_v32, Cert.NormBwdRefIdeal.Read.val_main_cst_5, Cert.NormBwdRefIdeal.Read.val_main_v31, Cert.NormBwdRefIdeal.Read.val_main_v29, Cert.NormBwdRefIdeal.Read.val_main_v28, Cert.NormBwdRefIdeal.Read.val_main_v20, Cert.NormBwdRefIdeal.Read.val_main_v19, Cert.NormBwdRefIdeal.Read.val_main_v16, Cert.NormBwdRefIdeal.Read.val_main_v15, Cert.NormBwdRefIdeal.Read.val_main_cst_2, Cert.NormBwdRefIdeal.Read.val_main_v14, Cert.NormBwdRefIdeal.Read.val_main_v13, Cert.NormBwdRefIdeal.Read.val_main_v12, Cert.NormBwdRefIdeal.Read.val_main_v11, Cert.NormBwdRefIdeal.Read.val_main_v10, Cert.NormBwdRefIdeal.Read.val_main_v9, Cert.NormBwdRefIdeal.Read.val_main_v8, Cert.NormBwdRefIdeal.Read.val_main_v7, Cert.NormBwdRefIdeal.Read.val_main_v6, Cert.NormBwdRefIdeal.Read.val_main_cst, Cert.NormBwdRefIdeal.Read.val_main_cst_0, Cert.NormBwdRefIdeal.Read.val_main_cst_1]
  simp only [dh_ref, Cert.Common.sum_one]

theorem refDg_at (a : FVec Ideal S2x8192x2816 .bf16) (b : FVec Ideal S1024x5632 .bf16) (x : FVec Ideal S8192x1024 .f32) (j) : refDg a b x (ix2 0 j) =
    ∑ i, dd (fun l => a (ix3 0 i l)) (fun l => a (ix3 1 i l)) (fun l => b (ix2 j ⟨l.val, by omega⟩))
        (fun l => b (ix2 j ⟨2816 + l.val, by omega⟩)) * (x (ix2 i j) * rr fun k => x (ix2 i k)) := by
  pointwise [refDg, Cert.NormBwdRefIdeal.Read.val_main_v46, Cert.NormBwdRefIdeal.Read.val_main_v30, Cert.NormBwdRefIdeal.Read.val_main_v27, Cert.NormBwdRefIdeal.Read.val_main_v26, Cert.NormBwdRefIdeal.Read.val_main_v25, Cert.NormBwdRefIdeal.Read.val_main_v18, Cert.NormBwdRefIdeal.Read.val_main_v17, Cert.NormBwdRefIdeal.Read.val_main_cst_3, Cert.NormBwdRefIdeal.Read.val_main_cst_4, Cert.NormBwdRefIdeal.Read.val_main_v13, Cert.NormBwdRefIdeal.Read.val_main_v12, Cert.NormBwdRefIdeal.Read.val_main_v11, Cert.NormBwdRefIdeal.Read.val_main_v10, Cert.NormBwdRefIdeal.Read.val_main_v9, Cert.NormBwdRefIdeal.Read.val_main_v8, Cert.NormBwdRefIdeal.Read.val_main_v7, Cert.NormBwdRefIdeal.Read.val_main_v6, Cert.NormBwdRefIdeal.Read.val_main_cst, Cert.NormBwdRefIdeal.Read.val_main_cst_0, Cert.NormBwdRefIdeal.Read.val_main_cst_1]
  simp only [dh_ref, Cert.Common.sum_one]
  exact Finset.sum_congr rfl fun k _ => mul_comm _ _

theorem slab0 (M : Memref sig .tc .vmem S2x512x2816 .bf16) (h : M.IsWhole) (X : FVec Ideal S2x512x2816 .bf16) (inb) (hq) (i k) :
    View.read (Elt Ideal) ((M.view.slice (Rect.unit ![0, 0, 0] ![1, 512, 2816] inb)).reshape S512x2816 hq) (h.unread X) (ix2 i k) = X (ix3 0 i k) :=
  slab_at M h X 0 (by decide) inb hq i k
theorem slab1 (M : Memref sig .tc .vmem S2x512x2816 .bf16) (h : M.IsWhole) (X : FVec Ideal S2x512x2816 .bf16) (inb) (hq) (i k) :
    View.read (Elt Ideal) ((M.view.slice (Rect.unit ![1, 0, 0] ![1, 512, 2816] inb)).reshape S512x2816 hq) (h.unread X) (ix2 i k) = X (ix3 1 i k) :=
  slab_at M h X 1 (by decide) inb hq i k

/-- The gradient of the norm's output at a point's block. -/
abbrev dhb (A : FVec Ideal S2x512x2816 .bf16) (B : FVec Ideal S1024x5632 .bf16) (i : Fin 512) (j : Fin 1024) : EReal :=
  dd (fun l => A (ix3 0 i l)) (fun l => A (ix3 1 i l)) (fun l => B (ix2 j ⟨l.val, by omega⟩)) (fun l => B (ix2 j ⟨2816 + l.val, by omega⟩))

theorem out5 (c : Dev nD) (t : Fin cfg0.N) (i j) : (show FVec Ideal S512x1024 .f32 from (outsAt0 m c t.val t.isLt).1) (ix2 i j) =
    row (fun k => (show FVec Ideal S512x1024 .f32 from iblk m c 2 t) (ix2 i k))
      (fun k => dhb (iblk m c 0 t) (iblk m c 1 t) i k * (show FVec Ideal S1x1024 .f32 from iblk m c 3 t) (ix2 0 k))
      ((show FVec Ideal S512x1024 .f32 from iblk m c 4 t) (ix2 i j)) j := by
  by_cases h : t.val % 16 = 0
  · rw [outsAt0_A m c t h]
    frame_out
    refine (pay1_at _ _ _ _ i j).trans ?_
    simp only [dh_at, slab0, slab1, dhb]
    pointwise []
  · rw [outsAt0_B m c t h]
    frame_out
    refine (pay1_at _ _ _ _ i j).trans ?_
    simp only [dh_at, slab0, slab1, dhb]
    pointwise []

/-- The sum that a grid point adds to the gradient of the norm's weight. -/
abbrev termAt (c : Dev nD) (t : Fin cfg0.N) (j : Fin 1024) : EReal :=
  ∑ i : Fin 512, dhb (iblk m c 0 t) (iblk m c 1 t) i j * ((show FVec Ideal S512x1024 .f32 from iblk m c 2 t) (ix2 i j) *
    rr fun k => (show FVec Ideal S512x1024 .f32 from iblk m c 2 t) (ix2 i k))
abbrev term (c : Dev nD) (t : Fin cfg0.N) (j : S1x1024.Idx) : EReal := termAt m c t (j 1)

theorem reset (c : Dev nD) (t : Fin cfg0.N) (h : t.val % 16 = 0) (j) :
    (outsAt0 m c t.val t.isLt).2 j = 0 + term m c t j := by
  idx_vars j
  obtain rfl : j0 = 0 := Subsingleton.elim _ _
  rw [outsAt0_A m c t h]
  frame_out
  rw [pay6_at, pay2_at]
  show _ = _ + termAt m c t j1
  simp only [dh_at, slab0, slab1, termAt, dhb]
  pointwise []

theorem step (c : Dev nD) (t : Fin cfg0.N) (h : ¬ t.val % 16 = 0) (j) :
    (outsAt0 m c t.val t.isLt).2 j = (outsAt0 m c (t.val - 1) (Nat.lt_of_le_of_lt (Nat.sub_le _ _) t.isLt)).2 j + term m c t j := by
  idx_vars j
  obtain rfl : j0 = 0 := Subsingleton.elim _ _
  rw [outsAt0_B m c t h]
  frame_out
  rw [pay6_at]
  show _ = _ + termAt m c t j1
  simp only [dh_at, slab0, slab1, termAt, dhb]
  pointwise []

theorem b0_at (c : Dev nD) (t : Fin cfg0.N) (s : Fin 2) (i : Fin 512) (l : Fin 2816) :
    (show FVec Ideal S2x512x2816 .bf16 from iblk m c 0 t) (ix3 s i l) =
      (show FVec Ideal S2x8192x2816 .bf16 from m ((c : Thread nD τ).loc main_arg0)) (ix3 s ⟨512 * t.val + i.val, by have := lt t; omega⟩ l) := by
  blk_point [iblk, V, idx t]
theorem b1_at (c : Dev nD) (t : Fin cfg0.N) (j : Fin 1024) (l : Fin 5632) :
    (show FVec Ideal S1024x5632 .bf16 from iblk m c 1 t) (ix2 j l) = (show FVec Ideal S1024x5632 .bf16 from m ((c : Thread nD τ).loc main_arg1)) (ix2 j l) := by
  blk_point [iblk, V, idx t]
theorem b2_at (c : Dev nD) (t : Fin cfg0.N) (i : Fin 512) (l : Fin 1024) :
    (show FVec Ideal S512x1024 .f32 from iblk m c 2 t) (ix2 i l) =
      (show FVec Ideal S8192x1024 .f32 from m ((c : Thread nD τ).loc main_arg2)) (ix2 ⟨512 * t.val + i.val, by have := lt t; omega⟩ l) := by
  blk_point [iblk, V, idx t]
theorem b3_at (c : Dev nD) (t : Fin cfg0.N) (l : Fin 1024) :
    (show FVec Ideal S1x1024 .f32 from iblk m c 3 t) (ix2 0 l) = (show FVec Ideal S1024 .f32 from m ((c : Thread nD τ).loc main_arg3)) (ix1 l) := by
  blk_point [iblk, V, idx t]
theorem b4_at (c : Dev nD) (t : Fin cfg0.N) (i : Fin 512) (l : Fin 1024) :
    (show FVec Ideal S512x1024 .f32 from iblk m c 4 t) (ix2 i l) =
      (show FVec Ideal S8192x1024 .f32 from m ((c : Thread nD τ).loc main_arg4)) (ix2 ⟨512 * t.val + i.val, by have := lt t; omega⟩ l) := by
  blk_point [iblk, V, idx t]
theorem emb5 (t : Fin cfg0.N) (i : Fin 512) (l : Fin 1024) :
    (win0_5.blk t).view.emb (ix2 i l) = (ix2 ⟨512 * t.val + i.val, by have := lt t; omega⟩ l : S8192x1024.Idx) := by
  blk_ext [idx t]
theorem emb6 (t : Fin cfg0.N) (l : Fin 1024) :
    (win0_6.blk t).view.emb (ix2 0 l) = (ix2 0 l : S1x1024.Idx) := by
  blk_ext [idx t]
theorem final5 (c : Dev nD) : (dats m 0 c).arrAt 5 (cfgs 0).N = refDx (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 5 _ (by decide +kernel) fun t hf y => ?_
  idx_vars y
  blk_simp
  rw [after0_5]
  refine (out5 m c t _ _).trans ?_
  refine Eq.trans ?_ (congrArg _ (emb5 t y0 y1)).symm
  rw [refDx_at]
  simp only [dhb, b0_at, b1_at, b2_at, b3_at, b4_at]

theorem final6 (c : Dev nD) : (dats m 0 c).arrAt 6 (cfgs 0).N = refDg (m ((c : Thread nD τ).loc main_arg0)) (m ((c : Thread nD τ).loc main_arg1))
    (m ((c : Thread nD τ).loc main_arg2)) := by
  refine (dats m 0 c).arrAt_eq_of_covers 6 _ (by decide +kernel) fun t hf y => ?_
  have hr := (flush0_6 t).mp hf
  blk_simp
  rw [after0_6,
    Pipeline.eq_sum_fin_of_reset_step_apply_of_flush (f := fun n h => (outsAt0 m c n h).2) 16 (fun _ => 0) (term m c)
      (reset m c) (step m c) t hr y, zero_add]
  idx_vars y
  obtain rfl : y0 = 0 := Subsingleton.elim _ _
  refine Eq.trans ?_ (congrArg _ (emb6 t y1)).symm
  rw [refDg_at]
  refine Fin.sum_mul_add_congr fun s k hl => ?_
  have e : (⟨512 * (16 * (t.val / 16) + s.val) + k.val, by have := lt t; omega⟩ : Fin 8192) = ⟨s.val * 512 + k.val, hl⟩ :=
    Fin.ext (by have := lt t; show 512 * (16 * (t.val / 16) + s.val) + k.val = s.val * 512 + k.val; omega)
  show (show EReal from dhb (iblk m c 0 _) (iblk m c 1 _) k y1 * ((show FVec Ideal S512x1024 .f32 from iblk m c 2 _) (ix2 k y1) *
    rr fun l => (show FVec Ideal S512x1024 .f32 from iblk m c 2 _) (ix2 k l))) = _
  simp only [dhb, b0_at, b1_at, b2_at, e]

end Cert.NormBwdIdeal.Result

end
-- ==== Proof.NormBwdPair.lean ====
/- The claims of one call and its reference: both run, and their results are equal. -/
module

public import proofs.«01_k».proof.Defs
public import proofs.«01_k».proof.Proof.Gen.NormBwd
public import proofs.«01_k».proof.Proof.Gen.NormBwd.Frame
public import proofs.«01_k».proof.Proof.Gen.NormBwdIdeal
public import proofs.«01_k».proof.Proof.Gen.NormBwdIdeal.Frame
public import proofs.«01_k».proof.Proof.Gen.NormBwdIdeal.Value
public import proofs.«01_k».proof.Proof.Gen.NormBwdRefIdeal
public import proofs.«01_k».proof.Proof.Gen.NormBwdRefIdeal.Run
public import proofs.«01_k».proof.Proof.Gen.NormBwdRefIdeal.Read
public import proofs.«01_k».proof.Proof.NormBwdValue
public import Idealize.ShloMosaic.Lib.Claim

@[expose] public section

set_option maxRecDepth 16384

noncomputable section

namespace Cert.NormBwdPair

open Idealize.ShloMosaic Idealize.SL.Sem

/-- The reference runs and leaves its arguments as they were. -/
theorem reference_frame : Cert.quiescent_NormBwdRefIdeal (hNormBwdRefIdeal := Cert.NormBwdRefIdeal.Gen.facts) := by
  intro m g _
  exact (θ_run Cert.NormBwdRefIdeal.defs _ _).mono (fun r h => ⟨fun c => (h c).2.2, sem_eq_zero_of_no_sems (by decide) r.2⟩)
    (Cert.NormBwdRefIdeal.Value.run (F := Ideal) m g)

/-- The kernel's results are the reference's. -/
theorem value : Cert.algebraic_NormBwdIdeal_NormBwdRefIdeal (hNormBwdIdeal := Cert.NormBwdIdeal.Gen.facts) (hNormBwdRefIdeal := Cert.NormBwdRefIdeal.Gen.facts) := by
  pair_intro
  · run_from Cert.NormBwdIdeal.Gen.run_main m g
  · run_from Cert.NormBwdRefIdeal.Value.run m' g'
    · obtain ⟨h0, h1, h2, h3, h4⟩ := hagree c
      rw [Cert.NormBwdRefIdeal.Read.val_main_v45_eq, h0, h1, h2, h3, h4]
      exact (Cert.NormBwdIdeal.Result.final5 m c).symm
    · exact (Cert.NormBwdRefIdeal.Read.val_main_v46_eq _ _ _).trans (Cert.NormBwdIdeal.Result.final6 m c).symm

end Cert.NormBwdPair

end
-- ==== Proof.MixOutValue.lean ====
/- The mixer's output projection: the kernel's result array is the reference's. -/
module

public import proofs.«01_k».proof.Proof.Gen.MixOutIdeal.Value
public import proofs.«01_k».proof.Proof.Gen.MixOutRefIdeal.Read
public import Idealize.ShloMosaic.Lib.Pipeline.ValueKit
public import Idealize.ShloMosaic.Lib.Pointwise
public import Idealize.ShloMosaic.Lib.Claim

@[expose] public section

set_option maxRecDepth 16384

noncomputable section

namespace Cert.MixOutIdeal.Result

open Cert.MixOutIdeal Cert.MixOutIdeal.Gen Idealize.ShloMosaic Idealize.ShloMosaic.TcCoe Idealize.SL.Sem
open Idealize.ShloMosaic.Pipeline (Dat)
open scoped BigOperators

variable (m : (ℓ : Loc nD τ sig) → Buf (Elt Ideal) ℓ)

/-- The reference's result over the residual stream, the activations and the weight. -/
abbrev ref (x : FVec Ideal S8192x1024 .f32) (a : FVec Ideal S8192x1024 .bf16) (w : FVec Ideal S1024x1024 .bf16) :
    FVec Ideal S8192x1024 .f32 := Cert.MixOutRefIdeal.Read.val_main_v3 (F := Ideal) x a w

/-- Every window's block index: the rows move with the grid point, the weight stays. -/
theorem idx : ∀ t : Fin cfg0.N, win0_0.index t = ![t.val, 0] ∧ win0_1.index t = ![0, 0]
    ∧ win0_2.index t = ![t.val, 0] ∧ win0_3.index t = ![t.val, 0] :=
  (by decide +kernel : ∀ t : Fin grid0.N, _)

/-- What point `t` stores at block index `y` is the reference at the array index `y` sits at. -/
theorem point (c : Dev nD) (t : Fin cfg0.N) (y) :
    k0_pay1 (iblk m c 0 t) (iblk m c 1 t) (iblk m c 2 t) y
      = ref (m ((c : Thread nD τ).loc main_arg0)) (m ((c : Thread nD τ).loc main_arg1)) (m ((c : Thread nD τ).loc main_arg2))
          (((cfg0.win 3).blk t).view.emb y) := by
  pointwise [k0_pay1, ref, Cert.MixOutRefIdeal.Read.val_main_v3, Cert.MixOutRefIdeal.Read.val_main_v2,
    Cert.MixOutRefIdeal.Read.val_main_v1, Cert.MixOutRefIdeal.Read.val_main_v0]
  blk_point [iblk, V, idx t]

/-- The result array after the run: the row blocks tile it. -/
theorem final (c : Dev nD) : (dats m 0 c).arrAt 3 (cfgs 0).N
    = ref (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  exact point m c t y

end Cert.MixOutIdeal.Result

end
-- ==== Proof.MixOutPair.lean ====
/- The claims of one call and its reference: both run, and their results are equal. -/
module

public import proofs.«01_k».proof.Defs
public import proofs.«01_k».proof.Proof.Gen.MixOut
public import proofs.«01_k».proof.Proof.Gen.MixOut.Frame
public import proofs.«01_k».proof.Proof.Gen.MixOutIdeal
public import proofs.«01_k».proof.Proof.Gen.MixOutIdeal.Frame
public import proofs.«01_k».proof.Proof.Gen.MixOutIdeal.Value
public import proofs.«01_k».proof.Proof.Gen.MixOutRefIdeal
public import proofs.«01_k».proof.Proof.Gen.MixOutRefIdeal.Run
public import proofs.«01_k».proof.Proof.Gen.MixOutRefIdeal.Read
public import proofs.«01_k».proof.Proof.MixOutValue
public import Idealize.ShloMosaic.Lib.Claim

@[expose] public section

set_option maxRecDepth 16384

noncomputable section

namespace Cert.MixOutPair

open Idealize.ShloMosaic Idealize.SL.Sem

/-- The reference runs and leaves its arguments as they were. -/
theorem reference_frame : Cert.quiescent_MixOutRefIdeal (hMixOutRefIdeal := Cert.MixOutRefIdeal.Gen.facts) := by
  intro m g _
  exact (θ_run Cert.MixOutRefIdeal.defs _ _).mono (fun r h => ⟨fun c => (h c).2, sem_eq_zero_of_no_sems (by decide) r.2⟩)
    (Cert.MixOutRefIdeal.Value.run (F := Ideal) m g)

/-- The kernel's results are the reference's. -/
theorem value : Cert.algebraic_MixOutIdeal_MixOutRefIdeal (hMixOutIdeal := Cert.MixOutIdeal.Gen.facts) (hMixOutRefIdeal := Cert.MixOutRefIdeal.Gen.facts) := by
  pair_intro
  · run_from Cert.MixOutIdeal.Gen.run_main m g
  · run_from Cert.MixOutRefIdeal.Value.run m' g'
    exact (Cert.MixOutRefIdeal.Read.val_main_v3_eq _ _ _).trans (Cert.MixOutIdeal.Result.final m c).symm

end Cert.MixOutPair

end
-- ==== Proof.MixDwoutValue.lean ====
/- The gradient of the mixer's output weight: the kernel's result array is the reference's. -/
module

public import proofs.«01_k».proof.Proof.Gen.MixDwoutIdeal.Value
public import proofs.«01_k».proof.Proof.Gen.MixDwoutRefIdeal.Read
public import proofs.«01_k».proof.Proof.Common
public import Idealize.ShloMosaic.Lib.Pipeline.ReadBack
public import Idealize.ShloMosaic.Lib.Pipeline.ValueKit
public import Idealize.ShloMosaic.Lib.Pointwise
public import Idealize.ShloMosaic.Lib.Claim

@[expose] public section

set_option maxRecDepth 16384

noncomputable section

namespace Cert.MixDwoutIdeal.Result

open Cert.MixDwoutIdeal Cert.MixDwoutIdeal.Gen Idealize.ShloMosaic Idealize.ShloMosaic.TcCoe Idealize.SL.Sem
open Idealize.ShloMosaic.Pipeline (Dat)
open scoped BigOperators

variable (m : (ℓ : Loc nD τ sig) → Buf (Elt Ideal) ℓ)

/-- The reference's result over the operands. -/
abbrev ref (a : FVec Ideal S8192x1024 .bf16) (d : FVec Ideal S8192x1024 .f32) : FVec Ideal S1024x1024 .bf16 :=
  Cert.MixDwoutRefIdeal.Read.val_main_v5 (F := Ideal) a d

/-- Every window's block index. -/
theorem idx : ∀ t : Fin cfg0.N, win0_0.index t = ![t.val % 8, 0] ∧ win0_1.index t = ![t.val % 8, 0]
    ∧ win0_2.index t = ![0, 0] :=
  (by decide +kernel : ∀ t : Fin grid0.N, _)

theorem pay1_at (j) : k0_pay1 (F := Ideal) j = 0 := by pointwise [k0_pay1]

theorem pay2_at (acc : FVec Ideal S1024x1024 .f32) (a : FVec Ideal S1024x1024 .bf16) (d : FVec Ideal S1024x1024 .f32) (j) :
    k0_pay2 (F := Ideal) acc a d j = acc j + ∑ k : Fin 1024, a (ix2 k (j 0)) * d (ix2 k (j 1)) := by
  pointwise [k0_pay2]

theorem pay3_at (acc : FVec Ideal S1024x1024 .f32) (j) : k0_pay3 (F := Ideal) acc j = acc j := by
  pointwise [k0_pay3]

theorem ref_at (a : FVec Ideal S8192x1024 .bf16) (d : FVec Ideal S8192x1024 .f32) (j) :
    ref a d j = ∑ k : Fin 8192, a (ix2 k (j 0)) * d (ix2 k (j 1)) := by
  pointwise [ref, Cert.MixDwoutRefIdeal.Read.val_main_v5, Cert.MixDwoutRefIdeal.Read.val_main_v4, Cert.MixDwoutRefIdeal.Read.val_main_v3, Cert.MixDwoutRefIdeal.Read.val_main_v1]
  exact Finset.sum_congr rfl fun k _ => mul_comm _ _

/-- The sum that a grid point adds to the accumulator. -/
abbrev term (c : Dev nD) (t : Fin cfg0.N) (j : S1024x1024.Idx) : EReal :=
  ∑ k : Fin 1024, (show FVec Ideal S1024x1024 .bf16 from iblk m c 0 t) (ix2 k (j 0)) * (show FVec Ideal S1024x1024 .f32 from iblk m c 1 t) (ix2 k (j 1))

theorem reset (c : Dev nD) (t : Fin cfg0.N) (h : t.val % 8 = 0) (j) :
    (outsAt0 m c t.val t.isLt).2 j = 0 + term m c t j := by
  rw [outsAt0_A m c t h (by omega)]
  frame_out
  rw [pay2_at, pay1_at]

theorem step (c : Dev nD) (t : Fin cfg0.N) (h : ¬ t.val % 8 = 0) (j) :
    (outsAt0 m c t.val t.isLt).2 j = (outsAt0 m c (t.val - 1) (Nat.lt_of_le_of_lt (Nat.sub_le _ _) t.isLt)).2 j + term m c t j := by
  by_cases h1 : t.val % 8 = 7
  · rw [outsAt0_C m c t h h1]
    frame_out
    rw [read_unread_whole, pay2_at]
  · rw [outsAt0_B m c t h h1]
    frame_out
    rw [read_unread_whole, pay2_at]

theorem out (c : Dev nD) (t : Fin cfg0.N) (h : t.val % 8 = 7) :
    (outsAt0 m c t.val t.isLt).1 = k0_pay3 (F := Ideal) (outsAt0 m c t.val t.isLt).2 := by
  rw [outsAt0_C m c t (by omega) h]
  frame_out

/-- The result array after the last grid point. -/
theorem final (c : Dev nD) : (dats m 0 c).arrAt 2 (cfgs 0).N = ref (m ((c : Thread nD τ).loc main_arg0)) (m ((c : Thread nD τ).loc main_arg1)) := by
  refine (dats m 0 c).arrAt_eq_of_covers 2 _ (by decide +kernel) fun t hf y => ?_
  have hr := (flush0_2 t).mp hf
  blk_simp
  rw [after0_2, out m c t hr, pay3_at, ref_at,
    Pipeline.eq_sum_fin_of_reset_step_apply_of_flush (f := fun n h => (outsAt0 m c n h).2) 8 (fun _ => 0) (term m c)
      (reset m c) (step m c) t hr y, zero_add]
  refine Fin.sum_mul_add_congr fun s k hl => ?_
  blk_point [iblk, V, idx t, idx ⟨_, Pipeline.run_point_lt_of_flush t hr s⟩]

end Cert.MixDwoutIdeal.Result

end
-- ==== Proof.MixDwoutPair.lean ====
/- The claims of one call and its reference: both run, and their results are equal. -/
module

public import proofs.«01_k».proof.Defs
public import proofs.«01_k».proof.Proof.Gen.MixDwout
public import proofs.«01_k».proof.Proof.Gen.MixDwout.Frame
public import proofs.«01_k».proof.Proof.Gen.MixDwoutIdeal
public import proofs.«01_k».proof.Proof.Gen.MixDwoutIdeal.Frame
public import proofs.«01_k».proof.Proof.Gen.MixDwoutIdeal.Value
public import proofs.«01_k».proof.Proof.Gen.MixDwoutRefIdeal
public import proofs.«01_k».proof.Proof.Gen.MixDwoutRefIdeal.Run
public import proofs.«01_k».proof.Proof.Gen.MixDwoutRefIdeal.Read
public import proofs.«01_k».proof.Proof.MixDwoutValue
public import Idealize.ShloMosaic.Lib.Claim

@[expose] public section

set_option maxRecDepth 16384

noncomputable section

namespace Cert.MixDwoutPair

open Idealize.ShloMosaic Idealize.SL.Sem

/-- The reference runs and leaves its arguments as they were. -/
theorem reference_frame : Cert.quiescent_MixDwoutRefIdeal (hMixDwoutRefIdeal := Cert.MixDwoutRefIdeal.Gen.facts) := by
  intro m g _
  exact (θ_run Cert.MixDwoutRefIdeal.defs _ _).mono (fun r h => ⟨fun c => (h c).2, sem_eq_zero_of_no_sems (by decide) r.2⟩)
    (Cert.MixDwoutRefIdeal.Value.run (F := Ideal) m g)

/-- The kernel's results are the reference's. -/
theorem value : Cert.algebraic_MixDwoutIdeal_MixDwoutRefIdeal (hMixDwoutIdeal := Cert.MixDwoutIdeal.Gen.facts) (hMixDwoutRefIdeal := Cert.MixDwoutRefIdeal.Gen.facts) := by
  pair_intro
  · run_from Cert.MixDwoutIdeal.Gen.run_main m g
  · run_from Cert.MixDwoutRefIdeal.Value.run m' g'
    exact (Cert.MixDwoutRefIdeal.Read.val_main_v5_eq _ _).trans (Cert.MixDwoutIdeal.Result.final m c).symm

end Cert.MixDwoutPair

end
-- ==== Proof.MergeFwdValue.lean ====
/- The merge of the mixer's two branches, with the factors that the backward pass reads: the kernel's result arrays are the reference's. -/
module

public import proofs.«01_k».proof.Proof.Gen.MergeFwdIdeal.Value
public import proofs.«01_k».proof.Proof.Gen.MergeFwdRefIdeal.Read
public import proofs.«01_k».proof.Proof.Common
public import Idealize.ShloMosaic.Lib.Pipeline.ReadBack
public import Idealize.ShloMosaic.Lib.Pipeline.ValueKit
public import Idealize.ShloMosaic.Lib.Pointwise
public import Idealize.ShloMosaic.Lib.ValueLayout
public import Idealize.ShloMosaic.Lib.Claim

@[expose] public section

set_option maxRecDepth 16384

noncomputable section

namespace Cert.MergeFwdIdeal.Result

open Cert.MergeFwdIdeal Cert.MergeFwdIdeal.Gen Idealize.ShloMosaic Idealize.ShloMosaic.TcCoe Idealize.SL.Sem
open Idealize.ShloMosaic.Pipeline (Dat)
open scoped BigOperators

variable (m : (ℓ : Loc nD τ sig) → Buf (Elt Ideal) ℓ)

/-- The reference's results over the two branches' values, their weights and the gates' logits. -/
abbrev refM (p o : FVec Ideal S8192x512 .bf16) (wp wa : FVec Ideal S512x1024 .bf16) (z : FVec Ideal S8192x2048 .bf16) : FVec Ideal S8192x1024 .bf16 := Cert.MergeFwdRefIdeal.Read.val_main_v25 (F := Ideal) p o wp wa z
abbrev refP (z : FVec Ideal S8192x2048 .bf16) : FVec Ideal S8192x1024 .bf16 := Cert.MergeFwdRefIdeal.Read.val_main_v26 (F := Ideal) z
abbrev refA (z : FVec Ideal S8192x2048 .bf16) : FVec Ideal S8192x1024 .bf16 := Cert.MergeFwdRefIdeal.Read.val_main_v27 (F := Ideal) z
abbrev refFp (p o : FVec Ideal S8192x512 .bf16) (wp wa : FVec Ideal S512x1024 .bf16) (z : FVec Ideal S8192x2048 .bf16) : FVec Ideal S8192x1024 .bf16 := Cert.MergeFwdRefIdeal.Read.val_main_v28 (F := Ideal) p o wp wa z
abbrev refFa (p o : FVec Ideal S8192x512 .bf16) (wp wa : FVec Ideal S512x1024 .bf16) (z : FVec Ideal S8192x2048 .bf16) : FVec Ideal S8192x1024 .bf16 := Cert.MergeFwdRefIdeal.Read.val_main_v29 (F := Ideal) p o wp wa z

theorem idx : ∀ t : Fin cfg0.N, win0_0.index t = ![t.val, 0] ∧ win0_1.index t = ![t.val, 0] ∧ win0_2.index t = ![0, 0, 0] ∧ win0_3.index t = ![0, 0, 0]
    ∧ win0_4.index t = ![t.val, 0] ∧ win0_5.index t = ![t.val, 0] ∧ win0_6.index t = ![t.val, 0] ∧ win0_7.index t = ![t.val, 0]
    ∧ win0_8.index t = ![t.val, 0] ∧ win0_9.index t = ![t.val, 0] :=
  (by decide +kernel : ∀ t : Fin grid0.N, _)

theorem lt : ∀ t : Fin cfg0.N, t.val < 16 := (by decide +kernel : ∀ t : Fin grid0.N, _)

/-- An entry of a branch's product. -/
abbrev br (P W : Fin 512 → EReal) : EReal := ∑ k, P k * W k

/-- A column's block, and its place there. -/
abbrev bk (j : Fin 1024) : Fin 4 := ⟨j.val / 256, by omega⟩
abbrev ln (j : Fin 1024) : Fin 256 := ⟨j.val % 256, by omega⟩

/-- A column of the second half of the gates' logits. -/
abbrev hi (j : Fin 1024) : Fin 2048 := ⟨1024 + j.val, by omega⟩
abbrev lo (j : Fin 1024) : Fin 2048 := ⟨j.val, by omega⟩

theorem pay3_at (p : FVec Ideal S512x512 .bf16) (w : FVec Ideal S1x512x256 .bf16) (i l) :
    k0_pay3 (F := Ideal) p w (ix2 i l) = br (fun k => p (ix2 i k)) (fun k => w (ix3 0 k l)) := by
  pointwise [k0_pay3]
theorem pay4_at (p : FVec Ideal S512x512 .bf16) (w : FVec Ideal S1x512x256 .bf16) (i l) :
    k0_pay4 (F := Ideal) p w (ix2 i l) = br (fun k => p (ix2 i k)) (fun k => w (ix3 0 k l)) := by
  pointwise [k0_pay4]
theorem pay5_at (p : FVec Ideal S512x512 .bf16) (w : FVec Ideal S1x512x256 .bf16) (i l) :
    k0_pay5 (F := Ideal) p w (ix2 i l) = br (fun k => p (ix2 i k)) (fun k => w (ix3 0 k l)) := by
  pointwise [k0_pay5]

/-- One entry of a row made of four rows of 256 side by side. -/
abbrev side (a b d e : Fin 256 → EReal) (j : Fin 1024) : EReal :=
  if h : j.val < 256 then a ⟨j.val, h⟩
  else if h1 : j.val - 256 < 256 then b ⟨j.val - 256, h1⟩
  else if h2 : j.val - 256 - 256 < 256 then d ⟨j.val - 256 - 256, h2⟩
  else e ⟨j.val - 256 - 256 - 256, by omega⟩

theorem side_eq (f : Fin 4 → Fin 256 → EReal) (j) : side (f 0) (f 1) (f 2) (f 3) j = f (bk j) (ln j) := by
  have hj := j.isLt
  have key : ∀ (s : Fin 4) (l : Fin 256), 256 * s.val + l.val = j.val → f s l = f (bk j) (ln j) := fun s l h =>
    congrArg₂ f (Fin.ext (by show s.val = j.val / 256; omega)) (Fin.ext (by show l.val = j.val % 256; omega))
  unfold side
  by_cases h0 : j.val < 256
  · rw [dif_pos h0]; exact key 0 _ (by show 256 * 0 + j.val = _; omega)
  rw [dif_neg h0]
  by_cases h1 : j.val - 256 < 256
  · rw [dif_pos h1]; exact key 1 _ (by show 256 * 1 + (j.val - 256) = _; omega)
  rw [dif_neg h1]
  by_cases h2 : j.val - 256 - 256 < 256
  · rw [dif_pos h2]; exact key 2 _ (by show 256 * 2 + (j.val - 256 - 256) = _; omega)
  rw [dif_neg h2]
  exact key 3 _ (by show 256 * 3 + (j.val - 256 - 256 - 256) = _; omega)

theorem pay2_at (p : FVec Ideal S512x512 .bf16) (w0 w1 w2 w3 : FVec Ideal S1x512x256 .bf16) (i j) :
    k0_pay2 (F := Ideal) p w0 w1 w2 w3 (ix2 i j) = side (fun l => br (fun k => p (ix2 i k)) (fun k => w0 (ix3 0 k l)))
      (fun l => br (fun k => p (ix2 i k)) (fun k => w1 (ix3 0 k l))) (fun l => br (fun k => p (ix2 i k)) (fun k => w2 (ix3 0 k l)))
      (fun l => br (fun k => p (ix2 i k)) (fun k => w3 (ix3 0 k l))) j := by
  pointwise [k0_pay2]

theorem zeros : ![0, 0] = fun _ : Fin 2 => 0 := by funext i; fin_cases i <;> rfl
theorem whole (x : FVec Ideal S512x512 .bf16) : View.ld (Val := Elt Ideal) (e' := .bf16) x r0_0 = x := View.ld_unit_zero zeros _ _
theorem slab0 (x : FVec Ideal S4x512x256 .bf16) (k : Fin 512) (l : Fin 256) :
    (View.ld (Val := Elt Ideal) (e' := .bf16) x r0_1 : FVec Ideal S1x512x256 .bf16) (ix3 0 k l) = x (ix3 0 k l) := by
  refine congrArg x (funext fun a => Fin.ext ?_)
  fin_cases a
  · rfl
  · show 0 + 1 * k.val = k.val; omega
  · show 0 + 1 * l.val = l.val; omega
theorem slab1 (x : FVec Ideal S4x512x256 .bf16) (k : Fin 512) (l : Fin 256) :
    (View.ld (Val := Elt Ideal) (e' := .bf16) x r0_2 : FVec Ideal S1x512x256 .bf16) (ix3 0 k l) = x (ix3 1 k l) := by
  refine congrArg x (funext fun a => Fin.ext ?_)
  fin_cases a
  · rfl
  · show 0 + 1 * k.val = k.val; omega
  · show 0 + 1 * l.val = l.val; omega
theorem slab2 (x : FVec Ideal S4x512x256 .bf16) (k : Fin 512) (l : Fin 256) :
    (View.ld (Val := Elt Ideal) (e' := .bf16) x r0_3 : FVec Ideal S1x512x256 .bf16) (ix3 0 k l) = x (ix3 2 k l) := by
  refine congrArg x (funext fun a => Fin.ext ?_)
  fin_cases a
  · rfl
  · show 0 + 1 * k.val = k.val; omega
  · show 0 + 1 * l.val = l.val; omega
theorem slab3 (x : FVec Ideal S4x512x256 .bf16) (k : Fin 512) (l : Fin 256) :
    (View.ld (Val := Elt Ideal) (e' := .bf16) x r0_4 : FVec Ideal S1x512x256 .bf16) (ix3 0 k l) = x (ix3 3 k l) := by
  refine congrArg x (funext fun a => Fin.ext ?_)
  fin_cases a
  · rfl
  · show 0 + 1 * k.val = k.val; omega
  · show 0 + 1 * l.val = l.val; omega
theorem half5 (x : FVec Ideal S512x2048 .bf16) (i : Fin 512) (j : Fin 1024) :
    (View.ld (Val := Elt Ideal) (e' := .bf16) x r0_5 : FVec Ideal S512x1024 .bf16) (ix2 i j) = x (ix2 i (lo j)) := by
  refine congrArg x (funext fun a => Fin.ext ?_)
  fin_cases a
  · show 0 + 1 * i.val = i.val; omega
  · show 0 + 1 * j.val = j.val; omega
theorem half6 (x : FVec Ideal S512x2048 .bf16) (i : Fin 512) (j : Fin 1024) :
    (View.ld (Val := Elt Ideal) (e' := .bf16) x r0_6 : FVec Ideal S512x1024 .bf16) (ix2 i j) = x (ix2 i (hi j)) := by
  refine congrArg x (funext fun a => Fin.ext ?_)
  fin_cases a
  · show 0 + 1 * i.val = i.val; omega
  · show 1024 + 1 * j.val = 1024 + j.val; omega

theorem a_aux (p : FVec Ideal S512x512 .bf16) (x : FVec Ideal S4x512x256 .bf16) (w0 w1 w2 w3 : FVec Ideal S1x512x256 .bf16)
    (h0 : ∀ k l, w0 (ix3 0 k l) = x (ix3 0 k l)) (h1 : ∀ k l, w1 (ix3 0 k l) = x (ix3 1 k l))
    (h2 : ∀ k l, w2 (ix3 0 k l) = x (ix3 2 k l)) (h3 : ∀ k l, w3 (ix3 0 k l) = x (ix3 3 k l)) (i j) :
    k0_pay2 (F := Ideal) p w0 w1 w2 w3 (ix2 i j) = br (fun k => p (ix2 i k)) (fun k => x (ix3 (bk j) k (ln j))) := by
  rw [pay2_at]
  simp only [h0, h1, h2, h3]
  exact side_eq (fun s l => br (fun k => p (ix2 i k)) (fun k => x (ix3 s k l))) j

/-- An entry of the first branch's product. -/
theorem a_at (x0 x1 : FVec Ideal S512x512 .bf16) (x2 x3 : FVec Ideal S4x512x256 .bf16) (x4 : FVec Ideal S512x2048 .bf16) (i j) :
    k0_pay14 (F := Ideal) x0 x1 x2 x3 x4 (ix2 i j) = br (fun k => x0 (ix2 i k)) (fun k => x2 (ix3 (bk j) k (ln j))) := by
  unfold k0_pay14
  rw [whole]
  exact a_aux _ _ _ _ _ _ (slab0 _) (slab1 _) (slab2 _) (slab3 _) i j

theorem gp_at (v : FVec Ideal S512x1024 .bf16) (i j) : k0_pay6 (F := Ideal) v (ix2 i j) = Ideal.logistic (v (ix2 i j)) := by
  pointwise [k0_pay6]
  rw [Cert.Common.half, Cert.Common.sigmoid]
theorem ga_at (v : FVec Ideal S512x1024 .bf16) (i j) : k0_pay7 (F := Ideal) v (ix2 i j) = Ideal.logistic (v (ix2 i j)) := by
  pointwise [k0_pay7]
  rw [Cert.Common.half, Cert.Common.sigmoid]

theorem pay9_at (q : FVec Ideal S512x512 .bf16) (u0 u1 u2 : FVec Ideal S512x256 .f32) (w3 : FVec Ideal S1x512x256 .bf16) (v : FVec Ideal S512x1024 .bf16) (i j) :
    k0_pay9 (F := Ideal) q u0 u1 u2 w3 v (ix2 i j) = Ideal.logistic (v (ix2 i j)) *
      side (fun l => u0 (ix2 i l)) (fun l => u1 (ix2 i l)) (fun l => u2 (ix2 i l)) (fun l => br (fun k => q (ix2 i k)) (fun k => w3 (ix3 0 k l))) j := by
  pointwise [k0_pay9]
  rw [ga_at]

theorem b_aux (q : FVec Ideal S512x512 .bf16) (x : FVec Ideal S4x512x256 .bf16) (z : FVec Ideal S512x2048 .bf16)
    (w0 w1 w2 w3 : FVec Ideal S1x512x256 .bf16) (v : FVec Ideal S512x1024 .bf16)
    (h0 : ∀ k l, w0 (ix3 0 k l) = x (ix3 0 k l)) (h1 : ∀ k l, w1 (ix3 0 k l) = x (ix3 1 k l))
    (h2 : ∀ k l, w2 (ix3 0 k l) = x (ix3 2 k l)) (h3 : ∀ k l, w3 (ix3 0 k l) = x (ix3 3 k l))
    (hv : ∀ i j, v (ix2 i j) = z (ix2 i (hi j))) (i j) :
    k0_pay9 (F := Ideal) q (k0_pay3 q w0) (k0_pay4 q w1) (k0_pay5 q w2) w3 v (ix2 i j) =
      Ideal.logistic (z (ix2 i (hi j))) * br (fun k => q (ix2 i k)) (fun k => x (ix3 (bk j) k (ln j))) := by
  rw [pay9_at, hv]
  simp only [pay3_at, pay4_at, pay5_at, h0, h1, h2, h3]
  exact congrArg (Ideal.logistic (z (ix2 i (hi j))) * ·) (side_eq (fun s l => br (fun k => q (ix2 i k)) (fun k => x (ix3 s k l))) j)

/-- The other branch's gated entry. -/
theorem b_at (x0 x1 : FVec Ideal S512x512 .bf16) (x2 x3 : FVec Ideal S4x512x256 .bf16) (x4 : FVec Ideal S512x2048 .bf16) (i j) :
    k0_pay9 (F := Ideal) x1 (k0_pay15 x0 x1 x2 x3 x4) (k0_pay16 x0 x1 x2 x3 x4) (k0_pay17 x0 x1 x2 x3 x4)
      (View.ld (Val := Elt Ideal) (e' := .bf16) x3 r0_4) (View.ld (Val := Elt Ideal) (e' := .bf16) x4 r0_6) (ix2 i j) =
      Ideal.logistic (x4 (ix2 i (hi j))) * br (fun k => x1 (ix2 i k)) (fun k => x3 (ix3 (bk j) k (ln j))) := by
  unfold k0_pay15 k0_pay16 k0_pay17
  rw [whole]
  exact b_aux _ _ _ _ _ _ _ _ (slab0 _) (slab1 _) (slab2 _) (slab3 _) (half6 _) i j

theorem pay8_at (a : FVec Ideal S512x1024 .f32) (v : FVec Ideal S512x1024 .bf16) (i j) :
    k0_pay8 (F := Ideal) a v (ix2 i j) = Ideal.logistic (v (ix2 i j)) * a (ix2 i j) := by
  pointwise [k0_pay8]
  rw [gp_at]
theorem pay10_at (q : FVec Ideal S512x512 .bf16) (a : FVec Ideal S512x1024 .f32) (u0 u1 u2 : FVec Ideal S512x256 .f32) (w3 : FVec Ideal S1x512x256 .bf16)
    (v v' : FVec Ideal S512x1024 .bf16) (i j) : k0_pay10 (F := Ideal) q a u0 u1 u2 w3 v v' (ix2 i j) =
      k0_pay8 (F := Ideal) a v (ix2 i j) + k0_pay9 (F := Ideal) q u0 u1 u2 w3 v' (ix2 i j) := by
  pointwise [k0_pay10]
theorem pay11_at (v : FVec Ideal S512x1024 .bf16) (i j) : k0_pay11 (F := Ideal) v (ix2 i j) = Ideal.logistic (v (ix2 i j)) := by
  pointwise [k0_pay11]
  rw [gp_at]
theorem pay12_at (v : FVec Ideal S512x1024 .bf16) (i j) : k0_pay12 (F := Ideal) v (ix2 i j) = Ideal.logistic (v (ix2 i j)) := by
  pointwise [k0_pay12]
  rw [ga_at]
theorem pay13_at (a : FVec Ideal S512x1024 .f32) (v : FVec Ideal S512x1024 .bf16) (i j) :
    k0_pay13 (F := Ideal) a v (ix2 i j) = Ideal.logistic (v (ix2 i j)) * a (ix2 i j) * (1 - Ideal.logistic (v (ix2 i j))) := by
  pointwise [k0_pay13]
  rw [pay8_at, gp_at]
theorem pay1_at (g b : FVec Ideal S512x1024 .f32) (i j) : k0_pay1 (F := Ideal) g b (ix2 i j) = b (ix2 i j) * (1 - g (ix2 i j)) := by
  pointwise [k0_pay1]

theorem ref_a (p : FVec Ideal S8192x512 .bf16) (w : FVec Ideal S512x1024 .bf16) (i j) :
    Cert.MergeFwdRefIdeal.Read.val_main_v2 (F := Ideal) p w (ix2 i j) = br (fun k => p (ix2 i k)) (fun k => w (ix2 k j)) := by
  pointwise [Cert.MergeFwdRefIdeal.Read.val_main_v2, Cert.MergeFwdRefIdeal.Read.val_main_v1, Cert.MergeFwdRefIdeal.Read.val_main_v0]
theorem ref_b (p : FVec Ideal S8192x512 .bf16) (w : FVec Ideal S512x1024 .bf16) (i j) :
    Cert.MergeFwdRefIdeal.Read.val_main_v5 (F := Ideal) p w (ix2 i j) = br (fun k => p (ix2 i k)) (fun k => w (ix2 k j)) := by
  pointwise [Cert.MergeFwdRefIdeal.Read.val_main_v5, Cert.MergeFwdRefIdeal.Read.val_main_v4, Cert.MergeFwdRefIdeal.Read.val_main_v3]
theorem ref_g (z : FVec Ideal S8192x2048 .bf16) (i j) : Cert.MergeFwdRefIdeal.Read.val_main_v12 (F := Ideal) z (ix2 i j) = Ideal.logistic (z (ix2 i j)) := by
  pointwise [Cert.MergeFwdRefIdeal.Read.val_main_v12, Cert.MergeFwdRefIdeal.Read.val_main_v11, Cert.MergeFwdRefIdeal.Read.val_main_v10, Cert.MergeFwdRefIdeal.Read.val_main_v9, Cert.MergeFwdRefIdeal.Read.val_main_v8, Cert.MergeFwdRefIdeal.Read.val_main_v7, Cert.MergeFwdRefIdeal.Read.val_main_v6, Cert.MergeFwdRefIdeal.Read.val_main_cst, Cert.MergeFwdRefIdeal.Read.val_main_cst_0]
  rw [Cert.Common.div_sigmoid]
theorem refM_at (p o : FVec Ideal S8192x512 .bf16) (wp wa : FVec Ideal S512x1024 .bf16) (z : FVec Ideal S8192x2048 .bf16) (i j) : refM p o wp wa z (ix2 i j) =
    Ideal.logistic (z (ix2 i (lo j))) * br (fun k => p (ix2 i k)) (fun k => wp (ix2 k j)) +
      Ideal.logistic (z (ix2 i (hi j))) * br (fun k => o (ix2 i k)) (fun k => wa (ix2 k j)) := by
  pointwise [refM, Cert.MergeFwdRefIdeal.Read.val_main_v25, Cert.MergeFwdRefIdeal.Read.val_main_v24, Cert.MergeFwdRefIdeal.Read.val_main_v23, Cert.MergeFwdRefIdeal.Read.val_main_v22, Cert.MergeFwdRefIdeal.Read.val_main_v17, Cert.MergeFwdRefIdeal.Read.val_main_v16]
  rw [ref_a, ref_b, ref_g, ref_g]
theorem refP_at (z : FVec Ideal S8192x2048 .bf16) (i j) : refP z (ix2 i j) = Ideal.logistic (z (ix2 i (lo j))) := by
  pointwise [refP, Cert.MergeFwdRefIdeal.Read.val_main_v26, Cert.MergeFwdRefIdeal.Read.val_main_v16]
  rw [ref_g]
theorem refA_at (z : FVec Ideal S8192x2048 .bf16) (i j) : refA z (ix2 i j) = Ideal.logistic (z (ix2 i (hi j))) := by
  pointwise [refA, Cert.MergeFwdRefIdeal.Read.val_main_v27, Cert.MergeFwdRefIdeal.Read.val_main_v17]
  rw [ref_g]
theorem refFp_at (p o : FVec Ideal S8192x512 .bf16) (wp wa : FVec Ideal S512x1024 .bf16) (z : FVec Ideal S8192x2048 .bf16) (i j) : refFp p o wp wa z (ix2 i j) =
    Ideal.logistic (z (ix2 i (lo j))) * br (fun k => p (ix2 i k)) (fun k => wp (ix2 k j)) * (1 - Ideal.logistic (z (ix2 i (lo j)))) := by
  pointwise [refFp, Cert.MergeFwdRefIdeal.Read.val_main_v28, Cert.MergeFwdRefIdeal.Read.val_main_v20, Cert.MergeFwdRefIdeal.Read.val_main_v19, Cert.MergeFwdRefIdeal.Read.val_main_v18, Cert.MergeFwdRefIdeal.Read.val_main_v15, Cert.MergeFwdRefIdeal.Read.val_main_v14, Cert.MergeFwdRefIdeal.Read.val_main_v13, Cert.MergeFwdRefIdeal.Read.val_main_cst_1]
  rw [ref_g, ref_a]
  ac_rfl
theorem refFa_at (p o : FVec Ideal S8192x512 .bf16) (wp wa : FVec Ideal S512x1024 .bf16) (z : FVec Ideal S8192x2048 .bf16) (i j) : refFa p o wp wa z (ix2 i j) =
    Ideal.logistic (z (ix2 i (hi j))) * br (fun k => o (ix2 i k)) (fun k => wa (ix2 k j)) * (1 - Ideal.logistic (z (ix2 i (hi j)))) := by
  pointwise [refFa, Cert.MergeFwdRefIdeal.Read.val_main_v29, Cert.MergeFwdRefIdeal.Read.val_main_v21, Cert.MergeFwdRefIdeal.Read.val_main_v19, Cert.MergeFwdRefIdeal.Read.val_main_v18, Cert.MergeFwdRefIdeal.Read.val_main_v15, Cert.MergeFwdRefIdeal.Read.val_main_v14, Cert.MergeFwdRefIdeal.Read.val_main_v13, Cert.MergeFwdRefIdeal.Read.val_main_cst_1]
  rw [ref_g, ref_b]
  have e : ∀ b g : EReal, b * (g * (1 - g)) = g * b * (1 - g) := fun b g => by ac_rfl
  exact e _ _

theorem b0_at (c : Dev nD) (t : Fin cfg0.N) (i : Fin 512) (k : Fin 512) :
    (show FVec Ideal S512x512 .bf16 from iblk m c 0 t) (ix2 i k) =
      (show FVec Ideal S8192x512 .bf16 from m ((c : Thread nD τ).loc main_arg0)) (ix2 ⟨512 * t.val + i.val, by have := lt t; omega⟩ k) := by
  blk_point [iblk, V, idx t]
theorem b1_at (c : Dev nD) (t : Fin cfg0.N) (i : Fin 512) (k : Fin 512) :
    (show FVec Ideal S512x512 .bf16 from iblk m c 1 t) (ix2 i k) =
      (show FVec Ideal S8192x512 .bf16 from m ((c : Thread nD τ).loc main_arg1)) (ix2 ⟨512 * t.val + i.val, by have := lt t; omega⟩ k) := by
  blk_point [iblk, V, idx t]
theorem v2_at (c : Dev nD) (j : Fin 1024) (k : Fin 512) :
    (show FVec Ideal S4x512x256 .bf16 from V m c main_v1) (ix3 (bk j) k (ln j)) =
      (show FVec Ideal S512x1024 .bf16 from m ((c : Thread nD τ).loc main_arg2)) (ix2 k j) := by
  entry_read
  pointwise []
  refine congrArg (fun l => m ((c : Thread nD τ).loc main_arg2) (ix2 k l)) (Fin.ext ?_)
  show j.val / 256 * 256 + j.val % 256 = j.val
  omega
theorem b2_at (c : Dev nD) (t : Fin cfg0.N) (k : Fin 512) (j : Fin 1024) :
    (show FVec Ideal S4x512x256 .bf16 from iblk m c 2 t) (ix3 (bk j) k (ln j)) =
      (show FVec Ideal S512x1024 .bf16 from m ((c : Thread nD τ).loc main_arg2)) (ix2 k j) := by
  refine Eq.trans ?_ (v2_at m c j k)
  blk_simp [iblk]
  exact congrArg (V m c main_v1) (by blk_ext [idx t])
theorem v3_at (c : Dev nD) (j : Fin 1024) (k : Fin 512) :
    (show FVec Ideal S4x512x256 .bf16 from V m c main_v3) (ix3 (bk j) k (ln j)) =
      (show FVec Ideal S512x1024 .bf16 from m ((c : Thread nD τ).loc main_arg3)) (ix2 k j) := by
  entry_read
  pointwise []
  refine congrArg (fun l => m ((c : Thread nD τ).loc main_arg3) (ix2 k l)) (Fin.ext ?_)
  show j.val / 256 * 256 + j.val % 256 = j.val
  omega
theorem b3_at (c : Dev nD) (t : Fin cfg0.N) (k : Fin 512) (j : Fin 1024) :
    (show FVec Ideal S4x512x256 .bf16 from iblk m c 3 t) (ix3 (bk j) k (ln j)) =
      (show FVec Ideal S512x1024 .bf16 from m ((c : Thread nD τ).loc main_arg3)) (ix2 k j) := by
  refine Eq.trans ?_ (v3_at m c j k)
  blk_simp [iblk]
  exact congrArg (V m c main_v3) (by blk_ext [idx t])
theorem b4_at (c : Dev nD) (t : Fin cfg0.N) (i : Fin 512) (k : Fin 2048) :
    (show FVec Ideal S512x2048 .bf16 from iblk m c 4 t) (ix2 i k) =
      (show FVec Ideal S8192x2048 .bf16 from m ((c : Thread nD τ).loc main_arg4)) (ix2 ⟨512 * t.val + i.val, by have := lt t; omega⟩ k) := by
  blk_point [iblk, V, idx t]

theorem emb5 (t : Fin cfg0.N) (i : Fin 512) (j : Fin 1024) :
    (win0_5.blk t).view.emb (ix2 i j) = (ix2 ⟨512 * t.val + i.val, by have := lt t; omega⟩ j : S8192x1024.Idx) := by
  blk_ext [idx t]
theorem final5 (c : Dev nD) : (dats m 0 c).arrAt 5 (cfgs 0).N = refM (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  idx_vars y
  blk_simp
  rw [after0_5]
  frame_out
  refine (pay10_at _ _ _ _ _ _ _ _ _ _).trans ?_
  refine Eq.trans ?_ (congrArg _ (emb5 t y0 y1)).symm
  rw [refM_at]
  simp only [pay8_at, a_at, b_at, b0_at, b1_at, b2_at, b3_at, b4_at]
  exact congrArg (fun g => Ideal.logistic g * _ + _) ((half5 (iblk m c 4 t) y0 y1).trans (b4_at m c t y0 (lo y1)))

theorem emb6 (t : Fin cfg0.N) (i : Fin 512) (j : Fin 1024) :
    (win0_6.blk t).view.emb (ix2 i j) = (ix2 ⟨512 * t.val + i.val, by have := lt t; omega⟩ j : S8192x1024.Idx) := by
  blk_ext [idx t]
theorem final6 (c : Dev nD) : (dats m 0 c).arrAt 6 (cfgs 0).N = refP (m ((c : Thread nD τ).loc main_arg4)) := by
  refine (dats m 0 c).arrAt_eq_of_covers 6 _ (by decide +kernel) fun t hf y => ?_
  idx_vars y
  blk_simp
  rw [after0_6]
  frame_out
  refine (pay11_at _ _ _).trans ?_
  refine Eq.trans ?_ (congrArg _ (emb6 t y0 y1)).symm
  rw [refP_at]
  exact congrArg Ideal.logistic ((half5 (iblk m c 4 t) y0 y1).trans (b4_at m c t y0 (lo y1)))

theorem emb7 (t : Fin cfg0.N) (i : Fin 512) (j : Fin 1024) :
    (win0_7.blk t).view.emb (ix2 i j) = (ix2 ⟨512 * t.val + i.val, by have := lt t; omega⟩ j : S8192x1024.Idx) := by
  blk_ext [idx t]
theorem final7 (c : Dev nD) : (dats m 0 c).arrAt 7 (cfgs 0).N = refA (m ((c : Thread nD τ).loc main_arg4)) := by
  refine (dats m 0 c).arrAt_eq_of_covers 7 _ (by decide +kernel) fun t hf y => ?_
  idx_vars y
  blk_simp
  rw [after0_7]
  frame_out
  refine (pay12_at _ _ _).trans ?_
  refine Eq.trans ?_ (congrArg _ (emb7 t y0 y1)).symm
  rw [refA_at]
  exact congrArg Ideal.logistic ((half6 (iblk m c 4 t) y0 y1).trans (b4_at m c t y0 (hi y1)))

theorem emb8 (t : Fin cfg0.N) (i : Fin 512) (j : Fin 1024) :
    (win0_8.blk t).view.emb (ix2 i j) = (ix2 ⟨512 * t.val + i.val, by have := lt t; omega⟩ j : S8192x1024.Idx) := by
  blk_ext [idx t]
theorem final8 (c : Dev nD) : (dats m 0 c).arrAt 8 (cfgs 0).N = refFp (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t hf y => ?_
  idx_vars y
  blk_simp
  rw [after0_8]
  frame_out
  refine (pay13_at _ _ _ _).trans ?_
  refine Eq.trans ?_ (congrArg _ (emb8 t y0 y1)).symm
  rw [refFp_at]
  simp only [a_at, b0_at, b1_at, b2_at, b3_at, b4_at]
  exact congrArg (fun g => Ideal.logistic g * _ * (1 - Ideal.logistic g)) ((half5 (iblk m c 4 t) y0 y1).trans (b4_at m c t y0 (lo y1)))

theorem emb9 (t : Fin cfg0.N) (i : Fin 512) (j : Fin 1024) :
    (win0_9.blk t).view.emb (ix2 i j) = (ix2 ⟨512 * t.val + i.val, by have := lt t; omega⟩ j : S8192x1024.Idx) := by
  blk_ext [idx t]
theorem final9 (c : Dev nD) : (dats m 0 c).arrAt 9 (cfgs 0).N = refFa (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 9 _ (by decide +kernel) fun t hf y => ?_
  idx_vars y
  blk_simp
  rw [after0_9]
  frame_out
  refine (pay1_at _ _ _ _).trans ?_
  refine Eq.trans ?_ (congrArg _ (emb9 t y0 y1)).symm
  rw [refFa_at]
  simp only [ga_at, b_at, b0_at, b1_at, b2_at, b3_at, b4_at]
  exact congrArg (fun g => Ideal.logistic _ * _ * (1 - Ideal.logistic g)) ((half6 (iblk m c 4 t) y0 y1).trans (b4_at m c t y0 (hi y1)))

end Cert.MergeFwdIdeal.Result

end
-- ==== Proof.MergeFwdPair.lean ====
/- The claims of one call and its reference: both run, and their results are equal. -/
module

public import proofs.«01_k».proof.Defs
public import proofs.«01_k».proof.Proof.Gen.MergeFwd
public import proofs.«01_k».proof.Proof.Gen.MergeFwd.Frame
public import proofs.«01_k».proof.Proof.Gen.MergeFwdIdeal
public import proofs.«01_k».proof.Proof.Gen.MergeFwdIdeal.Frame
public import proofs.«01_k».proof.Proof.Gen.MergeFwdIdeal.Value
public import proofs.«01_k».proof.Proof.Gen.MergeFwdRefIdeal
public import proofs.«01_k».proof.Proof.Gen.MergeFwdRefIdeal.Run
public import proofs.«01_k».proof.Proof.Gen.MergeFwdRefIdeal.Read
public import proofs.«01_k».proof.Proof.MergeFwdValue
public import Idealize.ShloMosaic.Lib.Claim

@[expose] public section

set_option maxRecDepth 16384

noncomputable section

namespace Cert.MergeFwdPair

open Idealize.ShloMosaic Idealize.SL.Sem

/-- The reference runs and leaves its arguments as they were. -/
theorem reference_frame : Cert.quiescent_MergeFwdRefIdeal (hMergeFwdRefIdeal := Cert.MergeFwdRefIdeal.Gen.facts) := by
  intro m g _
  exact (θ_run Cert.MergeFwdRefIdeal.defs _ _).mono (fun r h => ⟨fun c => (h c).2.2.2.2.2, sem_eq_zero_of_no_sems (by decide) r.2⟩)
    (Cert.MergeFwdRefIdeal.Value.run (F := Ideal) m g)

set_option maxHeartbeats 2000000 in
/-- The kernel's results are the reference's. -/
theorem value : Cert.algebraic_MergeFwdIdeal_MergeFwdRefIdeal (hMergeFwdIdeal := Cert.MergeFwdIdeal.Gen.facts) (hMergeFwdRefIdeal := Cert.MergeFwdRefIdeal.Gen.facts) := by
  pair_intro
  · run_from Cert.MergeFwdIdeal.Gen.run_main m g
  · run_from Cert.MergeFwdRefIdeal.Value.run m' g'
    · exact (Cert.MergeFwdRefIdeal.Read.val_main_v25_eq _ _ _ _ _).trans (Cert.MergeFwdIdeal.Result.final5 m c).symm
    · exact (Cert.MergeFwdRefIdeal.Read.val_main_v26_eq _).trans (Cert.MergeFwdIdeal.Result.final6 m c).symm
    · exact (Cert.MergeFwdRefIdeal.Read.val_main_v27_eq _).trans (Cert.MergeFwdIdeal.Result.final7 m c).symm
    · exact (Cert.MergeFwdRefIdeal.Read.val_main_v28_eq _ _ _ _ _).trans (Cert.MergeFwdIdeal.Result.final8 m c).symm
    · exact (Cert.MergeFwdRefIdeal.Read.val_main_v29_eq _ _ _ _ _).trans (Cert.MergeFwdIdeal.Result.final9 m c).symm

end Cert.MergeFwdPair

end
-- ==== Proof.MergeBwdValue.lean ====
/- The backward step of the merge of the mixer's two branches: the kernel's result arrays are the reference's. -/
module

public import proofs.«01_k».proof.Proof.Gen.MergeBwdIdeal.Value
public import proofs.«01_k».proof.Proof.Gen.MergeBwdRefIdeal.Read
public import proofs.«01_k».proof.Proof.Common
public import Idealize.ShloMosaic.Lib.Pipeline.ReadBack
public import Idealize.ShloMosaic.Lib.Pipeline.ValueKit
public import Idealize.ShloMosaic.Lib.Pointwise
public import Idealize.ShloMosaic.Lib.ValueLayout
public import Idealize.ShloMosaic.Lib.Claim

@[expose] public section

set_option maxRecDepth 16384

noncomputable section

namespace Cert.MergeBwdIdeal.Result

open Cert.MergeBwdIdeal Cert.MergeBwdIdeal.Gen Idealize.ShloMosaic Idealize.ShloMosaic.TcCoe Idealize.SL.Sem
open Idealize.ShloMosaic.Pipeline (Dat)
open scoped BigOperators

variable (m : (ℓ : Loc nD τ sig) → Buf (Elt Ideal) ℓ)

/-- The reference's results: the branches' gradients, the logits' gradient, the gradients of what the branches' weights multiply. -/
abbrev refDa (x : FVec Ideal S8192x1024 .f32) (w : FVec Ideal S1024x1024 .bf16) (z : FVec Ideal S8192x2048 .bf16) : FVec Ideal S8192x1024 .bf16 := Cert.MergeBwdRefIdeal.Read.val_main_v31 (F := Ideal) x w z
abbrev refDb (x : FVec Ideal S8192x1024 .f32) (w : FVec Ideal S1024x1024 .bf16) (z : FVec Ideal S8192x2048 .bf16) : FVec Ideal S8192x1024 .bf16 := Cert.MergeBwdRefIdeal.Read.val_main_v32 (F := Ideal) x w z
abbrev refDg (x : FVec Ideal S8192x1024 .f32) (w : FVec Ideal S1024x1024 .bf16) (a b : FVec Ideal S8192x1024 .f32) (z : FVec Ideal S8192x2048 .bf16) : FVec Ideal S8192x2048 .bf16 := Cert.MergeBwdRefIdeal.Read.val_main_v33 (F := Ideal) x w a b z
abbrev refDp (x : FVec Ideal S8192x1024 .f32) (w : FVec Ideal S1024x1024 .bf16) (z : FVec Ideal S8192x2048 .bf16) (u : FVec Ideal S512x1024 .bf16) : FVec Ideal S8192x512 .bf16 := Cert.MergeBwdRefIdeal.Read.val_main_v34 (F := Ideal) x w z u
abbrev refDo (x : FVec Ideal S8192x1024 .f32) (w : FVec Ideal S1024x1024 .bf16) (z : FVec Ideal S8192x2048 .bf16) (u : FVec Ideal S512x1024 .bf16) : FVec Ideal S8192x512 .bf16 := Cert.MergeBwdRefIdeal.Read.val_main_v35 (F := Ideal) x w z u

theorem idx : ∀ t : Fin cfg0.N, win0_0.index t = ![t.val, 0] ∧ win0_1.index t = ![0, 0] ∧ win0_2.index t = ![t.val, 0] ∧ win0_3.index t = ![t.val, 0]
    ∧ win0_4.index t = ![t.val, 0] ∧ win0_5.index t = ![t.val, 0] ∧ win0_6.index t = ![0, 0, 0] ∧ win0_7.index t = ![0, 0, 0]
    ∧ win0_8.index t = ![t.val, 0] ∧ win0_9.index t = ![t.val, 0] ∧ win0_10.index t = ![t.val, 0] ∧ win0_11.index t = ![t.val, 0]
    ∧ win0_12.index t = ![t.val, 0] :=
  (by decide +kernel : ∀ t : Fin grid0.N, _)

theorem lt : ∀ t : Fin cfg0.N, t.val < 16 := (by decide +kernel : ∀ t : Fin grid0.N, _)

/-- The merged value's gradient: a row of the cotangent against a row of the output weight. -/
abbrev dm (P W : Fin 1024 → EReal) : EReal := ∑ k, P k * W k

/-- A column of each half of the gates' logits. -/
abbrev lo (j : Fin 1024) : Fin 2048 := ⟨j.val, by omega⟩
abbrev hi (j : Fin 1024) : Fin 2048 := ⟨1024 + j.val, by omega⟩

/-- Place `k` of block `s` of a row of four blocks. -/
abbrev at4 (s : Fin 4) (k : Fin 256) : Fin 1024 := ⟨256 * s.val + k.val, by omega⟩

/-- A sum over a row, block by block. -/
theorem sum4 (f : Fin 1024 → EReal) :
    (∑ k, f (at4 0 k)) + (∑ k, f (at4 1 k)) + (∑ k, f (at4 2 k)) + (∑ k, f (at4 3 k)) = ∑ l, f l := by
  have e1 := Fin.sum_univ_add (a := 768) (b := 256) f
  have e2 := Fin.sum_univ_add (a := 512) (b := 256) fun i => f (Fin.castAdd 256 i)
  have e3 := Fin.sum_univ_add (a := 256) (b := 256) fun i => f (Fin.castAdd 256 (Fin.castAdd 256 i))
  rw [e2, e3] at e1
  refine Eq.trans ?_ e1.symm
  have g0 : ∀ k, at4 0 k = Fin.castAdd 256 (Fin.castAdd 256 (Fin.castAdd 256 k)) := fun k => Fin.ext (Nat.zero_add _)
  simp only [g0]
  rfl

theorem pay2_at (x : FVec Ideal S512x1024 .f32) (w : FVec Ideal S1024x1024 .bf16) (i j) :
    k0_pay2 (F := Ideal) x w (ix2 i j) = dm (fun k => x (ix2 i k)) (fun k => w (ix2 j k)) := by
  pointwise [k0_pay2]
theorem pay3_at (x : FVec Ideal S512x1024 .f32) (w : FVec Ideal S1024x1024 .bf16) (v : FVec Ideal S512x1024 .bf16) (i j) :
    k0_pay3 (F := Ideal) x w v (ix2 i j) = dm (fun k => x (ix2 i k)) (fun k => w (ix2 j k)) * v (ix2 i j) := by
  pointwise [k0_pay3]
  rw [pay2_at]
theorem pay4_at (x : FVec Ideal S512x1024 .f32) (w : FVec Ideal S1024x1024 .bf16) (v : FVec Ideal S512x1024 .bf16) (i j) :
    k0_pay4 (F := Ideal) x w v (ix2 i j) = dm (fun k => x (ix2 i k)) (fun k => w (ix2 j k)) * v (ix2 i j) := by
  pointwise [k0_pay4]
  rw [pay2_at]
theorem pay5_at (x : FVec Ideal S512x1024 .f32) (w : FVec Ideal S1024x1024 .bf16) (v : FVec Ideal S512x1024 .bf16) (i j) :
    k0_pay5 (F := Ideal) x w v (ix2 i j) = dm (fun k => x (ix2 i k)) (fun k => w (ix2 j k)) * v (ix2 i j) := by
  pointwise [k0_pay5]
  rw [pay2_at]
theorem pay6_at (x : FVec Ideal S512x1024 .f32) (w : FVec Ideal S1024x1024 .bf16) (v : FVec Ideal S512x1024 .bf16) (i j) :
    k0_pay6 (F := Ideal) x w v (ix2 i j) = dm (fun k => x (ix2 i k)) (fun k => w (ix2 j k)) * v (ix2 i j) := by
  pointwise [k0_pay6]
  rw [pay2_at]
theorem pay7_at (x : FVec Ideal S512x1024 .f32) (w : FVec Ideal S1024x1024 .bf16) (v : FVec Ideal S512x1024 .bf16) (i k) :
    k0_pay7 (F := Ideal) x w v (ix2 i k) = k0_pay3 (F := Ideal) x w v (ix2 i (at4 0 k)) := by
  pointwise [k0_pay7]
  exact congrArg (k0_pay3 (F := Ideal) x w v) (congrArg (ix2 i) (Fin.ext (Nat.zero_add _).symm))
theorem pay8_at (w : FVec Ideal S1x512x256 .bf16) (n k) : k0_pay8 (F := Ideal) w (ix2 n k) = w (ix3 0 n k) := by
  pointwise [k0_pay8]
theorem pay9_at (v : FVec Ideal S512x1024 .bf16) (p q : FVec Ideal S512x256 .bf16) (w1 w2 w3 : FVec Ideal S1x512x256 .bf16) (i n) :
    k0_pay9 (F := Ideal) v p q w1 w2 w3 (ix2 i n) = (∑ k, p (ix2 i k) * q (ix2 n k)) + (∑ k, v (ix2 i (at4 1 k)) * w1 (ix3 0 n k)) +
      (∑ k, v (ix2 i (at4 2 k)) * w2 (ix3 0 n k)) + (∑ k, v (ix2 i (at4 3 k)) * w3 (ix3 0 n k)) := by
  pointwise [k0_pay9]
  rfl
theorem pay10_at (v : FVec Ideal S512x1024 .bf16) (w0 w1 w2 : FVec Ideal S1x512x256 .bf16) (i n) :
    k0_pay10 (F := Ideal) v w0 w1 w2 (ix2 i n) = (∑ k, v (ix2 i (at4 0 k)) * w0 (ix3 0 n k)) + (∑ k, v (ix2 i (at4 1 k)) * w1 (ix3 0 n k)) +
      (∑ k, v (ix2 i (at4 2 k)) * w2 (ix3 0 n k)) := by
  have e : ∀ k : Fin 256, at4 0 k = ⟨k.val, by omega⟩ := fun k => Fin.ext (Nat.zero_add _)
  simp only [e]
  pointwise [k0_pay10]
  rfl
theorem pay1_at (v : FVec Ideal S512x1024 .bf16) (p : FVec Ideal S512x512 .f32) (w : FVec Ideal S1x512x256 .bf16) (i n) :
    k0_pay1 (F := Ideal) v p w (ix2 i n) = p (ix2 i n) + (∑ k, v (ix2 i (at4 3 k)) * w (ix3 0 n k)) := by
  pointwise [k0_pay1]
  rfl

theorem first (x : FVec Ideal S512x1024 .f32) (w : FVec Ideal S1024x1024 .bf16) (v : FVec Ideal S512x1024 .bf16)
    (w0 w1 w2 w3 : FVec Ideal S1x512x256 .bf16) (W : Fin 1024 → EReal) (i n) (h0 : ∀ k, w0 (ix3 0 n k) = W (at4 0 k))
    (h1 : ∀ k, w1 (ix3 0 n k) = W (at4 1 k)) (h2 : ∀ k, w2 (ix3 0 n k) = W (at4 2 k)) (h3 : ∀ k, w3 (ix3 0 n k) = W (at4 3 k)) :
    k0_pay9 (F := Ideal) (k0_pay3 x w v) (k0_pay7 x w v) (k0_pay8 w0) w1 w2 w3 (ix2 i n) =
      ∑ l, dm (fun k => x (ix2 i k)) (fun k => w (ix2 l k)) * v (ix2 i l) * W l := by
  rw [pay9_at]
  simp only [pay7_at, pay8_at, pay3_at, h0, h1, h2, h3]
  exact sum4 fun l => dm (fun k => x (ix2 i k)) (fun k => w (ix2 l k)) * v (ix2 i l) * W l
theorem second (x : FVec Ideal S512x1024 .f32) (w : FVec Ideal S1024x1024 .bf16) (v : FVec Ideal S512x1024 .bf16)
    (w0 w1 w2 w3 : FVec Ideal S1x512x256 .bf16) (W : Fin 1024 → EReal) (i n) (h0 : ∀ k, w0 (ix3 0 n k) = W (at4 0 k))
    (h1 : ∀ k, w1 (ix3 0 n k) = W (at4 1 k)) (h2 : ∀ k, w2 (ix3 0 n k) = W (at4 2 k)) (h3 : ∀ k, w3 (ix3 0 n k) = W (at4 3 k)) :
    k0_pay1 (F := Ideal) (k0_pay4 x w v) (k0_pay10 (k0_pay4 x w v) w0 w1 w2) w3 (ix2 i n) =
      ∑ l, dm (fun k => x (ix2 i k)) (fun k => w (ix2 l k)) * v (ix2 i l) * W l := by
  rw [pay1_at, pay10_at]
  simp only [pay4_at, h0, h1, h2, h3]
  exact sum4 fun l => dm (fun k => x (ix2 i k)) (fun k => w (ix2 l k)) * v (ix2 i l) * W l

theorem zeros : ![0, 0] = fun _ : Fin 2 => 0 := by funext i; fin_cases i <;> rfl
theorem whole (x : FVec Ideal S512x1024 .bf16) : View.ld (Val := Elt Ideal) (e' := .bf16) x r0_0 = x := View.ld_unit_zero zeros _ _
theorem wholef (x : FVec Ideal S512x1024 .f32) : View.ld (Val := Elt Ideal) (e' := .f32) x r0_0 = x := View.ld_unit_zero zeros _ _
theorem wholew (x : FVec Ideal S1024x1024 .bf16) : View.ld (Val := Elt Ideal) (e' := .bf16) x r0_1 = x := View.ld_unit_zero zeros _ _
theorem slab0 (x : FVec Ideal S4x512x256 .bf16) (k : Fin 512) (l : Fin 256) :
    (View.ld (Val := Elt Ideal) (e' := .bf16) x r0_4 : FVec Ideal S1x512x256 .bf16) (ix3 0 k l) = x (ix3 0 k l) := by
  refine congrArg x (funext fun a => Fin.ext ?_)
  fin_cases a
  · rfl
  · show 0 + 1 * k.val = k.val; omega
  · show 0 + 1 * l.val = l.val; omega
theorem slab1 (x : FVec Ideal S4x512x256 .bf16) (k : Fin 512) (l : Fin 256) :
    (View.ld (Val := Elt Ideal) (e' := .bf16) x r0_5 : FVec Ideal S1x512x256 .bf16) (ix3 0 k l) = x (ix3 1 k l) := by
  refine congrArg x (funext fun a => Fin.ext ?_)
  fin_cases a
  · rfl
  · show 0 + 1 * k.val = k.val; omega
  · show 0 + 1 * l.val = l.val; omega
theorem slab2 (x : FVec Ideal S4x512x256 .bf16) (k : Fin 512) (l : Fin 256) :
    (View.ld (Val := Elt Ideal) (e' := .bf16) x r0_6 : FVec Ideal S1x512x256 .bf16) (ix3 0 k l) = x (ix3 2 k l) := by
  refine congrArg x (funext fun a => Fin.ext ?_)
  fin_cases a
  · rfl
  · show 0 + 1 * k.val = k.val; omega
  · show 0 + 1 * l.val = l.val; omega
theorem slab3 (x : FVec Ideal S4x512x256 .bf16) (k : Fin 512) (l : Fin 256) :
    (View.ld (Val := Elt Ideal) (e' := .bf16) x r0_7 : FVec Ideal S1x512x256 .bf16) (ix3 0 k l) = x (ix3 3 k l) := by
  refine congrArg x (funext fun a => Fin.ext ?_)
  fin_cases a
  · rfl
  · show 0 + 1 * k.val = k.val; omega
  · show 0 + 1 * l.val = l.val; omega

/-- The logits' gradient, its two halves side by side. -/
abbrev both (P : Fin 1024 → EReal) (p q : Fin 1024 → EReal) (j : Fin 2048) : EReal :=
  if h : j.val < 1024 then P ⟨j.val, h⟩ * p ⟨j.val, h⟩ else P ⟨j.val - 1024, by omega⟩ * q ⟨j.val - 1024, by omega⟩

theorem both_lo (P p q : Fin 1024 → EReal) (j) : both P p q (lo j) = P j * p j := by
  unfold both
  rw [dif_pos j.isLt]
theorem both_hi (P p q : Fin 1024 → EReal) (j) : both P p q (hi j) = P j * q j := by
  unfold both
  have e : (⟨(hi j).val - 1024, by omega⟩ : Fin 1024) = j := Fin.ext (Nat.add_sub_cancel_left ..)
  rw [dif_neg (by show ¬ 1024 + j.val < 1024; omega), e]

theorem out10 (x : FVec Ideal S512x1024 .f32) (w : FVec Ideal S1024x1024 .bf16) (v2 v3 v4 v5 : FVec Ideal S512x1024 .bf16) (v6 v7 : FVec Ideal S4x512x256 .bf16)
    (y : S512x2048.Idx) : out0_10 (F := Ideal) x w v2 v3 v4 v5 v6 v7 y =
      both (fun j => dm (fun k => x (ix2 (y 0) k)) (fun k => w (ix2 j k))) (fun j => v4 (ix2 (y 0) j)) (fun j => v5 (ix2 (y 0) j)) (y 1) := by
  canon_tiles z h
  · rw [wholef, wholew, whole]
    idx_vars z
    refine (pay6_at x w v5 z0 z1).trans ((both_hi (fun j => dm (fun k => x (ix2 z0 k)) (fun k => w (ix2 j k))) (fun j => v4 (ix2 z0 j)) (fun j => v5 (ix2 z0 j)) z1).symm.trans ?_)
    exact congrArg₂ (fun i => both (fun j => dm (fun k => x (ix2 i k)) (fun k => w (ix2 j k))) (fun j => v4 (ix2 i j)) (fun j => v5 (ix2 i j))) (Fin.ext h0.symm) (Fin.ext h1.symm)
  · rw [wholef, wholew, whole]
    idx_vars z
    refine (pay5_at x w v4 z0 z1).trans ((both_lo (fun j => dm (fun k => x (ix2 z0 k)) (fun k => w (ix2 j k))) (fun j => v4 (ix2 z0 j)) (fun j => v5 (ix2 z0 j)) z1).symm.trans ?_)
    exact congrArg₂ (fun i => both (fun j => dm (fun k => x (ix2 i k)) (fun k => w (ix2 j k))) (fun j => v4 (ix2 i j)) (fun j => v5 (ix2 i j))) (Fin.ext h0.symm) (Fin.ext h1.symm)

theorem ref_dm (x : FVec Ideal S8192x1024 .f32) (w : FVec Ideal S1024x1024 .bf16) (i j) : Cert.MergeBwdRefIdeal.Read.val_main_v17 (F := Ideal) x w (ix2 i j) = dm (fun k => x (ix2 i k)) (fun k => w (ix2 j k)) := by
  pointwise [Cert.MergeBwdRefIdeal.Read.val_main_v17, Cert.MergeBwdRefIdeal.Read.val_main_v1]
theorem ref_g (z : FVec Ideal S8192x2048 .bf16) (i j) : Cert.MergeBwdRefIdeal.Read.val_main_v7 (F := Ideal) z (ix2 i j) = Ideal.logistic (z (ix2 i j)) := by
  pointwise [Cert.MergeBwdRefIdeal.Read.val_main_v7, Cert.MergeBwdRefIdeal.Read.val_main_v6, Cert.MergeBwdRefIdeal.Read.val_main_v5, Cert.MergeBwdRefIdeal.Read.val_main_v4, Cert.MergeBwdRefIdeal.Read.val_main_v3, Cert.MergeBwdRefIdeal.Read.val_main_v2, Cert.MergeBwdRefIdeal.Read.val_main_v0, Cert.MergeBwdRefIdeal.Read.val_main_cst, Cert.MergeBwdRefIdeal.Read.val_main_cst_0]
  rw [Cert.Common.div_sigmoid]
theorem ref_da (x : FVec Ideal S8192x1024 .f32) (w : FVec Ideal S1024x1024 .bf16) (z : FVec Ideal S8192x2048 .bf16) (i j) : Cert.MergeBwdRefIdeal.Read.val_main_v20 (F := Ideal) x w z (ix2 i j) = dm (fun k => x (ix2 i k)) (fun k => w (ix2 j k)) * Ideal.logistic (z (ix2 i (lo j))) := by
  pointwise [Cert.MergeBwdRefIdeal.Read.val_main_v20, Cert.MergeBwdRefIdeal.Read.val_main_v11]
  rw [ref_g, ref_dm]
  exact mul_comm _ _
theorem ref_db (x : FVec Ideal S8192x1024 .f32) (w : FVec Ideal S1024x1024 .bf16) (z : FVec Ideal S8192x2048 .bf16) (i j) : Cert.MergeBwdRefIdeal.Read.val_main_v18 (F := Ideal) x w z (ix2 i j) = dm (fun k => x (ix2 i k)) (fun k => w (ix2 j k)) * Ideal.logistic (z (ix2 i (hi j))) := by
  pointwise [Cert.MergeBwdRefIdeal.Read.val_main_v18, Cert.MergeBwdRefIdeal.Read.val_main_v12]
  rw [ref_g, ref_dm]
  exact mul_comm _ _
theorem refDa_at (x : FVec Ideal S8192x1024 .f32) (w : FVec Ideal S1024x1024 .bf16) (z : FVec Ideal S8192x2048 .bf16) (i j) : refDa x w z (ix2 i j) = dm (fun k => x (ix2 i k)) (fun k => w (ix2 j k)) * Ideal.logistic (z (ix2 i (lo j))) := by
  pointwise [refDa, Cert.MergeBwdRefIdeal.Read.val_main_v31]
  rw [ref_da]
theorem refDb_at (x : FVec Ideal S8192x1024 .f32) (w : FVec Ideal S1024x1024 .bf16) (z : FVec Ideal S8192x2048 .bf16) (i j) : refDb x w z (ix2 i j) = dm (fun k => x (ix2 i k)) (fun k => w (ix2 j k)) * Ideal.logistic (z (ix2 i (hi j))) := by
  pointwise [refDb, Cert.MergeBwdRefIdeal.Read.val_main_v32]
  rw [ref_db]
theorem refDp_at (x : FVec Ideal S8192x1024 .f32) (w : FVec Ideal S1024x1024 .bf16) (z : FVec Ideal S8192x2048 .bf16) (u : FVec Ideal S512x1024 .bf16) (i n) : refDp x w z u (ix2 i n) =
    ∑ l, dm (fun k => x (ix2 i k)) (fun k => w (ix2 l k)) * Ideal.logistic (z (ix2 i (lo l))) * u (ix2 n l) := by
  pointwise [refDp, Cert.MergeBwdRefIdeal.Read.val_main_v34, Cert.MergeBwdRefIdeal.Read.val_main_v27, Cert.MergeBwdRefIdeal.Read.val_main_v25]
  simp only [ref_da]
theorem refDo_at (x : FVec Ideal S8192x1024 .f32) (w : FVec Ideal S1024x1024 .bf16) (z : FVec Ideal S8192x2048 .bf16) (u : FVec Ideal S512x1024 .bf16) (i n) : refDo x w z u (ix2 i n) =
    ∑ l, dm (fun k => x (ix2 i k)) (fun k => w (ix2 l k)) * Ideal.logistic (z (ix2 i (hi l))) * u (ix2 n l) := by
  pointwise [refDo, Cert.MergeBwdRefIdeal.Read.val_main_v35, Cert.MergeBwdRefIdeal.Read.val_main_v30, Cert.MergeBwdRefIdeal.Read.val_main_v28]
  simp only [ref_db]
theorem refDg_at (x : FVec Ideal S8192x1024 .f32) (w : FVec Ideal S1024x1024 .bf16) (a b : FVec Ideal S8192x1024 .f32) (z : FVec Ideal S8192x2048 .bf16) (i j) : refDg x w a b z (ix2 i j) =
    both (fun j => dm (fun k => x (ix2 i k)) (fun k => w (ix2 j k))) (fun j => a (ix2 i j)) (fun j => b (ix2 i j)) j *
      (Ideal.logistic (z (ix2 i j)) * (1 - Ideal.logistic (z (ix2 i j)))) := by
  pointwise [refDg, Cert.MergeBwdRefIdeal.Read.val_main_v33, Cert.MergeBwdRefIdeal.Read.val_main_v23, Cert.MergeBwdRefIdeal.Read.val_main_v22, Cert.MergeBwdRefIdeal.Read.val_main_v21, Cert.MergeBwdRefIdeal.Read.val_main_v19, Cert.MergeBwdRefIdeal.Read.val_main_v10, Cert.MergeBwdRefIdeal.Read.val_main_v9, Cert.MergeBwdRefIdeal.Read.val_main_v8, Cert.MergeBwdRefIdeal.Read.val_main_cst_1]
  simp only [ref_g, ref_dm]

theorem b0_at (c : Dev nD) (t : Fin cfg0.N) (i : Fin 512) (k : Fin 1024) :
    (show FVec Ideal S512x1024 .f32 from iblk m c 0 t) (ix2 i k) =
      (show FVec Ideal S8192x1024 .f32 from m ((c : Thread nD τ).loc main_arg0)) (ix2 ⟨512 * t.val + i.val, by have := lt t; omega⟩ k) := by
  blk_point [iblk, V, idx t]
theorem b1_at (c : Dev nD) (t : Fin cfg0.N) (i : Fin 1024) (k : Fin 1024) :
    (show FVec Ideal S1024x1024 .bf16 from iblk m c 1 t) (ix2 i k) =
      (show FVec Ideal S1024x1024 .bf16 from m ((c : Thread nD τ).loc main_arg1)) (ix2 i k) := by
  blk_point [iblk, V, idx t]
theorem v2_at (c : Dev nD) (i : Fin 8192) (j : Fin 1024) : (show FVec Ideal S8192x1024 .bf16 from V m c main_v26) (ix2 i j) =
    Ideal.logistic ((show FVec Ideal S8192x2048 .bf16 from m ((c : Thread nD τ).loc main_arg4)) (ix2 i (lo j))) := by
  entry_read
  pointwise []
  rw [Cert.Common.half, Cert.Common.sigmoid]
theorem b2_at (c : Dev nD) (t : Fin cfg0.N) (i : Fin 512) (j : Fin 1024) : (show FVec Ideal S512x1024 .bf16 from iblk m c 2 t) (ix2 i j) =
    Ideal.logistic ((show FVec Ideal S8192x2048 .bf16 from m ((c : Thread nD τ).loc main_arg4)) (ix2 ⟨512 * t.val + i.val, by have := lt t; omega⟩ (lo j))) := by
  refine Eq.trans ?_ (v2_at m c ⟨512 * t.val + i.val, by have := lt t; omega⟩ j)
  blk_simp [iblk]
  exact congrArg (V m c main_v26) (by blk_ext [idx t])
theorem v3_at (c : Dev nD) (i : Fin 8192) (j : Fin 1024) : (show FVec Ideal S8192x1024 .bf16 from V m c main_v27) (ix2 i j) =
    Ideal.logistic ((show FVec Ideal S8192x2048 .bf16 from m ((c : Thread nD τ).loc main_arg4)) (ix2 i (hi j))) := by
  entry_read
  pointwise []
  rw [Cert.Common.half, Cert.Common.sigmoid]
theorem b3_at (c : Dev nD) (t : Fin cfg0.N) (i : Fin 512) (j : Fin 1024) : (show FVec Ideal S512x1024 .bf16 from iblk m c 3 t) (ix2 i j) =
    Ideal.logistic ((show FVec Ideal S8192x2048 .bf16 from m ((c : Thread nD τ).loc main_arg4)) (ix2 ⟨512 * t.val + i.val, by have := lt t; omega⟩ (hi j))) := by
  refine Eq.trans ?_ (v3_at m c ⟨512 * t.val + i.val, by have := lt t; omega⟩ j)
  blk_simp [iblk]
  exact congrArg (V m c main_v27) (by blk_ext [idx t])
theorem v4_at (c : Dev nD) (i : Fin 8192) (j : Fin 1024) : (show FVec Ideal S8192x1024 .bf16 from V m c main_v28) (ix2 i j) =
    Ideal.logistic ((show FVec Ideal S8192x2048 .bf16 from m ((c : Thread nD τ).loc main_arg4)) (ix2 i (lo j))) * (show FVec Ideal S8192x1024 .f32 from m ((c : Thread nD τ).loc main_arg2)) (ix2 i j) * (1 - Ideal.logistic ((show FVec Ideal S8192x2048 .bf16 from m ((c : Thread nD τ).loc main_arg4)) (ix2 i (lo j)))) := by
  entry_read
  pointwise []
  rw [Cert.Common.half, Cert.Common.sigmoid]
theorem b4_at (c : Dev nD) (t : Fin cfg0.N) (i : Fin 512) (j : Fin 1024) : (show FVec Ideal S512x1024 .bf16 from iblk m c 4 t) (ix2 i j) =
    Ideal.logistic ((show FVec Ideal S8192x2048 .bf16 from m ((c : Thread nD τ).loc main_arg4)) (ix2 ⟨512 * t.val + i.val, by have := lt t; omega⟩ (lo j))) * (show FVec Ideal S8192x1024 .f32 from m ((c : Thread nD τ).loc main_arg2)) (ix2 ⟨512 * t.val + i.val, by have := lt t; omega⟩ j) * (1 - Ideal.logistic ((show FVec Ideal S8192x2048 .bf16 from m ((c : Thread nD τ).loc main_arg4)) (ix2 ⟨512 * t.val + i.val, by have := lt t; omega⟩ (lo j)))) := by
  refine Eq.trans ?_ (v4_at m c ⟨512 * t.val + i.val, by have := lt t; omega⟩ j)
  blk_simp [iblk]
  exact congrArg (V m c main_v28) (by blk_ext [idx t])
theorem v5_at (c : Dev nD) (i : Fin 8192) (j : Fin 1024) : (show FVec Ideal S8192x1024 .bf16 from V m c main_v29) (ix2 i j) =
    Ideal.logistic ((show FVec Ideal S8192x2048 .bf16 from m ((c : Thread nD τ).loc main_arg4)) (ix2 i (hi j))) * (show FVec Ideal S8192x1024 .f32 from m ((c : Thread nD τ).loc main_arg3)) (ix2 i j) * (1 - Ideal.logistic ((show FVec Ideal S8192x2048 .bf16 from m ((c : Thread nD τ).loc main_arg4)) (ix2 i (hi j)))) := by
  entry_read
  pointwise []
  rw [Cert.Common.half, Cert.Common.sigmoid]
theorem b5_at (c : Dev nD) (t : Fin cfg0.N) (i : Fin 512) (j : Fin 1024) : (show FVec Ideal S512x1024 .bf16 from iblk m c 5 t) (ix2 i j) =
    Ideal.logistic ((show FVec Ideal S8192x2048 .bf16 from m ((c : Thread nD τ).loc main_arg4)) (ix2 ⟨512 * t.val + i.val, by have := lt t; omega⟩ (hi j))) * (show FVec Ideal S8192x1024 .f32 from m ((c : Thread nD τ).loc main_arg3)) (ix2 ⟨512 * t.val + i.val, by have := lt t; omega⟩ j) * (1 - Ideal.logistic ((show FVec Ideal S8192x2048 .bf16 from m ((c : Thread nD τ).loc main_arg4)) (ix2 ⟨512 * t.val + i.val, by have := lt t; omega⟩ (hi j)))) := by
  refine Eq.trans ?_ (v5_at m c ⟨512 * t.val + i.val, by have := lt t; omega⟩ j)
  blk_simp [iblk]
  exact congrArg (V m c main_v29) (by blk_ext [idx t])
theorem v6_at (c : Dev nD) (s : Fin 4) (n : Fin 512) (k : Fin 256) :
    (show FVec Ideal S4x512x256 .bf16 from V m c main_v31) (ix3 s n k) =
      (show FVec Ideal S512x1024 .bf16 from m ((c : Thread nD τ).loc main_arg5)) (ix2 n (at4 s k)) := by
  entry_read
  pointwise []
  refine congrArg (fun l => m ((c : Thread nD τ).loc main_arg5) (ix2 n l)) (Fin.ext ?_)
  show s.val * 256 + k.val = 256 * s.val + k.val
  omega
theorem b6_at (c : Dev nD) (t : Fin cfg0.N) (s : Fin 4) (n : Fin 512) (k : Fin 256) :
    (show FVec Ideal S4x512x256 .bf16 from iblk m c 6 t) (ix3 s n k) =
      (show FVec Ideal S512x1024 .bf16 from m ((c : Thread nD τ).loc main_arg5)) (ix2 n (at4 s k)) := by
  refine Eq.trans ?_ (v6_at m c s n k)
  blk_simp [iblk]
  exact congrArg (V m c main_v31) (by blk_ext [idx t])
theorem v7_at (c : Dev nD) (s : Fin 4) (n : Fin 512) (k : Fin 256) :
    (show FVec Ideal S4x512x256 .bf16 from V m c main_v33) (ix3 s n k) =
      (show FVec Ideal S512x1024 .bf16 from m ((c : Thread nD τ).loc main_arg6)) (ix2 n (at4 s k)) := by
  entry_read
  pointwise []
  refine congrArg (fun l => m ((c : Thread nD τ).loc main_arg6) (ix2 n l)) (Fin.ext ?_)
  show s.val * 256 + k.val = 256 * s.val + k.val
  omega
theorem b7_at (c : Dev nD) (t : Fin cfg0.N) (s : Fin 4) (n : Fin 512) (k : Fin 256) :
    (show FVec Ideal S4x512x256 .bf16 from iblk m c 7 t) (ix3 s n k) =
      (show FVec Ideal S512x1024 .bf16 from m ((c : Thread nD τ).loc main_arg6)) (ix2 n (at4 s k)) := by
  refine Eq.trans ?_ (v7_at m c s n k)
  blk_simp [iblk]
  exact congrArg (V m c main_v33) (by blk_ext [idx t])

theorem emb8 (t : Fin cfg0.N) (i : Fin 512) (j : Fin 1024) : (win0_8.blk t).view.emb (ix2 i j) = (ix2 ⟨512 * t.val + i.val, by have := lt t; omega⟩ j : S8192x1024.Idx) := by
  blk_ext [idx t]
theorem final8 (c : Dev nD) : (dats m 0 c).arrAt 8 (cfgs 0).N = refDa (m ((c : Thread nD τ).loc main_arg0)) (m ((c : Thread nD τ).loc main_arg1)) (m ((c : Thread nD τ).loc main_arg4)) := by
  refine (dats m 0 c).arrAt_eq_of_covers 8 _ (by decide +kernel) fun t hf y => ?_
  idx_vars y
  blk_simp
  rw [after0_8]
  frame_out
  refine (pay3_at _ _ _ _ _).trans ?_
  refine Eq.trans ?_ (congrArg _ (emb8 t y0 y1)).symm
  rw [refDa_at]
  simp only [b0_at, b1_at, b2_at]

theorem emb9 (t : Fin cfg0.N) (i : Fin 512) (j : Fin 1024) : (win0_9.blk t).view.emb (ix2 i j) = (ix2 ⟨512 * t.val + i.val, by have := lt t; omega⟩ j : S8192x1024.Idx) := by
  blk_ext [idx t]
theorem final9 (c : Dev nD) : (dats m 0 c).arrAt 9 (cfgs 0).N = refDb (m ((c : Thread nD τ).loc main_arg0)) (m ((c : Thread nD τ).loc main_arg1)) (m ((c : Thread nD τ).loc main_arg4)) := by
  refine (dats m 0 c).arrAt_eq_of_covers 9 _ (by decide +kernel) fun t hf y => ?_
  idx_vars y
  blk_simp
  rw [after0_9]
  frame_out
  refine (pay4_at _ _ _ _ _).trans ?_
  refine Eq.trans ?_ (congrArg _ (emb9 t y0 y1)).symm
  rw [refDb_at]
  simp only [b0_at, b1_at, b3_at]

theorem emb10 (t : Fin cfg0.N) (i : Fin 512) (j : Fin 2048) : (win0_10.blk t).view.emb (ix2 i j) = (ix2 ⟨512 * t.val + i.val, by have := lt t; omega⟩ j : S8192x2048.Idx) := by
  blk_ext [idx t]
theorem final10 (c : Dev nD) : (dats m 0 c).arrAt 10 (cfgs 0).N = refDg (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 10 _ (by decide +kernel) fun t hf y => ?_
  idx_vars y
  blk_simp
  rw [after0_10]
  refine (out10 _ _ _ _ _ _ _ _ _).trans ?_
  refine Eq.trans ?_ (congrArg _ (emb10 t y0 y1)).symm
  rw [refDg_at]
  show both (fun j => dm (fun k => (show FVec Ideal S512x1024 .f32 from iblk m c 0 t) (ix2 y0 k)) (fun k => (show FVec Ideal S1024x1024 .bf16 from iblk m c 1 t) (ix2 j k)))
    (fun j => (show FVec Ideal S512x1024 .bf16 from iblk m c 4 t) (ix2 y0 j)) (fun j => (show FVec Ideal S512x1024 .bf16 from iblk m c 5 t) (ix2 y0 j)) y1 = _
  have e : ∀ P a g : EReal, P * (g * a * (1 - g)) = P * a * (g * (1 - g)) := fun P a g => by ac_rfl
  unfold both
  simp only [b0_at, b1_at, b4_at, b5_at]
  by_cases h : y1.val < 1024
  · rw [dif_pos h, dif_pos h]
    exact e _ _ _
  · rw [dif_neg h, dif_neg h]
    have h1 : hi ⟨y1.val - 1024, by omega⟩ = y1 := Fin.ext (by show 1024 + (y1.val - 1024) = y1.val; omega)
    rw [h1]
    exact e _ _ _

theorem emb11 (t : Fin cfg0.N) (i : Fin 512) (j : Fin 512) : (win0_11.blk t).view.emb (ix2 i j) = (ix2 ⟨512 * t.val + i.val, by have := lt t; omega⟩ j : S8192x512.Idx) := by
  blk_ext [idx t]
theorem final11 (c : Dev nD) : (dats m 0 c).arrAt 11 (cfgs 0).N = refDp (m ((c : Thread nD τ).loc main_arg0)) (m ((c : Thread nD τ).loc main_arg1)) (m ((c : Thread nD τ).loc main_arg4)) (m ((c : Thread nD τ).loc main_arg5)) := by
  refine (dats m 0 c).arrAt_eq_of_covers 11 _ (by decide +kernel) fun t hf y => ?_
  idx_vars y
  blk_simp
  rw [after0_11]
  frame_out
  refine (first _ _ _ _ _ _ _ (fun l => (show FVec Ideal S512x1024 .bf16 from m ((c : Thread nD τ).loc main_arg5)) (ix2 y1 l)) y0 y1 (fun k => (slab0 _ _ _).trans (b6_at m c t 0 y1 k)) (fun k => (slab1 _ _ _).trans (b6_at m c t 1 y1 k)) (fun k => (slab2 _ _ _).trans (b6_at m c t 2 y1 k)) (fun k => (slab3 _ _ _).trans (b6_at m c t 3 y1 k))).trans ?_
  refine Eq.trans ?_ (congrArg _ (emb11 t y0 y1)).symm
  rw [refDp_at]
  simp only [b0_at, b1_at, b2_at]

theorem emb12 (t : Fin cfg0.N) (i : Fin 512) (j : Fin 512) : (win0_12.blk t).view.emb (ix2 i j) = (ix2 ⟨512 * t.val + i.val, by have := lt t; omega⟩ j : S8192x512.Idx) := by
  blk_ext [idx t]
theorem final12 (c : Dev nD) : (dats m 0 c).arrAt 12 (cfgs 0).N = refDo (m ((c : Thread nD τ).loc main_arg0)) (m ((c : Thread nD τ).loc main_arg1)) (m ((c : Thread nD τ).loc main_arg4)) (m ((c : Thread nD τ).loc main_arg6)) := by
  refine (dats m 0 c).arrAt_eq_of_covers 12 _ (by decide +kernel) fun t hf y => ?_
  idx_vars y
  blk_simp
  rw [after0_12]
  frame_out
  unfold k0_pay11
  rw [wholef, wholew, whole]
  refine (second _ _ _ _ _ _ _ (fun l => (show FVec Ideal S512x1024 .bf16 from m ((c : Thread nD τ).loc main_arg6)) (ix2 y1 l)) y0 y1 (fun k => (slab0 _ _ _).trans (b7_at m c t 0 y1 k)) (fun k => (slab1 _ _ _).trans (b7_at m c t 1 y1 k)) (fun k => (slab2 _ _ _).trans (b7_at m c t 2 y1 k)) (fun k => (slab3 _ _ _).trans (b7_at m c t 3 y1 k))).trans ?_
  refine Eq.trans ?_ (congrArg _ (emb12 t y0 y1)).symm
  rw [refDo_at]
  simp only [b0_at, b1_at, b3_at]

end Cert.MergeBwdIdeal.Result

end
-- ==== Proof.MergeBwdPair.lean ====
/- The claims of one call and its reference: both run, and their results are equal. -/
module

public import proofs.«01_k».proof.Defs
public import proofs.«01_k».proof.Proof.Gen.MergeBwd
public import proofs.«01_k».proof.Proof.Gen.MergeBwd.Frame
public import proofs.«01_k».proof.Proof.Gen.MergeBwdIdeal
public import proofs.«01_k».proof.Proof.Gen.MergeBwdIdeal.Frame
public import proofs.«01_k».proof.Proof.Gen.MergeBwdIdeal.Value
public import proofs.«01_k».proof.Proof.Gen.MergeBwdRefIdeal
public import proofs.«01_k».proof.Proof.Gen.MergeBwdRefIdeal.Run
public import proofs.«01_k».proof.Proof.Gen.MergeBwdRefIdeal.Read
public import proofs.«01_k».proof.Proof.MergeBwdValue
public import Idealize.ShloMosaic.Lib.Claim

@[expose] public section

set_option maxRecDepth 16384

noncomputable section

namespace Cert.MergeBwdPair

open Idealize.ShloMosaic Idealize.SL.Sem

/-- The reference runs and leaves its arguments as they were. -/
theorem reference_frame : Cert.quiescent_MergeBwdRefIdeal (hMergeBwdRefIdeal := Cert.MergeBwdRefIdeal.Gen.facts) := by
  intro m g _
  exact (θ_run Cert.MergeBwdRefIdeal.defs _ _).mono (fun r h => ⟨fun c => (h c).2.2.2.2.2, sem_eq_zero_of_no_sems (by decide) r.2⟩)
    (Cert.MergeBwdRefIdeal.Value.run (F := Ideal) m g)

set_option maxHeartbeats 2000000 in
/-- The kernel's results are the reference's. -/
theorem value : Cert.algebraic_MergeBwdIdeal_MergeBwdRefIdeal (hMergeBwdIdeal := Cert.MergeBwdIdeal.Gen.facts) (hMergeBwdRefIdeal := Cert.MergeBwdRefIdeal.Gen.facts) := by
  pair_intro
  · run_from Cert.MergeBwdIdeal.Gen.run_main m g
  · run_from Cert.MergeBwdRefIdeal.Value.run m' g'
    · exact (Cert.MergeBwdRefIdeal.Read.val_main_v31_eq _ _ _).trans (Cert.MergeBwdIdeal.Result.final8 m c).symm
    · exact (Cert.MergeBwdRefIdeal.Read.val_main_v32_eq _ _ _).trans (Cert.MergeBwdIdeal.Result.final9 m c).symm
    · exact (Cert.MergeBwdRefIdeal.Read.val_main_v33_eq _ _ _ _ _).trans (Cert.MergeBwdIdeal.Result.final10 m c).symm
    · exact (Cert.MergeBwdRefIdeal.Read.val_main_v34_eq _ _ _ _).trans (Cert.MergeBwdIdeal.Result.final11 m c).symm
    · exact (Cert.MergeBwdRefIdeal.Read.val_main_v35_eq _ _ _ _).trans (Cert.MergeBwdIdeal.Result.final12 m c).symm

end Cert.MergeBwdPair

end
-- ==== Proof.BranchDwValue.lean ====
/- The gradient of a mixer branch's weights: the kernel's result array is the reference's. -/
module

public import proofs.«01_k».proof.Proof.Gen.BranchDwIdeal.Value
public import proofs.«01_k».proof.Proof.Gen.BranchDwRefIdeal.Read
public import Idealize.ShloMosaic.Lib.Pipeline.ReadBack
public import Idealize.ShloMosaic.Lib.Pipeline.ValueKit
public import Idealize.ShloMosaic.Lib.Pointwise
public import Idealize.ShloMosaic.Lib.ValueLayout
public import Idealize.ShloMosaic.Lib.Claim

@[expose] public section

set_option maxRecDepth 16384

noncomputable section

namespace Cert.BranchDwIdeal.Result

open Cert.BranchDwIdeal Cert.BranchDwIdeal.Gen Idealize.ShloMosaic Idealize.ShloMosaic.TcCoe Idealize.SL.Sem
open Idealize.ShloMosaic.Pipeline (Dat)
open scoped BigOperators

variable (m : (ℓ : Loc nD τ sig) → Buf (Elt Ideal) ℓ)

/-- The reference's result over the branch's input and the output's cotangent. -/
abbrev ref (a : FVec Ideal S8192x512 .bf16) (d : FVec Ideal S8192x1024 .bf16) : FVec Ideal S4x512x256 .bf16 :=
  Cert.BranchDwRefIdeal.Read.val_main_v15 (F := Ideal) a d

theorem idx : ∀ t : Fin cfg0.N, win0_0.index t = ![t.val, 0] ∧ win0_1.index t = ![t.val, 0] ∧ win0_2.index t = ![0, 0, 0] :=
  (by decide +kernel : ∀ t : Fin grid0.N, _)

/-- A column of the whole weight from its block and its place there. -/
abbrev col (s : Fin 4) (j : Fin 256) : Fin 1024 := ⟨s.val * 256 + j.val, by omega⟩

theorem pay1_at (j) : k0_pay1 (F := Ideal) j = 0 := by pointwise [k0_pay1]

theorem pay2_at (acc : FVec Ideal S512x1024 .f32) (a : FVec Ideal S1024x512 .bf16) (d : FVec Ideal S1024x1024 .bf16) (j) :
    k0_pay2 (F := Ideal) acc a d j = acc j + ∑ k : Fin 1024, a (ix2 k (j 0)) * d (ix2 k (j 1)) := by
  pointwise [k0_pay2]

theorem ref_at (a : FVec Ideal S8192x512 .bf16) (d : FVec Ideal S8192x1024 .bf16) (s i j) :
    ref a d (ix3 s i j) = ∑ k : Fin 8192, a (ix2 k i) * d (ix2 k (col s j)) := by
  pointwise [ref, Cert.BranchDwRefIdeal.Read.val_main_v1, Cert.BranchDwRefIdeal.Read.val_main_v3, Cert.BranchDwRefIdeal.Read.val_main_v4, Cert.BranchDwRefIdeal.Read.val_main_v5, Cert.BranchDwRefIdeal.Read.val_main_v6, Cert.BranchDwRefIdeal.Read.val_main_v7, Cert.BranchDwRefIdeal.Read.val_main_v8, Cert.BranchDwRefIdeal.Read.val_main_v9, Cert.BranchDwRefIdeal.Read.val_main_v10, Cert.BranchDwRefIdeal.Read.val_main_v11, Cert.BranchDwRefIdeal.Read.val_main_v12, Cert.BranchDwRefIdeal.Read.val_main_v13, Cert.BranchDwRefIdeal.Read.val_main_v14, Cert.BranchDwRefIdeal.Read.val_main_v15]
  have key : ∀ q : Fin 1024, q.val = s.val * 256 + j.val → ∑ k : Fin 8192, d (ix2 k q) * a (ix2 k i) = ∑ k : Fin 8192, a (ix2 k i) * d (ix2 k (col s j)) :=
    fun q hq => Finset.sum_congr rfl fun k _ => (mul_comm _ _).trans (congrArg (fun q => a (ix2 k i) * d (ix2 k q)) (Fin.ext hq))
  have hs := s.isLt
  by_cases h0 : s.val < 1
  · rw [dif_pos h0]
    exact key _ (by show j.val = _; omega)
  rw [dif_neg h0]
  by_cases h1 : s.val - 1 < 1
  · rw [dif_pos h1]
    exact key _ (by show 256 + j.val = _; omega)
  rw [dif_neg h1]
  by_cases h2 : s.val - 1 - 1 < 1
  · rw [dif_pos h2]
    exact key _ (by show 512 + j.val = _; omega)
  rw [dif_neg h2]
  exact key _ (by show 768 + j.val = _; omega)

theorem cut4 (v : FVec Ideal S512x1024 .f32) (z : S1x512x256.Idx) :
    k0_pay4 (F := Ideal) v z = v (ix2 (z 1) ⟨0 + (z 2).val, by have h : (z 2).val < 256 := (z 2).isLt; omega⟩) := by
  pointwise [k0_pay4, k0_pay3]

theorem cut5 (v : FVec Ideal S512x1024 .f32) (z : S1x512x256.Idx) :
    k0_pay5 (F := Ideal) v z = v (ix2 (z 1) ⟨256 + (z 2).val, by have h : (z 2).val < 256 := (z 2).isLt; omega⟩) := by
  pointwise [k0_pay5, k0_pay3]

theorem cut6 (v : FVec Ideal S512x1024 .f32) (z : S1x512x256.Idx) :
    k0_pay6 (F := Ideal) v z = v (ix2 (z 1) ⟨512 + (z 2).val, by have h : (z 2).val < 256 := (z 2).isLt; omega⟩) := by
  pointwise [k0_pay6, k0_pay3]

theorem cut7 (v : FVec Ideal S512x1024 .f32) (z : S1x512x256.Idx) :
    k0_pay7 (F := Ideal) v z = v (ix2 (z 1) ⟨768 + (z 2).val, by have h : (z 2).val < 256 := (z 2).isLt; omega⟩) := by
  pointwise [k0_pay7, k0_pay3]

/-- The sum that a grid point adds to the accumulator. -/
abbrev term (c : Dev nD) (t : Fin cfg0.N) (j : S512x1024.Idx) : EReal :=
  ∑ k : Fin 1024, (show FVec Ideal S1024x512 .bf16 from iblk m c 0 t) (ix2 k (j 0)) * (show FVec Ideal S1024x1024 .bf16 from iblk m c 1 t) (ix2 k (j 1))

theorem reset (c : Dev nD) (t : Fin cfg0.N) (h : t.val % 8 = 0) (j) :
    (outsAt0 m c t.val t.isLt).2 j = 0 + term m c t j := by
  rw [outsAt0_A m c t h (by omega)]
  frame_out
  rw [pay2_at, pay1_at]

theorem step (c : Dev nD) (t : Fin cfg0.N) (h : ¬ t.val % 8 = 0) (j) :
    (outsAt0 m c t.val t.isLt).2 j = (outsAt0 m c (t.val - 1) (Nat.lt_of_le_of_lt (Nat.sub_le _ _) t.isLt)).2 j + term m c t j := by
  by_cases h1 : t.val % 8 = 7
  · rw [outsAt0_C m c t h h1]
    frame_out
    rw [read_unread_whole, pay2_at]
  · rw [outsAt0_B m c t h h1]
    frame_out
    rw [read_unread_whole, pay2_at]

theorem out (c : Dev nD) (t : Fin cfg0.N) (h : t.val % 8 = 7) (y : S4x512x256.Idx) :
    (outsAt0 m c t.val t.isLt).1 y = (outsAt0 m c t.val t.isLt).2 (ix2 (y 1) (col (y 0) (y 2))) := by
  rw [outsAt0_C m c t (by omega) h]
  frame_out
  generalize k0_pay2 (F := Ideal) _ _ _ = v
  canon_tiles z h
  · have hz : (z 0).val < 1 := (z 0).isLt
    refine (cut7 v z).trans (congrArg v (congrArg₂ ix2 (Fin.ext h1.symm) (Fin.ext ?_)))
    show 768 + (z 2).val = (y 0).val * 256 + (y 2).val
    omega
  · have hz : (z 0).val < 1 := (z 0).isLt
    refine (cut6 v z).trans (congrArg v (congrArg₂ ix2 (Fin.ext h1.symm) (Fin.ext ?_)))
    show 512 + (z 2).val = (y 0).val * 256 + (y 2).val
    omega
  · have hz : (z 0).val < 1 := (z 0).isLt
    refine (cut5 v z).trans (congrArg v (congrArg₂ ix2 (Fin.ext h1.symm) (Fin.ext ?_)))
    show 256 + (z 2).val = (y 0).val * 256 + (y 2).val
    omega
  · have hz : (z 0).val < 1 := (z 0).isLt
    refine (cut4 v z).trans (congrArg v (congrArg₂ ix2 (Fin.ext h1.symm) (Fin.ext ?_)))
    show 0 + (z 2).val = (y 0).val * 256 + (y 2).val
    omega

theorem emb (t : Fin cfg0.N) (s : Fin 4) (i : Fin 512) (j : Fin 256) :
    (win0_2.blk t).view.emb (ix3 s i j) = (ix3 s i j : S4x512x256.Idx) := by
  blk_ext [idx t]

/-- The result array after the last grid point. -/
theorem final (c : Dev nD) : (dats m 0 c).arrAt 2 (cfgs 0).N = ref (m ((c : Thread nD τ).loc main_arg0)) (m ((c : Thread nD τ).loc main_arg1)) := by
  refine (dats m 0 c).arrAt_eq_of_covers 2 _ (by decide +kernel) fun t hf y => ?_
  have hr := (flush0_2 t).mp hf
  idx_vars y
  blk_simp
  rw [after0_2, out m c t hr,
    Pipeline.eq_sum_fin_of_reset_step_apply_of_flush (f := fun n h => (outsAt0 m c n h).2) 8 (fun _ => 0) (term m c)
      (reset m c) (step m c) t hr _, zero_add]
  refine Eq.trans ?_ (congrArg _ (emb t y0 y1 y2)).symm
  rw [ref_at]
  refine Fin.sum_mul_add_congr fun s k hl => ?_
  blk_point [iblk, V, idx ⟨_, Pipeline.run_point_lt_of_flush t hr s⟩]
  rfl

end Cert.BranchDwIdeal.Result

end
-- ==== Proof.BranchDwPair.lean ====
/- The claims of one call and its reference: both run, and their results are equal. -/
module

public import proofs.«01_k».proof.Defs
public import proofs.«01_k».proof.Proof.Gen.BranchDw
public import proofs.«01_k».proof.Proof.Gen.BranchDw.Frame
public import proofs.«01_k».proof.Proof.Gen.BranchDwIdeal
public import proofs.«01_k».proof.Proof.Gen.BranchDwIdeal.Frame
public import proofs.«01_k».proof.Proof.Gen.BranchDwIdeal.Value
public import proofs.«01_k».proof.Proof.Gen.BranchDwRefIdeal
public import proofs.«01_k».proof.Proof.Gen.BranchDwRefIdeal.Run
public import proofs.«01_k».proof.Proof.Gen.BranchDwRefIdeal.Read
public import proofs.«01_k».proof.Proof.BranchDwValue
public import Idealize.ShloMosaic.Lib.Claim

@[expose] public section

set_option maxRecDepth 16384

noncomputable section

namespace Cert.BranchDwPair

open Idealize.ShloMosaic Idealize.SL.Sem

/-- The reference runs and leaves its arguments as they were. -/
theorem reference_frame : Cert.quiescent_BranchDwRefIdeal (hBranchDwRefIdeal := Cert.BranchDwRefIdeal.Gen.facts) := by
  intro m g _
  exact (θ_run Cert.BranchDwRefIdeal.defs _ _).mono (fun r h => ⟨fun c => (h c).2, sem_eq_zero_of_no_sems (by decide) r.2⟩)
    (Cert.BranchDwRefIdeal.Value.run (F := Ideal) m g)

/-- The kernel's results are the reference's. -/
theorem value : Cert.algebraic_BranchDwIdeal_BranchDwRefIdeal (hBranchDwIdeal := Cert.BranchDwIdeal.Gen.facts) (hBranchDwRefIdeal := Cert.BranchDwRefIdeal.Gen.facts) := by
  pair_intro
  · run_from Cert.BranchDwIdeal.Gen.run_main m g
  · run_from Cert.BranchDwRefIdeal.Value.run m' g'
    exact (Cert.BranchDwRefIdeal.Read.val_main_v15_eq _ _).trans (Cert.BranchDwIdeal.Result.final m c).symm

end Cert.BranchDwPair

end
-- ==== Proof.MixDwinValue.lean ====
/- The gradient of the mixer's input weights: the kernel's result array is the reference's. -/
module

public import proofs.«01_k».proof.Proof.Gen.MixDwinIdeal.Value
public import proofs.«01_k».proof.Proof.Gen.MixDwinRefIdeal.Read
public import Idealize.ShloMosaic.Lib.Pipeline.ReadBack
public import Idealize.ShloMosaic.Lib.Pipeline.ValueKit
public import Idealize.ShloMosaic.Lib.Pointwise
public import Idealize.ShloMosaic.Lib.ValueLayout
public import Idealize.ShloMosaic.Lib.Claim

@[expose] public section

set_option maxRecDepth 16384

noncomputable section

namespace Cert.MixDwinIdeal.Result

open Cert.MixDwinIdeal Cert.MixDwinIdeal.Gen Idealize.ShloMosaic Idealize.ShloMosaic.TcCoe Idealize.SL.Sem
open Idealize.ShloMosaic.Pipeline (Dat)
open scoped BigOperators

variable (m : (ℓ : Loc nD τ sig) → Buf (Elt Ideal) ℓ)

/-- The reference's result over the norm's output and the four cotangents of the projection's column groups. -/
abbrev ref (h : FVec Ideal S8192x1024 .bf16) (d1 : FVec Ideal S8192x512 .bf16) (d2 : FVec Ideal S8192x640 .bf16)
    (d3 : FVec Ideal S8192x128 .bf16) (d4 : FVec Ideal S8192x2048 .bf16) : FVec Ideal S1024x3328 .f32 :=
  Cert.MixDwinRefIdeal.Read.val_main_v6 (F := Ideal) h d1 d2 d3 d4

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] :=
  (by decide +kernel : ∀ t : Fin grid0.N, _)

theorem lt : ∀ t : Fin cfg0.N, t.val < 16 := (by decide +kernel : ∀ t : Fin grid0.N, _)

/-- One entry of a row made of four rows side by side. -/
abbrev side (a : Fin 512 → EReal) (b : Fin 640 → EReal) (d : Fin 128 → EReal) (e : Fin 2048 → EReal) (j : Fin 3328) : EReal :=
  if h : j.val < 512 then a ⟨j.val, h⟩
  else if h1 : j.val - 512 < 640 then b ⟨j.val - 512, h1⟩
  else if h2 : j.val - 512 - 640 < 128 then d ⟨j.val - 512 - 640, h2⟩
  else e ⟨j.val - 512 - 640 - 128, by omega⟩

theorem pay1_at (j) : k0_pay1 (F := Ideal) j = 0 := by pointwise [k0_pay1]

theorem pay2_at (v3 : FVec Ideal S512x512 .bf16) (v4 : FVec Ideal S512x640 .bf16) (v5 : FVec Ideal S512x128 .bf16)
    (v6 : FVec Ideal S512x2048 .bf16) (acc : FVec Ideal S1024x3328 .f32) (h : FVec Ideal S512x1024 .bf16) (i j) :
    k0_pay2 (F := Ideal) v3 v4 v5 v6 acc h (ix2 i j) = acc (ix2 i j) + ∑ k : Fin 512, h (ix2 k i) *
      side (fun q => v3 (ix2 k q)) (fun q => v4 (ix2 k q)) (fun q => v5 (ix2 k q)) (fun q => v6 (ix2 k q)) j := by
  pointwise [k0_pay2]

theorem ref_at (h : FVec Ideal S8192x1024 .bf16) (d1 : FVec Ideal S8192x512 .bf16) (d2 : FVec Ideal S8192x640 .bf16)
    (d3 : FVec Ideal S8192x128 .bf16) (d4 : FVec Ideal S8192x2048 .bf16) (i j) :
    ref h d1 d2 d3 d4 (ix2 i j) = ∑ k : Fin 8192, h (ix2 k i) *
      side (fun q => d1 (ix2 k q)) (fun q => d2 (ix2 k q)) (fun q => d3 (ix2 k q)) (fun q => d4 (ix2 k q)) j := by
  pointwise [ref, Cert.MixDwinRefIdeal.Read.val_main_v6, Cert.MixDwinRefIdeal.Read.val_main_v5, Cert.MixDwinRefIdeal.Read.val_main_v4, Cert.MixDwinRefIdeal.Read.val_main_v3, Cert.MixDwinRefIdeal.Read.val_main_v1]
  refine Finset.sum_congr rfl fun k _ => ?_
  rw [mul_comm]

theorem b0_at (c : Dev nD) (t : Fin cfg0.N) (i : Fin 512) (k : Fin 1024) (h : t.val * 512 + i.val < 8192) :
    (show FVec Ideal S512x1024 .bf16 from iblk m c 0 t) (ix2 i k) =
      (show FVec Ideal S8192x1024 .bf16 from m ((c : Thread nD τ).loc main_arg0)) (ix2 ⟨t.val * 512 + i.val, h⟩ k) := by
  blk_point [iblk, V, idx t]

theorem b1_at (c : Dev nD) (t : Fin cfg0.N) (i : Fin 512) (k : Fin 512) (h : t.val * 512 + i.val < 8192) :
    (show FVec Ideal S512x512 .bf16 from iblk m c 1 t) (ix2 i k) =
      (show FVec Ideal S8192x512 .bf16 from m ((c : Thread nD τ).loc main_arg1)) (ix2 ⟨t.val * 512 + i.val, h⟩ k) := by
  blk_point [iblk, V, idx t]

theorem b2_at (c : Dev nD) (t : Fin cfg0.N) (i : Fin 512) (k : Fin 640) (h : t.val * 512 + i.val < 8192) :
    (show FVec Ideal S512x640 .bf16 from iblk m c 2 t) (ix2 i k) =
      (show FVec Ideal S8192x640 .bf16 from m ((c : Thread nD τ).loc main_arg2)) (ix2 ⟨t.val * 512 + i.val, h⟩ k) := by
  blk_point [iblk, V, idx t]

theorem b3_at (c : Dev nD) (t : Fin cfg0.N) (i : Fin 512) (k : Fin 128) (h : t.val * 512 + i.val < 8192) :
    (show FVec Ideal S512x128 .bf16 from iblk m c 3 t) (ix2 i k) =
      (show FVec Ideal S8192x128 .bf16 from m ((c : Thread nD τ).loc main_arg3)) (ix2 ⟨t.val * 512 + i.val, h⟩ k) := by
  blk_point [iblk, V, idx t]

theorem b4_at (c : Dev nD) (t : Fin cfg0.N) (i : Fin 512) (k : Fin 2048) (h : t.val * 512 + i.val < 8192) :
    (show FVec Ideal S512x2048 .bf16 from iblk m c 4 t) (ix2 i k) =
      (show FVec Ideal S8192x2048 .bf16 from m ((c : Thread nD τ).loc main_arg4)) (ix2 ⟨t.val * 512 + i.val, h⟩ k) := by
  blk_point [iblk, V, idx t]

/-- The sum that a grid point adds to the accumulator. -/
abbrev term (c : Dev nD) (t : Fin cfg0.N) (j : S1024x3328.Idx) : EReal :=
  ∑ k : Fin 512, (show FVec Ideal S512x1024 .bf16 from iblk m c 0 t) (ix2 k (j 0)) *
    side (fun q => (show FVec Ideal S512x512 .bf16 from iblk m c 1 t) (ix2 k q)) (fun q => (show FVec Ideal S512x640 .bf16 from iblk m c 2 t) (ix2 k q))
      (fun q => (show FVec Ideal S512x128 .bf16 from iblk m c 3 t) (ix2 k q)) (fun q => (show FVec Ideal S512x2048 .bf16 from iblk m c 4 t) (ix2 k q)) (j 1)

theorem reset (c : Dev nD) (t : Fin cfg0.N) (h : t.val % 16 = 0) (j) :
    outsAt0 m c t.val t.isLt j = 0 + term m c t j := by
  rw [outsAt0_A m c t h]
  frame_out
  idx_vars j
  refine (pay2_at _ _ _ _ _ _ _ _).trans ?_
  rw [pay1_at]
  rfl

theorem step (c : Dev nD) (t : Fin cfg0.N) (h : ¬ t.val % 16 = 0) (j) :
    outsAt0 m c t.val t.isLt j = outsAt0 m c (t.val - 1) (Nat.lt_of_le_of_lt (Nat.sub_le _ _) t.isLt) j + term m c t j := by
  rw [outsAt0_B m c t h]
  frame_out
  idx_vars j
  exact pay2_at _ _ _ _ _ _ _ _

/-- The result array after the last grid point. -/
theorem final (c : Dev nD) : (dats m 0 c).arrAt 5 (cfgs 0).N = ref (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_after_last 5 t0_15 (by decide +kernel) _ fun j => ?_
  blk_simp
  rw [after0_5, Pipeline.eq_sum_fin_of_reset_step_apply_last (fun n h => outsAt0 m c n h) 16 (fun _ => 0) (term m c)
    (reset m c) (step m c) (le_of_eq N_0) t0_15 rfl j, zero_add]
  idx_vars j
  refine Eq.trans ?_ (ref_at _ _ _ _ _ _ _).symm
  refine Fin.sum_mul_add_congr fun s k hl => ?_
  simp only [b1_at m c s k _ hl, b2_at m c s k _ hl, b3_at m c s k _ hl, b4_at m c s k _ hl]
  exact congrArg (· * _) (b0_at m c s k j0 hl)

end Cert.MixDwinIdeal.Result

end
-- ==== Proof.MixDwinPair.lean ====
/- The claims of one call and its reference: both run, and their results are equal. -/
module

public import proofs.«01_k».proof.Defs
public import proofs.«01_k».proof.Proof.Gen.MixDwin
public import proofs.«01_k».proof.Proof.Gen.MixDwin.Frame
public import proofs.«01_k».proof.Proof.Gen.MixDwinIdeal
public import proofs.«01_k».proof.Proof.Gen.MixDwinIdeal.Frame
public import proofs.«01_k».proof.Proof.Gen.MixDwinIdeal.Value
public import proofs.«01_k».proof.Proof.Gen.MixDwinRefIdeal
public import proofs.«01_k».proof.Proof.Gen.MixDwinRefIdeal.Run
public import proofs.«01_k».proof.Proof.Gen.MixDwinRefIdeal.Read
public import proofs.«01_k».proof.Proof.MixDwinValue
public import Idealize.ShloMosaic.Lib.Claim

@[expose] public section

set_option maxRecDepth 16384

noncomputable section

namespace Cert.MixDwinPair

open Idealize.ShloMosaic Idealize.SL.Sem

/-- The reference runs and leaves its arguments as they were. -/
theorem reference_frame : Cert.quiescent_MixDwinRefIdeal (hMixDwinRefIdeal := Cert.MixDwinRefIdeal.Gen.facts) := by
  intro m g _
  exact (θ_run Cert.MixDwinRefIdeal.defs _ _).mono (fun r h => ⟨fun c => (h c).2, sem_eq_zero_of_no_sems (by decide) r.2⟩)
    (Cert.MixDwinRefIdeal.Value.run (F := Ideal) m g)

/-- The kernel's results are the reference's. -/
theorem value : Cert.algebraic_MixDwinIdeal_MixDwinRefIdeal (hMixDwinIdeal := Cert.MixDwinIdeal.Gen.facts) (hMixDwinRefIdeal := Cert.MixDwinRefIdeal.Gen.facts) := by
  pair_intro
  · run_from Cert.MixDwinIdeal.Gen.run_main m g
  · run_from Cert.MixDwinRefIdeal.Value.run m' g'
    obtain ⟨h0, h1, h2, h3, h4⟩ := hagree c
    refine (Cert.MixDwinRefIdeal.Read.val_main_v6_eq _ _ _ _ _).trans ?_
    rw [h1, h2, h3, h4]
    exact (Cert.MixDwinIdeal.Result.final m c).symm

end Cert.MixDwinPair

end
-- ==== Proof.MixNormBwdValue.lean ====
/- The mixer's gradient through its norm: the kernel's result arrays are the reference's. -/
module

public import proofs.«01_k».proof.Proof.Gen.MixNormBwdIdeal.Value
public import proofs.«01_k».proof.Proof.Gen.MixNormBwdRefIdeal.Read
public import proofs.«01_k».proof.Proof.Common
public import Idealize.ShloMosaic.Lib.Pipeline.ReadBack
public import Idealize.ShloMosaic.Lib.Pipeline.ValueKit
public import Idealize.ShloMosaic.Lib.Pointwise
public import Idealize.ShloMosaic.Lib.ValueLayout
public import Idealize.ShloMosaic.Lib.Claim

@[expose] public section

set_option maxRecDepth 16384

noncomputable section

namespace Cert.MixNormBwdIdeal.Result

open Cert.MixNormBwdIdeal Cert.MixNormBwdIdeal.Gen Idealize.ShloMosaic Idealize.ShloMosaic.TcCoe Idealize.SL.Sem
open Idealize.ShloMosaic.Pipeline (Dat)
open scoped BigOperators

variable (m : (ℓ : Loc nD τ sig) → Buf (Elt Ideal) ℓ)

/-- Every window's block index: the rows move with the grid point, the rest stays. -/
theorem idx : ∀ t : Fin cfg0.N, win0_0.index t = ![t.val, 0] ∧ win0_1.index t = ![t.val, 0] ∧ win0_2.index t = ![t.val, 0] ∧ win0_3.index t = ![t.val, 0]
    ∧ win0_4.index t = ![0, 0] ∧ win0_5.index t = ![t.val, 0] ∧ win0_6.index t = ![0, 0] ∧ win0_7.index t = ![t.val, 0]
    ∧ win0_8.index t = ![t.val, 0] ∧ win0_9.index t = ![0, 0] :=
  (by decide +kernel : ∀ t : Fin grid0.N, _)

/-- The reference's results over the operands. -/
abbrev refDx (d1 : FVec Ideal S8192x512 .bf16) (d2 : FVec Ideal S8192x640 .bf16) (d3 : FVec Ideal S8192x128 .bf16) (d4 : FVec Ideal S8192x2048 .bf16)
    (w : FVec Ideal S1024x3328 .bf16) (x : FVec Ideal S8192x1024 .f32)
    (g : FVec Ideal S1024 .f32) (d : FVec Ideal S8192x1024 .f32) : FVec Ideal S8192x1024 .f32 := Cert.MixNormBwdRefIdeal.Read.val_main_v41 (F := Ideal) d1 d2 d3 d4 w x g d
abbrev refDg (d1 : FVec Ideal S8192x512 .bf16) (d2 : FVec Ideal S8192x640 .bf16) (d3 : FVec Ideal S8192x128 .bf16) (d4 : FVec Ideal S8192x2048 .bf16)
    (w : FVec Ideal S1024x3328 .bf16) (x : FVec Ideal S8192x1024 .f32) :
    FVec Ideal S1x1024 .f32 := Cert.MixNormBwdRefIdeal.Read.val_main_v42 (F := Ideal) d1 d2 d3 d4 w x

/-- The root-mean-square factor of a row. -/
abbrev rr (X : Fin 1024 → EReal) : EReal := Ideal.rsqrt (Cert.Common.rms X)

/-- One entry of a row made of four rows side by side. -/
abbrev side (a : Fin 512 → EReal) (b : Fin 640 → EReal) (d : Fin 128 → EReal) (e : Fin 2048 → EReal) (j : Fin 3328) : EReal :=
  if h : j.val < 512 then a ⟨j.val, h⟩
  else if h1 : j.val - 512 < 640 then b ⟨j.val - 512, h1⟩
  else if h2 : j.val - 512 - 640 < 128 then d ⟨j.val - 512 - 640, h2⟩
  else e ⟨j.val - 512 - 640 - 128, by omega⟩

/-- An entry of the product's gradient, over the four cotangents' rows and the weight's row. -/
abbrev dd (a : Fin 512 → EReal) (b : Fin 640 → EReal) (d : Fin 128 → EReal) (e : Fin 2048 → EReal) (w : Fin 3328 → EReal) : EReal :=
  ∑ k, side a b d e k * w k

/-- The gradient of a row through the norm, in the closed form. -/
abbrev row (X E : Fin 1024 → EReal) (d : EReal) (j : Fin 1024) : EReal :=
  d + rr X * (E j - X j * rr X * Ideal.div (∑ k, E k * (X k * rr X)) (Ideal.ofBits .f32 0x44800000#32))

theorem lt : ∀ t : Fin cfg0.N, t.val < 16 := (by decide +kernel : ∀ t : Fin grid0.N, _)

theorem dh_at (d1 : FVec Ideal S512x512 .bf16) (d2 : FVec Ideal S512x640 .bf16) (d3 : FVec Ideal S512x128 .bf16) (d4 : FVec Ideal S512x2048 .bf16)
    (w : FVec Ideal S1024x3328 .bf16) (i j) : k0_pay3 (F := Ideal) d1 d2 d3 d4 w (ix2 i j) =
      dd (fun l => d1 (ix2 i l)) (fun l => d2 (ix2 i l)) (fun l => d3 (ix2 i l)) (fun l => d4 (ix2 i l)) (fun l => w (ix2 j l)) := by
  pointwise [k0_pay3]

theorem r_at (x : FVec Ideal S512x1024 .f32) (i) : k0_pay4 (F := Ideal) x (ix2 i 0) = rr fun k => x (ix2 i k) := by
  pointwise [k0_pay4]

theorem xh_at (x : FVec Ideal S512x1024 .f32) (i j) : k0_pay5 (F := Ideal) x (ix2 i j) = x (ix2 i j) * rr fun k => x (ix2 i k) := by
  pointwise [k0_pay5]
  rw [r_at]

theorem pay7_at (d1 : FVec Ideal S512x512 .bf16) (d2 : FVec Ideal S512x640 .bf16) (d3 : FVec Ideal S512x128 .bf16) (d4 : FVec Ideal S512x2048 .bf16)
    (w : FVec Ideal S1024x3328 .bf16) (g : FVec Ideal S1x1024 .f32) (i j) :
    k0_pay7 (F := Ideal) d1 d2 d3 d4 w g (ix2 i j) = k0_pay3 (F := Ideal) d1 d2 d3 d4 w (ix2 i j) * g (ix2 0 j) := by
  pointwise [k0_pay7]

theorem pay1_at (e : FVec Ideal S512x1024 .f32) (x : FVec Ideal S512x1024 .f32) (d : FVec Ideal S512x1024 .f32) (i j) :
    k0_pay1 (F := Ideal) (k0_pay4 x) (k0_pay5 x) e d (ix2 i j) =
      row (fun k => x (ix2 i k)) (fun k => e (ix2 i k)) (d (ix2 i j)) j := by
  pointwise [k0_pay1]
  simp only [xh_at, r_at]

theorem pay2_at (j) : k0_pay2 (F := Ideal) j = 0 := by pointwise [k0_pay2]

theorem pay6_at (d1 : FVec Ideal S512x512 .bf16) (d2 : FVec Ideal S512x640 .bf16) (d3 : FVec Ideal S512x128 .bf16) (d4 : FVec Ideal S512x2048 .bf16)
    (w : FVec Ideal S1024x3328 .bf16) (x : FVec Ideal S512x1024 .f32) (acc : FVec Ideal S1x1024 .f32) (j) :
    k0_pay6 (F := Ideal) d1 d2 d3 d4 w x acc (ix2 0 j) =
      acc (ix2 0 j) + ∑ i, k0_pay3 (F := Ideal) d1 d2 d3 d4 w (ix2 i j) * (x (ix2 i j) * rr fun k => x (ix2 i k)) := by
  pointwise [k0_pay6]
  simp only [xh_at]

theorem dh_ref (d1 : FVec Ideal S8192x512 .bf16) (d2 : FVec Ideal S8192x640 .bf16) (d3 : FVec Ideal S8192x128 .bf16) (d4 : FVec Ideal S8192x2048 .bf16)
    (w : FVec Ideal S1024x3328 .bf16) (i j) : Cert.MixNormBwdRefIdeal.Read.val_main_v20 (F := Ideal) d1 d2 d3 d4 w (ix2 i j) =
     dd (fun l => d1 (ix2 i l)) (fun l => d2 (ix2 i l)) (fun l => d3 (ix2 i l)) (fun l => d4 (ix2 i l)) (fun l => w (ix2 j l)) := by
  pointwise [Cert.MixNormBwdRefIdeal.Read.val_main_v20, Cert.MixNormBwdRefIdeal.Read.val_main_v19, Cert.MixNormBwdRefIdeal.Read.val_main_v18, Cert.MixNormBwdRefIdeal.Read.val_main_v16]

theorem refDx_at (d1 : FVec Ideal S8192x512 .bf16) (d2 : FVec Ideal S8192x640 .bf16) (d3 : FVec Ideal S8192x128 .bf16) (d4 : FVec Ideal S8192x2048 .bf16)
    (w : FVec Ideal S1024x3328 .bf16) (x : FVec Ideal S8192x1024 .f32) (g : FVec Ideal S1024 .f32)
    (d : FVec Ideal S8192x1024 .f32) (i j) : refDx d1 d2 d3 d4 w x g d (ix2 i j) =
      row (fun k => x (ix2 i k)) (fun k => dd (fun l => d1 (ix2 i l)) (fun l => d2 (ix2 i l)) (fun l => d3 (ix2 i l)) (fun l => d4 (ix2 i l)) (fun l => w (ix2 k l)) * g (ix1 k)) (d (ix2 i j)) j := by
  refine Eq.trans ?_ (Cert.Common.norm_row (n := 1024) (fun k => x (ix2 i k)) (fun k => dd (fun l => d1 (ix2 i l)) (fun l => d2 (ix2 i l)) (fun l => d3 (ix2 i l)) (fun l => d4 (ix2 i l)) (fun l => w (ix2 k l)) * g (ix1 k)) (d (ix2 i j)) j).symm
  pointwise [refDx, Cert.MixNormBwdRefIdeal.Read.val_main_v41, Cert.MixNormBwdRefIdeal.Read.val_main_v40, Cert.MixNormBwdRefIdeal.Read.val_main_v39, Cert.MixNormBwdRefIdeal.Read.val_main_v38, Cert.MixNormBwdRefIdeal.Read.val_main_v37, Cert.MixNormBwdRefIdeal.Read.val_main_v36, Cert.MixNormBwdRefIdeal.Read.val_main_v35, Cert.MixNormBwdRefIdeal.Read.val_main_v34, Cert.MixNormBwdRefIdeal.Read.val_main_v33, Cert.MixNormBwdRefIdeal.Read.val_main_v32, Cert.MixNormBwdRefIdeal.Read.val_main_v31, Cert.MixNormBwdRefIdeal.Read.val_main_v30, Cert.MixNormBwdRefIdeal.Read.val_main_v29, Cert.MixNormBwdRefIdeal.Read.val_main_v28, Cert.MixNormBwdRefIdeal.Read.val_main_v27, Cert.MixNormBwdRefIdeal.Read.val_main_v25, Cert.MixNormBwdRefIdeal.Read.val_main_v24, Cert.MixNormBwdRefIdeal.Read.val_main_v14, Cert.MixNormBwdRefIdeal.Read.val_main_v13, Cert.MixNormBwdRefIdeal.Read.val_main_v12, Cert.MixNormBwdRefIdeal.Read.val_main_v11, Cert.MixNormBwdRefIdeal.Read.val_main_v10, Cert.MixNormBwdRefIdeal.Read.val_main_v9, Cert.MixNormBwdRefIdeal.Read.val_main_v8, Cert.MixNormBwdRefIdeal.Read.val_main_v7, Cert.MixNormBwdRefIdeal.Read.val_main_v6, Cert.MixNormBwdRefIdeal.Read.val_main_v5, Cert.MixNormBwdRefIdeal.Read.val_main_v4, Cert.MixNormBwdRefIdeal.Read.val_main_v3, Cert.MixNormBwdRefIdeal.Read.val_main_v2, Cert.MixNormBwdRefIdeal.Read.val_main_v1, Cert.MixNormBwdRefIdeal.Read.val_main_v0, Cert.MixNormBwdRefIdeal.Read.val_main_cst, Cert.MixNormBwdRefIdeal.Read.val_main_cst_0, Cert.MixNormBwdRefIdeal.Read.val_main_cst_1, Cert.MixNormBwdRefIdeal.Read.val_main_cst_2, Cert.MixNormBwdRefIdeal.Read.val_main_cst_5, Cert.MixNormBwdRefIdeal.Read.val_main_cst_6, Cert.MixNormBwdRefIdeal.Read.val_main_cst_7]
  simp only [dh_ref, Cert.Common.sum_one]

theorem refDg_at (d1 : FVec Ideal S8192x512 .bf16) (d2 : FVec Ideal S8192x640 .bf16) (d3 : FVec Ideal S8192x128 .bf16) (d4 : FVec Ideal S8192x2048 .bf16)
    (w : FVec Ideal S1024x3328 .bf16) (x : FVec Ideal S8192x1024 .f32) (j) : refDg d1 d2 d3 d4 w x (ix2 0 j) =
    ∑ i, dd (fun l => d1 (ix2 i l)) (fun l => d2 (ix2 i l)) (fun l => d3 (ix2 i l)) (fun l => d4 (ix2 i l)) (fun l => w (ix2 j l)) * (x (ix2 i j) * rr fun k => x (ix2 i k)) := by
  pointwise [refDg, Cert.MixNormBwdRefIdeal.Read.val_main_v42, Cert.MixNormBwdRefIdeal.Read.val_main_v26, Cert.MixNormBwdRefIdeal.Read.val_main_v23, Cert.MixNormBwdRefIdeal.Read.val_main_v22, Cert.MixNormBwdRefIdeal.Read.val_main_v21, Cert.MixNormBwdRefIdeal.Read.val_main_v12, Cert.MixNormBwdRefIdeal.Read.val_main_v11, Cert.MixNormBwdRefIdeal.Read.val_main_v7, Cert.MixNormBwdRefIdeal.Read.val_main_v6, Cert.MixNormBwdRefIdeal.Read.val_main_v5, Cert.MixNormBwdRefIdeal.Read.val_main_v4, Cert.MixNormBwdRefIdeal.Read.val_main_v3, Cert.MixNormBwdRefIdeal.Read.val_main_v2, Cert.MixNormBwdRefIdeal.Read.val_main_v1, Cert.MixNormBwdRefIdeal.Read.val_main_v0, Cert.MixNormBwdRefIdeal.Read.val_main_cst, Cert.MixNormBwdRefIdeal.Read.val_main_cst_0, Cert.MixNormBwdRefIdeal.Read.val_main_cst_1, Cert.MixNormBwdRefIdeal.Read.val_main_cst_3, Cert.MixNormBwdRefIdeal.Read.val_main_cst_4]
  simp only [dh_ref, Cert.Common.sum_one]
  exact Finset.sum_congr rfl fun k _ => mul_comm _ _

/-- The gradient of the norm's output at a point's block. -/
abbrev dhb (d1 : FVec Ideal S512x512 .bf16) (d2 : FVec Ideal S512x640 .bf16) (d3 : FVec Ideal S512x128 .bf16) (d4 : FVec Ideal S512x2048 .bf16)
    (w : FVec Ideal S1024x3328 .bf16) (i : Fin 512) (j : Fin 1024) : EReal :=
  dd (fun l => d1 (ix2 i l)) (fun l => d2 (ix2 i l)) (fun l => d3 (ix2 i l)) (fun l => d4 (ix2 i l)) (fun l => w (ix2 j l))

theorem out8 (c : Dev nD) (t : Fin cfg0.N) (i j) : (show FVec Ideal S512x1024 .f32 from (outsAt0 m c t.val t.isLt).1) (ix2 i j) =
    row (fun k => (show FVec Ideal S512x1024 .f32 from iblk m c 5 t) (ix2 i k))
      (fun k => dhb (iblk m c 0 t) (iblk m c 1 t) (iblk m c 2 t) (iblk m c 3 t) (iblk m c 4 t) i k * (show FVec Ideal S1x1024 .f32 from iblk m c 6 t) (ix2 0 k))
      ((show FVec Ideal S512x1024 .f32 from iblk m c 7 t) (ix2 i j)) j := by
  by_cases h : t.val % 16 = 0
  · rw [outsAt0_A m c t h]
    frame_out
    refine (pay1_at _ _ _ i j).trans ?_
    simp only [pay7_at, dh_at, dhb]
  · rw [outsAt0_B m c t h]
    frame_out
    refine (pay1_at _ _ _ i j).trans ?_
    simp only [pay7_at, dh_at, dhb]

/-- The sum that a grid point adds to the gradient of the norm's weight. -/
abbrev termAt (c : Dev nD) (t : Fin cfg0.N) (j : Fin 1024) : EReal :=
  ∑ i : Fin 512, dhb (iblk m c 0 t) (iblk m c 1 t) (iblk m c 2 t) (iblk m c 3 t) (iblk m c 4 t) i j * ((show FVec Ideal S512x1024 .f32 from iblk m c 5 t) (ix2 i j) *
    rr fun k => (show FVec Ideal S512x1024 .f32 from iblk m c 5 t) (ix2 i k))
abbrev term (c : Dev nD) (t : Fin cfg0.N) (j : S1x1024.Idx) : EReal := termAt m c t (j 1)

theorem reset (c : Dev nD) (t : Fin cfg0.N) (h : t.val % 16 = 0) (j) :
    (outsAt0 m c t.val t.isLt).2 j = 0 + term m c t j := by
  idx_vars j
  obtain rfl : j0 = 0 := Subsingleton.elim _ _
  rw [outsAt0_A m c t h]
  frame_out
  rw [pay6_at, pay2_at]
  show _ = _ + termAt m c t j1
  simp only [dh_at, termAt, dhb]

theorem step (c : Dev nD) (t : Fin cfg0.N) (h : ¬ t.val % 16 = 0) (j) :
    (outsAt0 m c t.val t.isLt).2 j = (outsAt0 m c (t.val - 1) (Nat.lt_of_le_of_lt (Nat.sub_le _ _) t.isLt)).2 j + term m c t j := by
  idx_vars j
  obtain rfl : j0 = 0 := Subsingleton.elim _ _
  rw [outsAt0_B m c t h]
  frame_out
  rw [pay6_at]
  show _ = _ + termAt m c t j1
  simp only [dh_at, termAt, dhb]

theorem b0_at (c : Dev nD) (t : Fin cfg0.N) (i : Fin 512) (l : Fin 512) :
    (show FVec Ideal S512x512 .bf16 from iblk m c 0 t) (ix2 i l) =
      (show FVec Ideal S8192x512 .bf16 from m ((c : Thread nD τ).loc main_arg0)) (ix2 ⟨512 * t.val + i.val, by have := lt t; omega⟩ l) := by
  blk_point [iblk, V, idx t]
theorem b1_at (c : Dev nD) (t : Fin cfg0.N) (i : Fin 512) (l : Fin 640) :
    (show FVec Ideal S512x640 .bf16 from iblk m c 1 t) (ix2 i l) =
      (show FVec Ideal S8192x640 .bf16 from m ((c : Thread nD τ).loc main_arg1)) (ix2 ⟨512 * t.val + i.val, by have := lt t; omega⟩ l) := by
  blk_point [iblk, V, idx t]
theorem b2_at (c : Dev nD) (t : Fin cfg0.N) (i : Fin 512) (l : Fin 128) :
    (show FVec Ideal S512x128 .bf16 from iblk m c 2 t) (ix2 i l) =
      (show FVec Ideal S8192x128 .bf16 from m ((c : Thread nD τ).loc main_arg2)) (ix2 ⟨512 * t.val + i.val, by have := lt t; omega⟩ l) := by
  blk_point [iblk, V, idx t]
theorem b3_at (c : Dev nD) (t : Fin cfg0.N) (i : Fin 512) (l : Fin 2048) :
    (show FVec Ideal S512x2048 .bf16 from iblk m c 3 t) (ix2 i l) =
      (show FVec Ideal S8192x2048 .bf16 from m ((c : Thread nD τ).loc main_arg3)) (ix2 ⟨512 * t.val + i.val, by have := lt t; omega⟩ l) := by
  blk_point [iblk, V, idx t]
theorem b5_at (c : Dev nD) (t : Fin cfg0.N) (i : Fin 512) (l : Fin 1024) :
    (show FVec Ideal S512x1024 .f32 from iblk m c 5 t) (ix2 i l) =
      (show FVec Ideal S8192x1024 .f32 from m ((c : Thread nD τ).loc main_arg5)) (ix2 ⟨512 * t.val + i.val, by have := lt t; omega⟩ l) := by
  blk_point [iblk, V, idx t]
theorem b7_at (c : Dev nD) (t : Fin cfg0.N) (i : Fin 512) (l : Fin 1024) :
    (show FVec Ideal S512x1024 .f32 from iblk m c 7 t) (ix2 i l) =
      (show FVec Ideal S8192x1024 .f32 from m ((c : Thread nD τ).loc main_arg7)) (ix2 ⟨512 * t.val + i.val, by have := lt t; omega⟩ l) := by
  blk_point [iblk, V, idx t]
theorem b4_at (c : Dev nD) (t : Fin cfg0.N) (j : Fin 1024) (l : Fin 3328) :
    (show FVec Ideal S1024x3328 .bf16 from iblk m c 4 t) (ix2 j l) = (show FVec Ideal S1024x3328 .bf16 from m ((c : Thread nD τ).loc main_arg4)) (ix2 j l) := by
  blk_point [iblk, V, idx t]
theorem b6_at (c : Dev nD) (t : Fin cfg0.N) (l : Fin 1024) :
    (show FVec Ideal S1x1024 .f32 from iblk m c 6 t) (ix2 0 l) = (show FVec Ideal S1024 .f32 from m ((c : Thread nD τ).loc main_arg6)) (ix1 l) := by
  blk_point [iblk, V, idx t]
theorem emb8 (t : Fin cfg0.N) (i : Fin 512) (l : Fin 1024) :
    (win0_8.blk t).view.emb (ix2 i l) = (ix2 ⟨512 * t.val + i.val, by have := lt t; omega⟩ l : S8192x1024.Idx) := by
  blk_ext [idx t]
theorem emb9 (t : Fin cfg0.N) (l : Fin 1024) :
    (win0_9.blk t).view.emb (ix2 0 l) = (ix2 0 l : S1x1024.Idx) := by
  blk_ext [idx t]

theorem final8 (c : Dev nD) : (dats m 0 c).arrAt 8 (cfgs 0).N = refDx (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7)) := by
  refine (dats m 0 c).arrAt_eq_of_covers 8 _ (by decide +kernel) fun t hf y => ?_
  idx_vars y
  blk_simp
  rw [after0_8]
  refine (out8 m c t _ _).trans ?_
  refine Eq.trans ?_ (congrArg _ (emb8 t y0 y1)).symm
  rw [refDx_at]
  simp only [dhb, b0_at, b1_at, b2_at, b3_at, b4_at, b5_at, b6_at, b7_at]

theorem final9 (c : Dev nD) : (dats m 0 c).arrAt 9 (cfgs 0).N = refDg (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) := by
  refine (dats m 0 c).arrAt_eq_of_covers 9 _ (by decide +kernel) fun t hf y => ?_
  have hr := (flush0_9 t).mp hf
  blk_simp
  rw [after0_9,
    Pipeline.eq_sum_fin_of_reset_step_apply_of_flush (f := fun n h => (outsAt0 m c n h).2) 16 (fun _ => 0) (term m c)
      (reset m c) (step m c) t hr y, zero_add]
  idx_vars y
  obtain rfl : y0 = 0 := Subsingleton.elim _ _
  refine Eq.trans ?_ (congrArg _ (emb9 t y1)).symm
  rw [refDg_at]
  refine Fin.sum_mul_add_congr fun s k hl => ?_
  have e : (⟨512 * (16 * (t.val / 16) + s.val) + k.val, by have := lt t; omega⟩ : Fin 8192) = ⟨s.val * 512 + k.val, hl⟩ :=
    Fin.ext (by have := lt t; show 512 * (16 * (t.val / 16) + s.val) + k.val = s.val * 512 + k.val; omega)
  show (show EReal from dhb (iblk m c 0 _) (iblk m c 1 _) (iblk m c 2 _) (iblk m c 3 _) (iblk m c 4 _) k y1 * ((show FVec Ideal S512x1024 .f32 from iblk m c 5 _) (ix2 k y1) *
    rr fun l => (show FVec Ideal S512x1024 .f32 from iblk m c 5 _) (ix2 k l))) = _
  simp only [dhb, b0_at, b1_at, b2_at, b3_at, b4_at, b5_at, e]

end Cert.MixNormBwdIdeal.Result

end
-- ==== Proof.MixNormBwdPair.lean ====
/- The claims of one call and its reference: both run, and their results are equal. -/
module

public import proofs.«01_k».proof.Defs
public import proofs.«01_k».proof.Proof.Gen.MixNormBwd
public import proofs.«01_k».proof.Proof.Gen.MixNormBwd.Frame
public import proofs.«01_k».proof.Proof.Gen.MixNormBwdIdeal
public import proofs.«01_k».proof.Proof.Gen.MixNormBwdIdeal.Frame
public import proofs.«01_k».proof.Proof.Gen.MixNormBwdIdeal.Value
public import proofs.«01_k».proof.Proof.Gen.MixNormBwdRefIdeal
public import proofs.«01_k».proof.Proof.Gen.MixNormBwdRefIdeal.Run
public import proofs.«01_k».proof.Proof.Gen.MixNormBwdRefIdeal.Read
public import proofs.«01_k».proof.Proof.MixNormBwdValue
public import Idealize.ShloMosaic.Lib.Claim

@[expose] public section

set_option maxRecDepth 16384

noncomputable section

namespace Cert.MixNormBwdPair

open Idealize.ShloMosaic Idealize.SL.Sem

/-- The reference runs and leaves its arguments as they were. -/
theorem reference_frame : Cert.quiescent_MixNormBwdRefIdeal (hMixNormBwdRefIdeal := Cert.MixNormBwdRefIdeal.Gen.facts) := by
  intro m g _
  exact (θ_run Cert.MixNormBwdRefIdeal.defs _ _).mono (fun r h => ⟨fun c => (h c).2.2, sem_eq_zero_of_no_sems (by decide) r.2⟩)
    (Cert.MixNormBwdRefIdeal.Value.run (F := Ideal) m g)

/-- The kernel's results are the reference's. -/
theorem value : Cert.algebraic_MixNormBwdIdeal_MixNormBwdRefIdeal (hMixNormBwdIdeal := Cert.MixNormBwdIdeal.Gen.facts) (hMixNormBwdRefIdeal := Cert.MixNormBwdRefIdeal.Gen.facts) := by
  pair_intro
  · run_from Cert.MixNormBwdIdeal.Gen.run_main m g
  · run_from Cert.MixNormBwdRefIdeal.Value.run m' g'
    · obtain ⟨h0, h1, h2, h3, h4, h5, h6, h7⟩ := hagree c
      rw [Cert.MixNormBwdRefIdeal.Read.val_main_v41_eq, h0, h1, h2, h3, h4, h5, h6, h7]
      exact (Cert.MixNormBwdIdeal.Result.final8 m c).symm
    · exact (Cert.MixNormBwdRefIdeal.Read.val_main_v42_eq _ _ _ _ _ _).trans (Cert.MixNormBwdIdeal.Result.final9 m c).symm

end Cert.MixNormBwdPair

end
-- ==== Proof.AdamGuValue.lean ====
/- The optimiser's step on the gate and up weights: the kernel's update and new moments are the reference's. -/
module

public import proofs.«01_k».proof.Proof.Gen.AdamGuIdeal.Value
public import proofs.«01_k».proof.Proof.Gen.AdamGuRefIdeal.Read
public import Idealize.ShloMosaic.Lib.Pipeline.ReadBack
public import Idealize.ShloMosaic.Lib.Pipeline.ValueKit
public import Idealize.ShloMosaic.Lib.Pointwise
public import Idealize.ShloMosaic.Lib.ValueLayout
public import Idealize.ShloMosaic.Lib.Claim

@[expose] public section

set_option maxRecDepth 16384

noncomputable section

namespace Cert.AdamGuIdeal.Result

open Cert.AdamGuIdeal Cert.AdamGuIdeal.Gen Idealize.ShloMosaic Idealize.ShloMosaic.TcCoe Idealize.SL.Sem
open Idealize.ShloMosaic.Pipeline (Dat)

variable (m : (ℓ : Loc nD τ sig) → Buf (Elt Ideal) ℓ)

/-- The reference's update over the weight, its gradient and its two moments; and the new moments. -/
abbrev refD (a0 a1 a2 a3 : FVec Ideal S4x1024x1408 .f32) : FVec Ideal S4096x1408 .f32 := Cert.AdamGuRefIdeal.Read.val_main_v24 (F := Ideal) a0 a1 a2 a3
abbrev refM (a1 a2 : FVec Ideal S4x1024x1408 .f32) : FVec Ideal S4096x1408 .f32 := Cert.AdamGuRefIdeal.Read.val_main_v25 (F := Ideal) a1 a2
abbrev refV (a1 a3 : FVec Ideal S4x1024x1408 .f32) : FVec Ideal S4096x1408 .f32 := Cert.AdamGuRefIdeal.Read.val_main_v26 (F := Ideal) a1 a3

theorem idx : ∀ t : Fin cfg0.N, win0_0.index t = ![t.val, 0] ∧ win0_1.index t = ![t.val, 0] ∧ win0_2.index t = ![t.val, 0]
    ∧ win0_3.index t = ![t.val, 0] ∧ win0_5.index t = ![t.val, 0] ∧ win0_6.index t = ![t.val, 0] ∧ win0_7.index t = ![t.val, 0] :=
  (by decide +kernel : ∀ t : Fin grid0.N, _)

/-- A flat reading of one weight's array. -/
abbrev flat (x : FVec Ideal S4x1024x1408 .f32) : FVec Ideal S4096x1408 .f32 := shapeCast S4096x1408 x shapeCasts_S4x1024x1408_S4096x1408

/-- One entry of the new first moment, of the new second moment, and of the update. -/
abbrev mom (g a : EReal) : EReal := Ideal.ofBits .f32 0x3F666666#32 * a + Ideal.ofBits .f32 0x3DCCCCCD#32 * g
abbrev var (g b : EReal) : EReal := Ideal.ofBits .f32 0x3F7FBE77#32 * b + Ideal.ofBits .f32 0x3A83126F#32 * (g * g)
abbrev upd (w g a b : EReal) : EReal :=
  Ideal.ofBits .f32 0xBA83126F#32 * (Ideal.div (Ideal.div (mom g a) (Ideal.ofBits .f32 0x3F26BD02#32))
    (Ideal.sqrt (Ideal.div (var g b) (Ideal.ofBits .f32 0x3C231ACC#32)) + Ideal.ofBits .f32 0x322BCC77#32)
    + Ideal.ofBits .f32 0x3C23D70A#32 * w)

theorem refM_at (a1 a2 : FVec Ideal S4x1024x1408 .f32) (y) : refM a1 a2 y = mom (flat a1 y) (flat a2 y) := rfl
theorem refV_at (a1 a3 : FVec Ideal S4x1024x1408 .f32) (y) : refV a1 a3 y = var (flat a1 y) (flat a3 y) := rfl
theorem refD_at (a0 a1 a2 a3 : FVec Ideal S4x1024x1408 .f32) (y) : refD a0 a1 a2 a3 y = upd (flat a0 y) (flat a1 y) (flat a2 y) (flat a3 y) := rfl

theorem pay2_at (g a : FVec Ideal S256x1408 .f32) (i j) : k0_pay2 (F := Ideal) g a (ix2 i j) = mom (g (ix2 i j)) (a (ix2 i j)) := by
  pointwise [k0_pay2, k0_pay1]
theorem pay3_at (g b : FVec Ideal S256x1408 .f32) (i j) : k0_pay3 (F := Ideal) g b (ix2 i j) = var (g (ix2 i j)) (b (ix2 i j)) := by
  pointwise [k0_pay3, k0_pay1]
theorem pay4_at (g a b w : FVec Ideal S256x1408 .f32) (i j) :
    k0_pay4 (F := Ideal) g a b w (ix2 i j) = upd (w (ix2 i j)) (g (ix2 i j)) (a (ix2 i j)) (b (ix2 i j)) := by
  pointwise [k0_pay4]
  rw [pay2_at, pay3_at]

theorem lt : ∀ t : Fin cfg0.N, t.val < 16 := (by decide +kernel : ∀ t : Fin grid0.N, _)

theorem v0_eq (c : Dev nD) : V m c main_v0 = flat (m ((c : Thread nD τ).loc main_arg0)) := by
  entry_read
  rfl
theorem b0_at (c : Dev nD) (t : Fin cfg0.N) (i : Fin 256) (j : Fin 1408) :
    (show FVec Ideal S256x1408 .f32 from iblk m c 0 t) (ix2 i j) = flat (m ((c : Thread nD τ).loc main_arg0)) (ix2 ⟨256 * t.val + i.val, by have := lt t; omega⟩ j) := by
  blk_simp [iblk]
  rw [← v0_eq]
  exact congrArg (V m c main_v0) (by blk_ext [idx t])

theorem v1_eq (c : Dev nD) : V m c main_v1 = flat (m ((c : Thread nD τ).loc main_arg1)) := by
  entry_read
  rfl
theorem b1_at (c : Dev nD) (t : Fin cfg0.N) (i : Fin 256) (j : Fin 1408) :
    (show FVec Ideal S256x1408 .f32 from iblk m c 1 t) (ix2 i j) = flat (m ((c : Thread nD τ).loc main_arg1)) (ix2 ⟨256 * t.val + i.val, by have := lt t; omega⟩ j) := by
  blk_simp [iblk]
  rw [← v1_eq]
  exact congrArg (V m c main_v1) (by blk_ext [idx t])

theorem v2_eq (c : Dev nD) : V m c main_v2 = flat (m ((c : Thread nD τ).loc main_arg2)) := by
  entry_read
  rfl
theorem b2_at (c : Dev nD) (t : Fin cfg0.N) (i : Fin 256) (j : Fin 1408) :
    (show FVec Ideal S256x1408 .f32 from iblk m c 2 t) (ix2 i j) = flat (m ((c : Thread nD τ).loc main_arg2)) (ix2 ⟨256 * t.val + i.val, by have := lt t; omega⟩ j) := by
  blk_simp [iblk]
  rw [← v2_eq]
  exact congrArg (V m c main_v2) (by blk_ext [idx t])

theorem v3_eq (c : Dev nD) : V m c main_v3 = flat (m ((c : Thread nD τ).loc main_arg3)) := by
  entry_read
  rfl
theorem b3_at (c : Dev nD) (t : Fin cfg0.N) (i : Fin 256) (j : Fin 1408) :
    (show FVec Ideal S256x1408 .f32 from iblk m c 3 t) (ix2 i j) = flat (m ((c : Thread nD τ).loc main_arg3)) (ix2 ⟨256 * t.val + i.val, by have := lt t; omega⟩ j) := by
  blk_simp [iblk]
  rw [← v3_eq]
  exact congrArg (V m c main_v3) (by blk_ext [idx t])

theorem emb5 (t : Fin cfg0.N) (i : Fin 256) (j : Fin 1408) :
    (win0_5.blk t).view.emb (ix2 i j) = (ix2 ⟨256 * t.val + i.val, by have := lt t; omega⟩ j : S4096x1408.Idx) := by
  blk_ext [idx t]

theorem emb6 (t : Fin cfg0.N) (i : Fin 256) (j : Fin 1408) :
    (win0_6.blk t).view.emb (ix2 i j) = (ix2 ⟨256 * t.val + i.val, by have := lt t; omega⟩ j : S4096x1408.Idx) := by
  blk_ext [idx t]

theorem emb7 (t : Fin cfg0.N) (i : Fin 256) (j : Fin 1408) :
    (win0_7.blk t).view.emb (ix2 i j) = (ix2 ⟨256 * t.val + i.val, by have := lt t; omega⟩ j : S4096x1408.Idx) := by
  blk_ext [idx t]

theorem final5 (c : Dev nD) : (dats m 0 c).arrAt 5 (cfgs 0).N = refD (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  idx_vars y
  blk_simp
  rw [after0_5]
  frame_out
  refine (pay4_at _ _ _ _ _ _).trans ?_
  refine Eq.trans ?_ (congrArg _ (emb5 t y0 y1)).symm
  rw [refD_at]
  simp only [b0_at, b1_at, b2_at, b3_at]

theorem final6 (c : Dev nD) : (dats m 0 c).arrAt 6 (cfgs 0).N = refM (m ((c : Thread nD τ).loc main_arg1)) (m ((c : Thread nD τ).loc main_arg2)) := by
  refine (dats m 0 c).arrAt_eq_of_covers 6 _ (by decide +kernel) fun t hf y => ?_
  idx_vars y
  blk_simp
  rw [after0_6]
  frame_out
  refine (pay2_at _ _ _ _).trans ?_
  refine Eq.trans ?_ (congrArg _ (emb6 t y0 y1)).symm
  rw [refM_at]
  simp only [b0_at, b1_at, b2_at, b3_at]

theorem final7 (c : Dev nD) : (dats m 0 c).arrAt 7 (cfgs 0).N = refV (m ((c : Thread nD τ).loc main_arg1)) (m ((c : Thread nD τ).loc main_arg3)) := by
  refine (dats m 0 c).arrAt_eq_of_covers 7 _ (by decide +kernel) fun t hf y => ?_
  idx_vars y
  blk_simp
  rw [after0_7]
  frame_out
  refine (pay3_at _ _ _ _).trans ?_
  refine Eq.trans ?_ (congrArg _ (emb7 t y0 y1)).symm
  rw [refV_at]
  simp only [b0_at, b1_at, b2_at, b3_at]

end Cert.AdamGuIdeal.Result

end
-- ==== Proof.AdamGuPair.lean ====
/- The claims of one call and its reference: both run, and their results are equal. -/
module

public import proofs.«01_k».proof.Defs
public import proofs.«01_k».proof.Proof.Gen.AdamGu
public import proofs.«01_k».proof.Proof.Gen.AdamGu.Frame
public import proofs.«01_k».proof.Proof.Gen.AdamGuIdeal
public import proofs.«01_k».proof.Proof.Gen.AdamGuIdeal.Frame
public import proofs.«01_k».proof.Proof.Gen.AdamGuIdeal.Value
public import proofs.«01_k».proof.Proof.Gen.AdamGuRefIdeal
public import proofs.«01_k».proof.Proof.Gen.AdamGuRefIdeal.Run
public import proofs.«01_k».proof.Proof.Gen.AdamGuRefIdeal.Read
public import proofs.«01_k».proof.Proof.AdamGuValue
public import Idealize.ShloMosaic.Lib.Claim

@[expose] public section

set_option maxRecDepth 16384

noncomputable section

namespace Cert.AdamGuPair

open Idealize.ShloMosaic Idealize.SL.Sem

/-- The reference runs and leaves its arguments as they were. -/
theorem reference_frame : Cert.quiescent_AdamGuRefIdeal (hAdamGuRefIdeal := Cert.AdamGuRefIdeal.Gen.facts) := by
  intro m g _
  exact (θ_run Cert.AdamGuRefIdeal.defs _ _).mono (fun r h => ⟨fun c => (h c).2.2.2, sem_eq_zero_of_no_sems (by decide) r.2⟩)
    (Cert.AdamGuRefIdeal.Value.run (F := Ideal) m g)

/-- The kernel's results are the reference's. -/
theorem value : Cert.algebraic_AdamGuIdeal_AdamGuRefIdeal (hAdamGuIdeal := Cert.AdamGuIdeal.Gen.facts) (hAdamGuRefIdeal := Cert.AdamGuRefIdeal.Gen.facts) := by
  pair_intro
  · run_from Cert.AdamGuIdeal.Gen.run_main m g
  · run_from Cert.AdamGuRefIdeal.Value.run m' g'
    · exact (Cert.AdamGuRefIdeal.Read.val_main_v24_eq _ _ _ _).trans (Cert.AdamGuIdeal.Result.final5 m c).symm
    · exact (Cert.AdamGuRefIdeal.Read.val_main_v25_eq _ _).trans (Cert.AdamGuIdeal.Result.final6 m c).symm
    · exact (Cert.AdamGuRefIdeal.Read.val_main_v26_eq _ _).trans (Cert.AdamGuIdeal.Result.final7 m c).symm

end Cert.AdamGuPair

end
-- ==== Proof.AdamDownValue.lean ====
/- The optimiser's step on the down weights: the kernel's update and new moments are the reference's. -/
module

public import proofs.«01_k».proof.Proof.Gen.AdamDownIdeal.Value
public import proofs.«01_k».proof.Proof.Gen.AdamDownRefIdeal.Read
public import Idealize.ShloMosaic.Lib.Pipeline.ReadBack
public import Idealize.ShloMosaic.Lib.Pipeline.ValueKit
public import Idealize.ShloMosaic.Lib.Pointwise
public import Idealize.ShloMosaic.Lib.ValueLayout
public import Idealize.ShloMosaic.Lib.Claim

@[expose] public section

set_option maxRecDepth 16384

noncomputable section

namespace Cert.AdamDownIdeal.Result

open Cert.AdamDownIdeal Cert.AdamDownIdeal.Gen Idealize.ShloMosaic Idealize.ShloMosaic.TcCoe Idealize.SL.Sem
open Idealize.ShloMosaic.Pipeline (Dat)

variable (m : (ℓ : Loc nD τ sig) → Buf (Elt Ideal) ℓ)

/-- The reference's update over the weight, its gradient and its two moments; and the new moments. -/
abbrev refD (a0 a1 a2 a3 : FVec Ideal S4x704x1024 .f32) : FVec Ideal S2816x1024 .f32 := Cert.AdamDownRefIdeal.Read.val_main_v24 (F := Ideal) a0 a1 a2 a3
abbrev refM (a1 a2 : FVec Ideal S4x704x1024 .f32) : FVec Ideal S2816x1024 .f32 := Cert.AdamDownRefIdeal.Read.val_main_v25 (F := Ideal) a1 a2
abbrev refV (a1 a3 : FVec Ideal S4x704x1024 .f32) : FVec Ideal S2816x1024 .f32 := Cert.AdamDownRefIdeal.Read.val_main_v26 (F := Ideal) a1 a3

theorem idx : ∀ t : Fin cfg0.N, win0_0.index t = ![t.val, 0] ∧ win0_1.index t = ![t.val, 0] ∧ win0_2.index t = ![t.val, 0]
    ∧ win0_3.index t = ![t.val, 0] ∧ win0_5.index t = ![t.val, 0] ∧ win0_6.index t = ![t.val, 0] ∧ win0_7.index t = ![t.val, 0] :=
  (by decide +kernel : ∀ t : Fin grid0.N, _)

/-- A flat reading of one weight's array. -/
abbrev flat (x : FVec Ideal S4x704x1024 .f32) : FVec Ideal S2816x1024 .f32 := shapeCast S2816x1024 x shapeCasts_S4x704x1024_S2816x1024

/-- One entry of the new first moment, of the new second moment, and of the update. -/
abbrev mom (g a : EReal) : EReal := Ideal.ofBits .f32 0x3F666666#32 * a + Ideal.ofBits .f32 0x3DCCCCCD#32 * g
abbrev var (g b : EReal) : EReal := Ideal.ofBits .f32 0x3F7FBE77#32 * b + Ideal.ofBits .f32 0x3A83126F#32 * (g * g)
abbrev upd (w g a b : EReal) : EReal :=
  Ideal.ofBits .f32 0xBA83126F#32 * (Ideal.div (Ideal.div (mom g a) (Ideal.ofBits .f32 0x3F26BD02#32))
    (Ideal.sqrt (Ideal.div (var g b) (Ideal.ofBits .f32 0x3C231ACC#32)) + Ideal.ofBits .f32 0x322BCC77#32)
    + Ideal.ofBits .f32 0x3C23D70A#32 * w)

theorem refM_at (a1 a2 : FVec Ideal S4x704x1024 .f32) (y) : refM a1 a2 y = mom (flat a1 y) (flat a2 y) := rfl
theorem refV_at (a1 a3 : FVec Ideal S4x704x1024 .f32) (y) : refV a1 a3 y = var (flat a1 y) (flat a3 y) := rfl
theorem refD_at (a0 a1 a2 a3 : FVec Ideal S4x704x1024 .f32) (y) : refD a0 a1 a2 a3 y = upd (flat a0 y) (flat a1 y) (flat a2 y) (flat a3 y) := rfl

theorem pay2_at (g a : FVec Ideal S352x1024 .f32) (i j) : k0_pay2 (F := Ideal) g a (ix2 i j) = mom (g (ix2 i j)) (a (ix2 i j)) := by
  pointwise [k0_pay2, k0_pay1]
theorem pay3_at (g b : FVec Ideal S352x1024 .f32) (i j) : k0_pay3 (F := Ideal) g b (ix2 i j) = var (g (ix2 i j)) (b (ix2 i j)) := by
  pointwise [k0_pay3, k0_pay1]
theorem pay4_at (g a b w : FVec Ideal S352x1024 .f32) (i j) :
    k0_pay4 (F := Ideal) g a b w (ix2 i j) = upd (w (ix2 i j)) (g (ix2 i j)) (a (ix2 i j)) (b (ix2 i j)) := by
  pointwise [k0_pay4]
  rw [pay2_at, pay3_at]

theorem lt : ∀ t : Fin cfg0.N, t.val < 8 := (by decide +kernel : ∀ t : Fin grid0.N, _)

theorem v0_eq (c : Dev nD) : V m c main_v0 = flat (m ((c : Thread nD τ).loc main_arg0)) := by
  entry_read
  rfl
theorem b0_at (c : Dev nD) (t : Fin cfg0.N) (i : Fin 352) (j : Fin 1024) :
    (show FVec Ideal S352x1024 .f32 from iblk m c 0 t) (ix2 i j) = flat (m ((c : Thread nD τ).loc main_arg0)) (ix2 ⟨352 * t.val + i.val, by have := lt t; omega⟩ j) := by
  blk_simp [iblk]
  rw [← v0_eq]
  exact congrArg (V m c main_v0) (by blk_ext [idx t])

theorem v1_eq (c : Dev nD) : V m c main_v1 = flat (m ((c : Thread nD τ).loc main_arg1)) := by
  entry_read
  rfl
theorem b1_at (c : Dev nD) (t : Fin cfg0.N) (i : Fin 352) (j : Fin 1024) :
    (show FVec Ideal S352x1024 .f32 from iblk m c 1 t) (ix2 i j) = flat (m ((c : Thread nD τ).loc main_arg1)) (ix2 ⟨352 * t.val + i.val, by have := lt t; omega⟩ j) := by
  blk_simp [iblk]
  rw [← v1_eq]
  exact congrArg (V m c main_v1) (by blk_ext [idx t])

theorem v2_eq (c : Dev nD) : V m c main_v2 = flat (m ((c : Thread nD τ).loc main_arg2)) := by
  entry_read
  rfl
theorem b2_at (c : Dev nD) (t : Fin cfg0.N) (i : Fin 352) (j : Fin 1024) :
    (show FVec Ideal S352x1024 .f32 from iblk m c 2 t) (ix2 i j) = flat (m ((c : Thread nD τ).loc main_arg2)) (ix2 ⟨352 * t.val + i.val, by have := lt t; omega⟩ j) := by
  blk_simp [iblk]
  rw [← v2_eq]
  exact congrArg (V m c main_v2) (by blk_ext [idx t])

theorem v3_eq (c : Dev nD) : V m c main_v3 = flat (m ((c : Thread nD τ).loc main_arg3)) := by
  entry_read
  rfl
theorem b3_at (c : Dev nD) (t : Fin cfg0.N) (i : Fin 352) (j : Fin 1024) :
    (show FVec Ideal S352x1024 .f32 from iblk m c 3 t) (ix2 i j) = flat (m ((c : Thread nD τ).loc main_arg3)) (ix2 ⟨352 * t.val + i.val, by have := lt t; omega⟩ j) := by
  blk_simp [iblk]
  rw [← v3_eq]
  exact congrArg (V m c main_v3) (by blk_ext [idx t])

theorem emb5 (t : Fin cfg0.N) (i : Fin 352) (j : Fin 1024) :
    (win0_5.blk t).view.emb (ix2 i j) = (ix2 ⟨352 * t.val + i.val, by have := lt t; omega⟩ j : S2816x1024.Idx) := by
  blk_ext [idx t]

theorem emb6 (t : Fin cfg0.N) (i : Fin 352) (j : Fin 1024) :
    (win0_6.blk t).view.emb (ix2 i j) = (ix2 ⟨352 * t.val + i.val, by have := lt t; omega⟩ j : S2816x1024.Idx) := by
  blk_ext [idx t]

theorem emb7 (t : Fin cfg0.N) (i : Fin 352) (j : Fin 1024) :
    (win0_7.blk t).view.emb (ix2 i j) = (ix2 ⟨352 * t.val + i.val, by have := lt t; omega⟩ j : S2816x1024.Idx) := by
  blk_ext [idx t]

theorem final5 (c : Dev nD) : (dats m 0 c).arrAt 5 (cfgs 0).N = refD (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  idx_vars y
  blk_simp
  rw [after0_5]
  frame_out
  refine (pay4_at _ _ _ _ _ _).trans ?_
  refine Eq.trans ?_ (congrArg _ (emb5 t y0 y1)).symm
  rw [refD_at]
  simp only [b0_at, b1_at, b2_at, b3_at]

theorem final6 (c : Dev nD) : (dats m 0 c).arrAt 6 (cfgs 0).N = refM (m ((c : Thread nD τ).loc main_arg1)) (m ((c : Thread nD τ).loc main_arg2)) := by
  refine (dats m 0 c).arrAt_eq_of_covers 6 _ (by decide +kernel) fun t hf y => ?_
  idx_vars y
  blk_simp
  rw [after0_6]
  frame_out
  refine (pay2_at _ _ _ _).trans ?_
  refine Eq.trans ?_ (congrArg _ (emb6 t y0 y1)).symm
  rw [refM_at]
  simp only [b0_at, b1_at, b2_at, b3_at]

theorem final7 (c : Dev nD) : (dats m 0 c).arrAt 7 (cfgs 0).N = refV (m ((c : Thread nD τ).loc main_arg1)) (m ((c : Thread nD τ).loc main_arg3)) := by
  refine (dats m 0 c).arrAt_eq_of_covers 7 _ (by decide +kernel) fun t hf y => ?_
  idx_vars y
  blk_simp
  rw [after0_7]
  frame_out
  refine (pay3_at _ _ _ _).trans ?_
  refine Eq.trans ?_ (congrArg _ (emb7 t y0 y1)).symm
  rw [refV_at]
  simp only [b0_at, b1_at, b2_at, b3_at]

end Cert.AdamDownIdeal.Result

end
-- ==== Proof.AdamDownPair.lean ====
/- The claims of one call and its reference: both run, and their results are equal. -/
module

public import proofs.«01_k».proof.Defs
public import proofs.«01_k».proof.Proof.Gen.AdamDown
public import proofs.«01_k».proof.Proof.Gen.AdamDown.Frame
public import proofs.«01_k».proof.Proof.Gen.AdamDownIdeal
public import proofs.«01_k».proof.Proof.Gen.AdamDownIdeal.Frame
public import proofs.«01_k».proof.Proof.Gen.AdamDownIdeal.Value
public import proofs.«01_k».proof.Proof.Gen.AdamDownRefIdeal
public import proofs.«01_k».proof.Proof.Gen.AdamDownRefIdeal.Run
public import proofs.«01_k».proof.Proof.Gen.AdamDownRefIdeal.Read
public import proofs.«01_k».proof.Proof.AdamDownValue
public import Idealize.ShloMosaic.Lib.Claim

@[expose] public section

set_option maxRecDepth 16384

noncomputable section

namespace Cert.AdamDownPair

open Idealize.ShloMosaic Idealize.SL.Sem

/-- The reference runs and leaves its arguments as they were. -/
theorem reference_frame : Cert.quiescent_AdamDownRefIdeal (hAdamDownRefIdeal := Cert.AdamDownRefIdeal.Gen.facts) := by
  intro m g _
  exact (θ_run Cert.AdamDownRefIdeal.defs _ _).mono (fun r h => ⟨fun c => (h c).2.2.2, sem_eq_zero_of_no_sems (by decide) r.2⟩)
    (Cert.AdamDownRefIdeal.Value.run (F := Ideal) m g)

/-- The kernel's results are the reference's. -/
theorem value : Cert.algebraic_AdamDownIdeal_AdamDownRefIdeal (hAdamDownIdeal := Cert.AdamDownIdeal.Gen.facts) (hAdamDownRefIdeal := Cert.AdamDownRefIdeal.Gen.facts) := by
  pair_intro
  · run_from Cert.AdamDownIdeal.Gen.run_main m g
  · run_from Cert.AdamDownRefIdeal.Value.run m' g'
    · exact (Cert.AdamDownRefIdeal.Read.val_main_v24_eq _ _ _ _).trans (Cert.AdamDownIdeal.Result.final5 m c).symm
    · exact (Cert.AdamDownRefIdeal.Read.val_main_v25_eq _ _).trans (Cert.AdamDownIdeal.Result.final6 m c).symm
    · exact (Cert.AdamDownRefIdeal.Read.val_main_v26_eq _ _).trans (Cert.AdamDownIdeal.Result.final7 m c).symm

end Cert.AdamDownPair

end
-- ==== Proof.AdamInValue.lean ====
/- The optimiser's step on the mixer's input weights: the kernel's update and new moments are the reference's. -/
module

public import proofs.«01_k».proof.Proof.Gen.AdamInIdeal.Value
public import proofs.«01_k».proof.Proof.Gen.AdamInRefIdeal.Read
public import Idealize.ShloMosaic.Lib.Pipeline.ReadBack
public import Idealize.ShloMosaic.Lib.Pipeline.ValueKit
public import Idealize.ShloMosaic.Lib.Pointwise
public import Idealize.ShloMosaic.Lib.ValueLayout
public import Idealize.ShloMosaic.Lib.Claim

@[expose] public section

set_option maxRecDepth 16384

noncomputable section

namespace Cert.AdamInIdeal.Result

open Cert.AdamInIdeal Cert.AdamInIdeal.Gen Idealize.ShloMosaic Idealize.ShloMosaic.TcCoe Idealize.SL.Sem
open Idealize.ShloMosaic.Pipeline (Dat)

variable (m : (ℓ : Loc nD τ sig) → Buf (Elt Ideal) ℓ)

/-- The reference's update over the weight, its gradient and its two moments; and the new moments. -/
abbrev refD (a0 a1 a2 a3 : FVec Ideal S4x1024x832 .f32) : FVec Ideal S4096x832 .f32 := Cert.AdamInRefIdeal.Read.val_main_v24 (F := Ideal) a0 a1 a2 a3
abbrev refM (a1 a2 : FVec Ideal S4x1024x832 .f32) : FVec Ideal S4096x832 .f32 := Cert.AdamInRefIdeal.Read.val_main_v25 (F := Ideal) a1 a2
abbrev refV (a1 a3 : FVec Ideal S4x1024x832 .f32) : FVec Ideal S4096x832 .f32 := Cert.AdamInRefIdeal.Read.val_main_v26 (F := Ideal) a1 a3

theorem idx : ∀ t : Fin cfg0.N, win0_0.index t = ![t.val, 0] ∧ win0_1.index t = ![t.val, 0] ∧ win0_2.index t = ![t.val, 0]
    ∧ win0_3.index t = ![t.val, 0] ∧ win0_5.index t = ![t.val, 0] ∧ win0_6.index t = ![t.val, 0] ∧ win0_7.index t = ![t.val, 0] :=
  (by decide +kernel : ∀ t : Fin grid0.N, _)

/-- A flat reading of one weight's array. -/
abbrev flat (x : FVec Ideal S4x1024x832 .f32) : FVec Ideal S4096x832 .f32 := shapeCast S4096x832 x shapeCasts_S4x1024x832_S4096x832

/-- One entry of the new first moment, of the new second moment, and of the update. -/
abbrev mom (g a : EReal) : EReal := Ideal.ofBits .f32 0x3F666666#32 * a + Ideal.ofBits .f32 0x3DCCCCCD#32 * g
abbrev var (g b : EReal) : EReal := Ideal.ofBits .f32 0x3F7FBE77#32 * b + Ideal.ofBits .f32 0x3A83126F#32 * (g * g)
abbrev upd (w g a b : EReal) : EReal :=
  Ideal.ofBits .f32 0xBA83126F#32 * (Ideal.div (Ideal.div (mom g a) (Ideal.ofBits .f32 0x3F26BD02#32))
    (Ideal.sqrt (Ideal.div (var g b) (Ideal.ofBits .f32 0x3C231ACC#32)) + Ideal.ofBits .f32 0x322BCC77#32)
    + Ideal.ofBits .f32 0x3C23D70A#32 * w)

theorem refM_at (a1 a2 : FVec Ideal S4x1024x832 .f32) (y) : refM a1 a2 y = mom (flat a1 y) (flat a2 y) := rfl
theorem refV_at (a1 a3 : FVec Ideal S4x1024x832 .f32) (y) : refV a1 a3 y = var (flat a1 y) (flat a3 y) := rfl
theorem refD_at (a0 a1 a2 a3 : FVec Ideal S4x1024x832 .f32) (y) : refD a0 a1 a2 a3 y = upd (flat a0 y) (flat a1 y) (flat a2 y) (flat a3 y) := rfl

theorem pay2_at (g a : FVec Ideal S512x832 .f32) (i j) : k0_pay2 (F := Ideal) g a (ix2 i j) = mom (g (ix2 i j)) (a (ix2 i j)) := by
  pointwise [k0_pay2, k0_pay1]
theorem pay3_at (g b : FVec Ideal S512x832 .f32) (i j) : k0_pay3 (F := Ideal) g b (ix2 i j) = var (g (ix2 i j)) (b (ix2 i j)) := by
  pointwise [k0_pay3, k0_pay1]
theorem pay4_at (g a b w : FVec Ideal S512x832 .f32) (i j) :
    k0_pay4 (F := Ideal) g a b w (ix2 i j) = upd (w (ix2 i j)) (g (ix2 i j)) (a (ix2 i j)) (b (ix2 i j)) := by
  pointwise [k0_pay4]
  rw [pay2_at, pay3_at]

theorem lt : ∀ t : Fin cfg0.N, t.val < 8 := (by decide +kernel : ∀ t : Fin grid0.N, _)

theorem v0_eq (c : Dev nD) : V m c main_v0 = flat (m ((c : Thread nD τ).loc main_arg0)) := by
  entry_read
  rfl
theorem b0_at (c : Dev nD) (t : Fin cfg0.N) (i : Fin 512) (j : Fin 832) :
    (show FVec Ideal S512x832 .f32 from iblk m c 0 t) (ix2 i j) = flat (m ((c : Thread nD τ).loc main_arg0)) (ix2 ⟨512 * t.val + i.val, by have := lt t; omega⟩ j) := by
  blk_simp [iblk]
  rw [← v0_eq]
  exact congrArg (V m c main_v0) (by blk_ext [idx t])

theorem v1_eq (c : Dev nD) : V m c main_v1 = flat (m ((c : Thread nD τ).loc main_arg1)) := by
  entry_read
  rfl
theorem b1_at (c : Dev nD) (t : Fin cfg0.N) (i : Fin 512) (j : Fin 832) :
    (show FVec Ideal S512x832 .f32 from iblk m c 1 t) (ix2 i j) = flat (m ((c : Thread nD τ).loc main_arg1)) (ix2 ⟨512 * t.val + i.val, by have := lt t; omega⟩ j) := by
  blk_simp [iblk]
  rw [← v1_eq]
  exact congrArg (V m c main_v1) (by blk_ext [idx t])

theorem v2_eq (c : Dev nD) : V m c main_v2 = flat (m ((c : Thread nD τ).loc main_arg2)) := by
  entry_read
  rfl
theorem b2_at (c : Dev nD) (t : Fin cfg0.N) (i : Fin 512) (j : Fin 832) :
    (show FVec Ideal S512x832 .f32 from iblk m c 2 t) (ix2 i j) = flat (m ((c : Thread nD τ).loc main_arg2)) (ix2 ⟨512 * t.val + i.val, by have := lt t; omega⟩ j) := by
  blk_simp [iblk]
  rw [← v2_eq]
  exact congrArg (V m c main_v2) (by blk_ext [idx t])

theorem v3_eq (c : Dev nD) : V m c main_v3 = flat (m ((c : Thread nD τ).loc main_arg3)) := by
  entry_read
  rfl
theorem b3_at (c : Dev nD) (t : Fin cfg0.N) (i : Fin 512) (j : Fin 832) :
    (show FVec Ideal S512x832 .f32 from iblk m c 3 t) (ix2 i j) = flat (m ((c : Thread nD τ).loc main_arg3)) (ix2 ⟨512 * t.val + i.val, by have := lt t; omega⟩ j) := by
  blk_simp [iblk]
  rw [← v3_eq]
  exact congrArg (V m c main_v3) (by blk_ext [idx t])

theorem emb5 (t : Fin cfg0.N) (i : Fin 512) (j : Fin 832) :
    (win0_5.blk t).view.emb (ix2 i j) = (ix2 ⟨512 * t.val + i.val, by have := lt t; omega⟩ j : S4096x832.Idx) := by
  blk_ext [idx t]

theorem emb6 (t : Fin cfg0.N) (i : Fin 512) (j : Fin 832) :
    (win0_6.blk t).view.emb (ix2 i j) = (ix2 ⟨512 * t.val + i.val, by have := lt t; omega⟩ j : S4096x832.Idx) := by
  blk_ext [idx t]

theorem emb7 (t : Fin cfg0.N) (i : Fin 512) (j : Fin 832) :
    (win0_7.blk t).view.emb (ix2 i j) = (ix2 ⟨512 * t.val + i.val, by have := lt t; omega⟩ j : S4096x832.Idx) := by
  blk_ext [idx t]

theorem final5 (c : Dev nD) : (dats m 0 c).arrAt 5 (cfgs 0).N = refD (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  idx_vars y
  blk_simp
  rw [after0_5]
  frame_out
  refine (pay4_at _ _ _ _ _ _).trans ?_
  refine Eq.trans ?_ (congrArg _ (emb5 t y0 y1)).symm
  rw [refD_at]
  simp only [b0_at, b1_at, b2_at, b3_at]

theorem final6 (c : Dev nD) : (dats m 0 c).arrAt 6 (cfgs 0).N = refM (m ((c : Thread nD τ).loc main_arg1)) (m ((c : Thread nD τ).loc main_arg2)) := by
  refine (dats m 0 c).arrAt_eq_of_covers 6 _ (by decide +kernel) fun t hf y => ?_
  idx_vars y
  blk_simp
  rw [after0_6]
  frame_out
  refine (pay2_at _ _ _ _).trans ?_
  refine Eq.trans ?_ (congrArg _ (emb6 t y0 y1)).symm
  rw [refM_at]
  simp only [b0_at, b1_at, b2_at, b3_at]

theorem final7 (c : Dev nD) : (dats m 0 c).arrAt 7 (cfgs 0).N = refV (m ((c : Thread nD τ).loc main_arg1)) (m ((c : Thread nD τ).loc main_arg3)) := by
  refine (dats m 0 c).arrAt_eq_of_covers 7 _ (by decide +kernel) fun t hf y => ?_
  idx_vars y
  blk_simp
  rw [after0_7]
  frame_out
  refine (pay3_at _ _ _ _).trans ?_
  refine Eq.trans ?_ (congrArg _ (emb7 t y0 y1)).symm
  rw [refV_at]
  simp only [b0_at, b1_at, b2_at, b3_at]

end Cert.AdamInIdeal.Result

end
-- ==== Proof.AdamInPair.lean ====
/- The claims of one call and its reference: both run, and their results are equal. -/
module

public import proofs.«01_k».proof.Defs
public import proofs.«01_k».proof.Proof.Gen.AdamIn
public import proofs.«01_k».proof.Proof.Gen.AdamIn.Frame
public import proofs.«01_k».proof.Proof.Gen.AdamInIdeal
public import proofs.«01_k».proof.Proof.Gen.AdamInIdeal.Frame
public import proofs.«01_k».proof.Proof.Gen.AdamInIdeal.Value
public import proofs.«01_k».proof.Proof.Gen.AdamInRefIdeal
public import proofs.«01_k».proof.Proof.Gen.AdamInRefIdeal.Run
public import proofs.«01_k».proof.Proof.Gen.AdamInRefIdeal.Read
public import proofs.«01_k».proof.Proof.AdamInValue
public import Idealize.ShloMosaic.Lib.Claim

@[expose] public section

set_option maxRecDepth 16384

noncomputable section

namespace Cert.AdamInPair

open Idealize.ShloMosaic Idealize.SL.Sem

/-- The reference runs and leaves its arguments as they were. -/
theorem reference_frame : Cert.quiescent_AdamInRefIdeal (hAdamInRefIdeal := Cert.AdamInRefIdeal.Gen.facts) := by
  intro m g _
  exact (θ_run Cert.AdamInRefIdeal.defs _ _).mono (fun r h => ⟨fun c => (h c).2.2.2, sem_eq_zero_of_no_sems (by decide) r.2⟩)
    (Cert.AdamInRefIdeal.Value.run (F := Ideal) m g)

/-- The kernel's results are the reference's. -/
theorem value : Cert.algebraic_AdamInIdeal_AdamInRefIdeal (hAdamInIdeal := Cert.AdamInIdeal.Gen.facts) (hAdamInRefIdeal := Cert.AdamInRefIdeal.Gen.facts) := by
  pair_intro
  · run_from Cert.AdamInIdeal.Gen.run_main m g
  · run_from Cert.AdamInRefIdeal.Value.run m' g'
    · exact (Cert.AdamInRefIdeal.Read.val_main_v24_eq _ _ _ _).trans (Cert.AdamInIdeal.Result.final5 m c).symm
    · exact (Cert.AdamInRefIdeal.Read.val_main_v25_eq _ _).trans (Cert.AdamInIdeal.Result.final6 m c).symm
    · exact (Cert.AdamInRefIdeal.Read.val_main_v26_eq _ _).trans (Cert.AdamInIdeal.Result.final7 m c).symm

end Cert.AdamInPair

end
-- ==== Proof.AdamBranchValue.lean ====
/- The optimiser's step on the mixer's branch weights: the kernel's update and new moments are the reference's. -/
module

public import proofs.«01_k».proof.Proof.Gen.AdamBranchIdeal.Value
public import proofs.«01_k».proof.Proof.Gen.AdamBranchRefIdeal.Read
public import Idealize.ShloMosaic.Lib.Pipeline.ReadBack
public import Idealize.ShloMosaic.Lib.Pipeline.ValueKit
public import Idealize.ShloMosaic.Lib.Pointwise
public import Idealize.ShloMosaic.Lib.ValueLayout
public import Idealize.ShloMosaic.Lib.Claim

@[expose] public section

set_option maxRecDepth 16384

noncomputable section

namespace Cert.AdamBranchIdeal.Result

open Cert.AdamBranchIdeal Cert.AdamBranchIdeal.Gen Idealize.ShloMosaic Idealize.ShloMosaic.TcCoe Idealize.SL.Sem
open Idealize.ShloMosaic.Pipeline (Dat)

variable (m : (ℓ : Loc nD τ sig) → Buf (Elt Ideal) ℓ)

/-- The reference's update over the weight, its gradient and its two moments; and the new moments. -/
abbrev refD (a0 a1 a2 a3 : FVec Ideal S4x512x256 .f32) : FVec Ideal S2048x256 .f32 := Cert.AdamBranchRefIdeal.Read.val_main_v24 (F := Ideal) a0 a1 a2 a3
abbrev refM (a1 a2 : FVec Ideal S4x512x256 .f32) : FVec Ideal S2048x256 .f32 := Cert.AdamBranchRefIdeal.Read.val_main_v25 (F := Ideal) a1 a2
abbrev refV (a1 a3 : FVec Ideal S4x512x256 .f32) : FVec Ideal S2048x256 .f32 := Cert.AdamBranchRefIdeal.Read.val_main_v26 (F := Ideal) a1 a3

theorem idx : ∀ t : Fin cfg0.N, win0_0.index t = ![t.val, 0] ∧ win0_1.index t = ![t.val, 0] ∧ win0_2.index t = ![t.val, 0]
    ∧ win0_3.index t = ![t.val, 0] ∧ win0_5.index t = ![t.val, 0] ∧ win0_6.index t = ![t.val, 0] ∧ win0_7.index t = ![t.val, 0] :=
  (by decide +kernel : ∀ t : Fin grid0.N, _)

/-- A flat reading of one weight's array. -/
abbrev flat (x : FVec Ideal S4x512x256 .f32) : FVec Ideal S2048x256 .f32 := shapeCast S2048x256 x shapeCasts_S4x512x256_S2048x256

/-- One entry of the new first moment, of the new second moment, and of the update. -/
abbrev mom (g a : EReal) : EReal := Ideal.ofBits .f32 0x3F666666#32 * a + Ideal.ofBits .f32 0x3DCCCCCD#32 * g
abbrev var (g b : EReal) : EReal := Ideal.ofBits .f32 0x3F7FBE77#32 * b + Ideal.ofBits .f32 0x3A83126F#32 * (g * g)
abbrev upd (w g a b : EReal) : EReal :=
  Ideal.ofBits .f32 0xBA83126F#32 * (Ideal.div (Ideal.div (mom g a) (Ideal.ofBits .f32 0x3F26BD02#32))
    (Ideal.sqrt (Ideal.div (var g b) (Ideal.ofBits .f32 0x3C231ACC#32)) + Ideal.ofBits .f32 0x322BCC77#32)
    + Ideal.ofBits .f32 0x3C23D70A#32 * w)

theorem refM_at (a1 a2 : FVec Ideal S4x512x256 .f32) (y) : refM a1 a2 y = mom (flat a1 y) (flat a2 y) := rfl
theorem refV_at (a1 a3 : FVec Ideal S4x512x256 .f32) (y) : refV a1 a3 y = var (flat a1 y) (flat a3 y) := rfl
theorem refD_at (a0 a1 a2 a3 : FVec Ideal S4x512x256 .f32) (y) : refD a0 a1 a2 a3 y = upd (flat a0 y) (flat a1 y) (flat a2 y) (flat a3 y) := rfl

theorem pay2_at (g a : FVec Ideal S2048x256 .f32) (i j) : k0_pay2 (F := Ideal) g a (ix2 i j) = mom (g (ix2 i j)) (a (ix2 i j)) := by
  pointwise [k0_pay2, k0_pay1]
theorem pay3_at (g b : FVec Ideal S2048x256 .f32) (i j) : k0_pay3 (F := Ideal) g b (ix2 i j) = var (g (ix2 i j)) (b (ix2 i j)) := by
  pointwise [k0_pay3, k0_pay1]
theorem pay4_at (g a b w : FVec Ideal S2048x256 .f32) (i j) :
    k0_pay4 (F := Ideal) g a b w (ix2 i j) = upd (w (ix2 i j)) (g (ix2 i j)) (a (ix2 i j)) (b (ix2 i j)) := by
  pointwise [k0_pay4]
  rw [pay2_at, pay3_at]

theorem lt : ∀ t : Fin cfg0.N, t.val < 1 := (by decide +kernel : ∀ t : Fin grid0.N, _)

theorem v0_eq (c : Dev nD) : V m c main_v0 = flat (m ((c : Thread nD τ).loc main_arg0)) := by
  entry_read
  rfl
theorem b0_at (c : Dev nD) (t : Fin cfg0.N) (i : Fin 2048) (j : Fin 256) :
    (show FVec Ideal S2048x256 .f32 from iblk m c 0 t) (ix2 i j) = flat (m ((c : Thread nD τ).loc main_arg0)) (ix2 ⟨2048 * t.val + i.val, by have := lt t; omega⟩ j) := by
  blk_simp [iblk]
  rw [← v0_eq]
  exact congrArg (V m c main_v0) (by blk_ext [idx t])

theorem v1_eq (c : Dev nD) : V m c main_v1 = flat (m ((c : Thread nD τ).loc main_arg1)) := by
  entry_read
  rfl
theorem b1_at (c : Dev nD) (t : Fin cfg0.N) (i : Fin 2048) (j : Fin 256) :
    (show FVec Ideal S2048x256 .f32 from iblk m c 1 t) (ix2 i j) = flat (m ((c : Thread nD τ).loc main_arg1)) (ix2 ⟨2048 * t.val + i.val, by have := lt t; omega⟩ j) := by
  blk_simp [iblk]
  rw [← v1_eq]
  exact congrArg (V m c main_v1) (by blk_ext [idx t])

theorem v2_eq (c : Dev nD) : V m c main_v2 = flat (m ((c : Thread nD τ).loc main_arg2)) := by
  entry_read
  rfl
theorem b2_at (c : Dev nD) (t : Fin cfg0.N) (i : Fin 2048) (j : Fin 256) :
    (show FVec Ideal S2048x256 .f32 from iblk m c 2 t) (ix2 i j) = flat (m ((c : Thread nD τ).loc main_arg2)) (ix2 ⟨2048 * t.val + i.val, by have := lt t; omega⟩ j) := by
  blk_simp [iblk]
  rw [← v2_eq]
  exact congrArg (V m c main_v2) (by blk_ext [idx t])

theorem v3_eq (c : Dev nD) : V m c main_v3 = flat (m ((c : Thread nD τ).loc main_arg3)) := by
  entry_read
  rfl
theorem b3_at (c : Dev nD) (t : Fin cfg0.N) (i : Fin 2048) (j : Fin 256) :
    (show FVec Ideal S2048x256 .f32 from iblk m c 3 t) (ix2 i j) = flat (m ((c : Thread nD τ).loc main_arg3)) (ix2 ⟨2048 * t.val + i.val, by have := lt t; omega⟩ j) := by
  blk_simp [iblk]
  rw [← v3_eq]
  exact congrArg (V m c main_v3) (by blk_ext [idx t])

theorem emb5 (t : Fin cfg0.N) (i : Fin 2048) (j : Fin 256) :
    (win0_5.blk t).view.emb (ix2 i j) = (ix2 ⟨2048 * t.val + i.val, by have := lt t; omega⟩ j : S2048x256.Idx) := by
  blk_ext [idx t]

theorem emb6 (t : Fin cfg0.N) (i : Fin 2048) (j : Fin 256) :
    (win0_6.blk t).view.emb (ix2 i j) = (ix2 ⟨2048 * t.val + i.val, by have := lt t; omega⟩ j : S2048x256.Idx) := by
  blk_ext [idx t]

theorem emb7 (t : Fin cfg0.N) (i : Fin 2048) (j : Fin 256) :
    (win0_7.blk t).view.emb (ix2 i j) = (ix2 ⟨2048 * t.val + i.val, by have := lt t; omega⟩ j : S2048x256.Idx) := by
  blk_ext [idx t]

theorem final5 (c : Dev nD) : (dats m 0 c).arrAt 5 (cfgs 0).N = refD (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  idx_vars y
  blk_simp
  rw [after0_5]
  frame_out
  refine (pay4_at _ _ _ _ _ _).trans ?_
  refine Eq.trans ?_ (congrArg _ (emb5 t y0 y1)).symm
  rw [refD_at]
  simp only [b0_at, b1_at, b2_at, b3_at]

theorem final6 (c : Dev nD) : (dats m 0 c).arrAt 6 (cfgs 0).N = refM (m ((c : Thread nD τ).loc main_arg1)) (m ((c : Thread nD τ).loc main_arg2)) := by
  refine (dats m 0 c).arrAt_eq_of_covers 6 _ (by decide +kernel) fun t hf y => ?_
  idx_vars y
  blk_simp
  rw [after0_6]
  frame_out
  refine (pay2_at _ _ _ _).trans ?_
  refine Eq.trans ?_ (congrArg _ (emb6 t y0 y1)).symm
  rw [refM_at]
  simp only [b0_at, b1_at, b2_at, b3_at]

theorem final7 (c : Dev nD) : (dats m 0 c).arrAt 7 (cfgs 0).N = refV (m ((c : Thread nD τ).loc main_arg1)) (m ((c : Thread nD τ).loc main_arg3)) := by
  refine (dats m 0 c).arrAt_eq_of_covers 7 _ (by decide +kernel) fun t hf y => ?_
  idx_vars y
  blk_simp
  rw [after0_7]
  frame_out
  refine (pay3_at _ _ _ _).trans ?_
  refine Eq.trans ?_ (congrArg _ (emb7 t y0 y1)).symm
  rw [refV_at]
  simp only [b0_at, b1_at, b2_at, b3_at]

end Cert.AdamBranchIdeal.Result

end
-- ==== Proof.AdamBranchPair.lean ====
/- The claims of one call and its reference: both run, and their results are equal. -/
module

public import proofs.«01_k».proof.Defs
public import proofs.«01_k».proof.Proof.Gen.AdamBranch
public import proofs.«01_k».proof.Proof.Gen.AdamBranch.Frame
public import proofs.«01_k».proof.Proof.Gen.AdamBranchIdeal
public import proofs.«01_k».proof.Proof.Gen.AdamBranchIdeal.Frame
public import proofs.«01_k».proof.Proof.Gen.AdamBranchIdeal.Value
public import proofs.«01_k».proof.Proof.Gen.AdamBranchRefIdeal
public import proofs.«01_k».proof.Proof.Gen.AdamBranchRefIdeal.Run
public import proofs.«01_k».proof.Proof.Gen.AdamBranchRefIdeal.Read
public import proofs.«01_k».proof.Proof.AdamBranchValue
public import Idealize.ShloMosaic.Lib.Claim

@[expose] public section

set_option maxRecDepth 16384

noncomputable section

namespace Cert.AdamBranchPair

open Idealize.ShloMosaic Idealize.SL.Sem

/-- The reference runs and leaves its arguments as they were. -/
theorem reference_frame : Cert.quiescent_AdamBranchRefIdeal (hAdamBranchRefIdeal := Cert.AdamBranchRefIdeal.Gen.facts) := by
  intro m g _
  exact (θ_run Cert.AdamBranchRefIdeal.defs _ _).mono (fun r h => ⟨fun c => (h c).2.2.2, sem_eq_zero_of_no_sems (by decide) r.2⟩)
    (Cert.AdamBranchRefIdeal.Value.run (F := Ideal) m g)

/-- The kernel's results are the reference's. -/
theorem value : Cert.algebraic_AdamBranchIdeal_AdamBranchRefIdeal (hAdamBranchIdeal := Cert.AdamBranchIdeal.Gen.facts) (hAdamBranchRefIdeal := Cert.AdamBranchRefIdeal.Gen.facts) := by
  pair_intro
  · run_from Cert.AdamBranchIdeal.Gen.run_main m g
  · run_from Cert.AdamBranchRefIdeal.Value.run m' g'
    · exact (Cert.AdamBranchRefIdeal.Read.val_main_v24_eq _ _ _ _).trans (Cert.AdamBranchIdeal.Result.final5 m c).symm
    · exact (Cert.AdamBranchRefIdeal.Read.val_main_v25_eq _ _).trans (Cert.AdamBranchIdeal.Result.final6 m c).symm
    · exact (Cert.AdamBranchRefIdeal.Read.val_main_v26_eq _ _).trans (Cert.AdamBranchIdeal.Result.final7 m c).symm

end Cert.AdamBranchPair

end
-- ==== Proof.AdamOutValue.lean ====
/- The optimiser's step on the mixer's output weights: the kernel's update and new moments are the reference's. -/
module

public import proofs.«01_k».proof.Proof.Gen.AdamOutIdeal.Value
public import proofs.«01_k».proof.Proof.Gen.AdamOutRefIdeal.Read
public import Idealize.ShloMosaic.Lib.Pipeline.ReadBack
public import Idealize.ShloMosaic.Lib.Pipeline.ValueKit
public import Idealize.ShloMosaic.Lib.Pointwise
public import Idealize.ShloMosaic.Lib.ValueLayout
public import Idealize.ShloMosaic.Lib.Claim

@[expose] public section

set_option maxRecDepth 16384

noncomputable section

namespace Cert.AdamOutIdeal.Result

open Cert.AdamOutIdeal Cert.AdamOutIdeal.Gen Idealize.ShloMosaic Idealize.ShloMosaic.TcCoe Idealize.SL.Sem
open Idealize.ShloMosaic.Pipeline (Dat)

variable (m : (ℓ : Loc nD τ sig) → Buf (Elt Ideal) ℓ)

/-- The reference's update over the weight, its gradient and its two moments; and the new moments. -/
abbrev refD (a0 a1 a2 a3 : FVec Ideal S4x256x1024 .f32) : FVec Ideal S1024x1024 .f32 := Cert.AdamOutRefIdeal.Read.val_main_v24 (F := Ideal) a0 a1 a2 a3
abbrev refM (a1 a2 : FVec Ideal S4x256x1024 .f32) : FVec Ideal S1024x1024 .f32 := Cert.AdamOutRefIdeal.Read.val_main_v25 (F := Ideal) a1 a2
abbrev refV (a1 a3 : FVec Ideal S4x256x1024 .f32) : FVec Ideal S1024x1024 .f32 := Cert.AdamOutRefIdeal.Read.val_main_v26 (F := Ideal) a1 a3

theorem idx : ∀ t : Fin cfg0.N, win0_0.index t = ![t.val, 0] ∧ win0_1.index t = ![t.val, 0] ∧ win0_2.index t = ![t.val, 0]
    ∧ win0_3.index t = ![t.val, 0] ∧ win0_5.index t = ![t.val, 0] ∧ win0_6.index t = ![t.val, 0] ∧ win0_7.index t = ![t.val, 0] :=
  (by decide +kernel : ∀ t : Fin grid0.N, _)

/-- A flat reading of one weight's array. -/
abbrev flat (x : FVec Ideal S4x256x1024 .f32) : FVec Ideal S1024x1024 .f32 := shapeCast S1024x1024 x shapeCasts_S4x256x1024_S1024x1024

/-- One entry of the new first moment, of the new second moment, and of the update. -/
abbrev mom (g a : EReal) : EReal := Ideal.ofBits .f32 0x3F666666#32 * a + Ideal.ofBits .f32 0x3DCCCCCD#32 * g
abbrev var (g b : EReal) : EReal := Ideal.ofBits .f32 0x3F7FBE77#32 * b + Ideal.ofBits .f32 0x3A83126F#32 * (g * g)
abbrev upd (w g a b : EReal) : EReal :=
  Ideal.ofBits .f32 0xBA83126F#32 * (Ideal.div (Ideal.div (mom g a) (Ideal.ofBits .f32 0x3F26BD02#32))
    (Ideal.sqrt (Ideal.div (var g b) (Ideal.ofBits .f32 0x3C231ACC#32)) + Ideal.ofBits .f32 0x322BCC77#32)
    + Ideal.ofBits .f32 0x3C23D70A#32 * w)

theorem refM_at (a1 a2 : FVec Ideal S4x256x1024 .f32) (y) : refM a1 a2 y = mom (flat a1 y) (flat a2 y) := rfl
theorem refV_at (a1 a3 : FVec Ideal S4x256x1024 .f32) (y) : refV a1 a3 y = var (flat a1 y) (flat a3 y) := rfl
theorem refD_at (a0 a1 a2 a3 : FVec Ideal S4x256x1024 .f32) (y) : refD a0 a1 a2 a3 y = upd (flat a0 y) (flat a1 y) (flat a2 y) (flat a3 y) := rfl

theorem pay2_at (g a : FVec Ideal S512x1024 .f32) (i j) : k0_pay2 (F := Ideal) g a (ix2 i j) = mom (g (ix2 i j)) (a (ix2 i j)) := by
  pointwise [k0_pay2, k0_pay1]
theorem pay3_at (g b : FVec Ideal S512x1024 .f32) (i j) : k0_pay3 (F := Ideal) g b (ix2 i j) = var (g (ix2 i j)) (b (ix2 i j)) := by
  pointwise [k0_pay3, k0_pay1]
theorem pay4_at (g a b w : FVec Ideal S512x1024 .f32) (i j) :
    k0_pay4 (F := Ideal) g a b w (ix2 i j) = upd (w (ix2 i j)) (g (ix2 i j)) (a (ix2 i j)) (b (ix2 i j)) := by
  pointwise [k0_pay4]
  rw [pay2_at, pay3_at]

theorem lt : ∀ t : Fin cfg0.N, t.val < 2 := (by decide +kernel : ∀ t : Fin grid0.N, _)

theorem v0_eq (c : Dev nD) : V m c main_v0 = flat (m ((c : Thread nD τ).loc main_arg0)) := by
  entry_read
  rfl
theorem b0_at (c : Dev nD) (t : Fin cfg0.N) (i : Fin 512) (j : Fin 1024) :
    (show FVec Ideal S512x1024 .f32 from iblk m c 0 t) (ix2 i j) = flat (m ((c : Thread nD τ).loc main_arg0)) (ix2 ⟨512 * t.val + i.val, by have := lt t; omega⟩ j) := by
  blk_simp [iblk]
  rw [← v0_eq]
  exact congrArg (V m c main_v0) (by blk_ext [idx t])

theorem v1_eq (c : Dev nD) : V m c main_v1 = flat (m ((c : Thread nD τ).loc main_arg1)) := by
  entry_read
  rfl
theorem b1_at (c : Dev nD) (t : Fin cfg0.N) (i : Fin 512) (j : Fin 1024) :
    (show FVec Ideal S512x1024 .f32 from iblk m c 1 t) (ix2 i j) = flat (m ((c : Thread nD τ).loc main_arg1)) (ix2 ⟨512 * t.val + i.val, by have := lt t; omega⟩ j) := by
  blk_simp [iblk]
  rw [← v1_eq]
  exact congrArg (V m c main_v1) (by blk_ext [idx t])

theorem v2_eq (c : Dev nD) : V m c main_v2 = flat (m ((c : Thread nD τ).loc main_arg2)) := by
  entry_read
  rfl
theorem b2_at (c : Dev nD) (t : Fin cfg0.N) (i : Fin 512) (j : Fin 1024) :
    (show FVec Ideal S512x1024 .f32 from iblk m c 2 t) (ix2 i j) = flat (m ((c : Thread nD τ).loc main_arg2)) (ix2 ⟨512 * t.val + i.val, by have := lt t; omega⟩ j) := by
  blk_simp [iblk]
  rw [← v2_eq]
  exact congrArg (V m c main_v2) (by blk_ext [idx t])

theorem v3_eq (c : Dev nD) : V m c main_v3 = flat (m ((c : Thread nD τ).loc main_arg3)) := by
  entry_read
  rfl
theorem b3_at (c : Dev nD) (t : Fin cfg0.N) (i : Fin 512) (j : Fin 1024) :
    (show FVec Ideal S512x1024 .f32 from iblk m c 3 t) (ix2 i j) = flat (m ((c : Thread nD τ).loc main_arg3)) (ix2 ⟨512 * t.val + i.val, by have := lt t; omega⟩ j) := by
  blk_simp [iblk]
  rw [← v3_eq]
  exact congrArg (V m c main_v3) (by blk_ext [idx t])

theorem emb5 (t : Fin cfg0.N) (i : Fin 512) (j : Fin 1024) :
    (win0_5.blk t).view.emb (ix2 i j) = (ix2 ⟨512 * t.val + i.val, by have := lt t; omega⟩ j : S1024x1024.Idx) := by
  blk_ext [idx t]

theorem emb6 (t : Fin cfg0.N) (i : Fin 512) (j : Fin 1024) :
    (win0_6.blk t).view.emb (ix2 i j) = (ix2 ⟨512 * t.val + i.val, by have := lt t; omega⟩ j : S1024x1024.Idx) := by
  blk_ext [idx t]

theorem emb7 (t : Fin cfg0.N) (i : Fin 512) (j : Fin 1024) :
    (win0_7.blk t).view.emb (ix2 i j) = (ix2 ⟨512 * t.val + i.val, by have := lt t; omega⟩ j : S1024x1024.Idx) := by
  blk_ext [idx t]

theorem final5 (c : Dev nD) : (dats m 0 c).arrAt 5 (cfgs 0).N = refD (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  idx_vars y
  blk_simp
  rw [after0_5]
  frame_out
  refine (pay4_at _ _ _ _ _ _).trans ?_
  refine Eq.trans ?_ (congrArg _ (emb5 t y0 y1)).symm
  rw [refD_at]
  simp only [b0_at, b1_at, b2_at, b3_at]

theorem final6 (c : Dev nD) : (dats m 0 c).arrAt 6 (cfgs 0).N = refM (m ((c : Thread nD τ).loc main_arg1)) (m ((c : Thread nD τ).loc main_arg2)) := by
  refine (dats m 0 c).arrAt_eq_of_covers 6 _ (by decide +kernel) fun t hf y => ?_
  idx_vars y
  blk_simp
  rw [after0_6]
  frame_out
  refine (pay2_at _ _ _ _).trans ?_
  refine Eq.trans ?_ (congrArg _ (emb6 t y0 y1)).symm
  rw [refM_at]
  simp only [b0_at, b1_at, b2_at, b3_at]

theorem final7 (c : Dev nD) : (dats m 0 c).arrAt 7 (cfgs 0).N = refV (m ((c : Thread nD τ).loc main_arg1)) (m ((c : Thread nD τ).loc main_arg3)) := by
  refine (dats m 0 c).arrAt_eq_of_covers 7 _ (by decide +kernel) fun t hf y => ?_
  idx_vars y
  blk_simp
  rw [after0_7]
  frame_out
  refine (pay3_at _ _ _ _).trans ?_
  refine Eq.trans ?_ (congrArg _ (emb7 t y0 y1)).symm
  rw [refV_at]
  simp only [b0_at, b1_at, b2_at, b3_at]

end Cert.AdamOutIdeal.Result

end
-- ==== Proof.AdamOutPair.lean ====
/- The claims of one call and its reference: both run, and their results are equal. -/
module

public import proofs.«01_k».proof.Defs
public import proofs.«01_k».proof.Proof.Gen.AdamOut
public import proofs.«01_k».proof.Proof.Gen.AdamOut.Frame
public import proofs.«01_k».proof.Proof.Gen.AdamOutIdeal
public import proofs.«01_k».proof.Proof.Gen.AdamOutIdeal.Frame
public import proofs.«01_k».proof.Proof.Gen.AdamOutIdeal.Value
public import proofs.«01_k».proof.Proof.Gen.AdamOutRefIdeal
public import proofs.«01_k».proof.Proof.Gen.AdamOutRefIdeal.Run
public import proofs.«01_k».proof.Proof.Gen.AdamOutRefIdeal.Read
public import proofs.«01_k».proof.Proof.AdamOutValue
public import Idealize.ShloMosaic.Lib.Claim

@[expose] public section

set_option maxRecDepth 16384

noncomputable section

namespace Cert.AdamOutPair

open Idealize.ShloMosaic Idealize.SL.Sem

/-- The reference runs and leaves its arguments as they were. -/
theorem reference_frame : Cert.quiescent_AdamOutRefIdeal (hAdamOutRefIdeal := Cert.AdamOutRefIdeal.Gen.facts) := by
  intro m g _
  exact (θ_run Cert.AdamOutRefIdeal.defs _ _).mono (fun r h => ⟨fun c => (h c).2.2.2, sem_eq_zero_of_no_sems (by decide) r.2⟩)
    (Cert.AdamOutRefIdeal.Value.run (F := Ideal) m g)

/-- The kernel's results are the reference's. -/
theorem value : Cert.algebraic_AdamOutIdeal_AdamOutRefIdeal (hAdamOutIdeal := Cert.AdamOutIdeal.Gen.facts) (hAdamOutRefIdeal := Cert.AdamOutRefIdeal.Gen.facts) := by
  pair_intro
  · run_from Cert.AdamOutIdeal.Gen.run_main m g
  · run_from Cert.AdamOutRefIdeal.Value.run m' g'
    · exact (Cert.AdamOutRefIdeal.Read.val_main_v24_eq _ _ _ _).trans (Cert.AdamOutIdeal.Result.final5 m c).symm
    · exact (Cert.AdamOutRefIdeal.Read.val_main_v25_eq _ _).trans (Cert.AdamOutIdeal.Result.final6 m c).symm
    · exact (Cert.AdamOutRefIdeal.Read.val_main_v26_eq _ _).trans (Cert.AdamOutIdeal.Result.final7 m c).symm

end Cert.AdamOutPair

end
-- ==== Proof.AdamSmallRows.lean ====
/- The small weights' arrays in rows of 128, and an entrywise function of several of them. -/
module

public import proofs.«01_k».proof.Proof.Gen.AdamSmallIdeal
public import proofs.«01_k».proof.Proof.Gen.AdamSmallRefIdeal
public import Idealize.ShloMosaic.Lib.Pipeline.ReadBack
public import Idealize.ShloMosaic.Lib.Pipeline.ValueKit
public import Idealize.ShloMosaic.Lib.Pointwise
public import Idealize.ShloMosaic.Lib.ValueLayout
public import Idealize.ShloMosaic.Lib.Claim

@[expose] public section

set_option maxRecDepth 16384

noncomputable section

namespace Cert.AdamSmallIdeal.Result

open Cert.AdamSmallIdeal Cert.AdamSmallIdeal.Gen Idealize.ShloMosaic Idealize.ShloMosaic.TcCoe Idealize.SL.Sem
open Idealize.ShloMosaic.Pipeline (Dat)

/-- The row of the sinks, filled up with zeros. -/
def sinkRow (s : FVec Ideal S4x8 .f32) : FVec Ideal S1x128 .f32 :=
  concatenate S1x128 1 [⟨Cert.AdamSmallRefIdeal.S1x32, shapeCast Cert.AdamSmallRefIdeal.S1x32 s Cert.AdamSmallRefIdeal.Facts₀.shapeCasts_S4x8_S1x32⟩,
    ⟨Cert.AdamSmallRefIdeal.S1x96, broadcastInDim Cert.AdamSmallRefIdeal.S1x96 ![] Cert.AdamSmallRefIdeal.Facts₀.bcast_S_S1x96 (constant S_ .f32 0x00000000#32)⟩] Cert.AdamSmallRefIdeal.Facts₀.concatenates_S1x32_S1x96_S1x128_d1

/-- The eight weights' arrays in rows of 128. -/
def rows (a : FVec Ideal S4x1024 .f32) (b : FVec Ideal S4x1024 .f32) (c : FVec Ideal S4x4x128x128 .f32) (d : FVec Ideal S4x512 .f32) (e : FVec Ideal S4x64 .f32) (f : FVec Ideal S4x64 .f32) (s : FVec Ideal S4x8 .f32) (h : FVec Ideal S4x1024 .f32) : FVec Ideal S2168x128 .f32 :=
  concatenate S2168x128 0 [⟨S32x128, shapeCast S32x128 a Cert.AdamSmallRefIdeal.Facts₀.shapeCasts_S4x1024_S32x128⟩, ⟨S32x128, shapeCast S32x128 b Cert.AdamSmallRefIdeal.Facts₀.shapeCasts_S4x1024_S32x128⟩, ⟨S2048x128, shapeCast S2048x128 c Cert.AdamSmallRefIdeal.Facts₀.shapeCasts_S4x4x128x128_S2048x128⟩, ⟨S16x128, shapeCast S16x128 d Cert.AdamSmallRefIdeal.Facts₀.shapeCasts_S4x512_S16x128⟩, ⟨S2x128, shapeCast S2x128 e Cert.AdamSmallRefIdeal.Facts₀.shapeCasts_S4x64_S2x128⟩, ⟨S2x128, shapeCast S2x128 f Cert.AdamSmallRefIdeal.Facts₀.shapeCasts_S4x64_S2x128⟩, ⟨S1x128, sinkRow s⟩, ⟨S32x128, shapeCast S32x128 h Cert.AdamSmallRefIdeal.Facts₀.shapeCasts_S4x1024_S32x128⟩,
    ⟨S3x128, broadcastInDim S3x128 ![] bcast_S_S3x128 (constant S_ .f32 0x00000000#32)⟩]
    concatenates_S32x128_S32x128_S2048x128_S16x128_S2x128_S2x128_S1x128_S32x128_S3x128_S2168x128_d0

/-- One entry of the rows: the entry of the array that the row is part of. -/
theorem rows_at (a : FVec Ideal S4x1024 .f32) (b : FVec Ideal S4x1024 .f32) (c : FVec Ideal S4x4x128x128 .f32) (d : FVec Ideal S4x512 .f32) (e : FVec Ideal S4x64 .f32) (f : FVec Ideal S4x64 .f32) (s : FVec Ideal S4x8 .f32) (h : FVec Ideal S4x1024 .f32) (y0 : Fin 2168) (y1 : Fin 128) : rows a b c d e f s h (ix2 y0 y1) =
    if g1 : y0.val < 32 then a (ix2 ⟨(y0.val) / 8, by have := y0.isLt; have := y1.isLt; omega⟩ ⟨(y0.val) % 8 * 128 + y1.val, by have := y0.isLt; have := y1.isLt; omega⟩)
    else if g2 : y0.val - 32 < 32 then b (ix2 ⟨(y0.val - 32) / 8, by have := y0.isLt; have := y1.isLt; omega⟩ ⟨(y0.val - 32) % 8 * 128 + y1.val, by have := y0.isLt; have := y1.isLt; omega⟩)
    else if g3 : y0.val - 32 - 32 < 2048 then c (ix4 ⟨(y0.val - 32 - 32) / 512, by have := y0.isLt; have := y1.isLt; omega⟩ ⟨(y0.val - 32 - 32) / 128 % 4, by have := y0.isLt; have := y1.isLt; omega⟩ ⟨(y0.val - 32 - 32) % 128, by have := y0.isLt; have := y1.isLt; omega⟩ y1)
    else if g4 : y0.val - 32 - 32 - 2048 < 16 then d (ix2 ⟨(y0.val - 32 - 32 - 2048) / 4, by have := y0.isLt; have := y1.isLt; omega⟩ ⟨(y0.val - 32 - 32 - 2048) % 4 * 128 + y1.val, by have := y0.isLt; have := y1.isLt; omega⟩)
    else if g5 : y0.val - 32 - 32 - 2048 - 16 < 2 then e (ix2 ⟨(y0.val - 32 - 32 - 2048 - 16) * 2 + y1.val / 64, by have := y0.isLt; have := y1.isLt; omega⟩ ⟨y1.val % 64, by have := y0.isLt; have := y1.isLt; omega⟩)
    else if g6 : y0.val - 32 - 32 - 2048 - 16 - 2 < 2 then f (ix2 ⟨(y0.val - 32 - 32 - 2048 - 16 - 2) * 2 + y1.val / 64, by have := y0.isLt; have := y1.isLt; omega⟩ ⟨y1.val % 64, by have := y0.isLt; have := y1.isLt; omega⟩)
    else if g7 : y0.val - 32 - 32 - 2048 - 16 - 2 - 2 < 1 then (if g8 : y1.val < 32 then s (ix2 ⟨y1.val / 8, by have := y0.isLt; have := y1.isLt; omega⟩ ⟨y1.val % 8, by have := y0.isLt; have := y1.isLt; omega⟩) else 0)
    else if g8 : y0.val - 32 - 32 - 2048 - 16 - 2 - 2 - 1 < 32 then h (ix2 ⟨(y0.val - 32 - 32 - 2048 - 16 - 2 - 2 - 1) / 8, by have := y0.isLt; have := y1.isLt; omega⟩ ⟨(y0.val - 32 - 32 - 2048 - 16 - 2 - 2 - 1) % 8 * 128 + y1.val, by have := y0.isLt; have := y1.isLt; omega⟩)
    else 0 := by
  pointwise [rows, sinkRow]

/-- Which entry that is does not depend on the arrays. -/
theorem rows_cases (y0 : Fin 2168) (y1 : Fin 128) :
    (∃ i, ∀ a b c d e f s h, rows a b c d e f s h (ix2 y0 y1) = a i) ∨
    (∃ i, ∀ a b c d e f s h, rows a b c d e f s h (ix2 y0 y1) = b i) ∨
    (∃ i, ∀ a b c d e f s h, rows a b c d e f s h (ix2 y0 y1) = c i) ∨
    (∃ i, ∀ a b c d e f s h, rows a b c d e f s h (ix2 y0 y1) = d i) ∨
    (∃ i, ∀ a b c d e f s h, rows a b c d e f s h (ix2 y0 y1) = e i) ∨
    (∃ i, ∀ a b c d e f s h, rows a b c d e f s h (ix2 y0 y1) = f i) ∨
    (∃ i, ∀ a b c d e f s h, rows a b c d e f s h (ix2 y0 y1) = s i) ∨
    (∃ i, ∀ a b c d e f s h, rows a b c d e f s h (ix2 y0 y1) = h i) ∨
    (∀ a b c d e f s h, rows a b c d e f s h (ix2 y0 y1) = 0) := by
  by_cases g1 : y0.val < 32
  · exact Or.inl ⟨_, fun a b c d e f s h => (rows_at a b c d e f s h y0 y1).trans (dif_pos g1)⟩
  by_cases g2 : y0.val - 32 < 32
  · exact Or.inr <| Or.inl ⟨_, fun a b c d e f s h => (rows_at a b c d e f s h y0 y1).trans ((dif_neg g1).trans (dif_pos g2))⟩
  by_cases g3 : y0.val - 32 - 32 < 2048
  · exact Or.inr <| Or.inr <| Or.inl ⟨_, fun a b c d e f s h => (rows_at a b c d e f s h y0 y1).trans ((dif_neg g1).trans ((dif_neg g2).trans (dif_pos g3)))⟩
  by_cases g4 : y0.val - 32 - 32 - 2048 < 16
  · exact Or.inr <| Or.inr <| Or.inr <| Or.inl ⟨_, fun a b c d e f s h => (rows_at a b c d e f s h y0 y1).trans ((dif_neg g1).trans ((dif_neg g2).trans ((dif_neg g3).trans (dif_pos g4))))⟩
  by_cases g5 : y0.val - 32 - 32 - 2048 - 16 < 2
  · exact Or.inr <| Or.inr <| Or.inr <| Or.inr <| Or.inl ⟨_, fun a b c d e f s h => (rows_at a b c d e f s h y0 y1).trans ((dif_neg g1).trans ((dif_neg g2).trans ((dif_neg g3).trans ((dif_neg g4).trans (dif_pos g5)))))⟩
  by_cases g6 : y0.val - 32 - 32 - 2048 - 16 - 2 < 2
  · exact Or.inr <| Or.inr <| Or.inr <| Or.inr <| Or.inr <| Or.inl ⟨_, fun a b c d e f s h => (rows_at a b c d e f s h y0 y1).trans ((dif_neg g1).trans ((dif_neg g2).trans ((dif_neg g3).trans ((dif_neg g4).trans ((dif_neg g5).trans (dif_pos g6))))))⟩
  by_cases g7 : y0.val - 32 - 32 - 2048 - 16 - 2 - 2 < 1
  · by_cases g : y1.val < 32
    · exact Or.inr <| Or.inr <| Or.inr <| Or.inr <| Or.inr <| Or.inr <| Or.inl ⟨_, fun a b c d e f s h => (rows_at a b c d e f s h y0 y1).trans ((dif_neg g1).trans ((dif_neg g2).trans ((dif_neg g3).trans ((dif_neg g4).trans ((dif_neg g5).trans ((dif_neg g6).trans ((dif_pos g7).trans (dif_pos g))))))))⟩
    · exact Or.inr <| Or.inr <| Or.inr <| Or.inr <| Or.inr <| Or.inr <| Or.inr <| Or.inr <| fun a b c d e f s h => (rows_at a b c d e f s h y0 y1).trans ((dif_neg g1).trans ((dif_neg g2).trans ((dif_neg g3).trans ((dif_neg g4).trans ((dif_neg g5).trans ((dif_neg g6).trans ((dif_pos g7).trans (dif_neg g))))))))
  by_cases g8 : y0.val - 32 - 32 - 2048 - 16 - 2 - 2 - 1 < 32
  · exact Or.inr <| Or.inr <| Or.inr <| Or.inr <| Or.inr <| Or.inr <| Or.inr <| Or.inl ⟨_, fun a b c d e f s h => (rows_at a b c d e f s h y0 y1).trans ((dif_neg g1).trans ((dif_neg g2).trans ((dif_neg g3).trans ((dif_neg g4).trans ((dif_neg g5).trans ((dif_neg g6).trans ((dif_neg g7).trans (dif_pos g8))))))))⟩
  exact Or.inr <| Or.inr <| Or.inr <| Or.inr <| Or.inr <| Or.inr <| Or.inr <| Or.inr <| fun a b c d e f s h => (rows_at a b c d e f s h y0 y1).trans ((dif_neg g1).trans ((dif_neg g2).trans ((dif_neg g3).trans ((dif_neg g4).trans ((dif_neg g5).trans ((dif_neg g6).trans ((dif_neg g7).trans (dif_neg g8))))))))

/-- An entrywise function of 2 arrays, taken before or after the packing. -/
theorem rows_two (f : EReal → EReal → EReal) (hf : f 0 0 = 0) (a0 a1 : FVec Ideal S4x1024 .f32) (b0 b1 : FVec Ideal S4x1024 .f32) (c0 c1 : FVec Ideal S4x4x128x128 .f32) (d0 d1 : FVec Ideal S4x512 .f32) (e0 e1 : FVec Ideal S4x64 .f32) (f0 f1 : FVec Ideal S4x64 .f32) (s0 s1 : FVec Ideal S4x8 .f32) (h0 h1 : FVec Ideal S4x1024 .f32) (y : S2168x128.Idx) :
    (rows (fun i => f (a0 i) (a1 i)) (fun i => f (b0 i) (b1 i)) (fun i => f (c0 i) (c1 i)) (fun i => f (d0 i) (d1 i)) (fun i => f (e0 i) (e1 i)) (fun i => f (f0 i) (f1 i)) (fun i => f (s0 i) (s1 i)) (fun i => f (h0 i) (h1 i))) y = f (rows a0 b0 c0 d0 e0 f0 s0 h0 y) (rows a1 b1 c1 d1 e1 f1 s1 h1 y) := by
  idx_vars y
  rcases rows_cases y0 y1 with ⟨i, hi⟩ | ⟨i, hi⟩ | ⟨i, hi⟩ | ⟨i, hi⟩ | ⟨i, hi⟩ | ⟨i, hi⟩ | ⟨i, hi⟩ | ⟨i, hi⟩ | hi
  all_goals rw [hi, hi, hi]
  exact hf.symm

/-- An entrywise function of 4 arrays, taken before or after the packing. -/
theorem rows_four (f : EReal → EReal → EReal → EReal → EReal) (hf : f 0 0 0 0 = 0) (a0 a1 a2 a3 : FVec Ideal S4x1024 .f32) (b0 b1 b2 b3 : FVec Ideal S4x1024 .f32) (c0 c1 c2 c3 : FVec Ideal S4x4x128x128 .f32) (d0 d1 d2 d3 : FVec Ideal S4x512 .f32) (e0 e1 e2 e3 : FVec Ideal S4x64 .f32) (f0 f1 f2 f3 : FVec Ideal S4x64 .f32) (s0 s1 s2 s3 : FVec Ideal S4x8 .f32) (h0 h1 h2 h3 : FVec Ideal S4x1024 .f32) (y : S2168x128.Idx) :
    (rows (fun i => f (a0 i) (a1 i) (a2 i) (a3 i)) (fun i => f (b0 i) (b1 i) (b2 i) (b3 i)) (fun i => f (c0 i) (c1 i) (c2 i) (c3 i)) (fun i => f (d0 i) (d1 i) (d2 i) (d3 i)) (fun i => f (e0 i) (e1 i) (e2 i) (e3 i)) (fun i => f (f0 i) (f1 i) (f2 i) (f3 i)) (fun i => f (s0 i) (s1 i) (s2 i) (s3 i)) (fun i => f (h0 i) (h1 i) (h2 i) (h3 i))) y = f (rows a0 b0 c0 d0 e0 f0 s0 h0 y) (rows a1 b1 c1 d1 e1 f1 s1 h1 y) (rows a2 b2 c2 d2 e2 f2 s2 h2 y) (rows a3 b3 c3 d3 e3 f3 s3 h3 y) := by
  idx_vars y
  rcases rows_cases y0 y1 with ⟨i, hi⟩ | ⟨i, hi⟩ | ⟨i, hi⟩ | ⟨i, hi⟩ | ⟨i, hi⟩ | ⟨i, hi⟩ | ⟨i, hi⟩ | ⟨i, hi⟩ | hi
  all_goals rw [hi, hi, hi, hi, hi]
  exact hf.symm

end Cert.AdamSmallIdeal.Result

end
-- ==== Proof.AdamSmallPacked.lean ====
/- The small weights' arrays in rows of 128, and the call's operands as these rows. -/
module

public import proofs.«01_k».proof.Proof.Gen.AdamSmallIdeal.Value
public import proofs.«01_k».proof.Proof.AdamSmallRows
public import Idealize.ShloMosaic.Lib.Pipeline.ReadBack
public import Idealize.ShloMosaic.Lib.Pipeline.ValueKit
public import Idealize.ShloMosaic.Lib.Pointwise
public import Idealize.ShloMosaic.Lib.ValueLayout
public import Idealize.ShloMosaic.Lib.Claim

@[expose] public section

set_option maxRecDepth 16384

noncomputable section

namespace Cert.AdamSmallIdeal.Result

open Cert.AdamSmallIdeal Cert.AdamSmallIdeal.Gen Idealize.ShloMosaic Idealize.ShloMosaic.TcCoe Idealize.SL.Sem
open Idealize.ShloMosaic.Pipeline (Dat)

variable (m : (ℓ : Loc nD τ sig) → Buf (Elt Ideal) ℓ)

/-- A padding by nothing, between two readings of one array. -/
theorem pad_S4x1024 (x : FVec Ideal S4x1024 .f32) (z : FVec Ideal S_ .f32) :
    shapeCast S32x128 (pad S4096 ![0] ![0] ![0] (shapeCast S4096 x shapeCasts_S4x1024_S4096) z pads_S4096_S4096_000 h_S_) shapeCasts_S4096_S32x128 = shapeCast S32x128 x Cert.AdamSmallRefIdeal.Facts₀.shapeCasts_S4x1024_S32x128 := by
  funext y
  idx_vars y
  pointwise []
  have h0 := y0.isLt
  have h1 := y1.isLt
  rw [dif_pos (by omega)]
  refine congrArg x (funext fun q => Fin.ext ?_)
  fin_cases q
  · show (y0.val * 128 + y1.val) / 1024 = y0.val / 8
    omega
  · show (y0.val * 128 + y1.val) % 1024 = y0.val % 8 * 128 + y1.val
    omega

/-- A padding by nothing, between two readings of one array. -/
theorem pad_S4x4x128x128 (x : FVec Ideal S4x4x128x128 .f32) (z : FVec Ideal S_ .f32) :
    shapeCast S2048x128 (pad S262144 ![0] ![0] ![0] (shapeCast S262144 x shapeCasts_S4x4x128x128_S262144) z pads_S262144_S262144_000 h_S_) shapeCasts_S262144_S2048x128 = shapeCast S2048x128 x Cert.AdamSmallRefIdeal.Facts₀.shapeCasts_S4x4x128x128_S2048x128 := by
  funext y
  idx_vars y
  pointwise []
  have h0 := y0.isLt
  have h1 := y1.isLt
  rw [dif_pos (by omega)]
  refine congrArg x (funext fun q => Fin.ext ?_)
  fin_cases q
  · show (y0.val * 128 + y1.val) / 65536 = y0.val / 512
    omega
  · show (y0.val * 128 + y1.val) / 16384 % 4 = y0.val / 128 % 4
    omega
  · show (y0.val * 128 + y1.val) / 128 % 128 = y0.val % 128
    omega
  · show y1.val = y1.val
    rfl

/-- A padding by nothing, between two readings of one array. -/
theorem pad_S4x512 (x : FVec Ideal S4x512 .f32) (z : FVec Ideal S_ .f32) :
    shapeCast S16x128 (pad S2048 ![0] ![0] ![0] (shapeCast S2048 x shapeCasts_S4x512_S2048) z pads_S2048_S2048_000 h_S_) shapeCasts_S2048_S16x128 = shapeCast S16x128 x Cert.AdamSmallRefIdeal.Facts₀.shapeCasts_S4x512_S16x128 := by
  funext y
  idx_vars y
  pointwise []
  have h0 := y0.isLt
  have h1 := y1.isLt
  rw [dif_pos (by omega)]
  refine congrArg x (funext fun q => Fin.ext ?_)
  fin_cases q
  · show (y0.val * 128 + y1.val) / 512 = y0.val / 4
    omega
  · show (y0.val * 128 + y1.val) % 512 = y0.val % 4 * 128 + y1.val
    omega

/-- A padding by nothing, between two readings of one array. -/
theorem pad_S4x64 (x : FVec Ideal S4x64 .f32) (z : FVec Ideal S_ .f32) :
    shapeCast S2x128 (pad S256 ![0] ![0] ![0] (shapeCast S256 x shapeCasts_S4x64_S256) z pads_S256_S256_000 h_S_) shapeCasts_S256_S2x128 = shapeCast S2x128 x Cert.AdamSmallRefIdeal.Facts₀.shapeCasts_S4x64_S2x128 := by
  funext y
  idx_vars y
  pointwise []
  have h0 := y0.isLt
  have h1 := y1.isLt
  rw [dif_pos (by omega)]
  refine congrArg x (funext fun q => Fin.ext ?_)
  fin_cases q
  · show (y0.val * 128 + y1.val) / 64 = y0.val * 2 + y1.val / 64
    omega
  · show (y0.val * 128 + y1.val) % 64 = y1.val % 64
    omega

/-- The sinks, padded to a row. -/
theorem pad_S4x8 (x : FVec Ideal S4x8 .f32) (z : FVec Ideal S_ .f32) (hz : z = constant S_ .f32 0x00000000#32) :
    shapeCast S1x128 (pad S128 ![0] ![96] ![0] (shapeCast S32 x shapeCasts_S4x8_S32) z pads_S32_S128_0960 h_S_) shapeCasts_S128_S1x128 = sinkRow x := by
  subst hz
  funext y
  idx_vars y
  pointwise [sinkRow]

/-- The host's packing of eight arrays. -/
theorem packed (a : FVec Ideal S4x1024 .f32) (b : FVec Ideal S4x1024 .f32) (c : FVec Ideal S4x4x128x128 .f32) (d : FVec Ideal S4x512 .f32) (e : FVec Ideal S4x64 .f32) (f : FVec Ideal S4x64 .f32) (s : FVec Ideal S4x8 .f32) (h : FVec Ideal S4x1024 .f32) (za zb zc zd ze zf zs zh : FVec Ideal S_ .f32) (hz : zs = constant S_ .f32 0x00000000#32) :
    concatenate S2168x128 0 [⟨S32x128, shapeCast S32x128 (pad S4096 ![0] ![0] ![0] (shapeCast S4096 a shapeCasts_S4x1024_S4096) za pads_S4096_S4096_000 h_S_) shapeCasts_S4096_S32x128⟩,
      ⟨S32x128, shapeCast S32x128 (pad S4096 ![0] ![0] ![0] (shapeCast S4096 b shapeCasts_S4x1024_S4096) zb pads_S4096_S4096_000 h_S_) shapeCasts_S4096_S32x128⟩,
      ⟨S2048x128, shapeCast S2048x128 (pad S262144 ![0] ![0] ![0] (shapeCast S262144 c shapeCasts_S4x4x128x128_S262144) zc pads_S262144_S262144_000 h_S_) shapeCasts_S262144_S2048x128⟩,
      ⟨S16x128, shapeCast S16x128 (pad S2048 ![0] ![0] ![0] (shapeCast S2048 d shapeCasts_S4x512_S2048) zd pads_S2048_S2048_000 h_S_) shapeCasts_S2048_S16x128⟩,
      ⟨S2x128, shapeCast S2x128 (pad S256 ![0] ![0] ![0] (shapeCast S256 e shapeCasts_S4x64_S256) ze pads_S256_S256_000 h_S_) shapeCasts_S256_S2x128⟩,
      ⟨S2x128, shapeCast S2x128 (pad S256 ![0] ![0] ![0] (shapeCast S256 f shapeCasts_S4x64_S256) zf pads_S256_S256_000 h_S_) shapeCasts_S256_S2x128⟩,
      ⟨S1x128, shapeCast S1x128 (pad S128 ![0] ![96] ![0] (shapeCast S32 s shapeCasts_S4x8_S32) zs pads_S32_S128_0960 h_S_) shapeCasts_S128_S1x128⟩,
      ⟨S32x128, shapeCast S32x128 (pad S4096 ![0] ![0] ![0] (shapeCast S4096 h shapeCasts_S4x1024_S4096) zh pads_S4096_S4096_000 h_S_) shapeCasts_S4096_S32x128⟩,
      ⟨S3x128, broadcastInDim S3x128 ![] bcast_S_S3x128 (constant S_ .f32 0x00000000#32)⟩]
      concatenates_S32x128_S32x128_S2048x128_S16x128_S2x128_S2x128_S1x128_S32x128_S3x128_S2168x128_d0 = rows a b c d e f s h := by
  rw [pad_S4x1024, pad_S4x1024, pad_S4x1024, pad_S4x4x128x128, pad_S4x512, pad_S4x64, pad_S4x64, pad_S4x8 _ _ hz]
  rfl

/-- The integer zero, converted. -/
theorem zero : sitofp .f32 (constantI S_ 32 0#32) = (constant S_ .f32 0x00000000#32 : FVec Ideal S_ .f32) := by
  funext i
  refine Eq.trans ?_ Ideal.ofBits_zero_f32.symm
  show (((0#32 : BitVec 32).toInt : ℝ) : EReal) = 0
  simp

abbrev row0 (c : Dev nD) : FVec Ideal S2168x128 .f32 := rows (m ((c : Thread nD τ).loc main_arg0)) (m ((c : Thread nD τ).loc main_arg4)) (m ((c : Thread nD τ).loc main_arg8)) (m ((c : Thread nD τ).loc main_arg12)) (m ((c : Thread nD τ).loc main_arg16)) (m ((c : Thread nD τ).loc main_arg20)) (m ((c : Thread nD τ).loc main_arg24)) (m ((c : Thread nD τ).loc main_arg28))
set_option maxHeartbeats 8000000 in
theorem v25_eq (c : Dev nD) : V m c main_v25 = row0 m c := by
  entry_read
  exact packed _ _ _ _ _ _ _ _ _ _ _ _ _ _ _ _ zero

abbrev row1 (c : Dev nD) : FVec Ideal S2168x128 .f32 := rows (m ((c : Thread nD τ).loc main_arg1)) (m ((c : Thread nD τ).loc main_arg5)) (m ((c : Thread nD τ).loc main_arg9)) (m ((c : Thread nD τ).loc main_arg13)) (m ((c : Thread nD τ).loc main_arg17)) (m ((c : Thread nD τ).loc main_arg21)) (m ((c : Thread nD τ).loc main_arg25)) (m ((c : Thread nD τ).loc main_arg29))
set_option maxHeartbeats 8000000 in
theorem v51_eq (c : Dev nD) : V m c main_v51 = row1 m c := by
  entry_read
  exact packed _ _ _ _ _ _ _ _ _ _ _ _ _ _ _ _ zero

abbrev row2 (c : Dev nD) : FVec Ideal S2168x128 .f32 := rows (m ((c : Thread nD τ).loc main_arg2)) (m ((c : Thread nD τ).loc main_arg6)) (m ((c : Thread nD τ).loc main_arg10)) (m ((c : Thread nD τ).loc main_arg14)) (m ((c : Thread nD τ).loc main_arg18)) (m ((c : Thread nD τ).loc main_arg22)) (m ((c : Thread nD τ).loc main_arg26)) (m ((c : Thread nD τ).loc main_arg30))
set_option maxHeartbeats 8000000 in
theorem v77_eq (c : Dev nD) : V m c main_v77 = row2 m c := by
  entry_read
  exact packed _ _ _ _ _ _ _ _ _ _ _ _ _ _ _ _ zero

abbrev row3 (c : Dev nD) : FVec Ideal S2168x128 .f32 := rows (m ((c : Thread nD τ).loc main_arg3)) (m ((c : Thread nD τ).loc main_arg7)) (m ((c : Thread nD τ).loc main_arg11)) (m ((c : Thread nD τ).loc main_arg15)) (m ((c : Thread nD τ).loc main_arg19)) (m ((c : Thread nD τ).loc main_arg23)) (m ((c : Thread nD τ).loc main_arg27)) (m ((c : Thread nD τ).loc main_arg31))
set_option maxHeartbeats 8000000 in
theorem v103_eq (c : Dev nD) : V m c main_v103 = row3 m c := by
  entry_read
  exact packed _ _ _ _ _ _ _ _ _ _ _ _ _ _ _ _ zero

end Cert.AdamSmallIdeal.Result

end
-- ==== Proof.AdamSmallValue.lean ====
/- The optimiser's step on the small weights, which the host packs into rows of 128: the kernel's rows are those of the reference's update and new moments. -/
module

public import proofs.«01_k».proof.Proof.Gen.AdamSmallIdeal.Value
public import proofs.«01_k».proof.Proof.Gen.AdamSmallRefIdeal.Read
public import proofs.«01_k».proof.Proof.AdamSmallPacked
public import Idealize.ShloMosaic.Lib.Pipeline.ReadBack
public import Idealize.ShloMosaic.Lib.Pipeline.ValueKit
public import Idealize.ShloMosaic.Lib.Pointwise
public import Idealize.ShloMosaic.Lib.ValueLayout
public import Idealize.ShloMosaic.Lib.Claim

@[expose] public section

set_option maxRecDepth 16384

noncomputable section

namespace Cert.AdamSmallIdeal.Result

open Cert.AdamSmallIdeal Cert.AdamSmallIdeal.Gen Idealize.ShloMosaic Idealize.ShloMosaic.TcCoe Idealize.SL.Sem
open Idealize.ShloMosaic.Pipeline (Dat)

variable (m : (ℓ : Loc nD τ sig) → Buf (Elt Ideal) ℓ)

/-- One entry of the new first moment, of the new second moment, and of the update. -/
abbrev mom (g a : EReal) : EReal := Ideal.ofBits .f32 0x3F666666#32 * a + Ideal.ofBits .f32 0x3DCCCCCD#32 * g
abbrev var (g b : EReal) : EReal := Ideal.ofBits .f32 0x3F7FBE77#32 * b + Ideal.ofBits .f32 0x3A83126F#32 * (g * g)
abbrev upd (w g a b : EReal) : EReal :=
  Ideal.ofBits .f32 0xBA83126F#32 * (Ideal.div (Ideal.div (mom g a) (Ideal.ofBits .f32 0x3F26BD02#32))
    (Ideal.sqrt (Ideal.div (var g b) (Ideal.ofBits .f32 0x3C231ACC#32)) + Ideal.ofBits .f32 0x322BCC77#32)
    + Ideal.ofBits .f32 0x3C23D70A#32 * w)

theorem eps : Ideal.ofBits .f32 0x322BCC77#32 ≠ 0 ∧ Ideal.ofBits .f32 0x3F26BD02#32 ≠ 0 ∧ Ideal.ofBits .f32 0x3C231ACC#32 ≠ 0 := by
  refine ⟨?_, ?_, ?_⟩ <;> simp [Ideal.ofBits, Ideal.ieee, -EReal.coe_mul]

theorem zero_div {x : EReal} (h : x ≠ 0) : Ideal.div 0 x = 0 := by
  simp [Ideal.div, h]

theorem mom_zero : mom 0 0 = 0 := by simp [mom]
theorem var_zero : var 0 0 = 0 := by simp [var]
theorem upd_zero : upd 0 0 0 0 = 0 := by
  have h0 : Ideal.sqrt 0 = 0 := by rw [← EReal.coe_zero, Ideal.sqrt_coe]; simp
  rw [upd, mom_zero, var_zero, zero_div eps.2.1, zero_div eps.2.2, h0, zero_add, zero_div eps.1]
  simp

theorem refD_at (x0 x1 x2 x3 : FVec Ideal S4x1024 .f32) (x4 x5 x6 x7 : FVec Ideal S4x1024 .f32) (x8 x9 x10 x11 : FVec Ideal S4x4x128x128 .f32) (x12 x13 x14 x15 : FVec Ideal S4x512 .f32) (x16 x17 x18 x19 : FVec Ideal S4x64 .f32) (x20 x21 x22 x23 : FVec Ideal S4x64 .f32) (x24 x25 x26 x27 : FVec Ideal S4x8 .f32) (x28 x29 x30 x31 : FVec Ideal S4x1024 .f32) (y) :
    Cert.AdamSmallRefIdeal.Read.val_main_v203 (F := Ideal) x0 x1 x2 x3 x4 x5 x6 x7 x8 x9 x10 x11 x12 x13 x14 x15 x16 x17 x18 x19 x20 x21 x22 x23 x24 x25 x26 x27 x28 x29 x30 x31 y = upd (rows x0 x4 x8 x12 x16 x20 x24 x28 y) (rows x1 x5 x9 x13 x17 x21 x25 x29 y) (rows x2 x6 x10 x14 x18 x22 x26 x30 y) (rows x3 x7 x11 x15 x19 x23 x27 x31 y) :=
  rows_four upd upd_zero x0 x1 x2 x3 x4 x5 x6 x7 x8 x9 x10 x11 x12 x13 x14 x15 x16 x17 x18 x19 x20 x21 x22 x23 x24 x25 x26 x27 x28 x29 x30 x31 y

theorem refM_at (x1 x2 : FVec Ideal S4x1024 .f32) (x5 x6 : FVec Ideal S4x1024 .f32) (x9 x10 : FVec Ideal S4x4x128x128 .f32) (x13 x14 : FVec Ideal S4x512 .f32) (x17 x18 : FVec Ideal S4x64 .f32) (x21 x22 : FVec Ideal S4x64 .f32) (x25 x26 : FVec Ideal S4x8 .f32) (x29 x30 : FVec Ideal S4x1024 .f32) (y) :
    Cert.AdamSmallRefIdeal.Read.val_main_v215 (F := Ideal) x1 x2 x5 x6 x9 x10 x13 x14 x17 x18 x21 x22 x25 x26 x29 x30 y = mom (rows x1 x5 x9 x13 x17 x21 x25 x29 y) (rows x2 x6 x10 x14 x18 x22 x26 x30 y) :=
  rows_two mom mom_zero x1 x2 x5 x6 x9 x10 x13 x14 x17 x18 x21 x22 x25 x26 x29 x30 y

theorem refV_at (x1 x3 : FVec Ideal S4x1024 .f32) (x5 x7 : FVec Ideal S4x1024 .f32) (x9 x11 : FVec Ideal S4x4x128x128 .f32) (x13 x15 : FVec Ideal S4x512 .f32) (x17 x19 : FVec Ideal S4x64 .f32) (x21 x23 : FVec Ideal S4x64 .f32) (x25 x27 : FVec Ideal S4x8 .f32) (x29 x31 : FVec Ideal S4x1024 .f32) (y) :
    Cert.AdamSmallRefIdeal.Read.val_main_v227 (F := Ideal) x1 x3 x5 x7 x9 x11 x13 x15 x17 x19 x21 x23 x25 x27 x29 x31 y = var (rows x1 x5 x9 x13 x17 x21 x25 x29 y) (rows x3 x7 x11 x15 x19 x23 x27 x31 y) :=
  rows_two var var_zero x1 x3 x5 x7 x9 x11 x13 x15 x17 x19 x21 x23 x25 x27 x29 x31 y

theorem pay2_at (g a : FVec Ideal S2168x128 .f32) (i j) : k0_pay2 (F := Ideal) g a (ix2 i j) = mom (g (ix2 i j)) (a (ix2 i j)) := by
  pointwise [k0_pay2, k0_pay1]
theorem pay3_at (g b : FVec Ideal S2168x128 .f32) (i j) : k0_pay3 (F := Ideal) g b (ix2 i j) = var (g (ix2 i j)) (b (ix2 i j)) := by
  pointwise [k0_pay3, k0_pay1]
theorem pay4_at (g a b w : FVec Ideal S2168x128 .f32) (i j) :
    k0_pay4 (F := Ideal) g a b w (ix2 i j) = upd (w (ix2 i j)) (g (ix2 i j)) (a (ix2 i j)) (b (ix2 i j)) := by
  pointwise [k0_pay4]
  rw [pay2_at, pay3_at]

theorem idx : ∀ t : Fin cfg0.N, win0_0.index t = ![0, 0] ∧ win0_1.index t = ![0, 0] ∧ win0_2.index t = ![0, 0]
    ∧ win0_3.index t = ![0, 0] ∧ win0_5.index t = ![0, 0] ∧ win0_6.index t = ![0, 0] ∧ win0_7.index t = ![0, 0] :=
  (by decide +kernel : ∀ t : Fin grid0.N, _)

theorem b0_at (c : Dev nD) (t : Fin cfg0.N) (i : Fin 2168) (j : Fin 128) :
    (show FVec Ideal S2168x128 .f32 from iblk m c 0 t) (ix2 i j) = row0 m c (ix2 i j) := by
  blk_simp [iblk]
  rw [← v25_eq]
  exact congrArg (V m c main_v25) (by blk_ext [idx t])

theorem b1_at (c : Dev nD) (t : Fin cfg0.N) (i : Fin 2168) (j : Fin 128) :
    (show FVec Ideal S2168x128 .f32 from iblk m c 1 t) (ix2 i j) = row1 m c (ix2 i j) := by
  blk_simp [iblk]
  rw [← v51_eq]
  exact congrArg (V m c main_v51) (by blk_ext [idx t])

theorem b2_at (c : Dev nD) (t : Fin cfg0.N) (i : Fin 2168) (j : Fin 128) :
    (show FVec Ideal S2168x128 .f32 from iblk m c 2 t) (ix2 i j) = row2 m c (ix2 i j) := by
  blk_simp [iblk]
  rw [← v77_eq]
  exact congrArg (V m c main_v77) (by blk_ext [idx t])

theorem b3_at (c : Dev nD) (t : Fin cfg0.N) (i : Fin 2168) (j : Fin 128) :
    (show FVec Ideal S2168x128 .f32 from iblk m c 3 t) (ix2 i j) = row3 m c (ix2 i j) := by
  blk_simp [iblk]
  rw [← v103_eq]
  exact congrArg (V m c main_v103) (by blk_ext [idx t])

theorem emb5 (t : Fin cfg0.N) (i : Fin 2168) (j : Fin 128) :
    (win0_5.blk t).view.emb (ix2 i j) = (ix2 i j : S2168x128.Idx) := by
  blk_ext [idx t]

theorem emb6 (t : Fin cfg0.N) (i : Fin 2168) (j : Fin 128) :
    (win0_6.blk t).view.emb (ix2 i j) = (ix2 i j : S2168x128.Idx) := by
  blk_ext [idx t]

theorem emb7 (t : Fin cfg0.N) (i : Fin 2168) (j : Fin 128) :
    (win0_7.blk t).view.emb (ix2 i j) = (ix2 i j : S2168x128.Idx) := by
  blk_ext [idx t]

theorem final5 (c : Dev nD) : (dats m 0 c).arrAt 5 (cfgs 0).N = Cert.AdamSmallRefIdeal.Read.val_main_v203 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) := by
  refine (dats m 0 c).arrAt_eq_of_covers 5 _ (by decide +kernel) fun t hf y => ?_
  idx_vars y
  blk_simp
  rw [after0_5]
  frame_out
  refine (pay4_at  _ _ _ _ _ _).trans ?_
  refine Eq.trans ?_ (congrArg _ (emb5 t y0 y1)).symm
  refine Eq.trans ?_ (refD_at  _ _ _ _ _ _ _ _ _ _ _ _ _ _ _ _ _ _ _ _ _ _ _ _ _ _ _ _ _ _ _ _ _).symm
  simp only [b0_at, b1_at, b2_at, b3_at]

theorem final6 (c : Dev nD) : (dats m 0 c).arrAt 6 (cfgs 0).N = Cert.AdamSmallRefIdeal.Read.val_main_v215 (F := Ideal) (m ((c : Thread nD τ).loc main_arg1)) (m ((c : Thread nD τ).loc main_arg2)) (m ((c : Thread nD τ).loc main_arg5)) (m ((c : Thread nD τ).loc main_arg6)) (m ((c : Thread nD τ).loc main_arg9)) (m ((c : Thread nD τ).loc main_arg10)) (m ((c : Thread nD τ).loc main_arg13)) (m ((c : Thread nD τ).loc main_arg14)) (m ((c : Thread nD τ).loc main_arg17)) (m ((c : Thread nD τ).loc main_arg18)) (m ((c : Thread nD τ).loc main_arg21)) (m ((c : Thread nD τ).loc main_arg22)) (m ((c : Thread nD τ).loc main_arg25)) (m ((c : Thread nD τ).loc main_arg26)) (m ((c : Thread nD τ).loc main_arg29)) (m ((c : Thread nD τ).loc main_arg30)) := by
  refine (dats m 0 c).arrAt_eq_of_covers 6 _ (by decide +kernel) fun t hf y => ?_
  idx_vars y
  blk_simp
  rw [after0_6]
  frame_out
  refine (pay2_at  _ _ _ _).trans ?_
  refine Eq.trans ?_ (congrArg _ (emb6 t y0 y1)).symm
  refine Eq.trans ?_ (refM_at  _ _ _ _ _ _ _ _ _ _ _ _ _ _ _ _ _).symm
  simp only [b0_at, b1_at, b2_at, b3_at]

theorem final7 (c : Dev nD) : (dats m 0 c).arrAt 7 (cfgs 0).N = Cert.AdamSmallRefIdeal.Read.val_main_v227 (F := Ideal) (m ((c : Thread nD τ).loc main_arg1)) (m ((c : Thread nD τ).loc main_arg3)) (m ((c : Thread nD τ).loc main_arg5)) (m ((c : Thread nD τ).loc main_arg7)) (m ((c : Thread nD τ).loc main_arg9)) (m ((c : Thread nD τ).loc main_arg11)) (m ((c : Thread nD τ).loc main_arg13)) (m ((c : Thread nD τ).loc main_arg15)) (m ((c : Thread nD τ).loc main_arg17)) (m ((c : Thread nD τ).loc main_arg19)) (m ((c : Thread nD τ).loc main_arg21)) (m ((c : Thread nD τ).loc main_arg23)) (m ((c : Thread nD τ).loc main_arg25)) (m ((c : Thread nD τ).loc main_arg27)) (m ((c : Thread nD τ).loc main_arg29)) (m ((c : Thread nD τ).loc main_arg31)) := by
  refine (dats m 0 c).arrAt_eq_of_covers 7 _ (by decide +kernel) fun t hf y => ?_
  idx_vars y
  blk_simp
  rw [after0_7]
  frame_out
  refine (pay3_at  _ _ _ _).trans ?_
  refine Eq.trans ?_ (congrArg _ (emb7 t y0 y1)).symm
  refine Eq.trans ?_ (refV_at  _ _ _ _ _ _ _ _ _ _ _ _ _ _ _ _ _).symm
  simp only [b0_at, b1_at, b2_at, b3_at]

end Cert.AdamSmallIdeal.Result

end
-- ==== Proof.AdamSmallPair.lean ====
/- The claims of one call and its reference: both run, and their results are equal. -/
module

public import proofs.«01_k».proof.Defs
public import proofs.«01_k».proof.Proof.Gen.AdamSmall
public import proofs.«01_k».proof.Proof.Gen.AdamSmall.Frame
public import proofs.«01_k».proof.Proof.Gen.AdamSmallIdeal
public import proofs.«01_k».proof.Proof.Gen.AdamSmallIdeal.Frame
public import proofs.«01_k».proof.Proof.Gen.AdamSmallIdeal.Value
public import proofs.«01_k».proof.Proof.Gen.AdamSmallRefIdeal
public import proofs.«01_k».proof.Proof.Gen.AdamSmallRefIdeal.Run
public import proofs.«01_k».proof.Proof.Gen.AdamSmallRefIdeal.Read
public import proofs.«01_k».proof.Proof.AdamSmallValue
public import Idealize.ShloMosaic.Lib.Claim

@[expose] public section

set_option maxRecDepth 16384

noncomputable section

namespace Cert.AdamSmallPair

open Idealize.ShloMosaic Idealize.SL.Sem

/-- The reference runs and leaves its arguments as they were. -/
theorem reference_frame : Cert.quiescent_AdamSmallRefIdeal (hAdamSmallRefIdeal := Cert.AdamSmallRefIdeal.Gen.facts) := by
  intro m g _
  exact (θ_run Cert.AdamSmallRefIdeal.defs _ _).mono (fun r h => ⟨fun c => (h c).2.2.2, sem_eq_zero_of_no_sems (by decide) r.2⟩)
    (Cert.AdamSmallRefIdeal.Value.run (F := Ideal) m g)

set_option maxHeartbeats 4000000 in
/-- The kernel's results are the reference's. -/
theorem value : Cert.algebraic_AdamSmallIdeal_AdamSmallRefIdeal (hAdamSmallIdeal := Cert.AdamSmallIdeal.Gen.facts) (hAdamSmallRefIdeal := Cert.AdamSmallRefIdeal.Gen.facts) := by
  intro m g m' g' _ hagree
  refine ⟨fun c => (Cert.AdamSmallIdeal.Gen.dats m 0 c).arrAt 5 (Cert.AdamSmallIdeal.cfgs 0).N,
    fun c => (Cert.AdamSmallIdeal.Gen.dats m 0 c).arrAt 6 (Cert.AdamSmallIdeal.cfgs 0).N,
    fun c => (Cert.AdamSmallIdeal.Gen.dats m 0 c).arrAt 7 (Cert.AdamSmallIdeal.cfgs 0).N, ?_, ?_⟩
  · exact θ_run_mono (θ_run_and (Cert.AdamSmallIdeal.Gen.run_main m g) (Cert.AdamSmallIdeal.Gen.unchanged m g))
      fun r h c => ⟨(h.1 c).1 5, (h.1 c).1 6, (h.1 c).1 7, h.2 c⟩
  · refine θ_run_mono (Cert.AdamSmallRefIdeal.Value.run m' g') ?_
    intro r h c
    refine ⟨(h c).1.trans ?_, (h c).2.1.trans ?_, (h c).2.2.1.trans ?_, (h c).2.2.2⟩
    · obtain ⟨h0, h1, h2, h3, h4, h5, h6, h7, h8, h9, h10, h11, h12, h13, h14, h15, h16, h17, h18, h19, h20, h21, h22, h23, h24, h25, h26, h27, h28, h29, h30, h31⟩ := hagree c
      refine (Cert.AdamSmallRefIdeal.Read.val_main_v203_eq _).trans ?_
      show Cert.AdamSmallRefIdeal.Read.val_main_v203 (F := Ideal) (m' ((c.tc : Thread Cert.AdamSmallRefIdeal.nD Cert.AdamSmallRefIdeal.τ).loc Cert.AdamSmallRefIdeal.main_arg0)) (m' ((c.tc : Thread Cert.AdamSmallRefIdeal.nD Cert.AdamSmallRefIdeal.τ).loc Cert.AdamSmallRefIdeal.main_arg1)) (m' ((c.tc : Thread Cert.AdamSmallRefIdeal.nD Cert.AdamSmallRefIdeal.τ).loc Cert.AdamSmallRefIdeal.main_arg2)) (m' ((c.tc : Thread Cert.AdamSmallRefIdeal.nD Cert.AdamSmallRefIdeal.τ).loc Cert.AdamSmallRefIdeal.main_arg3)) (m' ((c.tc : Thread Cert.AdamSmallRefIdeal.nD Cert.AdamSmallRefIdeal.τ).loc Cert.AdamSmallRefIdeal.main_arg4)) (m' ((c.tc : Thread Cert.AdamSmallRefIdeal.nD Cert.AdamSmallRefIdeal.τ).loc Cert.AdamSmallRefIdeal.main_arg5)) (m' ((c.tc : Thread Cert.AdamSmallRefIdeal.nD Cert.AdamSmallRefIdeal.τ).loc Cert.AdamSmallRefIdeal.main_arg6)) (m' ((c.tc : Thread Cert.AdamSmallRefIdeal.nD Cert.AdamSmallRefIdeal.τ).loc Cert.AdamSmallRefIdeal.main_arg7)) (m' ((c.tc : Thread Cert.AdamSmallRefIdeal.nD Cert.AdamSmallRefIdeal.τ).loc Cert.AdamSmallRefIdeal.main_arg8)) (m' ((c.tc : Thread Cert.AdamSmallRefIdeal.nD Cert.AdamSmallRefIdeal.τ).loc Cert.AdamSmallRefIdeal.main_arg9)) (m' ((c.tc : Thread Cert.AdamSmallRefIdeal.nD Cert.AdamSmallRefIdeal.τ).loc Cert.AdamSmallRefIdeal.main_arg10)) (m' ((c.tc : Thread Cert.AdamSmallRefIdeal.nD Cert.AdamSmallRefIdeal.τ).loc Cert.AdamSmallRefIdeal.main_arg11)) (m' ((c.tc : Thread Cert.AdamSmallRefIdeal.nD Cert.AdamSmallRefIdeal.τ).loc Cert.AdamSmallRefIdeal.main_arg12)) (m' ((c.tc : Thread Cert.AdamSmallRefIdeal.nD Cert.AdamSmallRefIdeal.τ).loc Cert.AdamSmallRefIdeal.main_arg13)) (m' ((c.tc : Thread Cert.AdamSmallRefIdeal.nD Cert.AdamSmallRefIdeal.τ).loc Cert.AdamSmallRefIdeal.main_arg14)) (m' ((c.tc : Thread Cert.AdamSmallRefIdeal.nD Cert.AdamSmallRefIdeal.τ).loc Cert.AdamSmallRefIdeal.main_arg15)) (m' ((c.tc : Thread Cert.AdamSmallRefIdeal.nD Cert.AdamSmallRefIdeal.τ).loc Cert.AdamSmallRefIdeal.main_arg16)) (m' ((c.tc : Thread Cert.AdamSmallRefIdeal.nD Cert.AdamSmallRefIdeal.τ).loc Cert.AdamSmallRefIdeal.main_arg17)) (m' ((c.tc : Thread Cert.AdamSmallRefIdeal.nD Cert.AdamSmallRefIdeal.τ).loc Cert.AdamSmallRefIdeal.main_arg18)) (m' ((c.tc : Thread Cert.AdamSmallRefIdeal.nD Cert.AdamSmallRefIdeal.τ).loc Cert.AdamSmallRefIdeal.main_arg19)) (m' ((c.tc : Thread Cert.AdamSmallRefIdeal.nD Cert.AdamSmallRefIdeal.τ).loc Cert.AdamSmallRefIdeal.main_arg20)) (m' ((c.tc : Thread Cert.AdamSmallRefIdeal.nD Cert.AdamSmallRefIdeal.τ).loc Cert.AdamSmallRefIdeal.main_arg21)) (m' ((c.tc : Thread Cert.AdamSmallRefIdeal.nD Cert.AdamSmallRefIdeal.τ).loc Cert.AdamSmallRefIdeal.main_arg22)) (m' ((c.tc : Thread Cert.AdamSmallRefIdeal.nD Cert.AdamSmallRefIdeal.τ).loc Cert.AdamSmallRefIdeal.main_arg23)) (m' ((c.tc : Thread Cert.AdamSmallRefIdeal.nD Cert.AdamSmallRefIdeal.τ).loc Cert.AdamSmallRefIdeal.main_arg24)) (m' ((c.tc : Thread Cert.AdamSmallRefIdeal.nD Cert.AdamSmallRefIdeal.τ).loc Cert.AdamSmallRefIdeal.main_arg25)) (m' ((c.tc : Thread Cert.AdamSmallRefIdeal.nD Cert.AdamSmallRefIdeal.τ).loc Cert.AdamSmallRefIdeal.main_arg26)) (m' ((c.tc : Thread Cert.AdamSmallRefIdeal.nD Cert.AdamSmallRefIdeal.τ).loc Cert.AdamSmallRefIdeal.main_arg27)) (m' ((c.tc : Thread Cert.AdamSmallRefIdeal.nD Cert.AdamSmallRefIdeal.τ).loc Cert.AdamSmallRefIdeal.main_arg28)) (m' ((c.tc : Thread Cert.AdamSmallRefIdeal.nD Cert.AdamSmallRefIdeal.τ).loc Cert.AdamSmallRefIdeal.main_arg29)) (m' ((c.tc : Thread Cert.AdamSmallRefIdeal.nD Cert.AdamSmallRefIdeal.τ).loc Cert.AdamSmallRefIdeal.main_arg30)) (m' ((c.tc : Thread Cert.AdamSmallRefIdeal.nD Cert.AdamSmallRefIdeal.τ).loc Cert.AdamSmallRefIdeal.main_arg31)) = _
      rw [h0, h1, h2, h3, h4, h5, h6, h7, h8, h9, h10, h11, h12, h13, h14, h15, h16, h17, h18, h19, h20, h21, h22, h23, h24, h25, h26, h27, h28, h29, h30, h31]
      exact (Cert.AdamSmallIdeal.Result.final5 m c).symm
    · obtain ⟨h0, h1, h2, h3, h4, h5, h6, h7, h8, h9, h10, h11, h12, h13, h14, h15, h16, h17, h18, h19, h20, h21, h22, h23, h24, h25, h26, h27, h28, h29, h30, h31⟩ := hagree c
      refine (Cert.AdamSmallRefIdeal.Read.val_main_v215_eq _).trans ?_
      show Cert.AdamSmallRefIdeal.Read.val_main_v215 (F := Ideal) (m' ((c.tc : Thread Cert.AdamSmallRefIdeal.nD Cert.AdamSmallRefIdeal.τ).loc Cert.AdamSmallRefIdeal.main_arg1)) (m' ((c.tc : Thread Cert.AdamSmallRefIdeal.nD Cert.AdamSmallRefIdeal.τ).loc Cert.AdamSmallRefIdeal.main_arg2)) (m' ((c.tc : Thread Cert.AdamSmallRefIdeal.nD Cert.AdamSmallRefIdeal.τ).loc Cert.AdamSmallRefIdeal.main_arg5)) (m' ((c.tc : Thread Cert.AdamSmallRefIdeal.nD Cert.AdamSmallRefIdeal.τ).loc Cert.AdamSmallRefIdeal.main_arg6)) (m' ((c.tc : Thread Cert.AdamSmallRefIdeal.nD Cert.AdamSmallRefIdeal.τ).loc Cert.AdamSmallRefIdeal.main_arg9)) (m' ((c.tc : Thread Cert.AdamSmallRefIdeal.nD Cert.AdamSmallRefIdeal.τ).loc Cert.AdamSmallRefIdeal.main_arg10)) (m' ((c.tc : Thread Cert.AdamSmallRefIdeal.nD Cert.AdamSmallRefIdeal.τ).loc Cert.AdamSmallRefIdeal.main_arg13)) (m' ((c.tc : Thread Cert.AdamSmallRefIdeal.nD Cert.AdamSmallRefIdeal.τ).loc Cert.AdamSmallRefIdeal.main_arg14)) (m' ((c.tc : Thread Cert.AdamSmallRefIdeal.nD Cert.AdamSmallRefIdeal.τ).loc Cert.AdamSmallRefIdeal.main_arg17)) (m' ((c.tc : Thread Cert.AdamSmallRefIdeal.nD Cert.AdamSmallRefIdeal.τ).loc Cert.AdamSmallRefIdeal.main_arg18)) (m' ((c.tc : Thread Cert.AdamSmallRefIdeal.nD Cert.AdamSmallRefIdeal.τ).loc Cert.AdamSmallRefIdeal.main_arg21)) (m' ((c.tc : Thread Cert.AdamSmallRefIdeal.nD Cert.AdamSmallRefIdeal.τ).loc Cert.AdamSmallRefIdeal.main_arg22)) (m' ((c.tc : Thread Cert.AdamSmallRefIdeal.nD Cert.AdamSmallRefIdeal.τ).loc Cert.AdamSmallRefIdeal.main_arg25)) (m' ((c.tc : Thread Cert.AdamSmallRefIdeal.nD Cert.AdamSmallRefIdeal.τ).loc Cert.AdamSmallRefIdeal.main_arg26)) (m' ((c.tc : Thread Cert.AdamSmallRefIdeal.nD Cert.AdamSmallRefIdeal.τ).loc Cert.AdamSmallRefIdeal.main_arg29)) (m' ((c.tc : Thread Cert.AdamSmallRefIdeal.nD Cert.AdamSmallRefIdeal.τ).loc Cert.AdamSmallRefIdeal.main_arg30)) = _
      rw [h1, h2, h5, h6, h9, h10, h13, h14, h17, h18, h21, h22, h25, h26, h29, h30]
      exact (Cert.AdamSmallIdeal.Result.final6 m c).symm
    · obtain ⟨h0, h1, h2, h3, h4, h5, h6, h7, h8, h9, h10, h11, h12, h13, h14, h15, h16, h17, h18, h19, h20, h21, h22, h23, h24, h25, h26, h27, h28, h29, h30, h31⟩ := hagree c
      refine (Cert.AdamSmallRefIdeal.Read.val_main_v227_eq _).trans ?_
      show Cert.AdamSmallRefIdeal.Read.val_main_v227 (F := Ideal) (m' ((c.tc : Thread Cert.AdamSmallRefIdeal.nD Cert.AdamSmallRefIdeal.τ).loc Cert.AdamSmallRefIdeal.main_arg1)) (m' ((c.tc : Thread Cert.AdamSmallRefIdeal.nD Cert.AdamSmallRefIdeal.τ).loc Cert.AdamSmallRefIdeal.main_arg3)) (m' ((c.tc : Thread Cert.AdamSmallRefIdeal.nD Cert.AdamSmallRefIdeal.τ).loc Cert.AdamSmallRefIdeal.main_arg5)) (m' ((c.tc : Thread Cert.AdamSmallRefIdeal.nD Cert.AdamSmallRefIdeal.τ).loc Cert.AdamSmallRefIdeal.main_arg7)) (m' ((c.tc : Thread Cert.AdamSmallRefIdeal.nD Cert.AdamSmallRefIdeal.τ).loc Cert.AdamSmallRefIdeal.main_arg9)) (m' ((c.tc : Thread Cert.AdamSmallRefIdeal.nD Cert.AdamSmallRefIdeal.τ).loc Cert.AdamSmallRefIdeal.main_arg11)) (m' ((c.tc : Thread Cert.AdamSmallRefIdeal.nD Cert.AdamSmallRefIdeal.τ).loc Cert.AdamSmallRefIdeal.main_arg13)) (m' ((c.tc : Thread Cert.AdamSmallRefIdeal.nD Cert.AdamSmallRefIdeal.τ).loc Cert.AdamSmallRefIdeal.main_arg15)) (m' ((c.tc : Thread Cert.AdamSmallRefIdeal.nD Cert.AdamSmallRefIdeal.τ).loc Cert.AdamSmallRefIdeal.main_arg17)) (m' ((c.tc : Thread Cert.AdamSmallRefIdeal.nD Cert.AdamSmallRefIdeal.τ).loc Cert.AdamSmallRefIdeal.main_arg19)) (m' ((c.tc : Thread Cert.AdamSmallRefIdeal.nD Cert.AdamSmallRefIdeal.τ).loc Cert.AdamSmallRefIdeal.main_arg21)) (m' ((c.tc : Thread Cert.AdamSmallRefIdeal.nD Cert.AdamSmallRefIdeal.τ).loc Cert.AdamSmallRefIdeal.main_arg23)) (m' ((c.tc : Thread Cert.AdamSmallRefIdeal.nD Cert.AdamSmallRefIdeal.τ).loc Cert.AdamSmallRefIdeal.main_arg25)) (m' ((c.tc : Thread Cert.AdamSmallRefIdeal.nD Cert.AdamSmallRefIdeal.τ).loc Cert.AdamSmallRefIdeal.main_arg27)) (m' ((c.tc : Thread Cert.AdamSmallRefIdeal.nD Cert.AdamSmallRefIdeal.τ).loc Cert.AdamSmallRefIdeal.main_arg29)) (m' ((c.tc : Thread Cert.AdamSmallRefIdeal.nD Cert.AdamSmallRefIdeal.τ).loc Cert.AdamSmallRefIdeal.main_arg31)) = _
      rw [h1, h3, h5, h7, h9, h11, h13, h15, h17, h19, h21, h23, h25, h27, h29, h31]
      exact (Cert.AdamSmallIdeal.Result.final7 m c).symm

end Cert.AdamSmallPair

end
-- ==== Proof.lean ====
/- The proof of the claims: every program runs and keeps its arguments, and every kernel's results are its reference's. -/
module

public import proofs.«01_k».proof.Defs
public import proofs.«01_k».proof.Proof.UpPair
public import proofs.«01_k».proof.Proof.DownPair
public import proofs.«01_k».proof.Proof.GateBwdPair
public import proofs.«01_k».proof.Proof.DwdPair
public import proofs.«01_k».proof.Proof.DwguPair
public import proofs.«01_k».proof.Proof.NormBwdPair
public import proofs.«01_k».proof.Proof.MixOutPair
public import proofs.«01_k».proof.Proof.MixDwoutPair
public import proofs.«01_k».proof.Proof.MergeFwdPair
public import proofs.«01_k».proof.Proof.MergeBwdPair
public import proofs.«01_k».proof.Proof.BranchDwPair
public import proofs.«01_k».proof.Proof.MixDwinPair
public import proofs.«01_k».proof.Proof.MixNormBwdPair
public import proofs.«01_k».proof.Proof.AdamGuPair
public import proofs.«01_k».proof.Proof.AdamDownPair
public import proofs.«01_k».proof.Proof.AdamInPair
public import proofs.«01_k».proof.Proof.AdamBranchPair
public import proofs.«01_k».proof.Proof.AdamOutPair
public import proofs.«01_k».proof.Proof.AdamSmallPair
public import proofs.«01_k».proof.Proof.Gen.Pre_finite_gate

@[expose] public section

noncomputable section

namespace Cert.Proof

open Idealize.ShloMosaic Idealize.SL.Sem

theorem claim : Cert.Claim :=
  ⟨Cert.Up.Gen.facts,
    Cert.UpIdeal.Gen.facts,
    Cert.UpRefIdeal.Gen.facts,
    Cert.Down.Gen.facts,
    Cert.DownIdeal.Gen.facts,
    Cert.DownRefIdeal.Gen.facts,
    Cert.GateBwd.Gen.facts,
    Cert.GateBwdIdeal.Gen.facts,
    Cert.GateBwdRefIdeal.Gen.facts,
    Cert.Dwd.Gen.facts,
    Cert.DwdIdeal.Gen.facts,
    Cert.DwdRefIdeal.Gen.facts,
    Cert.Dwgu.Gen.facts,
    Cert.DwguIdeal.Gen.facts,
    Cert.DwguRefIdeal.Gen.facts,
    Cert.NormBwd.Gen.facts,
    Cert.NormBwdIdeal.Gen.facts,
    Cert.NormBwdRefIdeal.Gen.facts,
    Cert.MixOut.Gen.facts,
    Cert.MixOutIdeal.Gen.facts,
    Cert.MixOutRefIdeal.Gen.facts,
    Cert.MixDwout.Gen.facts,
    Cert.MixDwoutIdeal.Gen.facts,
    Cert.MixDwoutRefIdeal.Gen.facts,
    Cert.MergeFwd.Gen.facts,
    Cert.MergeFwdIdeal.Gen.facts,
    Cert.MergeFwdRefIdeal.Gen.facts,
    Cert.MergeBwd.Gen.facts,
    Cert.MergeBwdIdeal.Gen.facts,
    Cert.MergeBwdRefIdeal.Gen.facts,
    Cert.BranchDw.Gen.facts,
    Cert.BranchDwIdeal.Gen.facts,
    Cert.BranchDwRefIdeal.Gen.facts,
    Cert.MixDwin.Gen.facts,
    Cert.MixDwinIdeal.Gen.facts,
    Cert.MixDwinRefIdeal.Gen.facts,
    Cert.MixNormBwd.Gen.facts,
    Cert.MixNormBwdIdeal.Gen.facts,
    Cert.MixNormBwdRefIdeal.Gen.facts,
    Cert.AdamGu.Gen.facts,
    Cert.AdamGuIdeal.Gen.facts,
    Cert.AdamGuRefIdeal.Gen.facts,
    Cert.AdamDown.Gen.facts,
    Cert.AdamDownIdeal.Gen.facts,
    Cert.AdamDownRefIdeal.Gen.facts,
    Cert.AdamIn.Gen.facts,
    Cert.AdamInIdeal.Gen.facts,
    Cert.AdamInRefIdeal.Gen.facts,
    Cert.AdamBranch.Gen.facts,
    Cert.AdamBranchIdeal.Gen.facts,
    Cert.AdamBranchRefIdeal.Gen.facts,
    Cert.AdamOut.Gen.facts,
    Cert.AdamOutIdeal.Gen.facts,
    Cert.AdamOutRefIdeal.Gen.facts,
    Cert.AdamSmall.Gen.facts,
    Cert.AdamSmallIdeal.Gen.facts,
    Cert.AdamSmallRefIdeal.Gen.facts,
    Cert.Pre_finite_gate.Gen.facts,
    fun m ρ _ => Cert.Up.Gen.frame m ρ,
    fun m ρ _ => Cert.UpIdeal.Gen.frame m ρ,
    Cert.UpPair.reference_frame,
    fun m ρ _ => Cert.Down.Gen.frame m ρ,
    fun m ρ _ => Cert.DownIdeal.Gen.frame m ρ,
    Cert.DownPair.reference_frame,
    fun m ρ _ => Cert.GateBwd.Gen.frame m ρ,
    fun m ρ _ => Cert.GateBwdIdeal.Gen.frame m ρ,
    fun m ρ _ => Cert.GateBwdIdeal.Gen.frame m ρ,
    Cert.GateBwdPair.reference_frame,
    fun m ρ _ => Cert.GateBwdPair.reference_frame m ρ trivial,
    fun m ρ _ => Cert.Dwd.Gen.frame m ρ,
    fun m ρ _ => Cert.DwdIdeal.Gen.frame m ρ,
    Cert.DwdPair.reference_frame,
    fun m ρ _ => Cert.Dwgu.Gen.frame m ρ,
    fun m ρ _ => Cert.DwguIdeal.Gen.frame m ρ,
    Cert.DwguPair.reference_frame,
    fun m ρ _ => Cert.NormBwd.Gen.frame m ρ,
    fun m ρ _ => Cert.NormBwdIdeal.Gen.frame m ρ,
    Cert.NormBwdPair.reference_frame,
    fun m ρ _ => Cert.MixOut.Gen.frame m ρ,
    fun m ρ _ => Cert.MixOutIdeal.Gen.frame m ρ,
    Cert.MixOutPair.reference_frame,
    fun m ρ _ => Cert.MixDwout.Gen.frame m ρ,
    fun m ρ _ => Cert.MixDwoutIdeal.Gen.frame m ρ,
    Cert.MixDwoutPair.reference_frame,
    fun m ρ _ => Cert.MergeFwd.Gen.frame m ρ,
    fun m ρ _ => Cert.MergeFwdIdeal.Gen.frame m ρ,
    Cert.MergeFwdPair.reference_frame,
    fun m ρ _ => Cert.MergeBwd.Gen.frame m ρ,
    fun m ρ _ => Cert.MergeBwdIdeal.Gen.frame m ρ,
    Cert.MergeBwdPair.reference_frame,
    fun m ρ _ => Cert.BranchDw.Gen.frame m ρ,
    fun m ρ _ => Cert.BranchDwIdeal.Gen.frame m ρ,
    Cert.BranchDwPair.reference_frame,
    fun m ρ _ => Cert.MixDwin.Gen.frame m ρ,
    fun m ρ _ => Cert.MixDwinIdeal.Gen.frame m ρ,
    Cert.MixDwinPair.reference_frame,
    fun m ρ _ => Cert.MixNormBwd.Gen.frame m ρ,
    fun m ρ _ => Cert.MixNormBwdIdeal.Gen.frame m ρ,
    Cert.MixNormBwdPair.reference_frame,
    fun m ρ _ => Cert.AdamGu.Gen.frame m ρ,
    fun m ρ _ => Cert.AdamGuIdeal.Gen.frame m ρ,
    Cert.AdamGuPair.reference_frame,
    fun m ρ _ => Cert.AdamDown.Gen.frame m ρ,
    fun m ρ _ => Cert.AdamDownIdeal.Gen.frame m ρ,
    Cert.AdamDownPair.reference_frame,
    fun m ρ _ => Cert.AdamIn.Gen.frame m ρ,
    fun m ρ _ => Cert.AdamInIdeal.Gen.frame m ρ,
    Cert.AdamInPair.reference_frame,
    fun m ρ _ => Cert.AdamBranch.Gen.frame m ρ,
    fun m ρ _ => Cert.AdamBranchIdeal.Gen.frame m ρ,
    Cert.AdamBranchPair.reference_frame,
    fun m ρ _ => Cert.AdamOut.Gen.frame m ρ,
    fun m ρ _ => Cert.AdamOutIdeal.Gen.frame m ρ,
    Cert.AdamOutPair.reference_frame,
    fun m ρ _ => Cert.AdamSmall.Gen.frame m ρ,
    fun m ρ _ => Cert.AdamSmallIdeal.Gen.frame m ρ,
    Cert.AdamSmallPair.reference_frame,
    trivial,
    Cert.UpPair.value,
    trivial,
    Cert.DownPair.value,
    trivial,
    Cert.GateBwdPair.value,
    trivial,
    Cert.DwdPair.value,
    trivial,
    Cert.DwguPair.value,
    trivial,
    Cert.NormBwdPair.value,
    trivial,
    Cert.MixOutPair.value,
    trivial,
    Cert.MixDwoutPair.value,
    trivial,
    Cert.MergeFwdPair.value,
    trivial,
    Cert.MergeBwdPair.value,
    trivial,
    Cert.BranchDwPair.value,
    trivial,
    Cert.MixDwinPair.value,
    trivial,
    Cert.MixNormBwdPair.value,
    trivial,
    Cert.AdamGuPair.value,
    trivial,
    Cert.AdamDownPair.value,
    trivial,
    Cert.AdamInPair.value,
    trivial,
    Cert.AdamBranchPair.value,
    trivial,
    Cert.AdamOutPair.value,
    trivial,
    Cert.AdamSmallPair.value⟩

end Cert.Proof

end
